-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v102) = v0 c
          ∧ r.2.mem ((c.tc : Thread Cert.ProjRefIdeal.nD Cert.ProjRefIdeal.τ).loc Cert.ProjRefIdeal.main_v104) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v11)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v11) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v25) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v20)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v20) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v281) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hFfn1 : Cert.Ffn1.Facts) (hFfn1Ideal : Cert.Ffn1Ideal.Facts) (hFfn1RefIdeal : Cert.Ffn1RefIdeal.Facts) (hMix : Cert.Mix.Facts) (hMixIdeal : Cert.MixIdeal.Facts) (hMixRefIdeal : Cert.MixRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Mix (hMix := hMix)
    ∧ quiescent_MixIdeal (hMixIdeal := hMixIdeal)
    ∧ quiescent_MixRefIdeal (hMixRefIdeal := hMixRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Ffn1_Ffn1Ideal
    ∧ algebraic_Ffn1Ideal_Ffn1RefIdeal (hFfn1Ideal := hFfn1Ideal) (hFfn1RefIdeal := hFfn1RefIdeal)
    ∧ preserves_Mix_MixIdeal
    ∧ algebraic_MixIdeal_MixRefIdeal (hMixIdeal := hMixIdeal) (hMixRefIdeal := hMixRefIdeal)
-- ==== Ffn.lean ====
abbrev S2x8192x2048 : Shape := ⟨3, ![2, 8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S16384x2048 : Shape := ⟨2, ![16384, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 17
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048x5632, .bf16⟩
  | .hbm, ⟨7, _⟩ => ⟨S1x2048x5632, .bf16⟩
  | .hbm, ⟨8, _⟩ => ⟨S1x5632x2048, .bf16⟩
  | .hbm, ⟨9, _⟩ => ⟨S16384x2048, .f32⟩
  | .hbm, ⟨10, _⟩ => ⟨S2048, .f32⟩
  | .hbm, ⟨11, _⟩ => ⟨S1x2048, .f32⟩
  | .hbm, ⟨12, _⟩ => ⟨S2048x5632, .bf16⟩
  | .hbm, ⟨13, _⟩ => ⟨S2048x5632, .bf16⟩
  | .hbm, ⟨14, _⟩ => ⟨S5632x2048, .bf16⟩
  | .hbm, ⟨15, _⟩ => ⟨S1x2048, .f32⟩
  | .hbm, ⟨16, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S2x8192x2048 : Shape := ⟨3, ![2, 8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x5632 : Shape := ⟨2, ![2048, 5632]⟩
abbrev S5632x2048 : Shape := ⟨2, ![5632, 2048]⟩
abbrev S2x8192x5632 : Shape := ⟨3, ![2, 8192, 5632]⟩
abbrev S16384x2048 : Shape := ⟨2, ![16384, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S2x8192x5632, .f32⟩
  | .hbm, ⟨27, _⟩ => ⟨S2x8192x5632, .f32⟩
  | .hbm, ⟨28, _⟩ => ⟨S2x8192x5632, .f32⟩
  | .hbm, ⟨29, _⟩ => ⟨S_, .f32⟩
  | .hbm, ⟨30, _⟩ => ⟨S2x8192x5632, .f32⟩
  | .hbm, ⟨31, _⟩ => ⟨S2x8192x5632, .f32⟩
  | .hbm, ⟨32, _⟩ => ⟨S_, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S2x8192x5632, .f32⟩
  | .hbm, ⟨38, _⟩ => ⟨S2x8192x2048, .f32⟩
  | .hbm, ⟨39, _⟩ => ⟨S_, .f32⟩
  | .hbm, ⟨40, _⟩ => ⟨S2x8192x2048, .f32⟩
  | .hbm, ⟨41, _⟩ => ⟨S2x8192x2048, .f32⟩
  | .hbm, ⟨42, _⟩ => ⟨S2x8192x2048, .f32⟩
  | .hbm, ⟨43, _⟩ => ⟨S2x8192x2048, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x2048, .f32⟩
  | .hbm, ⟨55, _⟩ => ⟨S2x8192x2048, .f32⟩
  | .hbm, ⟨56, _⟩ => ⟨S1x1x2048, .f32⟩
  | .hbm, ⟨57, _⟩ => ⟨S2x8192x2048, .f32⟩
  | .hbm, ⟨58, _⟩ => ⟨S2x8192x2048, .f32⟩
  | .hbm, ⟨59, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Proj.lean ====
abbrev S2x8192x2048 : Shape := ⟨3, ![2, 8192, 2048]⟩
abbrev S1x2048 : Shape := ⟨2, ![1, 2048]⟩
abbrev S1x2048x7168 : Shape := ⟨3, ![1, 2048, 7168]⟩
abbrev S2x1024 : Shape := ⟨2, ![2, 1024]⟩
abbrev S16384x2048 : Shape := ⟨2, ![16384, 2048]⟩
abbrev S2048 : Shape := ⟨1, ![2048]⟩
abbrev S2048x7168 : Shape := ⟨2, ![2048, 7168]⟩
abbrev S24x16384x128 : Shape := ⟨3, ![24, 16384, 128]⟩
abbrev S512x2048 : Shape := ⟨2, ![512, 2048]⟩
abbrev S24x512x128 : Shape := ⟨3, ![24, 512, 128]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x128 : Shape := ⟨2, ![256, 128]⟩
abbrev S1x256x128 : Shape := ⟨3, ![1, 256, 128]⟩
abbrev S1024 : Shape := ⟨1, ![1024]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x7168, .f32⟩
  | .hbm, ⟨3, _⟩ => ⟨S2x1024, .f32⟩
  | .hbm, ⟨4, _⟩ => ⟨S2x1024, .f32⟩
  | .hbm, ⟨5, _⟩ => ⟨S1x2048x7168, .bf16⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S2048x7168, .bf16⟩
  | .hbm, ⟨10, _⟩ => ⟨S24x16384x128, .f32⟩
  | .hbm, ⟨11, _⟩ => ⟨S24x16384x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x7168, .bf16⟩
  | .local _ .vmem, ⟨4, _⟩ => ⟨S2x1024, .f32⟩
  | .local _ .vmem, ⟨5, _⟩ => ⟨S2x1024, .f32⟩
  | .local _ .vmem, ⟨6, _⟩ => ⟨S24x512x128, .f32⟩
  | .local _ .vmem, ⟨7, _⟩ => ⟨S24x512x128, .f32⟩
  | .local _ .vmem, ⟨8, _⟩ => ⟨S24x512x128, .bf16⟩
  | .local _ .vmem, ⟨9, _⟩ => ⟨S24x512x128, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S24x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S2x8192x2048 : Shape := ⟨3, ![2, 8192, 2048]⟩
abbrev S1x2048 : Shape := ⟨2, ![1, 2048]⟩
abbrev S1x2048x7168 : Shape := ⟨3, ![1, 2048, 7168]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S2048x7168 : Shape := ⟨2, ![2048, 7168]⟩
abbrev S2x8192x7168 : Shape := ⟨3, ![2, 8192, 7168]⟩
abbrev S2x8192x1024 : Shape := ⟨3, ![2, 8192, 1024]⟩
abbrev S1x1x1024 : Shape := ⟨3, ![1, 1, 1024]⟩
abbrev S16384x8x128 : Shape := ⟨3, ![16384, 8, 128]⟩
abbrev S8x16384x128 : Shape := ⟨3, ![8, 16384, 128]⟩
abbrev S24x16384x128 : Shape := ⟨3, ![24, 16384, 128]⟩

abbrev nBuf : Space → Nat
  | .hbm => 147
  | .vmem => 0
  | .smem => 0
  | _ => 0

abbrev hbmTy0_0 (i : Nat) : BufTy := match i % 128 with
  | 0 => ⟨S2x8192x2048, .f32⟩
  | 1 => ⟨S1x2048, .f32⟩
  | 2 => ⟨S1x2048x7168, .f32⟩
  | 3 => ⟨S2x1024, .f32⟩
  | 4 => ⟨S2x1024, .f32⟩
  | 5 => ⟨S_, .f32⟩
  | 6 => ⟨S1024, .f32⟩
  | 7 => ⟨S_, .f32⟩
  | 8 => ⟨S1024, .f32⟩
  | 9 => ⟨S1024, .f32⟩
  | 10 => ⟨S1x1024, .f32⟩
  | 11 => ⟨S2x1024, .f32⟩
  | 12 => ⟨S2x1024, .f32⟩
  | 13 => ⟨S2x1024, .f32⟩
  | 14 => ⟨S_, .f32⟩
  | 15 => ⟨S1024, .f32⟩
  | 16 => ⟨S1x1024, .f32⟩
  | 17 => ⟨S2x1024, .f32⟩
  | 18 => ⟨S2x1024, .f32⟩
  | 19 => ⟨S_, .f32⟩
  | 20 => ⟨S_, .f32⟩
  | 21 => ⟨S2x1024, .f32⟩
  | 22 => ⟨S_, .f32⟩
  | 23 => ⟨S1024, .f32⟩
  | 24 => ⟨S_, .f32⟩
  | 25 => ⟨S1024, .f32⟩
  | 26 => ⟨S1024, .f32⟩
  | 27 => ⟨S1x1024, .f32⟩
  | 28 => ⟨S2x1024, .f32⟩
  | 29 => ⟨S2x1024, .f32⟩
  | 30 => ⟨S2x1024, .f32⟩
  | 31 => ⟨S_, .f32⟩
  | 32 => ⟨S1024, .f32⟩
  | 33 => ⟨S1x1024, .f32⟩
  | 34 => ⟨S2x1024, .f32⟩
  | 35 => ⟨S2x1024, .f32⟩
  | 36 => ⟨S_, .f32⟩
  | 37 => ⟨S_, .f32⟩
  | 38 => ⟨S2x1024, .f32⟩
  | 39 => ⟨S2048, .f32⟩
  | 40 => ⟨S2x8192x2048, .f32⟩
  | 41 => ⟨S_, .f32⟩
  | 42 => ⟨S2x8192, .f32⟩
  | 43 => ⟨S2x8192x1, .f32⟩
  | 44 => ⟨S_, .f32⟩
  | 45 => ⟨S2x8192x1, .f32⟩
  | 46 => ⟨S2x8192x1, .f32⟩
  | 47 => ⟨S_, .f32⟩
  | 48 => ⟨S2x8192x1, .f32⟩
  | 49 => ⟨S2x8192x1, .f32⟩
  | 50 => ⟨S2x8192x1, .f32⟩
  | 51 => ⟨S2x8192x2048, .f32⟩
  | 52 => ⟨S2x8192x2048, .f32⟩
  | 53 => ⟨S1x1x2048, .f32⟩
  | 54 => ⟨S2x8192x2048, .f32⟩
  | 55 => ⟨S2x8192x2048, .f32⟩
  | 56 => ⟨S2048x7168, .f32⟩
  | 57 => ⟨S2x8192x7168, .f32⟩
  | 58 => ⟨S2x8192x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S_, .f32⟩
  | 68 => ⟨S2x8192x1024, .f32⟩
  | 69 => ⟨S2x8192x1024, .f32⟩
  | 70 => ⟨S_, .f32⟩
  | 71 => ⟨S2x8192x1024, .f32⟩
  | 72 => ⟨S2x8192x1024, .f32⟩
  | 73 => ⟨S2x8192x1024, .f32⟩
  | 74 => ⟨S1x1024, .f32⟩
  | 75 => ⟨S1024, .f32⟩
  | 76 => ⟨S_, .f32⟩
  | 77 => ⟨S1024, .f32⟩
  | 78 => ⟨S1024, .f32⟩
  | 79 => ⟨S2x8192x1024, .f32⟩
  | 80 => ⟨S2x8192x1024, .f32⟩
  | 81 => ⟨S_, .f32⟩
  | 82 => ⟨S2x8192x1024, .f32⟩
  | 83 => ⟨S2x8192x1024, .f32⟩
  | 84 => ⟨S_, .f32⟩
  | 85 => ⟨S2x8192x1024, .f32⟩
  | 86 => ⟨S2x8192x1024, .f32⟩
  | 87 => ⟨S1x1x1024, .f32⟩
  | 88 => ⟨S2x8192x1024, .f32⟩
  | 89 => ⟨S2x8192x1024, .f32⟩
  | 90 => ⟨S1x1x1024, .f32⟩
  | 91 => ⟨S2x8192x1024, .f32⟩
  | 92 => ⟨S2x8192x1024, .f32⟩
  | 93 => ⟨S2x8192x1024, .f32⟩
  | 94 => ⟨S1x1024, .f32⟩
  | 95 => ⟨S1024, .f32⟩
  | 96 => ⟨S_, .f32⟩
  | 97 => ⟨S1024, .f32⟩
  | 98 => ⟨S1024, .f32⟩
  | 99 => ⟨S2x8192x1024, .f32⟩
  | 100 => ⟨S2x8192x1024, .f32⟩
  | 101 => ⟨S_, .f32⟩
  | 102 => ⟨S2x8192x1024, .f32⟩
  | 103 => ⟨S2x8192x1024, .f32⟩
  | 104 => ⟨S_, .f32⟩
  | 105 => ⟨S2x8192x1024, .f32⟩
  | 106 => ⟨S2x8192x1024, .f32⟩
  | 107 => ⟨S1x1x1024, .f32⟩
  | 108 => ⟨S2x8192x1024, .f32⟩
  | 109 => ⟨S2x8192x1024, .f32⟩
  | 110 => ⟨S1x1x1024, .f32⟩
  | 111 => ⟨S2x8192x1024, .f32⟩
  | 112 => ⟨S2x8192x1024, .f32⟩
  | 113 => ⟨S2x8192x1024, .f32⟩
  | 114 => ⟨S16384x8x128, .f32⟩
  | 115 => ⟨S8x16384x128, .f32⟩
  | 116 => ⟨S16384x8x128, .f32⟩
  | 117 => ⟨S8x16384x128, .f32⟩
  | 118 => ⟨S16384x8x128, .f32⟩
  | 119 => ⟨S8x16384x128, .f32⟩
  | 120 => ⟨S2x8192x1024, .f32⟩
  | 121 => ⟨S2x8192x1024, .f32⟩
  | 122 => ⟨S_, .f32⟩
  | 123 => ⟨S2x8192x1024, .f32⟩
  | 124 => ⟨S2x8192x1024, .f32⟩
  | 125 => ⟨S_, .f32⟩
  | 126 => ⟨S2x8192x1024, .f32⟩
  | 127 => ⟨S2x8192x1024, .f32⟩
  | _ => ⟨S2x8192x2048, .f32⟩

abbrev hbmTy0_1 (i : Nat) : BufTy := match i % 128 with
  | 0 => ⟨S2x8192x1024, .f32⟩
  | 1 => ⟨S2x8192x1024, .f32⟩
  | 2 => ⟨S2x8192x1024, .f32⟩
  | 3 => ⟨S_, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S2x8192x1024, .f32⟩
  | 10 => ⟨S16384x8x128, .f32⟩
  | 11 => ⟨S8x16384x128, .f32⟩
  | 12 => ⟨S16384x8x128, .f32⟩
  | 13 => ⟨S8x16384x128, .f32⟩
  | 14 => ⟨S16384x8x128, .f32⟩
  | 15 => ⟨S8x16384x128, .f32⟩
  | 16 => ⟨S24x16384x128, .f32⟩
  | 17 => ⟨S24x16384x128, .f32⟩
  | 18 => ⟨S24x16384x128, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_call0_cst : Ref sig .tc := ⟨.hbm, 36, rfl⟩
abbrev main_call1_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_call2_v5 : Ref sig .tc := ⟨.hbm, 127, rfl⟩
abbrev main_v94 : Ref sig .tc := ⟨.hbm, 128, rfl⟩
abbrev main_call3_v0 : Ref sig .tc := ⟨.hbm, 129, rfl⟩
abbrev main_call3_v1 : Ref sig .tc := ⟨.hbm, 130, rfl⟩
abbrev main_call3_cst : Ref sig .tc := ⟨.hbm, 131, rfl⟩
abbrev main_call3_v2 : Ref sig .tc := ⟨.hbm, 132, rfl⟩
abbrev main_call3_v3 : Ref sig .tc := ⟨.hbm, 133, rfl⟩
abbrev main_call3_cst_0 : Ref sig .tc := ⟨.hbm, 134, rfl⟩
abbrev main_call3_v4 : Ref sig .tc := ⟨.hbm, 135, rfl⟩
abbrev main_call3_v5 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩

abbrev nD : Nat := 1
abbrev τ : Topo := Topo.v7x

variable {F : FTy → Type} [FloatOps F]
-- ==== Ffn1.lean ====
abbrev S2x8192x2048 : Shape := ⟨3, ![2, 8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 17
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048x5632, .bf16⟩
  | .hbm, ⟨6, _⟩ => ⟨S1x2048x5632, .bf16⟩
  | .hbm, ⟨7, _⟩ => ⟨S1x5632x2048, .bf16⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S2048x5632, .bf16⟩
  | .hbm, ⟨12, _⟩ => ⟨S2048x5632, .bf16⟩
  | .hbm, ⟨13, _⟩ => ⟨S5632x2048, .bf16⟩
  | .hbm, ⟨14, _⟩ => ⟨S2048, .f32⟩
  | .hbm, ⟨15, _⟩ => ⟨S1x2048, .f32⟩
  | .hbm, ⟨16, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn1RefIdeal.lean ====
abbrev S2x8192x2048 : Shape := ⟨3, ![2, 8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x5632 : Shape := ⟨2, ![2048, 5632]⟩
abbrev S5632x2048 : Shape := ⟨2, ![5632, 2048]⟩
abbrev S2x8192x5632 : Shape := ⟨3, ![2, 8192, 5632]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S2x8192x5632, .f32⟩
  | .hbm, ⟨26, _⟩ => ⟨S2x8192x5632, .f32⟩
  | .hbm, ⟨27, _⟩ => ⟨S2x8192x5632, .f32⟩
  | .hbm, ⟨28, _⟩ => ⟨S_, .f32⟩
  | .hbm, ⟨29, _⟩ => ⟨S2x8192x5632, .f32⟩
  | .hbm, ⟨30, _⟩ => ⟨S2x8192x5632, .f32⟩
  | .hbm, ⟨31, _⟩ => ⟨S_, .f32⟩
  | .hbm, ⟨32, _⟩ => ⟨S2x8192x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S2x8192x2048, .f32⟩
  | .hbm, ⟨38, _⟩ => ⟨S_, .f32⟩
  | .hbm, ⟨39, _⟩ => ⟨S2x8192x2048, .f32⟩
  | .hbm, ⟨40, _⟩ => ⟨S2x8192x2048, .f32⟩
  | .hbm, ⟨41, _⟩ => ⟨S2x8192x2048, .f32⟩
  | .hbm, ⟨42, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Mix.lean ====
abbrev S2x8192x2048 : Shape := ⟨3, ![2, 8192, 2048]⟩
abbrev S24x16384x128 : Shape := ⟨3, ![24, 16384, 128]⟩
abbrev S8x16384x128 : Shape := ⟨3, ![8, 16384, 128]⟩
abbrev S1x31x1024 : Shape := ⟨3, ![1, 31, 1024]⟩
abbrev S1x1024 : Shape := ⟨2, ![1, 1024]⟩
abbrev S1x128 : Shape := ⟨2, ![1, 128]⟩
abbrev S1x2048x2048 : Shape := ⟨3, ![1, 2048, 2048]⟩
abbrev S16384x2048 : Shape := ⟨2, ![16384, 2048]⟩
abbrev S31x1024 : Shape := ⟨2, ![31, 1024]⟩
abbrev S1024 : Shape := ⟨1, ![1024]⟩
abbrev S128 : Shape := ⟨1, ![128]⟩
abbrev S2048x2048 : Shape := ⟨2, ![2048, 2048]⟩
abbrev S31x8x128 : Shape := ⟨3, ![31, 8, 128]⟩
abbrev S8x31x128 : Shape := ⟨3, ![8, 31, 128]⟩
abbrev S1x8x128 : Shape := ⟨3, ![1, 8, 128]⟩
abbrev S8x1x128 : Shape := ⟨3, ![8, 1, 128]⟩
abbrev S512x2048 : Shape := ⟨2, ![512, 2048]⟩
abbrev S8x512x128 : Shape := ⟨3, ![8, 512, 128]⟩
abbrev S8x16x128 : Shape := ⟨3, ![8, 16, 128]⟩
abbrev S8x544x128 : Shape := ⟨3, ![8, 544, 128]⟩
abbrev S8x128x128 : Shape := ⟨3, ![8, 128, 128]⟩
abbrev S2x128x1024 : Shape := ⟨3, ![2, 128, 1024]⟩
abbrev S1x136x128 : Shape := ⟨3, ![1, 136, 128]⟩
abbrev S136x128 : Shape := ⟨2, ![136, 128]⟩
abbrev S128x128 : Shape := ⟨2, ![128, 128]⟩
abbrev S1x1x128 : Shape := ⟨3, ![1, 1, 128]⟩
abbrev S1x128x128 : Shape := ⟨3, ![1, 128, 128]⟩
abbrev S8x32x128 : Shape := ⟨3, ![8, 32, 128]⟩
abbrev S32x128 : Shape := ⟨2, ![32, 128]⟩
abbrev S32 : Shape := ⟨1, ![32]⟩
abbrev S32x1 : Shape := ⟨2, ![32, 1]⟩
abbrev S1x32x1 : Shape := ⟨3, ![1, 32, 1]⟩
abbrev S1x32x128 : Shape := ⟨3, ![1, 32, 128]⟩
abbrev S128x1 : Shape := ⟨2, ![128, 1]⟩
abbrev S128x1024 : Shape := ⟨2, ![128, 1024]⟩
abbrev S1x128x1024 : Shape := ⟨3, ![1, 128, 1024]⟩
abbrev S128x2048 : Shape := ⟨2, ![128, 2048]⟩

abbrev nBuf : Space → Nat
  | .hbm => 32
  | .vmem => 25
  | .smem => 0
  | _ => 0

abbrev bufTy : (tb : Table) → Fin (tcTables nBuf tb) → BufTy
  | .hbm, ⟨0, _⟩ => ⟨S2x8192x2048, .f32⟩
  | .hbm, ⟨1, _⟩ => ⟨S24x16384x128, .f32⟩
  | .hbm, ⟨2, _⟩ => ⟨S24x16384x128, .bf16⟩
  | .hbm, ⟨3, _⟩ => ⟨S8x16384x128, .bf16⟩
  | .hbm, ⟨4, _⟩ => ⟨S8x16384x128, .bf16⟩
  | .hbm, ⟨5, _⟩ => ⟨S1x31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x128, .f32⟩
  | .hbm, ⟨10, _⟩ => ⟨S1x2048x2048, .f32⟩
  | .hbm, ⟨11, _⟩ => ⟨S1x2048x2048, .bf16⟩
  | .hbm, ⟨12, _⟩ => ⟨S16384x2048, .f32⟩
  | .hbm, ⟨13, _⟩ => ⟨S31x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S128, .f32⟩
  | .hbm, ⟨21, _⟩ => ⟨S1x128, .f32⟩
  | .hbm, ⟨22, _⟩ => ⟨S2048x2048, .bf16⟩
  | .hbm, ⟨23, _⟩ => ⟨S31x8x128, .f32⟩
  | .hbm, ⟨24, _⟩ => ⟨S8x31x128, .f32⟩
  | .hbm, ⟨25, _⟩ => ⟨S1x8x128, .f32⟩
  | .hbm, ⟨26, _⟩ => ⟨S8x1x128, .f32⟩
  | .hbm, ⟨27, _⟩ => ⟨S1x8x128, .f32⟩
  | .hbm, ⟨28, _⟩ => ⟨S8x1x128, .f32⟩
  | .hbm, ⟨29, _⟩ => ⟨S1x8x128, .f32⟩
  | .hbm, ⟨30, _⟩ => ⟨S8x1x128, .f32⟩
  | .hbm, ⟨31, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S8x512x128, .f32⟩
  | .local _ .vmem, ⟨3, _⟩ => ⟨S8x512x128, .f32⟩
  | .local _ .vmem, ⟨4, _⟩ => ⟨S8x16x128, .f32⟩
  | .local _ .vmem, ⟨5, _⟩ => ⟨S8x16x128, .f32⟩
  | .local _ .vmem, ⟨6, _⟩ => ⟨S8x16x128, .f32⟩
  | .local _ .vmem, ⟨7, _⟩ => ⟨S8x16x128, .f32⟩
  | .local _ .vmem, ⟨8, _⟩ => ⟨S8x512x128, .bf16⟩
  | .local _ .vmem, ⟨9, _⟩ => ⟨S8x512x128, .bf16⟩
  | .local _ .vmem, ⟨10, _⟩ => ⟨S8x512x128, .bf16⟩
  | .local _ .vmem, ⟨11, _⟩ => ⟨S8x512x128, .bf16⟩
  | .local _ .vmem, ⟨12, _⟩ => ⟨S8x512x128, .bf16⟩
  | .local _ .vmem, ⟨13, _⟩ => ⟨S8x512x128, .bf16⟩
  | .local _ .vmem, ⟨14, _⟩ => ⟨S8x31x128, .f32⟩
  | .local _ .vmem, ⟨15, _⟩ => ⟨S8x1x128, .f32⟩
  | .local _ .vmem, ⟨16, _⟩ => ⟨S8x1x128, .f32⟩
  | .local _ .vmem, ⟨17, _⟩ => ⟨S8x1x128, .f32⟩
  | .local _ .vmem, ⟨18, _⟩ => ⟨S1x128, .f32⟩
  | .local _ .vmem, ⟨19, _⟩ => ⟨S2048x2048, .bf16⟩
  | .local _ .vmem, ⟨20, _⟩ => ⟨S512x2048, .f32⟩
  | .local _ .vmem, ⟨21, _⟩ => ⟨S512x2048, .f32⟩
  | .local _ .vmem, ⟨22, _⟩ => ⟨S8x544x128, .f32⟩
  | .local _ .vmem, ⟨23, _⟩ => ⟨S8x128x128, .f32⟩
  | .local _ .vmem, ⟨24, _⟩ => ⟨S2x128x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1045 : BitVec 32 := 0#32
  let c3_i32 : BitVec 32 := 3#32
  let v1946 : BitVec 32 := Scalar.addi c0_i32_1045 c3_i32
  let c1_i32 : BitVec 32 := 1#32
  ⟨c0_i32_1045, v1946, c1_i32⟩
def k0_mult1 (k0_t1 : Fin k0_t1_loop.trips) : BitVec 32 :=
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  v2178
def k0_off1 (k0_t1 : Fin k0_t1_loop.trips) (c0_i32_1176 : BitVec 32) : Fin 3 → Nat :=
  let c0_1177 : Index := 0#32
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  let v2179 : BitVec 32 := v2178
  let v2180 : BitVec 32 := Scalar.addi v2179 c0_i32_1176
  let v2181 : Index := Scalar.indexCast v2180
  let c0_1178 : Index := 0#32
  ![0, v2181.toNat, 0]
def k0_off2 (k0_t1 : Fin k0_t1_loop.trips) (c0_i32_1285 : BitVec 32) : Fin 3 → Nat :=
  let c1_1286 : Index := 1#32
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  let v2179 : BitVec 32 := v2178
  let v2390 : BitVec 32 := Scalar.addi v2179 c0_i32_1285
  let v2391 : Index := Scalar.indexCast v2390
  let c0_1287 : Index := 0#32
  ![1, v2391.toNat, 0]
def k0_off3 (k0_t1 : Fin k0_t1_loop.trips) (c0_i32_1397 : BitVec 32) : Fin 3 → Nat :=
  let c2_1398 : Index := 2#32
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  let v2179 : BitVec 32 := v2178
  let v2600 : BitVec 32 := Scalar.addi v2179 c0_i32_1397
  let v2601 : Index := Scalar.indexCast v2600
  let c0_1399 : Index := 0#32
  ![2, v2601.toNat, 0]
def k0_off4 (k0_t1 : Fin k0_t1_loop.trips) (c0_i32_1509 : BitVec 32) : Fin 3 → Nat :=
  let c3_1510 : Index := 3#32
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  let v2179 : BitVec 32 := v2178
  let v2810 : BitVec 32 := Scalar.addi v2179 c0_i32_1509
  let v2811 : Index := Scalar.indexCast v2810
  let c0_1511 : Index := 0#32
  ![3, v2811.toNat, 0]
def k0_off5 (k0_t1 : Fin k0_t1_loop.trips) (c0_i32_1621 : BitVec 32) : Fin 3 → Nat :=
  let c4_1622 : Index := 4#32
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  let v2179 : BitVec 32 := v2178
  let v3020 : BitVec 32 := Scalar.addi v2179 c0_i32_1621
  let v3021 : Index := Scalar.indexCast v3020
  let c0_1623 : Index := 0#32
  ![4, v3021.toNat, 0]
def k0_off6 (k0_t1 : Fin k0_t1_loop.trips) (c0_i32_1733 : BitVec 32) : Fin 3 → Nat :=
  let c5_1734 : Index := 5#32
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  let v2179 : BitVec 32 := v2178
  let v3230 : BitVec 32 := Scalar.addi v2179 c0_i32_1733
  let v3231 : Index := Scalar.indexCast v3230
  let c0_1735 : Index := 0#32
  ![5, v3231.toNat, 0]
def k0_off7 (k0_t1 : Fin k0_t1_loop.trips) (c0_i32_1845 : BitVec 32) : Fin 3 → Nat :=
  let c6_1846 : Index := 6#32
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  let v2179 : BitVec 32 := v2178
  let v3440 : BitVec 32 := Scalar.addi v2179 c0_i32_1845
  let v3441 : Index := Scalar.indexCast v3440
  let c0_1847 : Index := 0#32
  ![6, v3441.toNat, 0]
def k0_off8 (k0_t1 : Fin k0_t1_loop.trips) (c0_i32_1957 : BitVec 32) : Fin 3 → Nat :=
  let c7_1958 : Index := 7#32
  let c0_i32_1045 : BitVec 32 := 0#32
  let c1_i32 : BitVec 32 := 1#32
  let arg19 : BitVec 32 := Scf.iv c0_i32_1045 c1_i32 k0_t1
  let c1_i32_1175 : BitVec 32 := 1#32
  let v2177 : BitVec 32 := Scalar.addi arg19 c1_i32_1175
  let c128_i32 : BitVec 32 := 128#32
  let v2178 : BitVec 32 := Scalar.muli v2177 c128_i32
  let v2179 : BitVec 32 := v2178
  let v3650 : BitVec 32 := Scalar.addi v2179 c0_i32_1957
  let v3651 : Index := Scalar.indexCast v3650
  let c0_1959 : Index := 0#32
  ![7, v3651.toNat, 0]
def k0_off9 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3900 : Index := Scalar.indexCast v2176
  let c0_2088 : Index := 0#32
  let c0_2089 : Index := 0#32
  ![v3900.toNat, 0, 0]
def k0_off10 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3906 : Index := Scalar.indexCast v2176
  let c0_2090 : Index := 0#32
  let c128_2091 : Index := 128#32
  ![v3906.toNat, 0, 128]
def k0_off11 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3912 : Index := Scalar.indexCast v2176
  let c0_2092 : Index := 0#32
  let c256_2093 : Index := 256#32
  ![v3912.toNat, 0, 256]
def k0_off12 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3918 : Index := Scalar.indexCast v2176
  let c0_2094 : Index := 0#32
  let c384_2095 : Index := 384#32
  ![v3918.toNat, 0, 384]
def k0_off13 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3924 : Index := Scalar.indexCast v2176
  let c0_2096 : Index := 0#32
  let c512_2097 : Index := 512#32
  ![v3924.toNat, 0, 512]
def k0_off14 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3930 : Index := Scalar.indexCast v2176
  let c0_2098 : Index := 0#32
  let c640_2099 : Index := 640#32
  ![v3930.toNat, 0, 640]
def k0_off15 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3936 : Index := Scalar.indexCast v2176
  let c0_2100 : Index := 0#32
  let c768_2101 : Index := 768#32
  ![v3936.toNat, 0, 768]
def k0_off16 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3942 : Index := Scalar.indexCast v2176
  let c0_2102 : Index := 0#32
  let c896_2103 : Index := 896#32
  ![v3942.toNat, 0, 896]
def k0_off17 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3986 : Index := Scalar.indexCast v2176
  let c32_2123 : Index := 32#32
  let c0_2124 : Index := 0#32
  ![v3986.toNat, 32, 0]
def k0_off18 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3992 : Index := Scalar.indexCast v2176
  let c32_2125 : Index := 32#32
  let c128_2126 : Index := 128#32
  ![v3992.toNat, 32, 128]
def k0_off19 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v3998 : Index := Scalar.indexCast v2176
  let c32_2127 : Index := 32#32
  let c256_2128 : Index := 256#32
  ![v3998.toNat, 32, 256]
def k0_off20 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4004 : Index := Scalar.indexCast v2176
  let c32_2129 : Index := 32#32
  let c384_2130 : Index := 384#32
  ![v4004.toNat, 32, 384]
def k0_off21 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4010 : Index := Scalar.indexCast v2176
  let c32_2131 : Index := 32#32
  let c512_2132 : Index := 512#32
  ![v4010.toNat, 32, 512]
def k0_off22 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4016 : Index := Scalar.indexCast v2176
  let c32_2133 : Index := 32#32
  let c640_2134 : Index := 640#32
  ![v4016.toNat, 32, 640]
def k0_off23 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4022 : Index := Scalar.indexCast v2176
  let c32_2135 : Index := 32#32
  let c768_2136 : Index := 768#32
  ![v4022.toNat, 32, 768]
def k0_off24 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4028 : Index := Scalar.indexCast v2176
  let c32_2137 : Index := 32#32
  let c896_2138 : Index := 896#32
  ![v4028.toNat, 32, 896]
def k0_off25 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4072 : Index := Scalar.indexCast v2176
  let c64_2158 : Index := 64#32
  let c0_2159 : Index := 0#32
  ![v4072.toNat, 64, 0]
def k0_off26 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4078 : Index := Scalar.indexCast v2176
  let c64_2160 : Index := 64#32
  let c128_2161 : Index := 128#32
  ![v4078.toNat, 64, 128]
def k0_off27 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4084 : Index := Scalar.indexCast v2176
  let c64_2162 : Index := 64#32
  let c256_2163 : Index := 256#32
  ![v4084.toNat, 64, 256]
def k0_off28 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4090 : Index := Scalar.indexCast v2176
  let c64_2164 : Index := 64#32
  let c384_2165 : Index := 384#32
  ![v4090.toNat, 64, 384]
def k0_off29 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4096 : Index := Scalar.indexCast v2176
  let c64_2166 : Index := 64#32
  let c512_2167 : Index := 512#32
  ![v4096.toNat, 64, 512]
def k0_off30 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4102 : Index := Scalar.indexCast v2176
  let c64_2168 : Index := 64#32
  let c640_2169 : Index := 640#32
  ![v4102.toNat, 64, 640]
def k0_off31 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4108 : Index := Scalar.indexCast v2176
  let c64_2170 : Index := 64#32
  let c768_2171 : Index := 768#32
  ![v4108.toNat, 64, 768]
def k0_off32 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4114 : Index := Scalar.indexCast v2176
  let c64_2172 : Index := 64#32
  let c896_2173 : Index := 896#32
  ![v4114.toNat, 64, 896]
def k0_off33 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4158 : Index := Scalar.indexCast v2176
  let c96_2193 : Index := 96#32
  let c0_2194 : Index := 0#32
  ![v4158.toNat, 96, 0]
def k0_off34 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4164 : Index := Scalar.indexCast v2176
  let c96_2195 : Index := 96#32
  let c128_2196 : Index := 128#32
  ![v4164.toNat, 96, 128]
def k0_off35 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4170 : Index := Scalar.indexCast v2176
  let c96_2197 : Index := 96#32
  let c256_2198 : Index := 256#32
  ![v4170.toNat, 96, 256]
def k0_off36 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4176 : Index := Scalar.indexCast v2176
  let c96_2199 : Index := 96#32
  let c384_2200 : Index := 384#32
  ![v4176.toNat, 96, 384]
def k0_off37 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4182 : Index := Scalar.indexCast v2176
  let c96_2201 : Index := 96#32
  let c512_2202 : Index := 512#32
  ![v4182.toNat, 96, 512]
def k0_off38 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4188 : Index := Scalar.indexCast v2176
  let c96_2203 : Index := 96#32
  let c640_2204 : Index := 640#32
  ![v4188.toNat, 96, 640]
def k0_off39 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4194 : Index := Scalar.indexCast v2176
  let c96_2205 : Index := 96#32
  let c768_2206 : Index := 768#32
  ![v4194.toNat, 96, 768]
def k0_off40 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c1_i32_1169 : BitVec 32 := 1#32
  let v2166 : BitVec 32 := Scalar.addi arg19 c1_i32_1169
  let c2_i32 : BitVec 32 := 2#32
  let c0_i32_1170 : BitVec 32 := 0#32
  let v2167 : BitVec 1 := Scalar.cmpi .eq c2_i32 c0_i32_1170
  let c1_i32_1171 : BitVec 32 := 1#32
  let v2168 : BitVec 32 := Scalar.select v2167 c1_i32_1171 c2_i32
  let v2169 : BitVec 32 := Scalar.remsi v2166 v2168
  let c0_i32_1173 : BitVec 32 := 0#32
  let v2171 : BitVec 1 := Scalar.cmpi .slt v2169 c0_i32_1173
  let c0_i32_1174 : BitVec 32 := 0#32
  let v2172 : BitVec 1 := Scalar.cmpi .slt v2168 c0_i32_1174
  let v2173 : BitVec 1 := Scalar.xori v2171 v2172
  let c0_i32_1172 : BitVec 32 := 0#32
  let v2170 : BitVec 1 := Scalar.cmpi .ne v2169 c0_i32_1172
  let v2174 : BitVec 1 := Scalar.andi v2173 v2170
  let v2175 : BitVec 32 := Scalar.addi v2169 v2168
  let v2176 : BitVec 32 := Scalar.select v2174 v2175 v2169
  let v4200 : Index := Scalar.indexCast v2176
  let c96_2207 : Index := 96#32
  let c896_2208 : Index := 896#32
  ![v4200.toNat, 96, 896]
def k0_mult2 (k0_t1 : Fin k0_t1_loop.trips) : BitVec 32 :=
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  v4214
def k0_off41 (k0_t1 : Fin k0_t1_loop.trips) : Fin 3 → Nat :=
  let c0_2216 : Index := 0#32
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4216 : Index := Scalar.indexCast v4215
  let c0_2217 : Index := 0#32
  ![0, v4216.toNat, 0]
def k0_off42 (k0_t1 : Fin k0_t1_loop.trips) : Fin 3 → Nat :=
  let c1_2227 : Index := 1#32
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4245 : Index := Scalar.indexCast v4215
  let c0_2228 : Index := 0#32
  ![1, v4245.toNat, 0]
def k0_off43 (k0_t1 : Fin k0_t1_loop.trips) : Fin 3 → Nat :=
  let c2_2238 : Index := 2#32
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4274 : Index := Scalar.indexCast v4215
  let c0_2239 : Index := 0#32
  ![2, v4274.toNat, 0]
def k0_off44 (k0_t1 : Fin k0_t1_loop.trips) : Fin 3 → Nat :=
  let c3_2249 : Index := 3#32
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4303 : Index := Scalar.indexCast v4215
  let c0_2250 : Index := 0#32
  ![3, v4303.toNat, 0]
def k0_off45 (k0_t1 : Fin k0_t1_loop.trips) : Fin 3 → Nat :=
  let c4_2260 : Index := 4#32
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4332 : Index := Scalar.indexCast v4215
  let c0_2261 : Index := 0#32
  ![4, v4332.toNat, 0]
def k0_off46 (k0_t1 : Fin k0_t1_loop.trips) : Fin 3 → Nat :=
  let c5_2271 : Index := 5#32
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4361 : Index := Scalar.indexCast v4215
  let c0_2272 : Index := 0#32
  ![5, v4361.toNat, 0]
def k0_off47 (k0_t1 : Fin k0_t1_loop.trips) : Fin 3 → Nat :=
  let c6_2282 : Index := 6#32
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4390 : Index := Scalar.indexCast v4215
  let c0_2283 : Index := 0#32
  ![6, v4390.toNat, 0]
def k0_off48 (k0_t1 : Fin k0_t1_loop.trips) : Fin 3 → Nat :=
  let c7_2293 : Index := 7#32
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4419 : Index := Scalar.indexCast v4215
  let c0_2294 : Index := 0#32
  ![7, v4419.toNat, 0]
def k0_off49 (k0_t1 : Fin k0_t1_loop.trips) : Fin 3 → Nat :=
  let c0_i32_1045 : BitVec 32 := 0#32
  let c1_i32 : BitVec 32 := 1#32
  let arg19 : BitVec 32 := Scf.iv c0_i32_1045 c1_i32 k0_t1
  let c2_i32_2209 : BitVec 32 := 2#32
  let c0_i32_2210 : BitVec 32 := 0#32
  let v4204 : BitVec 1 := Scalar.cmpi .eq c2_i32_2209 c0_i32_2210
  let c1_i32_2211 : BitVec 32 := 1#32
  let v4205 : BitVec 32 := Scalar.select v4204 c1_i32_2211 c2_i32_2209
  let v4206 : BitVec 32 := Scalar.remsi arg19 v4205
  let c0_i32_2213 : BitVec 32 := 0#32
  let v4208 : BitVec 1 := Scalar.cmpi .slt v4206 c0_i32_2213
  let c0_i32_2214 : BitVec 32 := 0#32
  let v4209 : BitVec 1 := Scalar.cmpi .slt v4205 c0_i32_2214
  let v4210 : BitVec 1 := Scalar.xori v4208 v4209
  let c0_i32_2212 : BitVec 32 := 0#32
  let v4207 : BitVec 1 := Scalar.cmpi .ne v4206 c0_i32_2212
  let v4211 : BitVec 1 := Scalar.andi v4210 v4207
  let v4212 : BitVec 32 := Scalar.addi v4206 v4205
  let v4213 : BitVec 32 := Scalar.select v4211 v4212 v4206
  let v4449 : Index := Scalar.indexCast v4213
  let c0_2304 : Index := 0#32
  let c0_2305 : Index := 0#32
  ![v4449.toNat, 0, 0]
def k0_off50 (k0_t1 : Fin k0_t1_loop.trips) : Fin 2 → Nat :=
  let c0_i32_1045 : BitVec 32 := 0#32
  let c1_i32 : BitVec 32 := 1#32
  let arg19 : BitVec 32 := Scf.iv c0_i32_1045 c1_i32 k0_t1
  let c128_i32_2215 : BitVec 32 := 128#32
  let v4214 : BitVec 32 := Scalar.muli arg19 c128_i32_2215
  let v4215 : BitVec 32 := v4214
  let v4453 : Index := Scalar.indexCast v4215
  let c0_2306 : Index := 0#32
  ![v4453.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![c0_i32_0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c1023_i32 : BitVec 32 := 1023#32
  let v4 : BitVec 32 := Scalar.minsi v3 c1023_i32
  let c0_i32 : BitVec 32 := 0#32
  let c0_i32_0 : BitVec 32 := 0#32
  let c0_i32_1 : BitVec 32 := 0#32
  ![c0_i32.toNat, v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixRefIdeal.lean ====
abbrev S2x8192x2048 : Shape := ⟨3, ![2, 8192, 2048]⟩
abbrev S24x16384x128 : Shape := ⟨3, ![24, 16384, 128]⟩
abbrev S8x16384x128 : Shape := ⟨3, ![8, 16384, 128]⟩
abbrev S1x31x1024 : Shape := ⟨3, ![1, 31, 1024]⟩
abbrev S1x1024 : Shape := ⟨2, ![1, 1024]⟩
abbrev S1x128 : Shape := ⟨2, ![1, 128]⟩
abbrev S1x2048x2048 : Shape := ⟨3, ![1, 2048, 2048]⟩
abbrev S16384x8x128 : Shape := ⟨3, ![16384, 8, 128]⟩
abbrev S2x8192x8x128 : Shape := ⟨4, ![2, 8192, 8, 128]⟩
abbrev S2x8192x1024 : Shape := ⟨3, ![2, 8192, 1024]⟩
abbrev S31x1024 : Shape := ⟨2, ![31, 1024]⟩
abbrev S1024 : Shape := ⟨1, ![1024]⟩
abbrev S_ : Shape := ⟨0, ![]⟩
abbrev S2x8222x1024 : Shape := ⟨3, ![2, 8222, 1024]⟩
abbrev S1x1x1024 : Shape := ⟨3, ![1, 1, 1024]⟩
abbrev S2x8192 : Shape := ⟨2, ![2, 8192]⟩
abbrev S2x8192x1 : Shape := ⟨3, ![2, 8192, 1]⟩
abbrev S128 : Shape := ⟨1, ![128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2048x2048 : Shape := ⟨2, ![2048, 2048]⟩
abbrev S16384x2048 : Shape := ⟨2, ![16384, 2048]⟩

abbrev nBuf : Space → Nat
  | .hbm => 311
  | .vmem => 0
  | .smem => 0
  | _ => 0

abbrev hbmTy0_0 (i : Nat) : BufTy := match i % 128 with
  | 0 => ⟨S2x8192x2048, .f32⟩
  | 1 => ⟨S24x16384x128, .f32⟩
  | 2 => ⟨S24x16384x128, .bf16⟩
  | 3 => ⟨S8x16384x128, .bf16⟩
  | 4 => ⟨S8x16384x128, .bf16⟩
  | 5 => ⟨S1x31x1024, .f32⟩
  | 6 => ⟨S1x1024, .f32⟩
  | 7 => ⟨S1x1024, .f32⟩
  | 8 => ⟨S1x1024, .f32⟩
  | 9 => ⟨S1x128, .f32⟩
  | 10 => ⟨S1x2048x2048, .f32⟩
  | 11 => ⟨S8x16384x128, .f32⟩
  | 12 => ⟨S16384x8x128, .f32⟩
  | 13 => ⟨S2x8192x8x128, .f32⟩
  | 14 => ⟨S2x8192x1024, .f32⟩
  | 15 => ⟨S31x1024, .f32⟩
  | 16 => ⟨S1024, .f32⟩
  | 17 => ⟨S_, .i32⟩
  | 18 => ⟨S_, .f32⟩
  | 19 => ⟨S2x8222x1024, .f32⟩
  | 20 => ⟨S2x8192x1024, .f32⟩
  | 21 => ⟨S1x1024, .f32⟩
  | 22 => ⟨S1024, .f32⟩
  | 23 => ⟨S1x1x1024, .f32⟩
  | 24 => ⟨S2x8192x1024, .f32⟩
  | 25 => ⟨S2x8192x1024, .f32⟩
  | 26 => ⟨S2x8192x1024, .f32⟩
  | 27 => ⟨S1x1024, .f32⟩
  | 28 => ⟨S1024, .f32⟩
  | 29 => ⟨S1x1x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S1x1024, .f32⟩
  | 35 => ⟨S1024, .f32⟩
  | 36 => ⟨S1x1x1024, .f32⟩
  | 37 => ⟨S2x8192x1024, .f32⟩
  | 38 => ⟨S2x8192x1024, .f32⟩
  | 39 => ⟨S2x8192x1024, .f32⟩
  | 40 => ⟨S2x8192x1024, .f32⟩
  | 41 => ⟨S1x1024, .f32⟩
  | 42 => ⟨S1024, .f32⟩
  | 43 => ⟨S1x1x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S1x1024, .f32⟩
  | 49 => ⟨S1024, .f32⟩
  | 50 => ⟨S1x1x1024, .f32⟩
  | 51 => ⟨S2x8192x1024, .f32⟩
  | 52 => ⟨S2x8192x1024, .f32⟩
  | 53 => ⟨S2x8192x1024, .f32⟩
  | 54 => ⟨S2x8192x1024, .f32⟩
  | 55 => ⟨S1x1024, .f32⟩
  | 56 => ⟨S1024, .f32⟩
  | 57 => ⟨S1x1x1024, .f32⟩
  | 58 => ⟨S2x8192x1024, .f32⟩
  | 59 => ⟨S2x8192x1024, .f32⟩
  | 60 => ⟨S2x8192x1024, .f32⟩
  | 61 => ⟨S2x8192x1024, .f32⟩
  | 62 => ⟨S1x1024, .f32⟩
  | 63 => ⟨S1024, .f32⟩
  | 64 => ⟨S1x1x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S1x1024, .f32⟩
  | 70 => ⟨S1024, .f32⟩
  | 71 => ⟨S1x1x1024, .f32⟩
  | 72 => ⟨S2x8192x1024, .f32⟩
  | 73 => ⟨S2x8192x1024, .f32⟩
  | 74 => ⟨S2x8192x1024, .f32⟩
  | 75 => ⟨S2x8192x1024, .f32⟩
  | 76 => ⟨S1x1024, .f32⟩
  | 77 => ⟨S1024, .f32⟩
  | 78 => ⟨S1x1x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S1x1024, .f32⟩
  | 84 => ⟨S1024, .f32⟩
  | 85 => ⟨S1x1x1024, .f32⟩
  | 86 => ⟨S2x8192x1024, .f32⟩
  | 87 => ⟨S2x8192x1024, .f32⟩
  | 88 => ⟨S2x8192x1024, .f32⟩
  | 89 => ⟨S2x8192x1024, .f32⟩
  | 90 => ⟨S1x1024, .f32⟩
  | 91 => ⟨S1024, .f32⟩
  | 92 => ⟨S1x1x1024, .f32⟩
  | 93 => ⟨S2x8192x1024, .f32⟩
  | 94 => ⟨S2x8192x1024, .f32⟩
  | 95 => ⟨S2x8192x1024, .f32⟩
  | 96 => ⟨S2x8192x1024, .f32⟩
  | 97 => ⟨S1x1024, .f32⟩
  | 98 => ⟨S1024, .f32⟩
  | 99 => ⟨S1x1x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S1x1024, .f32⟩
  | 105 => ⟨S1024, .f32⟩
  | 106 => ⟨S1x1x1024, .f32⟩
  | 107 => ⟨S2x8192x1024, .f32⟩
  | 108 => ⟨S2x8192x1024, .f32⟩
  | 109 => ⟨S2x8192x1024, .f32⟩
  | 110 => ⟨S2x8192x1024, .f32⟩
  | 111 => ⟨S1x1024, .f32⟩
  | 112 => ⟨S1024, .f32⟩
  | 113 => ⟨S1x1x1024, .f32⟩
  | 114 => ⟨S2x8192x1024, .f32⟩
  | 115 => ⟨S2x8192x1024, .f32⟩
  | 116 => ⟨S2x8192x1024, .f32⟩
  | 117 => ⟨S2x8192x1024, .f32⟩
  | 118 => ⟨S1x1024, .f32⟩
  | 119 => ⟨S1024, .f32⟩
  | 120 => ⟨S1x1x1024, .f32⟩
  | 121 => ⟨S2x8192x1024, .f32⟩
  | 122 => ⟨S2x8192x1024, .f32⟩
  | 123 => ⟨S2x8192x1024, .f32⟩
  | 124 => ⟨S2x8192x1024, .f32⟩
  | 125 => ⟨S1x1024, .f32⟩
  | 126 => ⟨S1024, .f32⟩
  | 127 => ⟨S1x1x1024, .f32⟩
  | _ => ⟨S2x8192x2048, .f32⟩

abbrev hbmTy0_1 (i : Nat) : BufTy := match i % 128 with
  | 0 => ⟨S2x8192x1024, .f32⟩
  | 1 => ⟨S2x8192x1024, .f32⟩
  | 2 => ⟨S2x8192x1024, .f32⟩
  | 3 => ⟨S2x8192x1024, .f32⟩
  | 4 => ⟨S1x1024, .f32⟩
  | 5 => ⟨S1024, .f32⟩
  | 6 => ⟨S1x1x1024, .f32⟩
  | 7 => ⟨S2x8192x1024, .f32⟩
  | 8 => ⟨S2x8192x1024, .f32⟩
  | 9 => ⟨S2x8192x1024, .f32⟩
  | 10 => ⟨S2x8192x1024, .f32⟩
  | 11 => ⟨S1x1024, .f32⟩
  | 12 => ⟨S1024, .f32⟩
  | 13 => ⟨S1x1x1024, .f32⟩
  | 14 => ⟨S2x8192x1024, .f32⟩
  | 15 => ⟨S2x8192x1024, .f32⟩
  | 16 => ⟨S2x8192x1024, .f32⟩
  | 17 => ⟨S2x8192x1024, .f32⟩
  | 18 => ⟨S1x1024, .f32⟩
  | 19 => ⟨S1024, .f32⟩
  | 20 => ⟨S1x1x1024, .f32⟩
  | 21 => ⟨S2x8192x1024, .f32⟩
  | 22 => ⟨S2x8192x1024, .f32⟩
  | 23 => ⟨S2x8192x1024, .f32⟩
  | 24 => ⟨S2x8192x1024, .f32⟩
  | 25 => ⟨S1x1024, .f32⟩
  | 26 => ⟨S1024, .f32⟩
  | 27 => ⟨S1x1x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S1x1024, .f32⟩
  | 33 => ⟨S1024, .f32⟩
  | 34 => ⟨S1x1x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S1x1024, .f32⟩
  | 40 => ⟨S1024, .f32⟩
  | 41 => ⟨S1x1x1024, .f32⟩
  | 42 => ⟨S2x8192x1024, .f32⟩
  | 43 => ⟨S2x8192x1024, .f32⟩
  | 44 => ⟨S2x8192x1024, .f32⟩
  | 45 => ⟨S2x8192x1024, .f32⟩
  | 46 => ⟨S1x1024, .f32⟩
  | 47 => ⟨S1024, .f32⟩
  | 48 => ⟨S1x1x1024, .f32⟩
  | 49 => ⟨S2x8192x1024, .f32⟩
  | 50 => ⟨S2x8192x1024, .f32⟩
  | 51 => ⟨S2x8192x1024, .f32⟩
  | 52 => ⟨S2x8192x1024, .f32⟩
  | 53 => ⟨S1x1024, .f32⟩
  | 54 => ⟨S1024, .f32⟩
  | 55 => ⟨S1x1x1024, .f32⟩
  | 56 => ⟨S2x8192x1024, .f32⟩
  | 57 => ⟨S2x8192x1024, .f32⟩
  | 58 => ⟨S2x8192x1024, .f32⟩
  | 59 => ⟨S2x8192x1024, .f32⟩
  | 60 => ⟨S1x1024, .f32⟩
  | 61 => ⟨S1024, .f32⟩
  | 62 => ⟨S1x1x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S1x1024, .f32⟩
  | 68 => ⟨S1024, .f32⟩
  | 69 => ⟨S1x1x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S1x1024, .f32⟩
  | 75 => ⟨S1024, .f32⟩
  | 76 => ⟨S1x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S1x1024, .f32⟩
  | 82 => ⟨S1024, .f32⟩
  | 83 => ⟨S1x1x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S1x1024, .f32⟩
  | 89 => ⟨S1024, .f32⟩
  | 90 => ⟨S1x1x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S1x1024, .f32⟩
  | 96 => ⟨S1024, .f32⟩
  | 97 => ⟨S1x1x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S1x1024, .f32⟩
  | 103 => ⟨S1024, .f32⟩
  | 104 => ⟨S1x1x1024, .f32⟩
  | 105 => ⟨S2x8192x1024, .f32⟩
  | 106 => ⟨S2x8192x1024, .f32⟩
  | 107 => ⟨S2x8192x1024, .f32⟩
  | 108 => ⟨S1x1x1024, .f32⟩
  | 109 => ⟨S2x8192x1024, .f32⟩
  | 110 => ⟨S2x8192x1024, .f32⟩
  | 111 => ⟨S1024, .f32⟩
  | 112 => ⟨S1024, .f32⟩
  | 113 => ⟨S_, .f32⟩
  | 114 => ⟨S2x8192, .f32⟩
  | 115 => ⟨S2x8192x1, .f32⟩
  | 116 => ⟨S_, .f32⟩
  | 117 => ⟨S2x8192x1, .f32⟩
  | 118 => ⟨S2x8192x1, .f32⟩
  | 119 => ⟨S2x8192x1024, .f32⟩
  | 120 => ⟨S2x8192x1024, .f32⟩
  | 121 => ⟨S2x8192x1024, .f32⟩
  | 122 => ⟨S_, .f32⟩
  | 123 => ⟨S2x8192, .f32⟩
  | 124 => ⟨S2x8192x1, .f32⟩
  | 125 => ⟨S_, .f32⟩
  | 126 => ⟨S2x8192x1, .f32⟩
  | 127 => ⟨S2x8192x1, .f32⟩
  | _ => ⟨S2x8192x2048, .f32⟩

abbrev hbmTy0_2 (i : Nat) : BufTy := match i % 128 with
  | 0 => ⟨S_, .f32⟩
  | 1 => ⟨S2x8192x1, .f32⟩
  | 2 => ⟨S2x8192x1, .f32⟩
  | 3 => ⟨S2x8192x1, .f32⟩
  | 4 => ⟨S2x8192x1024, .f32⟩
  | 5 => ⟨S2x8192x1024, .f32⟩
  | 6 => ⟨S1x1x1024, .f32⟩
  | 7 => ⟨S2x8192x1024, .f32⟩
  | 8 => ⟨S2x8192x1024, .f32⟩
  | 9 => ⟨S1x1x1024, .f32⟩
  | 10 => ⟨S2x8192x1024, .f32⟩
  | 11 => ⟨S2x8192x1024, .f32⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S_, .f32⟩
  | 18 => ⟨S2x8192x1024, .f32⟩
  | 19 => ⟨S2x8192x1024, .f32⟩
  | 20 => ⟨S2x8192x1024, .f32⟩
  | 21 => ⟨S8x16384x128, .f32⟩
  | 22 => ⟨S8x16384x128, .f32⟩
  | 23 => ⟨S8x16384x128, .f32⟩
  | 24 => ⟨S16384x8x128, .f32⟩
  | 25 => ⟨S2x8192x8x128, .f32⟩
  | 26 => ⟨S128, .f32⟩
  | 27 => ⟨S2x8192x8x128, .f32⟩
  | 28 => ⟨S_, .f32⟩
  | 29 => ⟨S2x8192x8, .f32⟩
  | 30 => ⟨S2x8192x8x1, .f32⟩
  | 31 => ⟨S_, .f32⟩
  | 32 => ⟨S2x8192x8x1, .f32⟩
  | 33 => ⟨S2x8192x8x1, .f32⟩
  | 34 => ⟨S_, .f32⟩
  | 35 => ⟨S2x8192x8x1, .f32⟩
  | 36 => ⟨S2x8192x8x1, .f32⟩
  | 37 => ⟨S2x8192x8x1, .f32⟩
  | 38 => ⟨S2x8192x8x128, .f32⟩
  | 39 => ⟨S2x8192x8x128, .f32⟩
  | 40 => ⟨S1x1x1x128, .f32⟩
  | 41 => ⟨S2x8192x8x128, .f32⟩
  | 42 => ⟨S2x8192x8x128, .f32⟩
  | 43 => ⟨S2x8192x1024, .f32⟩
  | 44 => ⟨S8x16384x128, .bf16⟩
  | 45 => ⟨S8x16384x128, .f32⟩
  | 46 => ⟨S16384x8x128, .f32⟩
  | 47 => ⟨S2x8192x8x128, .f32⟩
  | 48 => ⟨S2x8192x1024, .f32⟩
  | 49 => ⟨S2x8192x1024, .f32⟩
  | 50 => ⟨S2x8192x2048, .f32⟩
  | 51 => ⟨S2048x2048, .f32⟩
  | 52 => ⟨S2x8192x2048, .f32⟩
  | 53 => ⟨S2x8192x2048, .f32⟩
  | 54 => ⟨S16384x2048, .f32⟩
  | _ => ⟨S2x8192x2048, .f32⟩

abbrev hbmTy (i : Nat) : BufTy := match i / 128 with
  | 0 => hbmTy0_0 i
  | 1 => hbmTy0_1 i
  | 2 => hbmTy0_2 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_cst : Ref sig .tc := ⟨.hbm, 241, rfl⟩
abbrev main_v228 : Ref sig .tc := ⟨.hbm, 242, rfl⟩
abbrev main_v229 : Ref sig .tc := ⟨.hbm, 243, rfl⟩
abbrev main_cst_0 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_cst_1 : Ref sig .tc := ⟨.hbm, 250, rfl⟩
abbrev main_v235 : Ref sig .tc := ⟨.hbm, 251, rfl⟩
abbrev main_v236 : Ref sig .tc := ⟨.hbm, 252, rfl⟩
abbrev main_cst_2 : Ref sig .tc := ⟨.hbm, 253, rfl⟩
abbrev main_v237 : Ref sig .tc := ⟨.hbm, 254, rfl⟩
abbrev main_v238 : Ref sig .tc := ⟨.hbm, 255, rfl⟩
abbrev main_cst_3 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_cst_4 : Ref sig .tc := ⟨.hbm, 284, rfl⟩
abbrev main_v258 : Ref sig .tc := ⟨.hbm, 285, rfl⟩
abbrev main_v259 : Ref sig .tc := ⟨.hbm, 286, rfl⟩
abbrev main_cst_5 : Ref sig .tc := ⟨.hbm, 287, rfl⟩
abbrev main_v260 : Ref sig .tc := ⟨.hbm, 288, rfl⟩
abbrev main_v261 : Ref sig .tc := ⟨.hbm, 289, rfl⟩
abbrev main_cst_6 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩

abbrev nD : Nat := 1
abbrev τ : Topo := Topo.v7x

variable {F : FTy → Type} [FloatOps F]
-- ==== Proof.FfnVal.Pay.lean ====
/-
  The feed-forward call's vector expressions read at one index, over the extended reals: a normalised row (`rms`), one
  hidden unit's gated activation (`act`) and a block of hidden units' contribution to one output (`part`).
-/
module

public import proofs.«01_k».proof.Proof.Gen.FfnIdeal.Skeleton
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.Pointwise
public import Idealize.ShloMosaic.PureOps.Ideal.Laws

@[expose] public section

noncomputable section

namespace Cert.FfnVal

open Idealize.ShloMosaic Idealize.ShloMosaic.ValueIdx
open scoped BigOperators

/-- One entry of a row divided by its root mean square and scaled. -/
def rms (x w : Fin 2048 → EReal) (k : Fin 2048) : EReal :=
  x k * Ideal.rsqrt (Ideal.div (∑ j, x j * x j) (Ideal.ofBits .f32 0x45000000#32) + Ideal.ofBits .f32 0x358637BD#32) * w k

/-- One hidden unit: the sigmoid-gated first product times the second. -/
def act (h w1 w3 : Fin 2048 → EReal) : EReal :=
  ((∑ k, h k * w1 k) * Ideal.div (Ideal.ofBits .f32 0x3F800000#32) (Ideal.ofBits .f32 0x3F800000#32 + Ideal.exp (-(∑ k, h k * w1 k))))
    * (∑ k, h k * w3 k)

/-- What `n` hidden units add to one output. -/
def part {n : ℕ} (h : Fin 2048 → EReal) (w1 w3 : Fin 2048 → Fin n → EReal) (w2 : Fin n → EReal) : EReal :=
  ∑ j, act h (fun k => w1 k j) (fun k => w3 k j) * w2 j

open Cert.FfnIdeal Cert.FfnIdeal.Gen

theorem dot_a (a : FVec Ideal S256x2048 .bf16) (b : FVec Ideal S2048x512 .bf16) (r : Fin 256) (c : Fin 512) :
    matmul dot_S256x2048_S2048x512_S256x512_1_0_0_1_n_n none a b (constant (F := Ideal) S256x512 .f32 0x00000000#32) (ValueIdx.ix2 r c)
      = ∑ k : Fin 2048, a (ValueIdx.ix2 r k) * b (ValueIdx.ix2 k c) := by
  refine (Ideal.matmul_plain_apply (M := 256) (K := 2048) (N := 512) none a b _ r c).trans ?_
  rw [constant_apply, Ideal.ofBits_zero_f32, zero_add]

theorem dot_b (a : FVec Ideal S256x512 .bf16) (b : FVec Ideal S512x2048 .bf16) (r : Fin 256) (c : Fin 2048) :
    matmul dot_S256x512_S512x2048_S256x2048_1_0_0_1_n_n none a b (constant (F := Ideal) S256x2048 .f32 0x00000000#32) (ValueIdx.ix2 r c)
      = ∑ k : Fin 512, a (ValueIdx.ix2 r k) * b (ValueIdx.ix2 k c) := by
  refine (Ideal.matmul_plain_apply (M := 256) (K := 512) (N := 2048) none a b _ r c).trans ?_
  rw [constant_apply, Ideal.ofBits_zero_f32, zero_add]

theorem dot_c (a : FVec Ideal S512x2048 .bf16) (b : FVec Ideal S2048x512 .bf16) (r : Fin 512) (c : Fin 512) :
    matmul dot_S512x2048_S2048x512_S512x512_1_0_0_1_n_n none a b (constant (F := Ideal) S512x512 .f32 0x00000000#32) (ValueIdx.ix2 r c)
      = ∑ k : Fin 2048, a (ValueIdx.ix2 r k) * b (ValueIdx.ix2 k c) := by
  refine (Ideal.matmul_plain_apply (M := 512) (K := 2048) (N := 512) none a b _ r c).trans ?_
  rw [constant_apply, Ideal.ofBits_zero_f32, zero_add]

theorem dot_d (a : FVec Ideal S512x512 .bf16) (b : FVec Ideal S512x2048 .bf16) (r : Fin 512) (c : Fin 2048) :
    matmul dot_S512x512_S512x2048_S512x2048_1_0_0_1_n_n none a b (constant (F := Ideal) S512x2048 .f32 0x00000000#32) (ValueIdx.ix2 r c)
      = ∑ k : Fin 512, a (ValueIdx.ix2 r k) * b (ValueIdx.ix2 k c) := by
  refine (Ideal.matmul_plain_apply (M := 512) (K := 512) (N := 2048) none a b _ r c).trans ?_
  rw [constant_apply, Ideal.ofBits_zero_f32, zero_add]

/-- The sum along a row. -/
theorem rowsum (v : FVec Ideal S256x2048 .f32) (h hφ hacc) (r : Fin 256) :
    multiReduction .add [1] S256 v 0x00000000#32 h hφ hacc (ValueIdx.ix1 r) = ∑ k : Fin 2048, v (ValueIdx.ix2 r k) := by
  refine (Ideal.multiReduction_add_single v _ h hφ hacc _).trans ?_
  refine Finset.sum_congr rfl fun k _ => congrArg v ?_
  funext a
  match a with
  | ⟨0, _⟩ => rfl
  | ⟨1, _⟩ => rfl

theorem rowsum_col (v : FVec Ideal S256x2048 .f32) (h hφ hacc hc) (r : Fin 256) :
    shapeCast S256x1 (multiReduction .add [1] S256 v 0x00000000#32 h hφ hacc) hc (ValueIdx.ix2 r 0) = ∑ k : Fin 2048, v (ValueIdx.ix2 r k) :=
  (ValueIdx.shapeCast_a_a1_apply (a := 256) _ hc r 0).trans (rowsum v h hφ hacc r)

theorem col_apply (v : FVec Ideal S256x1 .f32) (h) (r : Fin 256) (k : Fin 2048) :
    broadcastTo S256x2048 v h (ValueIdx.ix2 r k) = v (ValueIdx.ix2 r 0) := by
  refine broadcastTo_apply v h _ _ ?_
  intro a
  match a with
  | ⟨0, _⟩ => simp
  | ⟨1, _⟩ => simp

theorem row_apply (v : FVec Ideal S1x2048 .f32) (h) (r : Fin 256) (k : Fin 2048) :
    broadcastTo S256x2048 v h (ValueIdx.ix2 r k) = v (ValueIdx.ix2 0 k) :=
  ValueIdx.broadcastTo_1b_ab_apply (a := 256) (b := 2048) v h r k

/-- A tile of 256 rows, each divided by its root mean square and scaled. -/
def rmsT (x : FVec Ideal S256x2048 .f32) (w : FVec Ideal S1x2048 .f32) : FVec Ideal S256x2048 .f32 :=
  mulf (mulf x (broadcastTo S256x2048 (rsqrt (addf (divf (shapeCast S256x1
    (multiReduction .add [1] S256 (mulf x x) 0x00000000#32 reduces_S256x2048_S256 (.inl rfl) rfl) shapeCasts_S256_S256x1)
    (broadcast S256x1 (FloatOps.ofBits .f32 0x45000000#32))) (broadcast S256x1 (FloatOps.ofBits .f32 0x358637BD#32)))) broadcasts_S256x1_S256x2048))
    (broadcastTo S256x2048 w broadcasts_S1x2048_S256x2048)

theorem rmsT_apply (x : FVec Ideal S256x2048 .f32) (w : FVec Ideal S1x2048 .f32) (r : Fin 256) (k : Fin 2048) :
    rmsT x w (ValueIdx.ix2 r k) = rms (fun j => x (ValueIdx.ix2 r j)) (fun j => w (ValueIdx.ix2 0 j)) k := by
  unfold rmsT rms
  simp only [mulf_apply, col_apply, row_apply]
  congr 2
  exact congrArg (fun z => Ideal.rsqrt (Ideal.div z (Ideal.ofBits .f32 0x45000000#32) + Ideal.ofBits .f32 0x358637BD#32)) (rowsum_col _ _ _ _ _ r)

/-- The gated activation of a tile's two products. -/
def gate {s : Shape} (a b : FVec Ideal s .f32) : FVec Ideal s .bf16 :=
  truncf .bf16 (mulf (mulf a (divf (broadcast s (FloatOps.ofBits .f32 0x3F800000#32)) (addf (broadcast s (FloatOps.ofBits .f32 0x3F800000#32))
    (exp (subf (broadcast s (FloatOps.ofBits .f32 0x00000000#32)) a))))) b) bitsLt_bf16_f32

theorem gate_apply {s : Shape} (a b : FVec Ideal s .f32) (i : s.Idx) :
    gate a b i = (a i * Ideal.div (Ideal.ofBits .f32 0x3F800000#32) (Ideal.ofBits .f32 0x3F800000#32 + Ideal.exp (-(a i)))) * b i := by
  show (a i * Ideal.div (Ideal.ofBits .f32 0x3F800000#32) (Ideal.ofBits .f32 0x3F800000#32 + Ideal.exp (Ideal.ofBits .f32 0x00000000#32 - a i))) * b i = _
  rw [Ideal.ofBits_zero_f32, zero_sub]

/-- The contribution of 512 hidden units to 256 rows. -/
def partA (h : FVec Ideal S256x2048 .bf16) (w1 w3 : FVec Ideal S2048x512 .bf16) (w2 : FVec Ideal S512x2048 .bf16) : FVec Ideal S256x2048 .f32 :=
  matmul dot_S256x512_S512x2048_S256x2048_1_0_0_1_n_n none
    (gate (matmul dot_S256x2048_S2048x512_S256x512_1_0_0_1_n_n none h w1 (constant (F := Ideal) S256x512 .f32 0x00000000#32))
      (matmul dot_S256x2048_S2048x512_S256x512_1_0_0_1_n_n none h w3 (constant (F := Ideal) S256x512 .f32 0x00000000#32)))
    w2 (constant (F := Ideal) S256x2048 .f32 0x00000000#32)

theorem partA_apply (h : FVec Ideal S256x2048 .bf16) (w1 w3 : FVec Ideal S2048x512 .bf16) (w2 : FVec Ideal S512x2048 .bf16)
    (r : Fin 256) (d : Fin 2048) :
    partA h w1 w3 w2 (ValueIdx.ix2 r d) = part (fun k => h (ValueIdx.ix2 r k)) (fun k j => w1 (ValueIdx.ix2 k j)) (fun k j => w3 (ValueIdx.ix2 k j))
      (fun j => w2 (ValueIdx.ix2 j d)) := by
  unfold partA part act
  simp only [dot_b, gate_apply, dot_a]

/-- The contribution of 512 hidden units to 512 rows. -/
def partB (h : FVec Ideal S512x2048 .bf16) (w1 w3 : FVec Ideal S2048x512 .bf16) (w2 : FVec Ideal S512x2048 .bf16) : FVec Ideal S512x2048 .f32 :=
  matmul dot_S512x512_S512x2048_S512x2048_1_0_0_1_n_n none
    (gate (matmul dot_S512x2048_S2048x512_S512x512_1_0_0_1_n_n none h w1 (constant (F := Ideal) S512x512 .f32 0x00000000#32))
      (matmul dot_S512x2048_S2048x512_S512x512_1_0_0_1_n_n none h w3 (constant (F := Ideal) S512x512 .f32 0x00000000#32)))
    w2 (constant (F := Ideal) S512x2048 .f32 0x00000000#32)

theorem partB_apply (h : FVec Ideal S512x2048 .bf16) (w1 w3 : FVec Ideal S2048x512 .bf16) (w2 : FVec Ideal S512x2048 .bf16)
    (r : Fin 512) (d : Fin 2048) :
    partB h w1 w3 w2 (ValueIdx.ix2 r d) = part (fun k => h (ValueIdx.ix2 r k)) (fun k j => w1 (ValueIdx.ix2 k j)) (fun k j => w3 (ValueIdx.ix2 k j))
      (fun j => w2 (ValueIdx.ix2 j d)) := by
  unfold partB part act
  simp only [dot_d, gate_apply, dot_c]

/-- The last block's tile: the row plus half of what the hidden units gave, normalised. -/
def finT (x acc : FVec Ideal S256x2048 .f32) (w : FVec Ideal S1x2048 .f32) : FVec Ideal S256x2048 .f32 :=
  rmsT (addf x (mulf (broadcast S256x2048 (FloatOps.ofBits .f32 0x3F000000#32)) acc)) w

section Forms

variable (X : Vec Ideal S256x2048 .f32) (n : Vec Ideal S1x2048 .f32) (w1 w3 : Vec Ideal S2048x512 .bf16) (w2 : Vec Ideal S512x2048 .bf16)

theorem a_scr0 : k0_pay5 X n = rmsT X n := by unfold k0_pay5 k0_pay4; simp only [shapeCast_self]; rfl
theorem a_scr1 : k0_pay10 X n = rmsT X n := by unfold k0_pay10 k0_pay9; simp only [shapeCast_self]; rfl
theorem a_scr2 : k0_pay14 X n = rmsT X n := by unfold k0_pay14 k0_pay13; simp only [shapeCast_self]; rfl
theorem a_scr3 : k0_pay20 X n = rmsT X n := by unfold k0_pay20 k0_pay19; simp only [shapeCast_self]; rfl

theorem a_out0 : k0_pay8 (k0_pay6 X n w1 w3) (k0_pay7 w2) (constant S256x2048 .f32 0#32) = partA (rmsT X n) w1 w3 w2 := by
  unfold k0_pay8 k0_pay6 k0_pay7 k0_pay4; simp only [shapeCast_self]; rfl
theorem a_out1 : k0_pay12 (k0_pay11 X n w1 w3) w2 = partA (rmsT X n) w1 w3 w2 := by
  unfold k0_pay12 k0_pay11 k0_pay9; simp only [shapeCast_self]; rfl
theorem a_out2 : k0_pay18 (k0_pay15 X n w1) (k0_pay16 X n w3) (k0_pay17 X n w1) (FloatOps.ofBits .f32 1065353216#32) w2 = partA (rmsT X n) w1 w3 w2 := by
  unfold k0_pay18 k0_pay17 k0_pay16 k0_pay15 k0_pay13; simp only [shapeCast_self]; rfl
theorem a_out3 : k0_pay1 (k0_pay21 X n w1) (k0_pay22 X n w3) (k0_pay23 X n w1) w2 = partA (rmsT X n) w1 w3 w2 := by
  unfold k0_pay1 k0_pay23 k0_pay22 k0_pay21 k0_pay19; simp only [shapeCast_self]; rfl

variable (xo : Vec Ideal S512x2048 .f32) (xs : Vec Ideal S512x2048 .bf16)

theorem b_out0 : k0_pay24 xo xs w1 w3 w2 = addf xo (partB xs w1 w3 w2) := by
  unfold k0_pay24; simp only [shapeCast_self]; rfl
theorem b_out1 : k0_pay2 (k0_pay25 xo) xs (k0_pay26 xs w1) (k0_pay27 w3) w2 = addf xo (partB xs w1 w3 w2) := by
  unfold k0_pay2 k0_pay25 k0_pay26 k0_pay27; simp only [shapeCast_self]; rfl

variable (yo : Vec Ideal S256x2048 .f32) (ys : Vec Ideal S256x2048 .bf16)

theorem c_out0 : k0_pay32 (k0_pay28 yo ys w1 w3 w2 X) (k0_pay29 n) (k0_pay30 yo ys w1 w3 w2 X) k0_pay31 = finT X (addf yo (partA ys w1 w3 w2)) n := by
  unfold k0_pay32 k0_pay30 k0_pay29 k0_pay28 k0_pay31; simp only [shapeCast_self]; rfl
theorem c_out1 : k0_pay34 (k0_pay33 yo ys w1 w3 w2 X) n = finT X (addf yo (partA ys w1 w3 w2)) n := by
  unfold k0_pay34 k0_pay33; simp only [shapeCast_self]; rfl
theorem c_out2 : k0_pay36 (k0_pay35 yo ys w1 w3 w2) X n = finT X (addf yo (partA ys w1 w3 w2)) n := by
  unfold k0_pay36 k0_pay35; simp only [shapeCast_self]; rfl
theorem c_out3 : k0_pay3 (k0_pay37 yo) (k0_pay38 ys w3) (k0_pay39 ys w1) w2 X n = finT X (addf yo (partA ys w1 w3 w2)) n := by
  unfold k0_pay3 k0_pay37 k0_pay38 k0_pay39; simp only [shapeCast_self]; rfl

end Forms

end Cert.FfnVal

end
-- ==== Proof.FfnVal.Cases.lean ====
/-
  What each of the feed-forward call's three kinds of grid step leaves in its output block and its scratch: the first
  step of a row block normalises the rows and starts the sum, the middle steps add a block of hidden units, the last one
  adds its own block and normalises the row with half of the sum added.
-/
module

public import proofs.«01_k».proof.Proof.Gen.FfnIdeal.Frame
public import proofs.«01_k».proof.Proof.FfnVal.Pay

@[expose] public section

set_option maxHeartbeats 1000000

noncomputable section

namespace Cert.FfnVal

open Idealize.ShloMosaic Idealize.ShloMosaic.TcCoe Idealize.ShloMosaic.Tactic
open Cert.FfnIdeal Cert.FfnIdeal.Gen
open scoped BigOperators

theorem off00 : (![0, 0] : Fin 2 → Nat) = fun _ => 0 := by
  funext a
  match a with
  | ⟨0, _⟩ => rfl
  | ⟨1, _⟩ => rfl

theorem ld_w13 (X : Vec Ideal S2048x512 .bf16) (inb) : View.ld X (Rect.unit (s := S2048x512) ![0, 0] ![2048, 512] inb) = X :=
  View.ld_unit_zero (S := S2048x512) off00 inb X
theorem ld_w2 (X : Vec Ideal S512x2048 .bf16) (inb) : View.ld X (Rect.unit (s := S512x2048) ![0, 0] ![512, 2048] inb) = X :=
  View.ld_unit_zero (S := S512x2048) off00 inb X
theorem ld_n (X : Vec Ideal S1x2048 .f32) (inb) : View.ld X (Rect.unit (s := S1x2048) ![0, 0] ![1, 2048] inb) = X :=
  View.ld_unit_zero (S := S1x2048) off00 inb X

/-- The normalised rows. -/
def gS (x0 : Vec Ideal S1024x2048 .f32) (x1 : Vec Ideal S1x2048 .f32) : Vec Ideal S1024x2048 .bf16 := fun y =>
  rms (fun j => x0 (ValueIdx.ix2 (y 0) j)) (fun j => x1 (ValueIdx.ix2 0 j)) (y 1)

/-- A block of hidden units' contribution, from the rows `h`. -/
def gP (h : Vec Ideal S1024x2048 .bf16) (x2 x3 : Vec Ideal S2048x512 .bf16) (x4 : Vec Ideal S512x2048 .bf16) : Vec Ideal S1024x2048 .f32 := fun y =>
  part (fun k => h (ValueIdx.ix2 (y 0) k)) (fun k j => x2 (ValueIdx.ix2 k j)) (fun k j => x3 (ValueIdx.ix2 k j)) (fun j => x4 (ValueIdx.ix2 j (y 1)))

/-- The last step's rows. -/
def gF (x0 o : Vec Ideal S1024x2048 .f32) (x5 : Vec Ideal S1x2048 .f32) : Vec Ideal S1024x2048 .f32 := fun y =>
  rms (fun d => x0 (ValueIdx.ix2 (y 0) d) + Ideal.ofBits .f32 0x3F000000#32 * o (ValueIdx.ix2 (y 0) d)) (fun j => x5 (ValueIdx.ix2 0 j)) (y 1)

theorem ex_ix2 {a b : ℕ} (x : (⟨2, ![a, b]⟩ : Shape).Idx) : ∃ (r : Fin a) (k : Fin b), x = ValueIdx.ix2 r k :=
  ⟨x 0, x 1, ValueIdx.eq_ix2 x⟩

/-- An index of a tile's row, placed. -/
theorem place (R : ℕ) (off : ℕ) (inb : ∀ a, (![off, 0] : Fin 2 → Nat) a + (![R, 2048] : Fin 2 → Nat) a ≤ S1024x2048.size a)
    (r : Fin R) (c j : Fin 2048) :
    (Rect.unit (s := S1024x2048) ![off, 0] ![R, 2048] inb).idx (ValueIdx.ix2 r j)
      = ValueIdx.ix2 ((Rect.unit (s := S1024x2048) ![off, 0] ![R, 2048] inb).emb (ValueIdx.ix2 r c) 0) j := by
  funext a
  match a with
  | ⟨0, _⟩ => rfl
  | ⟨1, _⟩ => exact Fin.ext (by show 0 + 1 * j.val = j.val; omega)

theorem place1 (R : ℕ) (off : ℕ) (inb : ∀ a, (![off, 0] : Fin 2 → Nat) a + (![R, 2048] : Fin 2 → Nat) a ≤ S1024x2048.size a)
    (r : Fin R) (c : Fin 2048) :
    (Rect.unit (s := S1024x2048) ![off, 0] ![R, 2048] inb).emb (ValueIdx.ix2 r c) 1 = c :=
  Fin.ext (by show 0 + 1 * c.val = c.val; omega)

theorem ld_row (e : EltTy) (X : Vec Ideal S1024x2048 e) (R : ℕ) (off : ℕ) (inb : ∀ a, (![off, 0] : Fin 2 → Nat) a + (![R, 2048] : Fin 2 → Nat) a ≤ S1024x2048.size a)
    (r : Fin R) (c j : Fin 2048) :
    View.ld X (Rect.unit (s := S1024x2048) ![off, 0] ![R, 2048] inb) (ValueIdx.ix2 r j)
      = X (ValueIdx.ix2 ((Rect.unit (s := S1024x2048) ![off, 0] ![R, 2048] inb).emb (ValueIdx.ix2 r c) 0) j) :=
  congrArg X (place R off inb r c j)

section Tiles

variable (x0 : Vec Ideal S1024x2048 .f32) (x1 : Vec Ideal S1x2048 .f32) (x2 x3 : Vec Ideal S2048x512 .bf16) (x4 : Vec Ideal S512x2048 .bf16) (x5 : Vec Ideal S1x2048 .f32)
  (xo : Vec Ideal S1024x2048 .f32) (xs : Vec Ideal S1024x2048 .bf16)

theorem tileS (off : ℕ) (inb : ∀ a, (![off, 0] : Fin 2 → Nat) a + (![256, 2048] : Fin 2 → Nat) a ≤ S1024x2048.size a) (x : S256x2048.Idx) :
    rmsT (View.ld x0 (Rect.unit (s := S1024x2048) ![off, 0] ![256, 2048] inb)) x1 x
      = gS x0 x1 ((Rect.unit (s := S1024x2048) ![off, 0] ![256, 2048] inb).emb x) := by
  obtain ⟨r, c, rfl⟩ := ex_ix2 x
  refine (rmsT_apply _ _ _ _).trans ?_
  unfold gS
  erw [place1]
  congr 1
  funext j
  exact ld_row .f32 x0 256 off inb r c j

theorem tileA (off : ℕ) (inb : ∀ a, (![off, 0] : Fin 2 → Nat) a + (![256, 2048] : Fin 2 → Nat) a ≤ S1024x2048.size a) (x : S256x2048.Idx) :
    partA (rmsT (View.ld x0 (Rect.unit (s := S1024x2048) ![off, 0] ![256, 2048] inb)) x1) x2 x3 x4 x
      = gP (gS x0 x1) x2 x3 x4 ((Rect.unit (s := S1024x2048) ![off, 0] ![256, 2048] inb).emb x) := by
  obtain ⟨r, c, rfl⟩ := ex_ix2 x
  refine (partA_apply _ _ _ _ _ _).trans ?_
  unfold gP
  erw [place1]
  congr 1
  funext k
  refine (rmsT_apply _ _ _ _).trans ?_
  unfold gS
  congr 1
  funext j
  exact ld_row .f32 x0 256 off inb r c j

theorem tileB (off : ℕ) (inb : ∀ a, (![off, 0] : Fin 2 → Nat) a + (![512, 2048] : Fin 2 → Nat) a ≤ S1024x2048.size a) (x : S512x2048.Idx) :
    addf (View.ld xo (Rect.unit (s := S1024x2048) ![off, 0] ![512, 2048] inb)) (partB (View.ld xs (Rect.unit (s := S1024x2048) ![off, 0] ![512, 2048] inb)) x2 x3 x4) x
      = xo ((Rect.unit (s := S1024x2048) ![off, 0] ![512, 2048] inb).emb x) + gP xs x2 x3 x4 ((Rect.unit (s := S1024x2048) ![off, 0] ![512, 2048] inb).emb x) := by
  obtain ⟨r, c, rfl⟩ := ex_ix2 x
  rw [addf_apply]
  congr 1
  refine (partB_apply _ _ _ _ _ _).trans ?_
  unfold gP
  erw [place1]
  congr 1
  funext j
  exact ld_row .bf16 xs 512 off inb r c j

theorem tileC (off : ℕ) (inb : ∀ a, (![off, 0] : Fin 2 → Nat) a + (![256, 2048] : Fin 2 → Nat) a ≤ S1024x2048.size a) (x : S256x2048.Idx) :
    finT (View.ld x0 (Rect.unit (s := S1024x2048) ![off, 0] ![256, 2048] inb)) (addf (View.ld xo (Rect.unit (s := S1024x2048) ![off, 0] ![256, 2048] inb))
      (partA (View.ld xs (Rect.unit (s := S1024x2048) ![off, 0] ![256, 2048] inb)) x2 x3 x4)) x5 x
      = gF x0 (fun y => xo y + gP xs x2 x3 x4 y) x5 ((Rect.unit (s := S1024x2048) ![off, 0] ![256, 2048] inb).emb x) := by
  obtain ⟨r, c, rfl⟩ := ex_ix2 x
  refine (rmsT_apply _ _ _ _).trans ?_
  unfold gF
  erw [place1]
  congr 1
  funext d
  rw [addf_apply, mulf_apply, addf_apply, partA_apply]
  refine congr (congrArg _ (ld_row .f32 x0 256 off inb r c d)) ?_
  refine congrArg (Ideal.ofBits .f32 0x3F000000#32 * ·) ?_
  refine congr (congrArg _ (ld_row .f32 xo 256 off inb r c d)) ?_
  unfold gP
  congr 1
  funext k
  exact ld_row .bf16 xs 256 off inb r c k

end Tiles

section Cases

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32)

theorem caseA_out (hc0 : cond0_0 i) (hc1 : ¬cond0_1 i) (hc2 : ¬cond0_2 i) :
    out0_A_6 c i arg2 harg2 arg3 harg3 arg4 harg4 arg5 harg5 arg6 harg6 arg7 harg7 arg8 harg8 arg9 harg9 hc0 hc1 hc2 x0 x1 x2 x3 x4 x5 = gP (gS x0 x1) x2 x3 x4 := by
  funext y
  have hcov := cover0_A_6 c i arg2 harg2 arg3 harg3 arg4 harg4 arg5 harg5 arg6 harg6 arg7 harg7 arg8 harg8 arg9 harg9 hc0 hc1 hc2 x0 x1 x2 x3 x4 x5 y
  unfold out0_A_6
  rw [View.read_writes_eq_canon _ _ _ (by apply cover0_A_6)]
  revert hcov
  unfold kernelRun0_A
  dsimp only
  sl_unfold_words
  simp only [View.readAt_eq_ld, harg8.read_unread, harg2.read_unread, harg3.read_unread, harg4.read_unread, harg5.read_unread, harg6.read_unread, harg7.read_unread, harg9.read_unread, ld_w13, ld_w2, ld_n]
  simp only [a_out0, a_out1, a_out2, a_out3]
  intro hcov
  refine View.canon_apply_of_pieces (gP (gS x0 x1) x2 x3 x4) _ ?_ y hcov
  intro p hp x
  simp only [List.mem_cons, List.not_mem_nil, or_false] at hp
  rcases hp with rfl | rfl | rfl | rfl
  · exact tileA x0 x1 x2 x3 x4 768 _ x
  · exact tileA x0 x1 x2 x3 x4 512 _ x
  · exact tileA x0 x1 x2 x3 x4 256 _ x
  · exact tileA x0 x1 x2 x3 x4 0 _ x

theorem caseA_scr (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 hc0 hc1 hc2 x0 x1 x2 x3 x4 x5 = gS x0 x1 := by
  funext y
  have hcov := scover0_A_0 c i arg2 harg2 arg3 harg3 arg4 harg4 arg5 harg5 arg6 harg6 arg7 harg7 arg8 harg8 arg9 harg9 hc0 hc1 hc2 x0 x1 x2 x3 x4 x5 y
  unfold sout0_A_0
  rw [View.read_writes_eq_canon _ _ _ (by apply scover0_A_0)]
  revert hcov
  unfold kernelRun0_A
  dsimp only
  sl_unfold_words
  simp only [View.readAt_eq_ld, harg8.read_unread, harg2.read_unread, harg3.read_unread, harg4.read_unread, harg5.read_unread, harg6.read_unread, harg7.read_unread, harg9.read_unread, ld_w13, ld_w2, ld_n]
  simp only [a_scr0, a_scr1, a_scr2, a_scr3]
  intro hcov
  refine View.canon_apply_of_pieces (gS x0 x1) _ ?_ y hcov
  intro p hp x
  simp only [List.mem_cons, List.not_mem_nil, or_false] at hp
  rcases hp with rfl | rfl | rfl | rfl
  · exact tileS x0 x1 768 _ x
  · exact tileS x0 x1 512 _ x
  · exact tileS x0 x1 256 _ x
  · exact tileS x0 x1 0 _ x

variable (xo : Vec Ideal S1024x2048 .f32) (xs : Vec Ideal S1024x2048 .bf16)

theorem caseB_out (hc0 : ¬cond0_0 i) (hc1 : cond0_1 i) (hc2 : ¬cond0_2 i) :
    out0_B_6 c i arg2 harg2 arg3 harg3 arg4 harg4 arg5 harg5 arg6 harg6 arg7 harg7 arg8 harg8 arg9 harg9 hc0 hc1 hc2 x0 x1 x2 x3 x4 x5 xo xs = fun y => xo y + gP xs x2 x3 x4 y := by
  funext y
  have hcov := cover0_B_6 c i arg2 harg2 arg3 harg3 arg4 harg4 arg5 harg5 arg6 harg6 arg7 harg7 arg8 harg8 arg9 harg9 hc0 hc1 hc2 x0 x1 x2 x3 x4 x5 xo xs y
  unfold out0_B_6
  rw [View.read_writes_eq_canon _ _ _ (by apply cover0_B_6)]
  revert hcov
  unfold kernelRun0_B
  dsimp only
  sl_unfold_words
  simp only [View.readAt_eq_ld, harg8.read_unread, harg2.read_unread, harg3.read_unread, harg4.read_unread, harg5.read_unread, harg6.read_unread, harg7.read_unread, harg9.read_unread, ld_w13, ld_w2, ld_n]
  simp only [b_out0, b_out1]
  intro hcov
  refine View.canon_apply_of_pieces (fun y => xo y + gP xs x2 x3 x4 y) _ ?_ y hcov
  intro p hp x
  simp only [List.mem_cons, List.not_mem_nil, or_false] at hp
  rcases hp with rfl | rfl
  · exact tileB x2 x3 x4 xo xs 512 _ x
  · exact tileB x2 x3 x4 xo xs 0 _ x

theorem caseB_scr (hc0 : ¬cond0_0 i) (hc1 : cond0_1 i) (hc2 : ¬cond0_2 i) :
    sout0_B_0 c i arg2 harg2 arg3 harg3 arg4 harg4 arg5 harg5 arg6 harg6 arg7 harg7 arg8 harg8 arg9 harg9 hc0 hc1 hc2 x0 x1 x2 x3 x4 x5 xo xs = xs := by
  unfold sout0_B_0
  rfl

theorem caseC_out (hc0 : ¬cond0_0 i) (hc1 : ¬cond0_1 i) (hc2 : cond0_2 i) :
    out0_C_6 c i arg2 harg2 arg3 harg3 arg4 harg4 arg5 harg5 arg6 harg6 arg7 harg7 arg8 harg8 arg9 harg9 hc0 hc1 hc2 x0 x1 x2 x3 x4 x5 xo xs = gF x0 (fun y => xo y + gP xs x2 x3 x4 y) x5 := by
  funext y
  have hcov := cover0_C_6 c i arg2 harg2 arg3 harg3 arg4 harg4 arg5 harg5 arg6 harg6 arg7 harg7 arg8 harg8 arg9 harg9 hc0 hc1 hc2 x0 x1 x2 x3 x4 x5 xo xs y
  unfold out0_C_6
  rw [View.read_writes_eq_canon _ _ _ (by apply cover0_C_6)]
  revert hcov
  unfold kernelRun0_C
  dsimp only
  sl_unfold_words
  simp only [View.readAt_eq_ld, harg8.read_unread, harg2.read_unread, harg3.read_unread, harg4.read_unread, harg5.read_unread, harg6.read_unread, harg7.read_unread, harg9.read_unread, ld_w13, ld_w2, ld_n]
  simp only [c_out0, c_out1, c_out2, c_out3]
  intro hcov
  refine View.canon_apply_of_pieces (gF x0 (fun y => xo y + gP xs x2 x3 x4 y) x5) _ ?_ y hcov
  intro p hp x
  simp only [List.mem_cons, List.not_mem_nil, or_false] at hp
  rcases hp with rfl | rfl | rfl | rfl
  · exact tileC x0 x2 x3 x4 x5 xo xs 768 _ x
  · exact tileC x0 x2 x3 x4 x5 xo xs 512 _ x
  · exact tileC x0 x2 x3 x4 x5 xo xs 256 _ x
  · exact tileC x0 x2 x3 x4 x5 xo xs 0 _ x

end Cases

end Cert.FfnVal

end
-- ==== Proof.FfnVal.Sweep.lean ====
/-
  The feed-forward call's result: a row block's eleven grid steps add the hidden units block by block, so the array ends
  holding, at row `R` and column `d`, the normalised sum of the row and half of all 5632 hidden units' contributions.
-/
module

public import proofs.«01_k».proof.Proof.Gen.FfnIdeal.Value
public import proofs.«01_k».proof.Proof.FfnVal.Cases

@[expose] public section

set_option maxHeartbeats 1000000

noncomputable section

namespace Cert.FfnVal

open Idealize.ShloMosaic Idealize.ShloMosaic.TcCoe Idealize.ShloMosaic.Tactic Idealize.SL.Sem
open Cert.FfnIdeal Cert.FfnIdeal.Gen
open scoped BigOperators

/-- A row number. -/
def Rn (n : ℕ) : Fin 16384 := ⟨n % 16384, Nat.mod_lt _ (by decide)⟩
/-- A hidden unit's number. -/
def Cn (n : ℕ) : Fin 5632 := ⟨n % 5632, Nat.mod_lt _ (by decide)⟩

section Terms

variable (A0 : Vec Ideal S16384x2048 .f32) (A1 : Vec Ideal S1x2048 .f32) (A2 A3 : Vec Ideal S2048x5632 .bf16) (A4 : Vec Ideal S5632x2048 .bf16)
  (A5 : Vec Ideal S1x2048 .f32)

/-- Row `R`, normalised. -/
def hrow (R : Fin 16384) (k : Fin 2048) : EReal := rms (fun j => A0 (ValueIdx.ix2 R j)) (fun j => A1 (ValueIdx.ix2 0 j)) k

/-- What hidden unit `f` adds to row `R`, column `d`. -/
def up (R : Fin 16384) (f : Fin 5632) (d : Fin 2048) : EReal :=
  act (hrow A0 A1 R) (fun k => A2 (ValueIdx.ix2 k f)) (fun k => A3 (ValueIdx.ix2 k f)) * A4 (ValueIdx.ix2 f d)

/-- What block `b` of the hidden units adds to the row block `i`. -/
def T (i b : ℕ) (y : S1024x2048.Idx) : EReal := ∑ j : Fin 512, up A0 A1 A2 A3 A4 (Rn (1024 * i + (y 0).val)) (Cn (512 * b + j.val)) (y 1)

/-- Row block `i`, normalised. -/
def H (i : ℕ) : Vec Ideal S1024x2048 .bf16 := fun y => hrow A0 A1 (Rn (1024 * i + (y 0).val)) (y 1)

/-- The result at row `R`. -/
def res (R : Fin 16384) (d : Fin 2048) : EReal :=
  rms (fun d' => A0 (ValueIdx.ix2 R d') + Ideal.ofBits .f32 0x3F000000#32 * ∑ f : Fin 5632, up A0 A1 A2 A3 A4 R f d')
    (fun j => A5 (ValueIdx.ix2 0 j)) d

theorem sum_blocks (R : Fin 16384) (d : Fin 2048) :
    ∑ b ∈ Finset.range 11, ∑ j : Fin 512, up A0 A1 A2 A3 A4 R (Cn (512 * b + j.val)) d = ∑ f : Fin 5632, up A0 A1 A2 A3 A4 R f d := by
  rw [Finset.sum_range (fun b => ∑ j : Fin 512, up A0 A1 A2 A3 A4 R (Cn (512 * b + j.val)) d)]
  rw [← Fintype.sum_prod_type' (fun (b : Fin 11) (j : Fin 512) => up A0 A1 A2 A3 A4 R (Cn (512 * b.val + j.val)) d)]
  refine Fintype.sum_equiv (finProdFinEquiv (m := 11) (n := 512)) _ (fun f : Fin 5632 => up A0 A1 A2 A3 A4 R f d) ?_
  rintro ⟨b, j⟩
  have hb := b.isLt
  have hj := j.isLt
  refine congrArg (fun f => up A0 A1 A2 A3 A4 R f d) (Fin.ext ?_)
  show (512 * b.val + j.val) % 5632 = j.val + 512 * b.val
  omega

end Terms

theorem rms_congr {x x' w w' : Fin 2048 → EReal} (hx : ∀ j, x j = x' j) (hw : ∀ j, w j = w' j) (k : Fin 2048) : rms x w k = rms x' w' k := by
  rw [funext hx, funext hw]

theorem act_congr {h h' a a' b b' : Fin 2048 → EReal} {z z' : EReal} (hh : ∀ k, h k = h' k) (ha : ∀ k, a k = a' k) (hb : ∀ k, b k = b' k) (hz : z = z') :
    act h a b * z = act h' a' b' * z' := by
  rw [funext hh, funext ha, funext hb, hz]

section Run

variable (m : (ℓ : Loc nD τ sig) → Buf (Elt Ideal) ℓ) (c : Dev nD)

/-- The arrays the region finds. -/
abbrev a0 : Vec Ideal S16384x2048 .f32 := V m c main_v3
abbrev a1 : Vec Ideal S1x2048 .f32 := V m c main_v5
abbrev a2 : Vec Ideal S2048x5632 .bf16 := V m c main_v6
abbrev a3 : Vec Ideal S2048x5632 .bf16 := V m c main_v7
abbrev a4 : Vec Ideal S5632x2048 .bf16 := V m c main_v8
abbrev a5 : Vec Ideal S1x2048 .f32 := V m c main_v9

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0 (t : Fin cfg0.N) (r : Fin 1024) (k : Fin 2048) :
    iblk m c 0 t (ValueIdx.ix2 (n0 := 1024) (n1 := 2048) r k) = a0 m c (ValueIdx.ix2 (Rn (1024 * (t.val / 11) + r.val)) k) := by
  have ht : t.val < 176 := lt_of_lt_of_eq t.isLt N_0
  obtain ⟨e0, e1⟩ := idx0 t
  refine congrArg (V m c main_v3) ?_
  funext a
  apply Fin.ext
  match a with
  | ⟨0, _⟩ => show win0_0.index t (0 : Fin 2) * 1024 + 1 * r.val = (1024 * (t.val / 11) + r.val) % 16384; rw [e0]; have := r.isLt; omega
  | ⟨1, _⟩ => show win0_0.index t (1 : Fin 2) * 2048 + 1 * k.val = k.val; rw [e1]; omega

theorem blk1 (t : Fin cfg0.N) (k : Fin 2048) :
    iblk m c 1 t (ValueIdx.ix2 (n0 := 1) (n1 := 2048) 0 k) = a1 m c (ValueIdx.ix2 0 k) := by
  obtain ⟨e0, e1⟩ := idx1 t
  refine congrArg (V m c main_v5) ?_
  funext a
  apply Fin.ext
  match a with
  | ⟨0, _⟩ => show win0_1.index t (0 : Fin 2) * 1 + 1 * 0 = 0; rw [e0]
  | ⟨1, _⟩ => show win0_1.index t (1 : Fin 2) * 2048 + 1 * k.val = k.val; rw [e1]; omega

theorem blk2 (t : Fin cfg0.N) (k : Fin 2048) (j : Fin 512) :
    iblk m c 2 t (ValueIdx.ix2 (n0 := 2048) (n1 := 512) k j) = a2 m c (ValueIdx.ix2 k (Cn (512 * (t.val % 11) + j.val))) := by
  obtain ⟨e0, e1⟩ := idx2 t
  refine congrArg (V m c main_v6) ?_
  funext a
  apply Fin.ext
  match a with
  | ⟨0, _⟩ => show win0_2.index t (0 : Fin 2) * 2048 + 1 * k.val = k.val; rw [e0]; omega
  | ⟨1, _⟩ => show win0_2.index t (1 : Fin 2) * 512 + 1 * j.val = (512 * (t.val % 11) + j.val) % 5632; rw [e1]; have := j.isLt; omega

theorem blk3 (t : Fin cfg0.N) (k : Fin 2048) (j : Fin 512) :
    iblk m c 3 t (ValueIdx.ix2 (n0 := 2048) (n1 := 512) k j) = a3 m c (ValueIdx.ix2 k (Cn (512 * (t.val % 11) + j.val))) := by
  obtain ⟨e0, e1⟩ := idx3 t
  refine congrArg (V m c main_v7) ?_
  funext a
  apply Fin.ext
  match a with
  | ⟨0, _⟩ => show win0_3.index t (0 : Fin 2) * 2048 + 1 * k.val = k.val; rw [e0]; omega
  | ⟨1, _⟩ => show win0_3.index t (1 : Fin 2) * 512 + 1 * j.val = (512 * (t.val % 11) + j.val) % 5632; rw [e1]; have := j.isLt; omega

theorem blk4 (t : Fin cfg0.N) (j : Fin 512) (d : Fin 2048) :
    iblk m c 4 t (ValueIdx.ix2 (n0 := 512) (n1 := 2048) j d) = a4 m c (ValueIdx.ix2 (Cn (512 * (t.val % 11) + j.val)) d) := by
  obtain ⟨e0, e1⟩ := idx4 t
  refine congrArg (V m c main_v8) ?_
  funext a
  apply Fin.ext
  match a with
  | ⟨0, _⟩ => show win0_4.index t (0 : Fin 2) * 512 + 1 * j.val = (512 * (t.val % 11) + j.val) % 5632; rw [e0]; have := j.isLt; omega
  | ⟨1, _⟩ => show win0_4.index t (1 : Fin 2) * 2048 + 1 * d.val = d.val; rw [e1]; omega

theorem blk5 (t : Fin cfg0.N) (k : Fin 2048) :
    iblk m c 5 t (ValueIdx.ix2 (n0 := 1) (n1 := 2048) 0 k) = a5 m c (ValueIdx.ix2 0 k) := by
  obtain ⟨e0, e1⟩ := idx5 t
  refine congrArg (V m c main_v9) ?_
  funext a
  apply Fin.ext
  match a with
  | ⟨0, _⟩ => show win0_5.index t (0 : Fin 2) * 1 + 1 * 0 = 0; rw [e0]
  | ⟨1, _⟩ => show win0_5.index t (1 : Fin 2) * 2048 + 1 * k.val = k.val; rw [e1]; omega

theorem gS_eq (t : Fin cfg0.N) : gS (iblk m c 0 t) (iblk m c 1 t) = H (a0 m c) (a1 m c) (t.val / 11) := by
  funext y
  exact rms_congr (fun j => blk0 m c t (y 0) j) (fun j => blk1 m c t j) (y 1)

theorem gP_eq (t : Fin cfg0.N) (y : S1024x2048.Idx) :
    gP (H (a0 m c) (a1 m c) (t.val / 11)) (iblk m c 2 t) (iblk m c 3 t) (iblk m c 4 t) y
      = T (a0 m c) (a1 m c) (a2 m c) (a3 m c) (a4 m c) (t.val / 11) (t.val % 11) y := by
  unfold gP T part up
  refine Finset.sum_congr rfl fun j _ => ?_
  exact act_congr (fun k => rfl) (fun k => blk2 m c t k j) (fun k => blk3 m c t k j) (blk4 m c t j (y 1))

/-- The state after a step that is not a row block's last. -/
theorem inv : ∀ (n : ℕ) (h : n < cfg0.N), n % 11 < 10 →
    outsAt0 m c n h = ((fun y => ∑ b ∈ Finset.range (n % 11 + 1), T (a0 m c) (a1 m c) (a2 m c) (a3 m c) (a4 m c) (n / 11) b y),
      H (a0 m c) (a1 m c) (n / 11)) := by
  intro n
  induction n with
  | zero =>
    intro h _
    refine (outsAt0_A m c ⟨0, h⟩ (by show 0 % 11 = 0; omega) (by show ¬(1 ≤ 0 % 11 ∧ _); omega) (by show ¬(0 % 11 = 10); omega)).trans ?_
    rw [caseA_out, caseA_scr, gS_eq]
    refine Prod.ext ?_ rfl
    funext y
    refine (gP_eq m c ⟨0, h⟩ y).trans ?_
    simp
  | succ n ih =>
    intro h hn
    by_cases h0 : (n + 1) % 11 = 0
    · refine (outsAt0_A m c ⟨n + 1, h⟩ h0 (by show ¬(1 ≤ (n + 1) % 11 ∧ _); omega) (by show ¬((n + 1) % 11 = 10); omega)).trans ?_
      rw [caseA_out, caseA_scr, gS_eq]
      refine Prod.ext ?_ rfl
      funext y
      refine (gP_eq m c ⟨n + 1, h⟩ y).trans ?_
      show T _ _ _ _ _ ((n + 1) / 11) ((n + 1) % 11) y = _
      rw [h0]
      simp
    · have hp := ih (Nat.lt_of_succ_lt h) (by omega)
      refine (outsAt0_B m c ⟨n + 1, h⟩ h0 (by show 1 ≤ (n + 1) % 11 ∧ (n + 1) % 11 ≤ 9; omega) (by show ¬((n + 1) % 11 = 10); omega)).trans ?_
      rw [caseB_out, caseB_scr]
      have e : outsAt0 m c ((⟨n + 1, h⟩ : Fin cfg0.N).val - 1) (Nat.lt_of_le_of_lt (Nat.sub_le _ _) h) = _ := hp
      rw [e]
      have d1 : n / 11 = (n + 1) / 11 := by omega
      have d2 : n % 11 + 1 = (n + 1) % 11 := by omega
      rw [d1, d2]
      refine Prod.ext ?_ rfl
      funext y
      refine Eq.trans ?_ (Finset.sum_range_succ (fun b => T (a0 m c) (a1 m c) (a2 m c) (a3 m c) (a4 m c) ((n + 1) / 11) b y) ((n + 1) % 11)).symm
      exact congrArg (_ + ·) (gP_eq m c ⟨n + 1, h⟩ y)

/-- The block a row block's last step leaves. -/
theorem last (n : ℕ) (h : n < cfg0.N) (hn : n % 11 = 10) (y : S1024x2048.Idx) :
    (outsAt0 m c n h).1 y = res (a0 m c) (a1 m c) (a2 m c) (a3 m c) (a4 m c) (a5 m c) (Rn (1024 * (n / 11) + (y 0).val)) (y 1) := by
  have e1 := outsAt0_C m c ⟨n, h⟩ (by show ¬(n % 11 = 0); omega) (by show ¬(1 ≤ n % 11 ∧ n % 11 ≤ 9); omega) hn
  have hp := inv m c (n - 1) (Nat.lt_of_le_of_lt (Nat.sub_le _ _) h) (by omega)
  refine (congrFun (congrArg Prod.fst e1) y).trans ?_
  dsimp only
  rw [caseC_out, hp]
  have d1 : (n - 1) / 11 = n / 11 := by omega
  have d2 : (n - 1) % 11 + 1 = 10 := by omega
  rw [d1, d2]
  refine rms_congr (fun d => ?_) (fun j => blk5 m c ⟨n, h⟩ j) (y 1)
  have e3 := gP_eq m c ⟨n, h⟩ (ValueIdx.ix2 (y 0) d)
  have e4 : (⟨n, h⟩ : Fin cfg0.N).val / 11 = n / 11 := rfl
  have e5 : (⟨n, h⟩ : Fin cfg0.N).val % 11 = 10 := hn
  rw [e4, e5] at e3
  have e6 := sum_blocks (a0 m c) (a1 m c) (a2 m c) (a3 m c) (a4 m c) (Rn (1024 * (n / 11) + (y 0).val)) d
  rw [Finset.sum_range_succ] at e6
  exact congr (congrArg _ (blk0 m c ⟨n, h⟩ (y 0) d)) (congrArg (Ideal.ofBits .f32 0x3F000000#32 * ·) ((congrArg (_ + ·) e3).trans e6))

/-- The result array. -/
theorem G6_apply (R : Fin 16384) (d : Fin 2048) :
    Value.G6 m c (ValueIdx.ix2 R d) = res (a0 m c) (a1 m c) (a2 m c) (a3 m c) (a4 m c) (a5 m c) R d := by
  have hR := R.isLt
  have hd := d.isLt
  have hp : Value.pt6Of (ValueIdx.ix2 R d) = 11 * (R.val / 1024) + 10 := by
    show 11 * (1 * (R.val / 1024 - 0) + 1 * (d.val / 2048 - 0)) + 10 = _
    omega
  have hlt : Value.pt6Of (ValueIdx.ix2 R d) < cfg0.N := by
    rw [hp, show cfg0.N = 176 from N_0]; omega
  unfold Value.G6
  rw [dif_pos hlt, ← Value.outsAt0_sweep m c _ hlt]
  rw [last m c _ hlt (by rw [hp]; omega)]
  have e0 : Rn (1024 * (Value.pt6Of (ValueIdx.ix2 R d) / 11) + (Value.loc6Of (ValueIdx.ix2 R d) 0).val) = R := by
    rw [hp]
    refine Fin.ext ?_
    show (1024 * ((11 * (R.val / 1024) + 10) / 11) + R.val % 1024) % 16384 = R.val
    omega
  have e1 : Value.loc6Of (ValueIdx.ix2 R d) 1 = d := Fin.ext (by show d.val % 2048 = d.val; omega)
  rw [e0, e1]

end Run

end Cert.FfnVal

end
-- ==== Proof.FfnVal.Final.lean ====
/-
  The reference's feed-forward layer reads, at row `R` and column `d`, as the same expression the kernel's result array
  holds there; with it the algebraic claim about the pair.
-/
module

public import proofs.«01_k».proof.Defs
public import proofs.«01_k».proof.Proof.Gen.FfnRefIdeal.Read
public import proofs.«01_k».proof.Proof.FfnVal.Sweep

@[expose] public section

set_option maxHeartbeats 1000000

noncomputable section

namespace Cert.FfnVal

open Idealize.ShloMosaic Idealize.ShloMosaic.TcCoe Idealize.ShloMosaic.Tactic Idealize.SL.Sem
open scoped BigOperators

section Reference

open Cert.FfnRefIdeal Cert.FfnRefIdeal.Gen Cert.FfnRefIdeal.Read

variable (x0 : FVec Ideal S2x8192x2048 .f32) (x1 : FVec Ideal S1x2048 .f32) (x2 x3 : FVec Ideal S1x2048x5632 .f32)
  (x4 : FVec Ideal S1x5632x2048 .f32) (x5 : FVec Ideal S2048 .f32)

/-- The first normalisation. -/
theorem r_norm (b : Fin 2) (l : Fin 8192) (k : Fin 2048) :
    val_main_v13 (F := Ideal) x0 x1 (ValueIdx.ix3 b l k) = rms (fun j => x0 (ValueIdx.ix3 b l j)) (fun j => x1 (ValueIdx.ix2 0 j)) k := by
  rw [val_main_v13_apply, val_main_v12_apply, val_main_v11_apply, val_main_v0_apply, val_main_v10_apply, val_main_v9_apply, val_main_v8_apply,
    val_main_v7_apply, val_main_v6_apply, val_main_cst_1_apply, val_main_v5_apply, val_main_v4_apply, val_main_cst_0_apply, val_main_v3_apply,
    val_main_v2_apply, val_main_cst_apply]
  simp only [val_main_v1_apply]
  have e1 : idx_main_v0 (idx_main_v11 (idx_main_v12 (ValueIdx.ix3 b l k))) = ValueIdx.ix2 0 k := by
    funext a; apply Fin.ext
    match a with
    | ⟨0, _⟩ => rfl
    | ⟨1, _⟩ => exact Nat.mod_eq_of_lt k.isLt
  have e2 : ∀ j : Fin 2048, idx_main_v2 (idx_main_v3 (idx_main_v9 (ValueIdx.ix3 b l k))) j = ValueIdx.ix3 b l j := by
    intro j; funext a
    match a with
    | ⟨0, _⟩ => rfl
    | ⟨1, _⟩ => rfl
    | ⟨2, _⟩ => rfl
  rw [e1]
  simp only [e2]
  unfold rms
  show x0 _ * Ideal.rsqrt (Ideal.div (Ideal.ofBits .f32 0x00000000#32 + ∑ j : Fin 2048, x0 (ValueIdx.ix3 b l j) * x0 (ValueIdx.ix3 b l j)) _ + _) * _ = _
  rw [Ideal.ofBits_zero_f32, zero_add]
  rfl

theorem r_w1 (k : Fin 2048) (f : Fin 5632) : val_main_v14 (F := Ideal) x2 (ValueIdx.ix2 k f) = x2 (ValueIdx.ix3 0 k f) := by
  rw [val_main_v14_apply]
  refine congrArg x2 ?_
  funext a; apply Fin.ext
  have hk := k.isLt; have hf := f.isLt
  match a with
  | ⟨0, _⟩ => rfl
  | ⟨1, _⟩ => show (k.val * 5632 + f.val) / 5632 % 2048 = k.val; omega
  | ⟨2, _⟩ => show (k.val * 5632 + f.val) % 5632 = f.val; omega

theorem r_w3 (k : Fin 2048) (f : Fin 5632) : val_main_v15 (F := Ideal) x3 (ValueIdx.ix2 k f) = x3 (ValueIdx.ix3 0 k f) := r_w1 x3 k f

theorem r_w2 (f : Fin 5632) (d : Fin 2048) : val_main_v16 (F := Ideal) x4 (ValueIdx.ix2 f d) = x4 (ValueIdx.ix3 0 f d) := by
  rw [val_main_v16_apply]
  refine congrArg x4 ?_
  funext a; apply Fin.ext
  have hk := f.isLt; have hf := d.isLt
  match a with
  | ⟨0, _⟩ => rfl
  | ⟨1, _⟩ => show (f.val * 2048 + d.val) / 2048 % 5632 = f.val; omega
  | ⟨2, _⟩ => show (f.val * 2048 + d.val) % 2048 = d.val; omega

theorem r_dot1 (b : Fin 2) (l : Fin 8192) (f : Fin 5632) :
    val_main_v17 (F := Ideal) x0 x1 x2 (ValueIdx.ix3 b l f)
      = ∑ k : Fin 2048, rms (fun j => x0 (ValueIdx.ix3 b l j)) (fun j => x1 (ValueIdx.ix2 0 j)) k * x2 (ValueIdx.ix3 0 k f) := by
  rw [val_main_v17_apply]
  refine Finset.sum_congr rfl fun k _ => ?_
  have e1 : lidx_main_v17 (ValueIdx.ix3 b l f) k = ValueIdx.ix3 b l k := by
    funext a
    match a with
    | ⟨0, _⟩ => rfl
    | ⟨1, _⟩ => rfl
    | ⟨2, _⟩ => rfl
  have e2 : ridx_main_v17 (ValueIdx.ix3 b l f) k = ValueIdx.ix2 k f := by
    funext a
    match a with
    | ⟨0, _⟩ => rfl
    | ⟨1, _⟩ => rfl
  rw [e1, e2, r_norm, r_w1]

theorem r_dot3 (b : Fin 2) (l : Fin 8192) (f : Fin 5632) :
    val_main_v19 (F := Ideal) x0 x1 x3 (ValueIdx.ix3 b l f)
      = ∑ k : Fin 2048, rms (fun j => x0 (ValueIdx.ix3 b l j)) (fun j => x1 (ValueIdx.ix2 0 j)) k * x3 (ValueIdx.ix3 0 k f) :=
  r_dot1 x0 x1 x3 b l f

/-- One hidden unit. -/
theorem r_act (b : Fin 2) (l : Fin 8192) (f : Fin 5632) :
    val_main_v20 (F := Ideal) x0 x1 x2 x3 (ValueIdx.ix3 b l f)
      = act (rms (fun j => x0 (ValueIdx.ix3 b l j)) (fun j => x1 (ValueIdx.ix2 0 j))) (fun k => x2 (ValueIdx.ix3 0 k f)) (fun k => x3 (ValueIdx.ix3 0 k f)) := by
  rw [val_main_v20_apply, val_main_v18_apply, val_main_call0_v5_apply, val_main_call0_v4_apply, val_main_call0_cst_0_apply, val_main_call0_v3_apply,
    val_main_call0_v2_apply, val_main_call0_cst_apply, val_main_call0_v1_apply, val_main_call0_v0_apply, r_dot1, r_dot3]
  rfl

/-- The row after the residual. -/
theorem r_res (b : Fin 2) (l : Fin 8192) (d : Fin 2048) :
    val_main_v24 (F := Ideal) x0 x1 x2 x3 x4 (ValueIdx.ix3 b l d)
      = x0 (ValueIdx.ix3 b l d) + Ideal.ofBits .f32 0x3F000000#32 * ∑ f : Fin 5632,
          act (rms (fun j => x0 (ValueIdx.ix3 b l j)) (fun j => x1 (ValueIdx.ix2 0 j))) (fun k => x2 (ValueIdx.ix3 0 k f)) (fun k => x3 (ValueIdx.ix3 0 k f))
            * x4 (ValueIdx.ix3 0 f d) := by
  rw [val_main_v24_apply, val_main_v23_apply, val_main_v22_apply, val_main_cst_2_apply, val_main_v21_apply]
  refine congrArg (x0 (ValueIdx.ix3 b l d) + Ideal.ofBits .f32 0x3F000000#32 * ·) ?_
  refine Finset.sum_congr rfl fun f _ => ?_
  have e1 : lidx_main_v21 (ValueIdx.ix3 b l d) f = ValueIdx.ix3 b l f := by
    funext a
    match a with
    | ⟨0, _⟩ => rfl
    | ⟨1, _⟩ => rfl
    | ⟨2, _⟩ => rfl
  have e2 : ridx_main_v21 (ValueIdx.ix3 b l d) f = ValueIdx.ix2 f d := by
    funext a
    match a with
    | ⟨0, _⟩ => rfl
    | ⟨1, _⟩ => rfl
  rw [e1, e2, r_act, r_w2]

/-- The second normalisation. -/
theorem r_fin (b : Fin 2) (l : Fin 8192) (d : Fin 2048) :
    val_main_v37 (F := Ideal) x0 x1 x2 x3 x4 x5 (ValueIdx.ix3 b l d)
      = rms (fun j => val_main_v24 (F := Ideal) x0 x1 x2 x3 x4 (ValueIdx.ix3 b l j)) (fun j => x5 (ValueIdx.ix1 j)) d := by
  rw [val_main_v37_apply, val_main_v36_apply, val_main_v35_apply, val_main_v34_apply, val_main_v33_apply, val_main_v32_apply,
    val_main_v31_apply, val_main_v30_apply, val_main_cst_5_apply, val_main_v29_apply, val_main_v28_apply, val_main_cst_4_apply, val_main_v27_apply,
    val_main_v26_apply, val_main_cst_3_apply]
  simp only [val_main_v25_apply]
  have e1 : idx_main_v35 (idx_main_v36 (ValueIdx.ix3 b l d)) = ValueIdx.ix1 d := by
    funext a
    match a with
    | ⟨0, _⟩ => rfl
  have e2 : ∀ j : Fin 2048, idx_main_v26 (idx_main_v27 (idx_main_v33 (ValueIdx.ix3 b l d))) j = ValueIdx.ix3 b l j := by
    intro j; funext a
    match a with
    | ⟨0, _⟩ => rfl
    | ⟨1, _⟩ => rfl
    | ⟨2, _⟩ => rfl
  rw [e1]
  simp only [e2]
  generalize val_main_v24 (F := Ideal) x0 x1 x2 x3 x4 = y
  unfold rms
  show y _ * Ideal.rsqrt (Ideal.div (Ideal.ofBits .f32 0x00000000#32 + ∑ j : Fin 2048, y (ValueIdx.ix3 b l j) * y (ValueIdx.ix3 b l j)) _ + _) * _ = _
  rw [Ideal.ofBits_zero_f32, zero_add]
  rfl

/-- A row's batch and its position there. -/
def bat (R : Fin 16384) : Fin 2 := ⟨R.val / 8192, by have := R.isLt; omega⟩
def pos (R : Fin 16384) : Fin 8192 := ⟨R.val % 8192, Nat.mod_lt _ (by decide)⟩

theorem act_eq {h h' a a' b b' : Fin 2048 → EReal} (hh : ∀ k, h k = h' k) (ha : ∀ k, a k = a' k) (hb : ∀ k, b k = b' k) : act h a b = act h' a' b' := by
  rw [funext hh, funext ha, funext hb]

/-- The reference's result is the kernel's expression over the reshaped arrays. -/
theorem r_final (A0 : Vec Ideal Cert.FfnIdeal.S16384x2048 .f32) (A1 : Vec Ideal Cert.FfnIdeal.S1x2048 .f32) (A2 A3 : Vec Ideal Cert.FfnIdeal.S2048x5632 .bf16)
    (A4 : Vec Ideal Cert.FfnIdeal.S5632x2048 .bf16) (A5 : Vec Ideal Cert.FfnIdeal.S1x2048 .f32)
    (h0 : ∀ R k, A0 (ValueIdx.ix2 R k) = x0 (ValueIdx.ix3 (bat R) (pos R) k)) (h1 : ∀ k, A1 (ValueIdx.ix2 0 k) = x1 (ValueIdx.ix2 0 k))
    (h2 : ∀ k f, A2 (ValueIdx.ix2 k f) = x2 (ValueIdx.ix3 0 k f)) (h3 : ∀ k f, A3 (ValueIdx.ix2 k f) = x3 (ValueIdx.ix3 0 k f))
    (h4 : ∀ f d, A4 (ValueIdx.ix2 f d) = x4 (ValueIdx.ix3 0 f d)) (h5 : ∀ k, A5 (ValueIdx.ix2 0 k) = x5 (ValueIdx.ix1 k))
    (R : Fin 16384) (d : Fin 2048) :
    res A0 A1 A2 A3 A4 A5 R d = val_main_v38 (F := Ideal) x0 x1 x2 x3 x4 x5 (ValueIdx.ix2 R d) := by
  rw [val_main_v38_apply]
  have e : idx_main_v38 (ValueIdx.ix2 R d) = ValueIdx.ix3 (bat R) (pos R) d := by
    funext a; apply Fin.ext
    have hR := R.isLt; have hd := d.isLt
    match a with
    | ⟨0, _⟩ => show (R.val * 2048 + d.val) / 16777216 = R.val / 8192; omega
    | ⟨1, _⟩ => show (R.val * 2048 + d.val) / 2048 % 8192 = R.val % 8192; omega
    | ⟨2, _⟩ => show (R.val * 2048 + d.val) % 2048 = d.val; omega
  rw [e, r_fin]
  unfold res
  refine rms_congr (fun d' => ?_) h5 d
  rw [r_res]
  refine congr (congrArg (· + ·) (h0 R d')) (congrArg (Ideal.ofBits .f32 0x3F000000#32 * ·) (Finset.sum_congr rfl fun f _ => ?_))
  exact congr (congrArg (· * ·) (act_eq (fun k => rms_congr (h0 R) h1 k) (fun k => h2 k f) (fun k => h3 k f))) (h4 f d')

end Reference

section Kernel

open Cert.FfnIdeal Cert.FfnIdeal.Gen

variable (m : (ℓ : Loc nD τ sig) → Buf (Elt Ideal) ℓ) (c : Dev nD)

theorem a0_apply (R : Fin 16384) (k : Fin 2048) :
    a0 m c (ValueIdx.ix2 R k) = m ((c : Thread nD τ).loc main_arg0) (ValueIdx.ix3 (bat R) (pos R) k) := by
  have e : a0 m c = shapeCast S16384x2048 (m ((c : Thread nD τ).loc main_arg0)) shapeCasts_S2x8192x2048_S16384x2048 := by
    unfold a0 V hostOps0; after_results; rfl
  rw [e]
  refine shapeCast_apply _ shapeCasts_S2x8192x2048_S16384x2048 _ _ ?_
  rewrite [Shape.rowMajor_val_three, Shape.rowMajor_val_two]
  have hR := R.isLt
  show (R.val / 8192 * 8192 + R.val % 8192) * 2048 + k.val = R.val * 2048 + k.val
  omega

theorem a1_apply (k : Fin 2048) : a1 m c (ValueIdx.ix2 0 k) = m ((c : Thread nD τ).loc main_arg1) (ValueIdx.ix2 0 k) := by
  have e : a1 m c = shapeCast S1x2048 (shapeCast S2048 (m ((c : Thread nD τ).loc main_arg1)) shapeCasts_S1x2048_S2048) shapeCasts_S2048_S1x2048 := by
    unfold a1 V hostOps0; after_results; rfl
  rw [e]
  refine (shapeCast_apply _ shapeCasts_S2048_S1x2048 (ValueIdx.ix2 0 k) (ValueIdx.ix1 k) ?_).trans
    (shapeCast_apply _ shapeCasts_S1x2048_S2048 (ValueIdx.ix1 k) (ValueIdx.ix2 0 k) ?_)
  · rewrite [Shape.rowMajor_val_two, Shape.rowMajor_val_one]
    show k.val = 0 * 2048 + k.val
    omega
  · rewrite [Shape.rowMajor_val_two, Shape.rowMajor_val_one]
    show 0 * 2048 + k.val = k.val
    omega

theorem a5_apply (k : Fin 2048) : a5 m c (ValueIdx.ix2 0 k) = m ((c : Thread nD τ).loc main_arg5) (ValueIdx.ix1 k) := by
  have e : a5 m c = shapeCast S1x2048 (m ((c : Thread nD τ).loc main_arg5)) shapeCasts_S2048_S1x2048 := by
    unfold a5 V hostOps0; after_results; rfl
  rw [e]
  refine shapeCast_apply _ shapeCasts_S2048_S1x2048 (ValueIdx.ix2 0 k) (ValueIdx.ix1 k) ?_
  rewrite [Shape.rowMajor_val_two, Shape.rowMajor_val_one]
  show k.val = 0 * 2048 + k.val
  omega

/-- A stacked weight's only layer, cast. -/
theorem w13_apply (x : FVec Ideal S1x2048x5632 .f32) (k : Fin 2048) (f : Fin 5632) :
    shapeCast S2048x5632 (truncf .bf16 x bitsLt_bf16_f32 : FVec Ideal S1x2048x5632 .bf16) shapeCasts_S1x2048x5632_S2048x5632 (ValueIdx.ix2 k f) = x (ValueIdx.ix3 0 k f) := by
  refine (shapeCast_apply _ shapeCasts_S1x2048x5632_S2048x5632 (ValueIdx.ix2 k f) (ValueIdx.ix3 0 k f) ?_).trans rfl
  rewrite [Shape.rowMajor_val_three, Shape.rowMajor_val_two]
  show (0 * 2048 + k.val) * 5632 + f.val = k.val * 5632 + f.val
  omega

theorem w2_apply (x : FVec Ideal S1x5632x2048 .f32) (f : Fin 5632) (d : Fin 2048) :
    shapeCast S5632x2048 (truncf .bf16 x bitsLt_bf16_f32 : FVec Ideal S1x5632x2048 .bf16) shapeCasts_S1x5632x2048_S5632x2048 (ValueIdx.ix2 f d) = x (ValueIdx.ix3 0 f d) := by
  refine (shapeCast_apply _ shapeCasts_S1x5632x2048_S5632x2048 (ValueIdx.ix2 f d) (ValueIdx.ix3 0 f d) ?_).trans rfl
  rewrite [Shape.rowMajor_val_three, Shape.rowMajor_val_two]
  show (0 * 5632 + f.val) * 2048 + d.val = f.val * 2048 + d.val
  omega

theorem a2_apply (k : Fin 2048) (f : Fin 5632) : a2 m c (ValueIdx.ix2 k f) = m ((c : Thread nD τ).loc main_arg2) (ValueIdx.ix3 0 k f) := by
  have e : a2 m c = shapeCast S2048x5632 (truncf (F := Ideal) (s := S1x2048x5632) .bf16 (m ((c : Thread nD τ).loc main_arg2)) bitsLt_bf16_f32) shapeCasts_S1x2048x5632_S2048x5632 := by
    unfold a2 V hostOps0; after_results; rfl
  rw [e]
  exact w13_apply _ k f

theorem a3_apply (k : Fin 2048) (f : Fin 5632) : a3 m c (ValueIdx.ix2 k f) = m ((c : Thread nD τ).loc main_arg3) (ValueIdx.ix3 0 k f) := by
  have e : a3 m c = shapeCast S2048x5632 (truncf (F := Ideal) (s := S1x2048x5632) .bf16 (m ((c : Thread nD τ).loc main_arg3)) bitsLt_bf16_f32) shapeCasts_S1x2048x5632_S2048x5632 := by
    unfold a3 V hostOps0; after_results; rfl
  rw [e]
  exact w13_apply _ k f

theorem a4_apply (f : Fin 5632) (d : Fin 2048) : a4 m c (ValueIdx.ix2 f d) = m ((c : Thread nD τ).loc main_arg4) (ValueIdx.ix3 0 f d) := by
  have e : a4 m c = shapeCast S5632x2048 (truncf (F := Ideal) (s := S1x5632x2048) .bf16 (m ((c : Thread nD τ).loc main_arg4)) bitsLt_bf16_f32) shapeCasts_S1x5632x2048_S5632x2048 := by
    unfold a4 V hostOps0; after_results; rfl
  rw [e]
  exact w2_apply _ f d

end Kernel

/-- The two programs' results agree. -/
theorem algebraic_ffn : Cert.algebraic_FfnIdeal_FfnRefIdeal := by
  intro m ρ m' ρ' _ hagree
  refine ⟨fun c => Cert.FfnIdeal.Value.G6 m c, Cert.FfnIdeal.Value.run m ρ, ?_⟩
  refine (θ_run Cert.FfnRefIdeal.defs _ _).mono (fun _ h c => ⟨(h c).1.trans ?_, (h c).2⟩) (Cert.FfnRefIdeal.Value.run m' ρ')
  obtain ⟨g0, g1, g2, g3, g4, g5⟩ := hagree c
  rw [Cert.FfnRefIdeal.Read.val_main_v38_eq, g0, g1, g2, g3, g4, g5]
  funext y
  rw [ValueIdx.eq_ix2 y]
  refine (r_final _ _ _ _ _ _ _ _ _ _ _ _ (a0_apply m c) (a1_apply m c) (a2_apply m c) (a3_apply m c) (a4_apply m c) (a5_apply m c) _ _).symm.trans ?_
  exact (G6_apply m c _ _).symm

end Cert.FfnVal

end
-- ==== Proof.ProjVal.Pay.lean ====
/-
  The input projection's vector expressions read at one index, over the extended reals: a normalised row's product with
  one column of the weights (`prj`), the gated, silu and log-decay values made of such products, and the decay's lower
  bound (`lb`), the first row of a softmax over two.
-/
module

public import proofs.«01_k».proof.Proof.Gen.ProjIdeal.Skeleton
public import proofs.«01_k».proof.Proof.FfnVal.Pay

@[expose] public section

set_option maxHeartbeats 1000000

noncomputable section

namespace Cert.ProjVal

open Idealize.ShloMosaic Idealize.ShloMosaic.ValueIdx
open Cert.FfnVal (rms)
open scoped BigOperators

/-- The sigmoid. -/
def sg (a : EReal) : EReal := Ideal.div (Ideal.ofBits .f32 0x3F800000#32) (Ideal.ofBits .f32 0x3F800000#32 + Ideal.exp (-a))

/-- The larger of two. -/
def mx (l : Fin 2 → EReal) : EReal := (Finset.univ : Finset (Fin 2)).fold max (Ideal.ofBits .f32 0xFF800000#32) l

/-- The softmax's first entry. -/
def lb (l : Fin 2 → EReal) : EReal := Ideal.div (Ideal.exp (l 0 - mx l)) (∑ k, Ideal.exp (l k - mx l))

/-- The log of a forget gate with lower bound `b`. -/
def gt (b a : EReal) : EReal := Ideal.log (b + (Ideal.ofBits .f32 0x3F800000#32 - b) * sg a)

/-- A column of the weights and one of the gates' biases, by number. -/
def cN (n : ℕ) : Fin 7168 := ⟨n % 7168, Nat.mod_lt _ (by decide)⟩
def jN (n : ℕ) : Fin 1024 := ⟨n % 1024, Nat.mod_lt _ (by decide)⟩

/-- A normalised row's product with a column. -/
def prj (x w : Fin 2048 → EReal) (W : Fin 2048 → Fin 7168 → EReal) (n : ℕ) : EReal := ∑ k, rms x w k * W k (cN n)

/-- The first result at head slot `s` and lane `l` of a row: gated input, forward decay, backward decay. -/
def val5 (x w : Fin 2048 → EReal) (W : Fin 2048 → Fin 7168 → EReal) (f b : Fin 2 → Fin 1024 → EReal) (s l : ℕ) : EReal :=
  if s < 8 then prj x w W (128 * s + l) * sg (prj x w W (1024 + (128 * s + l)))
  else if s < 16 then gt (lb fun k => f k (jN (128 * (s - 8) + l))) (prj x w W (3072 + (128 * (s - 8) + l)))
  else gt (lb fun k => b k (jN (128 * (s - 16) + l))) (prj x w W (4096 + (128 * (s - 16) + l)))

/-- The second result likewise: query, value, output gate. -/
def val6 (x w : Fin 2048 → EReal) (W : Fin 2048 → Fin 7168 → EReal) (s l : ℕ) : EReal :=
  if s < 8 then prj x w W (2048 + (128 * s + l)) * sg (prj x w W (2048 + (128 * s + l)))
  else if s < 16 then prj x w W (5120 + (128 * (s - 8) + l))
  else prj x w W (6144 + (128 * (s - 16) + l)) * sg (prj x w W (6144 + (128 * (s - 16) + l)))

open Cert.ProjIdeal Cert.ProjIdeal.Gen

theorem dot_p (a : FVec Ideal S256x2048 .bf16) (b : FVec Ideal S2048x1024 .bf16) (r : Fin 256) (c : Fin 1024) :
    matmul dot_S256x2048_S2048x1024_S256x1024_1_0_0_1_n_n none a b (constant (F := Ideal) S256x1024 .f32 0x00000000#32) (ValueIdx.ix2 r c)
      = ∑ k : Fin 2048, a (ValueIdx.ix2 r k) * b (ValueIdx.ix2 k c) := by
  refine (Ideal.matmul_plain_apply (M := 256) (K := 2048) (N := 1024) none a b _ r c).trans ?_
  rw [constant_apply, Ideal.ofBits_zero_f32, zero_add]

/-- A tile's product with 1024 columns. -/
def pT (h : FVec Ideal S256x2048 .bf16) (w : FVec Ideal S2048x1024 .bf16) : FVec Ideal S256x1024 .f32 :=
  matmul dot_S256x2048_S2048x1024_S256x1024_1_0_0_1_n_n none h w (constant (F := Ideal) S256x1024 .f32 0x00000000#32)

/-- The sigmoid of a tile. -/
def sT (a : FVec Ideal S256x1024 .f32) : FVec Ideal S256x1024 .f32 :=
  divf (broadcast S256x1024 (FloatOps.ofBits .f32 0x3F800000#32)) (addf (broadcast S256x1024 (FloatOps.ofBits .f32 0x3F800000#32))
    (exp (subf (broadcast S256x1024 (FloatOps.ofBits .f32 0x00000000#32)) a)))

theorem sT_apply (a : FVec Ideal S256x1024 .f32) (i : S256x1024.Idx) : sT a i = sg (a i) := by
  show Ideal.div _ (_ + Ideal.exp (Ideal.ofBits .f32 0x00000000#32 - a i)) = _
  rw [Ideal.ofBits_zero_f32, zero_sub]
  rfl

theorem row1_apply (v : FVec Ideal S1x1024 .f32) (h) (r : Fin 256) (k : Fin 1024) :
    broadcastTo S256x1024 v h (ValueIdx.ix2 r k) = v (ValueIdx.ix2 0 k) :=
  ValueIdx.broadcastTo_1b_ab_apply (a := 256) (b := 1024) v h r k

theorem row2_apply (v : FVec Ideal S1x1024 .f32) (h) (r : Fin 2) (k : Fin 1024) :
    broadcastTo S2x1024 v h (ValueIdx.ix2 r k) = v (ValueIdx.ix2 0 k) :=
  ValueIdx.broadcastTo_1b_ab_apply (a := 2) (b := 1024) v h r k

theorem up_apply (v : FVec Ideal S1024 .f32) (h) (k : Fin 1024) : shapeCast S1x1024 v h (ValueIdx.ix2 0 k) = v (ValueIdx.ix1 k) := by
  refine shapeCast_apply v h _ _ ?_
  rewrite [Shape.rowMajor_val_two, Shape.rowMajor_val_one]
  show k.val = 0 * 1024 + k.val
  omega

/-- Two rows' exponentials, their maximum subtracted. -/
def eT (v : FVec Ideal S2x1024 .f32) : FVec Ideal S2x1024 .f32 :=
  exp (subf v (broadcastTo S2x1024 (shapeCast S1x1024 (multiReduction .maximumf [0] S1024 v 0xFF800000#32 reduces_S2x1024_S1024 (.inl rfl) rfl)
    shapeCasts_S1024_S1x1024) broadcasts_S1x1024_S2x1024))

/-- The first row's share. -/
def lbT (v : FVec Ideal S2x1024 .f32) : FVec Ideal S1x1024 .f32 :=
  divf (shapeCast S1x1024 (multiReduction .add [0] S1024 (extractStridedSlice S1x1024 ![0, 0] (eT v) slices_S2x1024_o0_0_S1x1024) 0x00000000#32 reduces_S1x1024_S1024 (.inl rfl) rfl) shapeCasts_S1024_S1x1024)
    (shapeCast S1x1024 (multiReduction .add [0] S1024 (eT v) 0x00000000#32 reduces_S2x1024_S1024 (.inl rfl) rfl) shapeCasts_S1024_S1x1024)

/-- The log of a tile's forget gate. -/
def gT (b : FVec Ideal S1x1024 .f32) (a : FVec Ideal S256x1024 .f32) : FVec Ideal S256x1024 .f32 :=
  log (addf (broadcastTo S256x1024 b broadcasts_S1x1024_S256x1024)
    (mulf (broadcastTo S256x1024 (subf (broadcast S1x1024 (FloatOps.ofBits .f32 0x3F800000#32)) b) broadcasts_S1x1024_S256x1024) (sT a)))

theorem eT_apply (v : FVec Ideal S2x1024 .f32) (k : Fin 2) (j : Fin 1024) :
    eT v (ValueIdx.ix2 k j) = Ideal.exp (v (ValueIdx.ix2 k j) - mx fun q => v (ValueIdx.ix2 q j)) := by
  unfold eT
  show Ideal.exp (v _ - broadcastTo S2x1024 _ _ _) = _
  rw [row2_apply, up_apply]
  refine congrArg (fun z => Ideal.exp (v (ValueIdx.ix2 k j) - z)) ?_
  refine (Ideal.multiReduction_maximumf_single v _ reduces_S2x1024_S1024 (.inl rfl) rfl (ValueIdx.ix1 j)).trans ?_
  refine congrArg ((Finset.univ : Finset (Fin 2)).fold max (Ideal.ofBits .f32 0xFF800000#32)) ?_
  funext q
  refine congrArg v ?_
  funext a
  match a with
  | ⟨0, _⟩ => rfl
  | ⟨1, _⟩ => rfl

theorem sum2 (v : FVec Ideal S2x1024 .f32) (h hφ hacc) (j : Fin 1024) :
    multiReduction .add [0] S1024 v 0x00000000#32 h hφ hacc (ValueIdx.ix1 j) = ∑ k : Fin 2, v (ValueIdx.ix2 k j) := by
  refine (Ideal.multiReduction_add_single v _ h hφ hacc _).trans ?_
  refine Finset.sum_congr rfl fun k _ => congrArg v ?_
  funext a
  match a with
  | ⟨0, _⟩ => rfl
  | ⟨1, _⟩ => rfl

theorem sum1 (v : FVec Ideal S1x1024 .f32) (h hφ hacc) (j : Fin 1024) :
    multiReduction .add [0] S1024 v 0x00000000#32 h hφ hacc (ValueIdx.ix1 j) = v (ValueIdx.ix2 0 j) := by
  refine (Ideal.multiReduction_add_single v _ h hφ hacc _).trans ?_
  refine (Fin.sum_univ_one _).trans (congrArg v ?_)
  funext a
  match a with
  | ⟨0, _⟩ => rfl
  | ⟨1, _⟩ => rfl

theorem lbT_apply (v : FVec Ideal S2x1024 .f32) (j : Fin 1024) : lbT v (ValueIdx.ix2 0 j) = lb fun q => v (ValueIdx.ix2 q j) := by
  unfold lbT lb
  show Ideal.div _ _ = _
  rw [up_apply, up_apply]
  refine congr (congrArg Ideal.div ((sum1 _ _ _ _ j).trans ?_)) ((sum2 _ _ _ _ j).trans (Finset.sum_congr rfl fun k _ => eT_apply v k j))
  refine (congrArg (eT v) ?_).trans (eT_apply v 0 j)
  funext a
  match a with
  | ⟨0, _⟩ => rfl
  | ⟨1, _⟩ => exact Fin.ext (by show 0 + j.val = j.val; omega)

theorem gT_apply (b : FVec Ideal S1x1024 .f32) (a : FVec Ideal S256x1024 .f32) (r : Fin 256) (j : Fin 1024) :
    gT b a (ValueIdx.ix2 r j) = gt (b (ValueIdx.ix2 0 j)) (a (ValueIdx.ix2 r j)) := by
  unfold gT gt
  show Ideal.log (broadcastTo S256x1024 b _ _ + broadcastTo S256x1024 _ _ _ * sT a _) = _
  rw [row1_apply, row1_apply, sT_apply]
  rfl

/-- The normalised tile. -/
def hT (x : FVec Ideal S256x2048 .f32) (w : FVec Ideal S1x2048 .f32) : FVec Ideal S256x2048 .bf16 := truncf .bf16 (Cert.FfnVal.rmsT x w) bitsLt_bf16_f32

theorem hT_apply (x : FVec Ideal S256x2048 .f32) (w : FVec Ideal S1x2048 .f32) (r : Fin 256) (k : Fin 2048) :
    hT x w (ValueIdx.ix2 r k) = rms (fun j => x (ValueIdx.ix2 r j)) (fun j => w (ValueIdx.ix2 0 j)) k := Cert.FfnVal.rmsT_apply x w r k

section Forms

variable (X : Vec Ideal S256x2048 .f32) (n : Vec Ideal S1x2048 .f32) (w w' : Vec Ideal S2048x1024 .bf16) (v : Vec Ideal S2x1024 .f32) (h : FVec Ideal S256x2048 .bf16)

theorem f3 : k0_pay3 X n = hT X n := by unfold k0_pay3; simp only [shapeCast_self]; rfl
theorem f73 : k0_pay73 (k0_pay71 X) (k0_pay72 n) = hT X n := by unfold k0_pay73 k0_pay71 k0_pay72; simp only [shapeCast_self]; rfl
theorem f4 : k0_pay4 X n w w' = mulf (pT (hT X n) w) (sT (pT (hT X n) w')) := by unfold k0_pay4; simp only [shapeCast_self, f3]; rfl
theorem f74 : k0_pay74 (k0_pay71 X) (k0_pay72 n) w w' = mulf (pT (hT X n) w) (sT (pT (hT X n) w')) := by
  unfold k0_pay74; simp only [shapeCast_self, f73]; rfl
theorem f16 : k0_pay16 (k0_pay14 h w) k0_pay15 = mulf (pT h w) (sT (pT h w)) := by unfold k0_pay16 k0_pay14 k0_pay15; simp only [shapeCast_self]; rfl
theorem f26 : k0_pay26 h w = mulf (pT h w) (sT (pT h w)) := by unfold k0_pay26; simp only [shapeCast_self]; rfl
theorem f84 : k0_pay84 h w = mulf (pT h w) (sT (pT h w)) := by unfold k0_pay84; simp only [shapeCast_self]; rfl
theorem f94 : k0_pay94 h w = mulf (pT h w) (sT (pT h w)) := by unfold k0_pay94; simp only [shapeCast_self]; rfl
theorem f61 : k0_pay61 h w = pT h w := by unfold k0_pay61; simp only [shapeCast_self]; rfl
theorem f125 : k0_pay125 h w = pT h w := by unfold k0_pay125; simp only [shapeCast_self]; rfl
theorem f38 : k0_pay38 h (k0_pay36 v) (k0_pay37 v) w = gT (lbT v) (pT h w) := by unfold k0_pay38 k0_pay37 k0_pay36; simp only [shapeCast_self]; rfl
theorem f51 : k0_pay51 h (k0_pay48 v) (k0_pay49 v) (k0_pay50 w) (constant S256x1024 .f32 0x00000000#32) = gT (lbT v) (pT h w) := by
  unfold k0_pay51 k0_pay50 k0_pay49 k0_pay48; simp only [shapeCast_self]; rfl
theorem f106 : k0_pay106 (k0_pay103 v) (k0_pay104 v) (k0_pay105 h w) = gT (lbT v) (pT h w) := by
  unfold k0_pay106 k0_pay105 k0_pay104 k0_pay103; simp only [shapeCast_self]; rfl
theorem f116 : k0_pay116 h v w = gT (lbT v) (pT h w) := by unfold k0_pay116; simp only [shapeCast_self]; rfl

end Forms

end Cert.ProjVal

end
-- ==== Proof.ProjVal.Cases.lean ====
/-
  What one grid step of the input projection leaves in its two output blocks: the forty-eight stored pieces of a block
  (two row halves, twenty-four head slots) are pieces of one function of the step's input blocks.
-/
module

public import proofs.«01_k».proof.Proof.Gen.ProjIdeal.Frame
public import proofs.«01_k».proof.Proof.ProjVal.Pay

@[expose] public section

set_option maxHeartbeats 2000000

noncomputable section

namespace Cert.ProjVal

open Idealize.ShloMosaic Idealize.ShloMosaic.TcCoe Idealize.ShloMosaic.Tactic
open Cert.ProjIdeal Cert.ProjIdeal.Gen
open Cert.FfnVal (rms)
open scoped BigOperators

theorem off00 : (![0, 0] : Fin 2 → Nat) = fun _ => 0 := by
  funext a
  match a with
  | ⟨0, _⟩ => rfl
  | ⟨1, _⟩ => rfl

theorem ld_n (X : Vec Ideal S1x2048 .f32) (inb) : View.ld X (Rect.unit (s := S1x2048) ![0, 0] ![1, 2048] inb) = X :=
  View.ld_unit_zero (S := S1x2048) off00 inb X
theorem ld_b (X : Vec Ideal S2x1024 .f32) (inb) : View.ld X (Rect.unit (s := S2x1024) ![0, 0] ![2, 1024] inb) = X :=
  View.ld_unit_zero (S := S2x1024) off00 inb X

/-- A load of a tile's rows. -/
theorem ld_x (X : Vec Ideal S512x2048 .f32) (so : ℕ) (inb : ∀ a, (![so, 0] : Fin 2 → Nat) a + (![256, 2048] : Fin 2 → Nat) a ≤ S512x2048.size a)
    (r : Fin 256) (j : Fin 2048) (R : Fin 512) (hR : R.val = so + r.val) :
    View.ld X (Rect.unit (s := S512x2048) ![so, 0] ![256, 2048] inb) (ValueIdx.ix2 r j) = X (ValueIdx.ix2 R j) := by
  refine congrArg X ?_
  funext a
  match a with
  | ⟨0, _⟩ => exact Fin.ext (by show so + 1 * r.val = R.val; omega)
  | ⟨1, _⟩ => exact Fin.ext (by show 0 + 1 * j.val = j.val; omega)

/-- A load of 1024 of the weights' columns. -/
theorem ld_w (X : Vec Ideal S2048x7168 .bf16) (co : ℕ) (inb : ∀ a, (![0, co] : Fin 2 → Nat) a + (![2048, 1024] : Fin 2 → Nat) a ≤ S2048x7168.size a)
    (k : Fin 2048) (c : Fin 1024) :
    View.ld X (Rect.unit (s := S2048x7168) ![0, co] ![2048, 1024] inb) (ValueIdx.ix2 k c) = X (ValueIdx.ix2 k (cN (co + c.val))) := by
  have h : co + 1024 ≤ 7168 := inb 1
  have hc := c.isLt
  refine congrArg X ?_
  funext a
  match a with
  | ⟨0, _⟩ => exact Fin.ext (by show 0 + 1 * k.val = k.val; omega)
  | ⟨1, _⟩ => exact Fin.ext (by show co + 1 * c.val = (co + c.val) % 7168; omega)

section Block

variable (x0 : Vec Ideal S512x2048 .f32) (x1 : Vec Ideal S1x2048 .f32) (x2 : Vec Ideal S2048x7168 .bf16) (x3 x4 : Vec Ideal S2x1024 .f32)

/-- A row's product with column `n`. -/
def P (R : Fin 512) (n : ℕ) : EReal := prj (fun j => x0 (ValueIdx.ix2 R j)) (fun j => x1 (ValueIdx.ix2 0 j)) (fun k c => x2 (ValueIdx.ix2 k c)) n

/-- The first output block. -/
def E5 : Vec Ideal S24x512x128 .f32 := fun y =>
  val5 (fun j => x0 (ValueIdx.ix2 (y 1) j)) (fun j => x1 (ValueIdx.ix2 0 j)) (fun k c => x2 (ValueIdx.ix2 k c)) (fun k j => x3 (ValueIdx.ix2 k j))
    (fun k j => x4 (ValueIdx.ix2 k j)) (y 0).val (y 2).val

/-- The second output block. -/
def E6 : Vec Ideal S24x512x128 .bf16 := fun y =>
  val6 (fun j => x0 (ValueIdx.ix2 (y 1) j)) (fun j => x1 (ValueIdx.ix2 0 j)) (fun k c => x2 (ValueIdx.ix2 k c)) (y 0).val (y 2).val

/-- A tile's product with 1024 columns, read. -/
theorem pT_ld (so co : ℕ) (inb) (inb') (inb'') (r : Fin 256) (c : Fin 1024) (R : Fin 512) (hR : R.val = so + r.val) :
    pT (hT (View.ld x0 (Rect.unit (s := S512x2048) ![so, 0] ![256, 2048] inb)) (View.ld x1 (Rect.unit (s := S1x2048) ![0, 0] ![1, 2048] inb'')))
      (View.ld x2 (Rect.unit (s := S2048x7168) ![0, co] ![2048, 1024] inb')) (ValueIdx.ix2 r c) = P x0 x1 x2 R (co + c.val) := by
  unfold pT P prj
  rw [ld_n]
  refine (dot_p _ _ r c).trans (Finset.sum_congr rfl fun k _ => ?_)
  rw [hT_apply]
  exact congr (congrArg (· * ·) (congrArg (fun f => rms f (fun j => x1 (ValueIdx.ix2 0 j)) k) (funext fun j => ld_x x0 so inb r j R hR))) (ld_w x2 co inb' k c)

theorem glu_ld (so co co' : ℕ) (inb) (inb') (inb1) (inb'') (r : Fin 256) (c : Fin 1024) (R : Fin 512) (hR : R.val = so + r.val) :
    (mulf (pT (hT (View.ld x0 (Rect.unit (s := S512x2048) ![so, 0] ![256, 2048] inb)) (View.ld x1 (Rect.unit (s := S1x2048) ![0, 0] ![1, 2048] inb'')))
        (View.ld x2 (Rect.unit (s := S2048x7168) ![0, co] ![2048, 1024] inb')))
      (sT (pT (hT (View.ld x0 (Rect.unit (s := S512x2048) ![so, 0] ![256, 2048] inb)) (View.ld x1 (Rect.unit (s := S1x2048) ![0, 0] ![1, 2048] inb'')))
        (View.ld x2 (Rect.unit (s := S2048x7168) ![0, co'] ![2048, 1024] inb1)))) : FVec Ideal S256x1024 .f32) (ValueIdx.ix2 r c)
      = P x0 x1 x2 R (co + c.val) * sg (P x0 x1 x2 R (co' + c.val)) := by
  rw [mulf_apply, sT_apply, pT_ld x0 x1 x2 so co inb inb' inb'' r c R hR, pT_ld x0 x1 x2 so co' inb inb1 inb'' r c R hR]
  rfl

theorem gate_ld (v : Vec Ideal S2x1024 .f32) (so co : ℕ) (inb) (inb') (inb'') (inv) (r : Fin 256) (c : Fin 1024) (R : Fin 512) (hR : R.val = so + r.val) :
    gT (lbT (View.ld v (Rect.unit (s := S2x1024) ![0, 0] ![2, 1024] inv)))
      (pT (hT (View.ld x0 (Rect.unit (s := S512x2048) ![so, 0] ![256, 2048] inb)) (View.ld x1 (Rect.unit (s := S1x2048) ![0, 0] ![1, 2048] inb'')))
        (View.ld x2 (Rect.unit (s := S2048x7168) ![0, co] ![2048, 1024] inb'))) (ValueIdx.ix2 r c)
      = gt (lb fun k => v (ValueIdx.ix2 k c)) (P x0 x1 x2 R (co + c.val)) := by
  rw [gT_apply, lbT_apply, ld_b, pT_ld x0 x1 x2 so co inb inb' inb'' r c R hR]

/-- One head's columns of a tile, as a stored piece. -/
theorem piece5 {E : S24x512x128.Idx → EReal} {A : Fin 512 → Fin 1024 → EReal} (s so off : ℕ) (inb : ∀ a, (![s, so, 0] : Fin 3 → Nat) a + (![1, 256, 128] : Fin 3 → Nat) a ≤ S24x512x128.size a)
    (V : FVec Ideal S256x1024 .f32) (hsl : S256x1024.Slices ![0, off] S256x128) (hc : S256x128.ShapeCasts S1x256x128)
    (hV : ∀ (r : Fin 256) (c : Fin 1024) (R : Fin 512), R.val = so + r.val → V (ValueIdx.ix2 r c) = A R c)
    (hA : ∀ (y : S24x512x128.Idx) (c : Fin 1024), (y 0).val = s → c.val = off + (y 2).val → A (y 1) c = E y) (x : S1x256x128.Idx) :
    shapeCast S1x256x128 (extractStridedSlice S256x128 ![0, off] V hsl) hc x = E ((Rect.unit (s := S24x512x128) ![s, so, 0] ![1, 256, 128] inb).emb x) := by
  have h0 : (x 0).val < 1 := (x 0).isLt
  have h1 : (x 1).val < 256 := (x 1).isLt
  have h2 : (x 2).val < 128 := (x 2).isLt
  have hoff : off + 128 ≤ 1024 := hsl.2 1
  have e1 : shapeCast S1x256x128 (extractStridedSlice S256x128 ![0, off] V hsl) hc x = V (ValueIdx.ix2 (x 1) (⟨off + (x 2).val, by omega⟩ : Fin 1024)) := by
    refine (shapeCast_apply _ hc x (ValueIdx.ix2 (x 1) (x 2)) ?_).trans ?_
    · rewrite [Shape.rowMajor_val_three, Shape.rowMajor_val_two]
      show (x 1).val * 128 + (x 2).val = ((x 0).val * 256 + (x 1).val) * 128 + (x 2).val
      omega
    · refine congrArg V ?_
      funext a
      match a with
      | ⟨0, _⟩ => exact Fin.ext (by show 0 + (x 1).val = (x 1).val; omega)
      | ⟨1, _⟩ => rfl
  rw [e1]
  refine (hV (x 1) _ ((Rect.unit (s := S24x512x128) ![s, so, 0] ![1, 256, 128] inb).emb x 1) ?_).trans (hA _ _ ?_ ?_)
  · show so + 1 * (x 1).val = so + (x 1).val; omega
  · show s + 1 * (x 0).val = s; omega
  · show off + (x 2).val = off + (0 + 1 * (x 2).val); omega

theorem piece6 {E : S24x512x128.Idx → EReal} {A : Fin 512 → Fin 1024 → EReal} (s so off : ℕ) (inb : ∀ a, (![s, so, 0] : Fin 3 → Nat) a + (![1, 256, 128] : Fin 3 → Nat) a ≤ S24x512x128.size a)
    (V : FVec Ideal S256x1024 .f32) (hsl : S256x1024.Slices ![0, off] S256x128) (hc : S256x128.ShapeCasts S1x256x128)
    (hV : ∀ (r : Fin 256) (c : Fin 1024) (R : Fin 512), R.val = so + r.val → V (ValueIdx.ix2 r c) = A R c)
    (hA : ∀ (y : S24x512x128.Idx) (c : Fin 1024), (y 0).val = s → c.val = off + (y 2).val → A (y 1) c = E y) (x : S1x256x128.Idx) :
    (shapeCast S1x256x128 (truncf .bf16 (extractStridedSlice S256x128 ![0, off] V hsl) bitsLt_bf16_f32 : FVec Ideal S256x128 .bf16) hc : FVec Ideal S1x256x128 .bf16) x
      = E ((Rect.unit (s := S24x512x128) ![s, so, 0] ![1, 256, 128] inb).emb x) :=
  piece5 s so off inb V hsl hc hV hA x

theorem jN_eq (n : ℕ) (c : Fin 1024) (h : c.val = n) : jN n = c := Fin.ext (by show n % 1024 = c.val; have := c.isLt; omega)

theorem e5a (s : ℕ) (hs : s < 8) (y : S24x512x128.Idx) (c : Fin 1024) (h0 : (y 0).val = s) (hc : c.val = 128 * s + (y 2).val) :
    P x0 x1 x2 (y 1) (0 + c.val) * sg (P x0 x1 x2 (y 1) (1024 + c.val)) = E5 x0 x1 x2 x3 x4 y := by
  unfold E5 val5
  rw [if_pos (by omega), h0, ← hc, Nat.zero_add]
  rfl

theorem e5b (s : ℕ) (hs : s < 8) (y : S24x512x128.Idx) (c : Fin 1024) (h0 : (y 0).val = s + 8) (hc : c.val = 128 * s + (y 2).val) :
    gt (lb fun k => x3 (ValueIdx.ix2 k c)) (P x0 x1 x2 (y 1) (3072 + c.val)) = E5 x0 x1 x2 x3 x4 y := by
  unfold E5 val5
  have hcc : 128 * ((y 0).val - 8) + (y 2).val = c.val := by omega
  rw [if_neg (by omega), if_pos (by omega), hcc, jN_eq _ c rfl]
  rfl

theorem e5c (s : ℕ) (hs : s < 8) (y : S24x512x128.Idx) (c : Fin 1024) (h0 : (y 0).val = s + 16) (hc : c.val = 128 * s + (y 2).val) :
    gt (lb fun k => x4 (ValueIdx.ix2 k c)) (P x0 x1 x2 (y 1) (4096 + c.val)) = E5 x0 x1 x2 x3 x4 y := by
  unfold E5 val5
  have hcc : 128 * ((y 0).val - 16) + (y 2).val = c.val := by omega
  rw [if_neg (by omega), if_neg (by omega), hcc, jN_eq _ c rfl]
  rfl

theorem e6a (s : ℕ) (hs : s < 8) (y : S24x512x128.Idx) (c : Fin 1024) (h0 : (y 0).val = s) (hc : c.val = 128 * s + (y 2).val) :
    P x0 x1 x2 (y 1) (2048 + c.val) * sg (P x0 x1 x2 (y 1) (2048 + c.val)) = E6 x0 x1 x2 y := by
  unfold E6 val6
  rw [if_pos (by omega), h0, ← hc]
  rfl

theorem e6b (s : ℕ) (hs : s < 8) (y : S24x512x128.Idx) (c : Fin 1024) (h0 : (y 0).val = s + 8) (hc : c.val = 128 * s + (y 2).val) :
    P x0 x1 x2 (y 1) (5120 + c.val) = E6 x0 x1 x2 y := by
  unfold E6 val6
  have hcc : 128 * ((y 0).val - 8) + (y 2).val = c.val := by omega
  rw [if_neg (by omega), if_pos (by omega), hcc]
  rfl

theorem e6c (s : ℕ) (hs : s < 8) (y : S24x512x128.Idx) (c : Fin 1024) (h0 : (y 0).val = s + 16) (hc : c.val = 128 * s + (y 2).val) :
    P x0 x1 x2 (y 1) (6144 + c.val) * sg (P x0 x1 x2 (y 1) (6144 + c.val)) = E6 x0 x1 x2 y := by
  unfold E6 val6
  have hcc : 128 * ((y 0).val - 16) + (y 2).val = c.val := by omega
  rw [if_neg (by omega), if_neg (by omega), hcc]
  rfl

theorem v5a0 (r : Fin 256) (c : Fin 1024) (R : Fin 512) (hR : R.val = 0 + r.val) :
    (k0_pay134 x0 x1 x2 x3 x4) (ValueIdx.ix2 r c) = P x0 x1 x2 R (0 + c.val) * sg (P x0 x1 x2 R (1024 + c.val)) := by
  unfold k0_pay134
  rw [f4]
  exact glu_ld x0 x1 x2 0 0 1024 _ _ _ _ r c R hR

theorem v5a1 (r : Fin 256) (c : Fin 1024) (R : Fin 512) (hR : R.val = 256 + r.val) :
    (k0_pay151 x0 x1 x2 x3 x4) (ValueIdx.ix2 r c) = P x0 x1 x2 R (0 + c.val) * sg (P x0 x1 x2 R (1024 + c.val)) := by
  unfold k0_pay151 k0_pay148 k0_pay149
  rw [f74]
  exact glu_ld x0 x1 x2 256 0 1024 _ _ _ _ r c R hR

theorem v5b0 (r : Fin 256) (c : Fin 1024) (R : Fin 512) (hR : R.val = 0 + r.val) :
    (k0_pay141 x0 x1 x2 x3 x4) (ValueIdx.ix2 r c) = gt (lb fun k => x3 (ValueIdx.ix2 k c)) (P x0 x1 x2 R (3072 + c.val)) := by
  unfold k0_pay141 k0_pay139 k0_pay140 k0_pay133
  rw [f38, f3]
  exact gate_ld x0 x1 x2 x3 0 3072 _ _ _ _ r c R hR

theorem v5b1 (r : Fin 256) (c : Fin 1024) (R : Fin 512) (hR : R.val = 256 + r.val) :
    (k0_pay106 (k0_pay154 x0 x1 x2 x3 x4) (k0_pay155 x0 x1 x2 x3 x4) (k0_pay156 x0 x1 x2 x3 x4)) (ValueIdx.ix2 r c) = gt (lb fun k => x3 (ValueIdx.ix2 k c)) (P x0 x1 x2 R (3072 + c.val)) := by
  unfold k0_pay154 k0_pay155 k0_pay156 k0_pay150 k0_pay148 k0_pay149
  rw [f106, f73]
  exact gate_ld x0 x1 x2 x3 256 3072 _ _ _ _ r c R hR

theorem v5c0 (r : Fin 256) (c : Fin 1024) (R : Fin 512) (hR : R.val = 0 + r.val) :
    (k0_pay146 x0 x1 x2 x3 x4) (ValueIdx.ix2 r c) = gt (lb fun k => x4 (ValueIdx.ix2 k c)) (P x0 x1 x2 R (4096 + c.val)) := by
  unfold k0_pay146 k0_pay143 k0_pay144 k0_pay145 k0_pay142 k0_pay133
  rw [f51, f3]
  exact gate_ld x0 x1 x2 x4 0 4096 _ _ _ _ r c R hR

theorem v5c1 (r : Fin 256) (c : Fin 1024) (R : Fin 512) (hR : R.val = 256 + r.val) :
    (k0_pay157 x0 x1 x2 x3 x4) (ValueIdx.ix2 r c) = gt (lb fun k => x4 (ValueIdx.ix2 k c)) (P x0 x1 x2 R (4096 + c.val)) := by
  unfold k0_pay157 k0_pay150 k0_pay148 k0_pay149
  rw [f116, f73]
  exact gate_ld x0 x1 x2 x4 256 4096 _ _ _ _ r c R hR

theorem v6a0 (r : Fin 256) (c : Fin 1024) (R : Fin 512) (hR : R.val = 0 + r.val) :
    (k0_pay137 x0 x1 x2 x3 x4) (ValueIdx.ix2 r c) = P x0 x1 x2 R (2048 + c.val) * sg (P x0 x1 x2 R (2048 + c.val)) := by
  unfold k0_pay137 k0_pay135 k0_pay136 k0_pay133
  rw [f16, f3]
  exact glu_ld x0 x1 x2 0 2048 2048 _ _ _ _ r c R hR

theorem v6a1 (r : Fin 256) (c : Fin 1024) (R : Fin 512) (hR : R.val = 256 + r.val) :
    (k0_pay152 x0 x1 x2 x3 x4) (ValueIdx.ix2 r c) = P x0 x1 x2 R (2048 + c.val) * sg (P x0 x1 x2 R (2048 + c.val)) := by
  unfold k0_pay152 k0_pay150 k0_pay148 k0_pay149
  rw [f84, f73]
  exact glu_ld x0 x1 x2 256 2048 2048 _ _ _ _ r c R hR

theorem v6b0 (r : Fin 256) (c : Fin 1024) (R : Fin 512) (hR : R.val = 0 + r.val) :
    (k0_pay147 x0 x1 x2 x3 x4) (ValueIdx.ix2 r c) = P x0 x1 x2 R (5120 + c.val) := by
  unfold k0_pay147 k0_pay133
  rw [f61, f3]
  exact pT_ld x0 x1 x2 0 5120 _ _ _ r c R hR

theorem v6b1 (r : Fin 256) (c : Fin 1024) (R : Fin 512) (hR : R.val = 256 + r.val) :
    (k0_pay125 (k0_pay150 x0 x1 x2 x3 x4) (View.ld x2 r0_33)) (ValueIdx.ix2 r c) = P x0 x1 x2 R (5120 + c.val) := by
  unfold k0_pay150 k0_pay148 k0_pay149
  rw [f125, f73]
  exact pT_ld x0 x1 x2 256 5120 _ _ _ r c R hR

theorem v6c0 (r : Fin 256) (c : Fin 1024) (R : Fin 512) (hR : R.val = 0 + r.val) :
    (k0_pay138 x0 x1 x2 x3 x4) (ValueIdx.ix2 r c) = P x0 x1 x2 R (6144 + c.val) * sg (P x0 x1 x2 R (6144 + c.val)) := by
  unfold k0_pay138 k0_pay133
  rw [f26, f3]
  exact glu_ld x0 x1 x2 0 6144 6144 _ _ _ _ r c R hR

theorem v6c1 (r : Fin 256) (c : Fin 1024) (R : Fin 512) (hR : R.val = 256 + r.val) :
    (k0_pay153 x0 x1 x2 x3 x4) (ValueIdx.ix2 r c) = P x0 x1 x2 R (6144 + c.val) * sg (P x0 x1 x2 R (6144 + c.val)) := by
  unfold k0_pay153 k0_pay150 k0_pay148 k0_pay149
  rw [f94, f73]
  exact glu_ld x0 x1 x2 256 6144 6144 _ _ _ _ r c R hR

theorem out5 : out0_5 x0 x1 x2 x3 x4 = E5 x0 x1 x2 x3 x4 := by
  funext y
  unfold out0_5
  refine View.canon_apply_of_pieces (E5 x0 x1 x2 x3 x4) _ ?_ y (by apply cover0_5)
  dsimp only
  refine List.forall_mem_cons.2 ⟨?_, ?_⟩
  · intro x; exact piece5 23 256 896 inb_S24x512x128_S1x256x128_23_256_0 (k0_pay157 x0 x1 x2 x3 x4) slices_S256x1024_o0_896_S256x128 shapeCasts_S256x128_S1x256x128 (v5c1 x0 x1 x2 x3 x4) (e5c x0 x1 x2 x3 x4 7 (by decide)) x
  refine List.forall_mem_cons.2 ⟨?_, ?_⟩
  · intro x; exact piece5 22 256 768 inb_S24x512x128_S1x256x128_22_256_0 (k0_pay157 x0 x1 x2 x3 x4) slices_S256x1024_o0_768_S256x128 shapeCasts_S256x128_S1x256x128 (v5c1 x0 x1 x2 x3 x4) (e5c x0 x1 x2 x3 x4 6 (by decide)) x
  refine List.forall_mem_cons.2 ⟨?_, ?_⟩
  · intro x; exact piece5 21 256 640 inb_S24x512x128_S1x256x128_21_256_0 (k0_pay157 x0 x1 x2 x3 x4) slices_S256x1024_o0_640_S256x128 shapeCasts_S256x128_S1x256x128 (v5c1 x0 x1 x2 x3 x4) (e5c x0 x1 x2 x3 x4 5 (by decide)) x
  refine List.forall_mem_cons.2 ⟨?_, ?_⟩
  · intro x; exact piece5 20 256 512 inb_S24x512x128_S1x256x128_20_256_0 (k0_pay157 x0 x1 x2 x3 x4) slices_S256x1024_o0_512_S256x128 shapeCasts_S256x128_S1x256x128 (v5c1 x0 x1 x2 x3 x4) (e5c x0 x1 x2 x3 x4 4 (by decide)) x
  refine List.forall_mem_cons.2 ⟨?_, ?_⟩
  · intro x; exact piece5 19 256 384 inb_S24x512x128_S1x256x128_19_256_0 (k0_pay157 x0 x1 x2 x3 x4) slices_S256x1024_o0_384_S256x128 shapeCasts_S256x128_S1x256x128 (v5c1 x0 x1 x2 x3 x4) (e5c x0 x1 x2 x3 x4 3 (by decide)) x
  refine List.forall_mem_cons.2 ⟨?_, ?_⟩
  · intro x; exact piece5 18 256 256 inb_S24x512x128_S1x256x128_18_256_0 (k0_pay157 x0 x1 x2 x3 x4) slices_S256x1024_o0_256_S256x128 shapeCasts_S256x128_S1x256x128 (v5c1 x0 x1 x2 x3 x4) (e5c x0 x1 x2 x3 x4 2 (by decide)) x
  refine List.forall_mem_cons.2 ⟨?_, ?_⟩
  · intro x; exact piece5 17 256 128 inb_S24x512x128_S1x256x128_17_256_0 (k0_pay157 x0 x1 x2 x3 x4) slices_S256x1024_o0_128_S256x128 shapeCasts_S256x128_S1x256x128 (v5c1 x0 x1 x2 x3 x4) (e5c x0 x1 x2 x3 x4 1 (by decide)) x
  refine List.forall_mem_cons.2 ⟨?_, ?_⟩
  · intro x; exact piece5 16 256 0 inb_S24x512x128_S1x256x128_16_256_0 (k0_pay157 x0 x1 x2 x3 x4) slices_S256x1024_o0_0_S256x128 shapeCasts_S256x128_S1x256x128 (v5c1 x0 x1 x2 x3 x4) (e5c x0 x1 x2 x3 x4 0 (by decide)) x
  refine List.forall_mem_cons.2 ⟨?_, ?_⟩
  · intro x; exact piece5 15 256 896 inb_S24x512x128_S1x256x128_15_256_0 (k0_pay106 (k0_pay154 x0 x1 x2 x3 x4) (k0_pay155 x0 x1 x2 x3 x4) (k0_pay156 x0 x1 x2 x3 x4)) slices_S256x1024_o0_896_S256x128 shapeCasts_S256x128_S1x256x128 (v5b1 x0 x1 x2 x3 x4) (e5b x0 x1 x2 x3 x4 7 (by decide)) x
  refine List.forall_mem_cons.2 ⟨?_, ?_⟩
  · intro x; exact piece5 14 256 768 inb_S24x512x128_S1x256x128_14_256_0 (k0_pay106 (k0_pay154 x0 x1 x2 x3 x4) (k0_pay155 x0 x1 x2 x3 x4) (k0_pay156 x0 x1 x2 x3 x4)) slices_S256x1024_o0_768_S256x128 shapeCasts_S256x128_S1x256x128 (v5b1 x0 x1 x2 x3 x4) (e5b x0 x1 x2 x3 x4 6 (by decide)) x
  refine List.forall_mem_cons.2 ⟨?_, ?_⟩
  · intro x; exact piece5 13 256 640 inb_S24x512x128_S1x256x128_13_256_0 (k0_pay106 (k0_pay154 x0 x1 x2 x3 x4) (k0_pay155 x0 x1 x2 x3 x4) (k0_pay156 x0 x1 x2 x3 x4)) slices_S256x1024_o0_640_S256x128 shapeCasts_S256x128_S1x256x128 (v5b1 x0 x1 x2 x3 x4) (e5b x0 x1 x2 x3 x4 5 (by decide)) x
  refine List.forall_mem_cons.2 ⟨?_, ?_⟩
  · intro x; exact piece5 12 256 512 inb_S24x512x128_S1x256x128_12_256_0 (k0_pay106 (k0_pay154 x0 x1 x2 x3 x4) (k0_pay155 x0 x1 x2 x3 x4) (k0_pay156 x0 x1 x2 x3 x4)) slices_S256x1024_o0_512_S256x128 shapeCasts_S256x128_S1x256x128 (v5b1 x0 x1 x2 x3 x4) (e5b x0 x1 x2 x3 x4 4 (by decide)) x
  refine List.forall_mem_cons.2 ⟨?_, ?_⟩
  · intro x; exact piece5 11 256 384 inb_S24x512x128_S1x256x128_11_256_0 (k0_pay106 (k0_pay154 x0 x1 x2 x3 x4) (k0_pay155 x0 x1 x2 x3 x4) (k0_pay156 x0 x1 x2 x3 x4)) slices_S256x1024_o0_384_S256x128 shapeCasts_S256x128_S1x256x128 (v5b1 x0 x1 x2 x3 x4) (e5b x0 x1 x2 x3 x4 3 (by decide)) x
  refine List.forall_mem_cons.2 ⟨?_, ?_⟩
  · intro x; exact piece5 10 256 256 inb_S24x512x128_S1x256x128_10_256_0 (k0_pay106 (k0_pay154 x0 x1 x2 x3 x4) (k0_pay155 x0 x1 x2 x3 x4) (k0_pay156 x0 x1 x2 x3 x4)) slices_S256x1024_o0_256_S256x128 shapeCasts_S256x128_S1x256x128 (v5b1 x0 x1 x2 x3 x4) (e5b x0 x1 x2 x3 x4 2 (by decide)) x
  refine List.forall_mem_cons.2 ⟨?_, ?_⟩
  · intro x; exact piece5 9 256 128 inb_S24x512x128_S1x256x128_9_256_0 (k0_pay106 (k0_pay154 x0 x1 x2 x3 x4) (k0_pay155 x0 x1 x2 x3 x4) (k0_pay156 x0 x1 x2 x3 x4)) slices_S256x1024_o0_128_S256x128 shapeCasts_S256x128_S1x256x128 (v5b1 x0 x1 x2 x3 x4) (e5b x0 x1 x2 x3 x4 1 (by decide)) x
  refine List.forall_mem_cons.2 ⟨?_, ?_⟩
  · intro x; exact piece5 8 256 0 inb_S24x512x128_S1x256x128_8_256_0 (k0_pay106 (k0_pay154 x0 x1 x2 x3 x4) (k0_pay155 x0 x1 x2 x3 x4) (k0_pay156 x0 x1 x2 x3 x4)) slices_S256x1024_o0_0_S256x128 shapeCasts_S256x128_S1x256x128 (v5b1 x0 x1 x2 x3 x4) (e5b x0 x1 x2 x3 x4 0 (by decide)) x
  refine List.forall_mem_cons.2 ⟨?_, ?_⟩
  · intro x; exact piece5 7 256 896 inb_S24x512x128_S1x256x128_7_256_0 (k0_pay151 x0 x1 x2 x3 x4) slices_S256x1024_o0_896_S256x128 shapeCasts_S256x128_S1x256x128 (v5a1 x0 x1 x2 x3 x4) (e5a x0 x1 x2 x3 x4 7 (by decide)) x
  refine List.forall_mem_cons.2 ⟨?_, ?_⟩
  · intro x; exact piece5 6 256 768 inb_S24x512x128_S1x256x128_6_256_0 (k0_pay151 x0 x1 x2 x3 x4) slices_S256x1024_o0_768_S256x128 shapeCasts_S256x128_S1x256x128 (v5a1 x0 x1 x2 x3 x4) (e5a x0 x1 x2 x3 x4 6 (by decide)) x
  refine List.forall_mem_cons.2 ⟨?_, ?_⟩
  · intro x; exact piece5 5 256 640 inb_S24x512x128_S1x256x128_5_256_0 (k0_pay151 x0 x1 x2 x3 x4) slices_S256x1024_o0_640_S256x128 shapeCasts_S256x128_S1x256x128 (v5a1 x0 x1 x2 x3 x4) (e5a x0 x1 x2 x3 x4 5 (by decide)) x
  refine List.forall_mem_cons.2 ⟨?_, ?_⟩
  · intro x; exact piece5 4 256 512 inb_S24x512x128_S1x256x128_4_256_0 (k0_pay151 x0 x1 x2 x3 x4) slices_S256x1024_o0_512_S256x128 shapeCasts_S256x128_S1x256x128 (v5a1 x0 x1 x2 x3 x4) (e5a x0 x1 x2 x3 x4 4 (by decide)) x
  refine List.forall_mem_cons.2 ⟨?_, ?_⟩
  · intro x; exact piece5 3 256 384 inb_S24x512x128_S1x256x128_3_256_0 (k0_pay151 x0 x1 x2 x3 x4) slices_S256x1024_o0_384_S256x128 shapeCasts_S256x128_S1x256x128 (v5a1 x0 x1 x2 x3 x4) (e5a x0 x1 x2 x3 x4 3 (by decide)) x
  refine List.forall_mem_cons.2 ⟨?_, ?_⟩
  · intro x; exact piece5 2 256 256 inb_S24x512x128_S1x256x128_2_256_0 (k0_pay151 x0 x1 x2 x3 x4) slices_S256x1024_o0_256_S256x128 shapeCasts_S256x128_S1x256x128 (v5a1 x0 x1 x2 x3 x4) (e5a x0 x1 x2 x3 x4 2 (by decide)) x
  refine List.forall_mem_cons.2 ⟨?_, ?_⟩
  · intro x; exact piece5 1 256 128 inb_S24x512x128_S1x256x128_1_256_0 (k0_pay151 x0 x1 x2 x3 x4) slices_S256x1024_o0_128_S256x128 shapeCasts_S256x128_S1x256x128 (v5a1 x0 x1 x2 x3 x4) (e5a x0 x1 x2 x3 x4 1 (by decide)) x
  refine List.forall_mem_cons.2 ⟨?_, ?_⟩
  · intro x; exact piece5 0 256 0 inb_S24x512x128_S1x256x128_0_256_0 (k0_pay151 x0 x1 x2 x3 x4) slices_S256x1024_o0_0_S256x128 shapeCasts_S256x128_S1x256x128 (v5a1 x0 x1 x2 x3 x4) (e5a x0 x1 x2 x3 x4 0 (by decide)) x
  refine List.forall_mem_cons.2 ⟨?_, ?_⟩
  · intro x; exact piece5 23 0 896 inb_S24x512x128_S1x256x128_23_0_0 (k0_pay146 x0 x1 x2 x3 x4) slices_S256x1024_o0_896_S256x128 shapeCasts_S256x128_S1x256x128 (v5c0 x0 x1 x2 x3 x4) (e5c x0 x1 x2 x3 x4 7 (by decide)) x
  refine List.forall_mem_cons.2 ⟨?_, ?_⟩
  · intro x; exact piece5 22 0 768 inb_S24x512x128_S1x256x128_22_0_0 (k0_pay146 x0 x1 x2 x3 x4) slices_S256x1024_o0_768_S256x128 shapeCasts_S256x128_S1x256x128 (v5c0 x0 x1 x2 x3 x4) (e5c x0 x1 x2 x3 x4 6 (by decide)) x
  refine List.forall_mem_cons.2 ⟨?_, ?_⟩
  · intro x; exact piece5 21 0 640 inb_S24x512x128_S1x256x128_21_0_0 (k0_pay146 x0 x1 x2 x3 x4) slices_S256x1024_o0_640_S256x128 shapeCasts_S256x128_S1x256x128 (v5c0 x0 x1 x2 x3 x4) (e5c x0 x1 x2 x3 x4 5 (by decide)) x
  refine List.forall_mem_cons.2 ⟨?_, ?_⟩
  · intro x; exact piece5 20 0 512 inb_S24x512x128_S1x256x128_20_0_0 (k0_pay146 x0 x1 x2 x3 x4) slices_S256x1024_o0_512_S256x128 shapeCasts_S256x128_S1x256x128 (v5c0 x0 x1 x2 x3 x4) (e5c x0 x1 x2 x3 x4 4 (by decide)) x
  refine List.forall_mem_cons.2 ⟨?_, ?_⟩
  · intro x; exact piece5 19 0 384 inb_S24x512x128_S1x256x128_19_0_0 (k0_pay146 x0 x1 x2 x3 x4) slices_S256x1024_o0_384_S256x128 shapeCasts_S256x128_S1x256x128 (v5c0 x0 x1 x2 x3 x4) (e5c x0 x1 x2 x3 x4 3 (by decide)) x
  refine List.forall_mem_cons.2 ⟨?_, ?_⟩
  · intro x; exact piece5 18 0 256 inb_S24x512x128_S1x256x128_18_0_0 (k0_pay146 x0 x1 x2 x3 x4) slices_S256x1024_o0_256_S256x128 shapeCasts_S256x128_S1x256x128 (v5c0 x0 x1 x2 x3 x4) (e5c x0 x1 x2 x3 x4 2 (by decide)) x
  refine List.forall_mem_cons.2 ⟨?_, ?_⟩
  · intro x; exact piece5 17 0 128 inb_S24x512x128_S1x256x128_17_0_0 (k0_pay146 x0 x1 x2 x3 x4) slices_S256x1024_o0_128_S256x128 shapeCasts_S256x128_S1x256x128 (v5c0 x0 x1 x2 x3 x4) (e5c x0 x1 x2 x3 x4 1 (by decide)) x
  refine List.forall_mem_cons.2 ⟨?_, ?_⟩
  · intro x; exact piece5 16 0 0 inb_S24x512x128_S1x256x128_16_0_0 (k0_pay146 x0 x1 x2 x3 x4) slices_S256x1024_o0_0_S256x128 shapeCasts_S256x128_S1x256x128 (v5c0 x0 x1 x2 x3 x4) (e5c x0 x1 x2 x3 x4 0 (by decide)) x
  refine List.forall_mem_cons.2 ⟨?_, ?_⟩
  · intro x; exact piece5 15 0 896 inb_S24x512x128_S1x256x128_15_0_0 (k0_pay141 x0 x1 x2 x3 x4) slices_S256x1024_o0_896_S256x128 shapeCasts_S256x128_S1x256x128 (v5b0 x0 x1 x2 x3 x4) (e5b x0 x1 x2 x3 x4 7 (by decide)) x
  refine List.forall_mem_cons.2 ⟨?_, ?_⟩
  · intro x; exact piece5 14 0 768 inb_S24x512x128_S1x256x128_14_0_0 (k0_pay141 x0 x1 x2 x3 x4) slices_S256x1024_o0_768_S256x128 shapeCasts_S256x128_S1x256x128 (v5b0 x0 x1 x2 x3 x4) (e5b x0 x1 x2 x3 x4 6 (by decide)) x
  refine List.forall_mem_cons.2 ⟨?_, ?_⟩
  · intro x; exact piece5 13 0 640 inb_S24x512x128_S1x256x128_13_0_0 (k0_pay141 x0 x1 x2 x3 x4) slices_S256x1024_o0_640_S256x128 shapeCasts_S256x128_S1x256x128 (v5b0 x0 x1 x2 x3 x4) (e5b x0 x1 x2 x3 x4 5 (by decide)) x
  refine List.forall_mem_cons.2 ⟨?_, ?_⟩
  · intro x; exact piece5 12 0 512 inb_S24x512x128_S1x256x128_12_0_0 (k0_pay141 x0 x1 x2 x3 x4) slices_S256x1024_o0_512_S256x128 shapeCasts_S256x128_S1x256x128 (v5b0 x0 x1 x2 x3 x4) (e5b x0 x1 x2 x3 x4 4 (by decide)) x
  refine List.forall_mem_cons.2 ⟨?_, ?_⟩
  · intro x; exact piece5 11 0 384 inb_S24x512x128_S1x256x128_11_0_0 (k0_pay141 x0 x1 x2 x3 x4) slices_S256x1024_o0_384_S256x128 shapeCasts_S256x128_S1x256x128 (v5b0 x0 x1 x2 x3 x4) (e5b x0 x1 x2 x3 x4 3 (by decide)) x
  refine List.forall_mem_cons.2 ⟨?_, ?_⟩
  · intro x; exact piece5 10 0 256 inb_S24x512x128_S1x256x128_10_0_0 (k0_pay141 x0 x1 x2 x3 x4) slices_S256x1024_o0_256_S256x128 shapeCasts_S256x128_S1x256x128 (v5b0 x0 x1 x2 x3 x4) (e5b x0 x1 x2 x3 x4 2 (by decide)) x
  refine List.forall_mem_cons.2 ⟨?_, ?_⟩
  · intro x; exact piece5 9 0 128 inb_S24x512x128_S1x256x128_9_0_0 (k0_pay141 x0 x1 x2 x3 x4) slices_S256x1024_o0_128_S256x128 shapeCasts_S256x128_S1x256x128 (v5b0 x0 x1 x2 x3 x4) (e5b x0 x1 x2 x3 x4 1 (by decide)) x
  refine List.forall_mem_cons.2 ⟨?_, ?_⟩
  · intro x; exact piece5 8 0 0 inb_S24x512x128_S1x256x128_8_0_0 (k0_pay141 x0 x1 x2 x3 x4) slices_S256x1024_o0_0_S256x128 shapeCasts_S256x128_S1x256x128 (v5b0 x0 x1 x2 x3 x4) (e5b x0 x1 x2 x3 x4 0 (by decide)) x
  refine List.forall_mem_cons.2 ⟨?_, ?_⟩
  · intro x; exact piece5 7 0 896 inb_S24x512x128_S1x256x128_7_0_0 (k0_pay134 x0 x1 x2 x3 x4) slices_S256x1024_o0_896_S256x128 shapeCasts_S256x128_S1x256x128 (v5a0 x0 x1 x2 x3 x4) (e5a x0 x1 x2 x3 x4 7 (by decide)) x
  refine List.forall_mem_cons.2 ⟨?_, ?_⟩
  · intro x; exact piece5 6 0 768 inb_S24x512x128_S1x256x128_6_0_0 (k0_pay134 x0 x1 x2 x3 x4) slices_S256x1024_o0_768_S256x128 shapeCasts_S256x128_S1x256x128 (v5a0 x0 x1 x2 x3 x4) (e5a x0 x1 x2 x3 x4 6 (by decide)) x
  refine List.forall_mem_cons.2 ⟨?_, ?_⟩
  · intro x; exact piece5 5 0 640 inb_S24x512x128_S1x256x128_5_0_0 (k0_pay134 x0 x1 x2 x3 x4) slices_S256x1024_o0_640_S256x128 shapeCasts_S256x128_S1x256x128 (v5a0 x0 x1 x2 x3 x4) (e5a x0 x1 x2 x3 x4 5 (by decide)) x
  refine List.forall_mem_cons.2 ⟨?_, ?_⟩
  · intro x; exact piece5 4 0 512 inb_S24x512x128_S1x256x128_4_0_0 (k0_pay134 x0 x1 x2 x3 x4) slices_S256x1024_o0_512_S256x128 shapeCasts_S256x128_S1x256x128 (v5a0 x0 x1 x2 x3 x4) (e5a x0 x1 x2 x3 x4 4 (by decide)) x
  refine List.forall_mem_cons.2 ⟨?_, ?_⟩
  · intro x; exact piece5 3 0 384 inb_S24x512x128_S1x256x128_3_0_0 (k0_pay134 x0 x1 x2 x3 x4) slices_S256x1024_o0_384_S256x128 shapeCasts_S256x128_S1x256x128 (v5a0 x0 x1 x2 x3 x4) (e5a x0 x1 x2 x3 x4 3 (by decide)) x
  refine List.forall_mem_cons.2 ⟨?_, ?_⟩
  · intro x; exact piece5 2 0 256 inb_S24x512x128_S1x256x128_2_0_0 (k0_pay134 x0 x1 x2 x3 x4) slices_S256x1024_o0_256_S256x128 shapeCasts_S256x128_S1x256x128 (v5a0 x0 x1 x2 x3 x4) (e5a x0 x1 x2 x3 x4 2 (by decide)) x
  refine List.forall_mem_cons.2 ⟨?_, ?_⟩
  · intro x; exact piece5 1 0 128 inb_S24x512x128_S1x256x128_1_0_0 (k0_pay134 x0 x1 x2 x3 x4) slices_S256x1024_o0_128_S256x128 shapeCasts_S256x128_S1x256x128 (v5a0 x0 x1 x2 x3 x4) (e5a x0 x1 x2 x3 x4 1 (by decide)) x
  refine List.forall_mem_cons.2 ⟨?_, ?_⟩
  · intro x; exact piece5 0 0 0 inb_S24x512x128_S1x256x128_0_0_0 (k0_pay134 x0 x1 x2 x3 x4) slices_S256x1024_o0_0_S256x128 shapeCasts_S256x128_S1x256x128 (v5a0 x0 x1 x2 x3 x4) (e5a x0 x1 x2 x3 x4 0 (by decide)) x
  intro p hp
  exact absurd hp List.not_mem_nil

theorem out6 : out0_6 x0 x1 x2 x3 x4 = E6 x0 x1 x2 := by
  funext y
  unfold out0_6
  refine View.canon_apply_of_pieces (E6 x0 x1 x2) _ ?_ y (by apply cover0_6)
  dsimp only
  refine List.forall_mem_cons.2 ⟨?_, ?_⟩
  · intro x; exact piece6 15 256 896 inb_S24x512x128_S1x256x128_15_256_0 (k0_pay125 (k0_pay150 x0 x1 x2 x3 x4) (View.ld x2 r0_33)) slices_S256x1024_o0_896_S256x128 shapeCasts_S256x128_S1x256x128 (v6b1 x0 x1 x2 x3 x4) (e6b x0 x1 x2 7 (by decide)) x
  refine List.forall_mem_cons.2 ⟨?_, ?_⟩
  · intro x; exact piece6 14 256 768 inb_S24x512x128_S1x256x128_14_256_0 (k0_pay125 (k0_pay150 x0 x1 x2 x3 x4) (View.ld x2 r0_33)) slices_S256x1024_o0_768_S256x128 shapeCasts_S256x128_S1x256x128 (v6b1 x0 x1 x2 x3 x4) (e6b x0 x1 x2 6 (by decide)) x
  refine List.forall_mem_cons.2 ⟨?_, ?_⟩
  · intro x; exact piece6 13 256 640 inb_S24x512x128_S1x256x128_13_256_0 (k0_pay125 (k0_pay150 x0 x1 x2 x3 x4) (View.ld x2 r0_33)) slices_S256x1024_o0_640_S256x128 shapeCasts_S256x128_S1x256x128 (v6b1 x0 x1 x2 x3 x4) (e6b x0 x1 x2 5 (by decide)) x
  refine List.forall_mem_cons.2 ⟨?_, ?_⟩
  · intro x; exact piece6 12 256 512 inb_S24x512x128_S1x256x128_12_256_0 (k0_pay125 (k0_pay150 x0 x1 x2 x3 x4) (View.ld x2 r0_33)) slices_S256x1024_o0_512_S256x128 shapeCasts_S256x128_S1x256x128 (v6b1 x0 x1 x2 x3 x4) (e6b x0 x1 x2 4 (by decide)) x
  refine List.forall_mem_cons.2 ⟨?_, ?_⟩
  · intro x; exact piece6 11 256 384 inb_S24x512x128_S1x256x128_11_256_0 (k0_pay125 (k0_pay150 x0 x1 x2 x3 x4) (View.ld x2 r0_33)) slices_S256x1024_o0_384_S256x128 shapeCasts_S256x128_S1x256x128 (v6b1 x0 x1 x2 x3 x4) (e6b x0 x1 x2 3 (by decide)) x
  refine List.forall_mem_cons.2 ⟨?_, ?_⟩
  · intro x; exact piece6 10 256 256 inb_S24x512x128_S1x256x128_10_256_0 (k0_pay125 (k0_pay150 x0 x1 x2 x3 x4) (View.ld x2 r0_33)) slices_S256x1024_o0_256_S256x128 shapeCasts_S256x128_S1x256x128 (v6b1 x0 x1 x2 x3 x4) (e6b x0 x1 x2 2 (by decide)) x
  refine List.forall_mem_cons.2 ⟨?_, ?_⟩
  · intro x; exact piece6 9 256 128 inb_S24x512x128_S1x256x128_9_256_0 (k0_pay125 (k0_pay150 x0 x1 x2 x3 x4) (View.ld x2 r0_33)) slices_S256x1024_o0_128_S256x128 shapeCasts_S256x128_S1x256x128 (v6b1 x0 x1 x2 x3 x4) (e6b x0 x1 x2 1 (by decide)) x
  refine List.forall_mem_cons.2 ⟨?_, ?_⟩
  · intro x; exact piece6 8 256 0 inb_S24x512x128_S1x256x128_8_256_0 (k0_pay125 (k0_pay150 x0 x1 x2 x3 x4) (View.ld x2 r0_33)) slices_S256x1024_o0_0_S256x128 shapeCasts_S256x128_S1x256x128 (v6b1 x0 x1 x2 x3 x4) (e6b x0 x1 x2 0 (by decide)) x
  refine List.forall_mem_cons.2 ⟨?_, ?_⟩
  · intro x; exact piece6 23 256 896 inb_S24x512x128_S1x256x128_23_256_0 (k0_pay153 x0 x1 x2 x3 x4) slices_S256x1024_o0_896_S256x128 shapeCasts_S256x128_S1x256x128 (v6c1 x0 x1 x2 x3 x4) (e6c x0 x1 x2 7 (by decide)) x
  refine List.forall_mem_cons.2 ⟨?_, ?_⟩
  · intro x; exact piece6 22 256 768 inb_S24x512x128_S1x256x128_22_256_0 (k0_pay153 x0 x1 x2 x3 x4) slices_S256x1024_o0_768_S256x128 shapeCasts_S256x128_S1x256x128 (v6c1 x0 x1 x2 x3 x4) (e6c x0 x1 x2 6 (by decide)) x
  refine List.forall_mem_cons.2 ⟨?_, ?_⟩
  · intro x; exact piece6 21 256 640 inb_S24x512x128_S1x256x128_21_256_0 (k0_pay153 x0 x1 x2 x3 x4) slices_S256x1024_o0_640_S256x128 shapeCasts_S256x128_S1x256x128 (v6c1 x0 x1 x2 x3 x4) (e6c x0 x1 x2 5 (by decide)) x
  refine List.forall_mem_cons.2 ⟨?_, ?_⟩
  · intro x; exact piece6 20 256 512 inb_S24x512x128_S1x256x128_20_256_0 (k0_pay153 x0 x1 x2 x3 x4) slices_S256x1024_o0_512_S256x128 shapeCasts_S256x128_S1x256x128 (v6c1 x0 x1 x2 x3 x4) (e6c x0 x1 x2 4 (by decide)) x
  refine List.forall_mem_cons.2 ⟨?_, ?_⟩
  · intro x; exact piece6 19 256 384 inb_S24x512x128_S1x256x128_19_256_0 (k0_pay153 x0 x1 x2 x3 x4) slices_S256x1024_o0_384_S256x128 shapeCasts_S256x128_S1x256x128 (v6c1 x0 x1 x2 x3 x4) (e6c x0 x1 x2 3 (by decide)) x
  refine List.forall_mem_cons.2 ⟨?_, ?_⟩
  · intro x; exact piece6 18 256 256 inb_S24x512x128_S1x256x128_18_256_0 (k0_pay153 x0 x1 x2 x3 x4) slices_S256x1024_o0_256_S256x128 shapeCasts_S256x128_S1x256x128 (v6c1 x0 x1 x2 x3 x4) (e6c x0 x1 x2 2 (by decide)) x
  refine List.forall_mem_cons.2 ⟨?_, ?_⟩
  · intro x; exact piece6 17 256 128 inb_S24x512x128_S1x256x128_17_256_0 (k0_pay153 x0 x1 x2 x3 x4) slices_S256x1024_o0_128_S256x128 shapeCasts_S256x128_S1x256x128 (v6c1 x0 x1 x2 x3 x4) (e6c x0 x1 x2 1 (by decide)) x
  refine List.forall_mem_cons.2 ⟨?_, ?_⟩
  · intro x; exact piece6 16 256 0 inb_S24x512x128_S1x256x128_16_256_0 (k0_pay153 x0 x1 x2 x3 x4) slices_S256x1024_o0_0_S256x128 shapeCasts_S256x128_S1x256x128 (v6c1 x0 x1 x2 x3 x4) (e6c x0 x1 x2 0 (by decide)) x
  refine List.forall_mem_cons.2 ⟨?_, ?_⟩
  · intro x; exact piece6 7 256 896 inb_S24x512x128_S1x256x128_7_256_0 (k0_pay152 x0 x1 x2 x3 x4) slices_S256x1024_o0_896_S256x128 shapeCasts_S256x128_S1x256x128 (v6a1 x0 x1 x2 x3 x4) (e6a x0 x1 x2 7 (by decide)) x
  refine List.forall_mem_cons.2 ⟨?_, ?_⟩
  · intro x; exact piece6 6 256 768 inb_S24x512x128_S1x256x128_6_256_0 (k0_pay152 x0 x1 x2 x3 x4) slices_S256x1024_o0_768_S256x128 shapeCasts_S256x128_S1x256x128 (v6a1 x0 x1 x2 x3 x4) (e6a x0 x1 x2 6 (by decide)) x
  refine List.forall_mem_cons.2 ⟨?_, ?_⟩
  · intro x; exact piece6 5 256 640 inb_S24x512x128_S1x256x128_5_256_0 (k0_pay152 x0 x1 x2 x3 x4) slices_S256x1024_o0_640_S256x128 shapeCasts_S256x128_S1x256x128 (v6a1 x0 x1 x2 x3 x4) (e6a x0 x1 x2 5 (by decide)) x
  refine List.forall_mem_cons.2 ⟨?_, ?_⟩
  · intro x; exact piece6 4 256 512 inb_S24x512x128_S1x256x128_4_256_0 (k0_pay152 x0 x1 x2 x3 x4) slices_S256x1024_o0_512_S256x128 shapeCasts_S256x128_S1x256x128 (v6a1 x0 x1 x2 x3 x4) (e6a x0 x1 x2 4 (by decide)) x
  refine List.forall_mem_cons.2 ⟨?_, ?_⟩
  · intro x; exact piece6 3 256 384 inb_S24x512x128_S1x256x128_3_256_0 (k0_pay152 x0 x1 x2 x3 x4) slices_S256x1024_o0_384_S256x128 shapeCasts_S256x128_S1x256x128 (v6a1 x0 x1 x2 x3 x4) (e6a x0 x1 x2 3 (by decide)) x
  refine List.forall_mem_cons.2 ⟨?_, ?_⟩
  · intro x; exact piece6 2 256 256 inb_S24x512x128_S1x256x128_2_256_0 (k0_pay152 x0 x1 x2 x3 x4) slices_S256x1024_o0_256_S256x128 shapeCasts_S256x128_S1x256x128 (v6a1 x0 x1 x2 x3 x4) (e6a x0 x1 x2 2 (by decide)) x
  refine List.forall_mem_cons.2 ⟨?_, ?_⟩
  · intro x; exact piece6 1 256 128 inb_S24x512x128_S1x256x128_1_256_0 (k0_pay152 x0 x1 x2 x3 x4) slices_S256x1024_o0_128_S256x128 shapeCasts_S256x128_S1x256x128 (v6a1 x0 x1 x2 x3 x4) (e6a x0 x1 x2 1 (by decide)) x
  refine List.forall_mem_cons.2 ⟨?_, ?_⟩
  · intro x; exact piece6 0 256 0 inb_S24x512x128_S1x256x128_0_256_0 (k0_pay152 x0 x1 x2 x3 x4) slices_S256x1024_o0_0_S256x128 shapeCasts_S256x128_S1x256x128 (v6a1 x0 x1 x2 x3 x4) (e6a x0 x1 x2 0 (by decide)) x
  refine List.forall_mem_cons.2 ⟨?_, ?_⟩
  · intro x; exact piece6 15 0 896 inb_S24x512x128_S1x256x128_15_0_0 (k0_pay147 x0 x1 x2 x3 x4) slices_S256x1024_o0_896_S256x128 shapeCasts_S256x128_S1x256x128 (v6b0 x0 x1 x2 x3 x4) (e6b x0 x1 x2 7 (by decide)) x
  refine List.forall_mem_cons.2 ⟨?_, ?_⟩
  · intro x; exact piece6 14 0 768 inb_S24x512x128_S1x256x128_14_0_0 (k0_pay147 x0 x1 x2 x3 x4) slices_S256x1024_o0_768_S256x128 shapeCasts_S256x128_S1x256x128 (v6b0 x0 x1 x2 x3 x4) (e6b x0 x1 x2 6 (by decide)) x
  refine List.forall_mem_cons.2 ⟨?_, ?_⟩
  · intro x; exact piece6 13 0 640 inb_S24x512x128_S1x256x128_13_0_0 (k0_pay147 x0 x1 x2 x3 x4) slices_S256x1024_o0_640_S256x128 shapeCasts_S256x128_S1x256x128 (v6b0 x0 x1 x2 x3 x4) (e6b x0 x1 x2 5 (by decide)) x
  refine List.forall_mem_cons.2 ⟨?_, ?_⟩
  · intro x; exact piece6 12 0 512 inb_S24x512x128_S1x256x128_12_0_0 (k0_pay147 x0 x1 x2 x3 x4) slices_S256x1024_o0_512_S256x128 shapeCasts_S256x128_S1x256x128 (v6b0 x0 x1 x2 x3 x4) (e6b x0 x1 x2 4 (by decide)) x
  refine List.forall_mem_cons.2 ⟨?_, ?_⟩
  · intro x; exact piece6 11 0 384 inb_S24x512x128_S1x256x128_11_0_0 (k0_pay147 x0 x1 x2 x3 x4) slices_S256x1024_o0_384_S256x128 shapeCasts_S256x128_S1x256x128 (v6b0 x0 x1 x2 x3 x4) (e6b x0 x1 x2 3 (by decide)) x
  refine List.forall_mem_cons.2 ⟨?_, ?_⟩
  · intro x; exact piece6 10 0 256 inb_S24x512x128_S1x256x128_10_0_0 (k0_pay147 x0 x1 x2 x3 x4) slices_S256x1024_o0_256_S256x128 shapeCasts_S256x128_S1x256x128 (v6b0 x0 x1 x2 x3 x4) (e6b x0 x1 x2 2 (by decide)) x
  refine List.forall_mem_cons.2 ⟨?_, ?_⟩
  · intro x; exact piece6 9 0 128 inb_S24x512x128_S1x256x128_9_0_0 (k0_pay147 x0 x1 x2 x3 x4) slices_S256x1024_o0_128_S256x128 shapeCasts_S256x128_S1x256x128 (v6b0 x0 x1 x2 x3 x4) (e6b x0 x1 x2 1 (by decide)) x
  refine List.forall_mem_cons.2 ⟨?_, ?_⟩
  · intro x; exact piece6 8 0 0 inb_S24x512x128_S1x256x128_8_0_0 (k0_pay147 x0 x1 x2 x3 x4) slices_S256x1024_o0_0_S256x128 shapeCasts_S256x128_S1x256x128 (v6b0 x0 x1 x2 x3 x4) (e6b x0 x1 x2 0 (by decide)) x
  refine List.forall_mem_cons.2 ⟨?_, ?_⟩
  · intro x; exact piece6 23 0 896 inb_S24x512x128_S1x256x128_23_0_0 (k0_pay138 x0 x1 x2 x3 x4) slices_S256x1024_o0_896_S256x128 shapeCasts_S256x128_S1x256x128 (v6c0 x0 x1 x2 x3 x4) (e6c x0 x1 x2 7 (by decide)) x
  refine List.forall_mem_cons.2 ⟨?_, ?_⟩
  · intro x; exact piece6 22 0 768 inb_S24x512x128_S1x256x128_22_0_0 (k0_pay138 x0 x1 x2 x3 x4) slices_S256x1024_o0_768_S256x128 shapeCasts_S256x128_S1x256x128 (v6c0 x0 x1 x2 x3 x4) (e6c x0 x1 x2 6 (by decide)) x
  refine List.forall_mem_cons.2 ⟨?_, ?_⟩
  · intro x; exact piece6 21 0 640 inb_S24x512x128_S1x256x128_21_0_0 (k0_pay138 x0 x1 x2 x3 x4) slices_S256x1024_o0_640_S256x128 shapeCasts_S256x128_S1x256x128 (v6c0 x0 x1 x2 x3 x4) (e6c x0 x1 x2 5 (by decide)) x
  refine List.forall_mem_cons.2 ⟨?_, ?_⟩
  · intro x; exact piece6 20 0 512 inb_S24x512x128_S1x256x128_20_0_0 (k0_pay138 x0 x1 x2 x3 x4) slices_S256x1024_o0_512_S256x128 shapeCasts_S256x128_S1x256x128 (v6c0 x0 x1 x2 x3 x4) (e6c x0 x1 x2 4 (by decide)) x
  refine List.forall_mem_cons.2 ⟨?_, ?_⟩
  · intro x; exact piece6 19 0 384 inb_S24x512x128_S1x256x128_19_0_0 (k0_pay138 x0 x1 x2 x3 x4) slices_S256x1024_o0_384_S256x128 shapeCasts_S256x128_S1x256x128 (v6c0 x0 x1 x2 x3 x4) (e6c x0 x1 x2 3 (by decide)) x
  refine List.forall_mem_cons.2 ⟨?_, ?_⟩
  · intro x; exact piece6 18 0 256 inb_S24x512x128_S1x256x128_18_0_0 (k0_pay138 x0 x1 x2 x3 x4) slices_S256x1024_o0_256_S256x128 shapeCasts_S256x128_S1x256x128 (v6c0 x0 x1 x2 x3 x4) (e6c x0 x1 x2 2 (by decide)) x
  refine List.forall_mem_cons.2 ⟨?_, ?_⟩
  · intro x; exact piece6 17 0 128 inb_S24x512x128_S1x256x128_17_0_0 (k0_pay138 x0 x1 x2 x3 x4) slices_S256x1024_o0_128_S256x128 shapeCasts_S256x128_S1x256x128 (v6c0 x0 x1 x2 x3 x4) (e6c x0 x1 x2 1 (by decide)) x
  refine List.forall_mem_cons.2 ⟨?_, ?_⟩
  · intro x; exact piece6 16 0 0 inb_S24x512x128_S1x256x128_16_0_0 (k0_pay138 x0 x1 x2 x3 x4) slices_S256x1024_o0_0_S256x128 shapeCasts_S256x128_S1x256x128 (v6c0 x0 x1 x2 x3 x4) (e6c x0 x1 x2 0 (by decide)) x
  refine List.forall_mem_cons.2 ⟨?_, ?_⟩
  · intro x; exact piece6 7 0 896 inb_S24x512x128_S1x256x128_7_0_0 (k0_pay137 x0 x1 x2 x3 x4) slices_S256x1024_o0_896_S256x128 shapeCasts_S256x128_S1x256x128 (v6a0 x0 x1 x2 x3 x4) (e6a x0 x1 x2 7 (by decide)) x
  refine List.forall_mem_cons.2 ⟨?_, ?_⟩
  · intro x; exact piece6 6 0 768 inb_S24x512x128_S1x256x128_6_0_0 (k0_pay137 x0 x1 x2 x3 x4) slices_S256x1024_o0_768_S256x128 shapeCasts_S256x128_S1x256x128 (v6a0 x0 x1 x2 x3 x4) (e6a x0 x1 x2 6 (by decide)) x
  refine List.forall_mem_cons.2 ⟨?_, ?_⟩
  · intro x; exact piece6 5 0 640 inb_S24x512x128_S1x256x128_5_0_0 (k0_pay137 x0 x1 x2 x3 x4) slices_S256x1024_o0_640_S256x128 shapeCasts_S256x128_S1x256x128 (v6a0 x0 x1 x2 x3 x4) (e6a x0 x1 x2 5 (by decide)) x
  refine List.forall_mem_cons.2 ⟨?_, ?_⟩
  · intro x; exact piece6 4 0 512 inb_S24x512x128_S1x256x128_4_0_0 (k0_pay137 x0 x1 x2 x3 x4) slices_S256x1024_o0_512_S256x128 shapeCasts_S256x128_S1x256x128 (v6a0 x0 x1 x2 x3 x4) (e6a x0 x1 x2 4 (by decide)) x
  refine List.forall_mem_cons.2 ⟨?_, ?_⟩
  · intro x; exact piece6 3 0 384 inb_S24x512x128_S1x256x128_3_0_0 (k0_pay137 x0 x1 x2 x3 x4) slices_S256x1024_o0_384_S256x128 shapeCasts_S256x128_S1x256x128 (v6a0 x0 x1 x2 x3 x4) (e6a x0 x1 x2 3 (by decide)) x
  refine List.forall_mem_cons.2 ⟨?_, ?_⟩
  · intro x; exact piece6 2 0 256 inb_S24x512x128_S1x256x128_2_0_0 (k0_pay137 x0 x1 x2 x3 x4) slices_S256x1024_o0_256_S256x128 shapeCasts_S256x128_S1x256x128 (v6a0 x0 x1 x2 x3 x4) (e6a x0 x1 x2 2 (by decide)) x
  refine List.forall_mem_cons.2 ⟨?_, ?_⟩
  · intro x; exact piece6 1 0 128 inb_S24x512x128_S1x256x128_1_0_0 (k0_pay137 x0 x1 x2 x3 x4) slices_S256x1024_o0_128_S256x128 shapeCasts_S256x128_S1x256x128 (v6a0 x0 x1 x2 x3 x4) (e6a x0 x1 x2 1 (by decide)) x
  refine List.forall_mem_cons.2 ⟨?_, ?_⟩
  · intro x; exact piece6 0 0 0 inb_S24x512x128_S1x256x128_0_0_0 (k0_pay137 x0 x1 x2 x3 x4) slices_S256x1024_o0_0_S256x128 shapeCasts_S256x128_S1x256x128 (v6a0 x0 x1 x2 x3 x4) (e6a x0 x1 x2 0 (by decide)) x
  intro p hp
  exact absurd hp List.not_mem_nil

end Block

end Cert.ProjVal

end
-- ==== Proof.ProjVal.Sweep.lean ====
/-
  The input projection's two result arrays, whole: grid step `t` leaves rows `512 t … 512 t + 511` of every head slot,
  and the thirty-two steps' blocks tile the arrays.
-/
module

public import proofs.«01_k».proof.Proof.Gen.ProjIdeal.Value
public import proofs.«01_k».proof.Proof.ProjVal.Cases

@[expose] public section

set_option maxHeartbeats 1000000

noncomputable section

namespace Cert.ProjVal

open Idealize.ShloMosaic Idealize.ShloMosaic.TcCoe Idealize.ShloMosaic.Tactic Idealize.SL.Sem
open scoped BigOperators

open Cert.ProjIdeal Cert.ProjIdeal.Gen

theorem val5_congr {x x' w w' : Fin 2048 → EReal} {W W' : Fin 2048 → Fin 7168 → EReal} {f f' b b' : Fin 2 → Fin 1024 → EReal} {s s' l l' : ℕ}
    (hx : ∀ j, x j = x' j) (hw : ∀ j, w j = w' j) (hW : ∀ k n, W k n = W' k n) (hf : ∀ k j, f k j = f' k j) (hb : ∀ k j, b k j = b' k j)
    (hs : s = s') (hl : l = l') : val5 x w W f b s l = val5 x' w' W' f' b' s' l' := by
  rw [funext hx, funext hw, funext fun k => funext (hW k), funext fun k => funext (hf k), funext fun k => funext (hb k), hs, hl]

theorem val6_congr {x x' w w' : Fin 2048 → EReal} {W W' : Fin 2048 → Fin 7168 → EReal} {s s' l l' : ℕ}
    (hx : ∀ j, x j = x' j) (hw : ∀ j, w j = w' j) (hW : ∀ k n, W k n = W' k n)
    (hs : s = s') (hl : l = l') : val6 x w W s l = val6 x' w' W' s' l' := by
  rw [funext hx, funext hw, funext fun k => funext (hW k), hs, hl]

variable (m : (ℓ : Loc nD τ sig) → Buf (Elt Ideal) ℓ) (c : Dev nD)

/-- The arrays the region finds. -/
abbrev a0 : Vec Ideal S16384x2048 .f32 := V m c main_v1
abbrev a1 : Vec Ideal S1x2048 .f32 := V m c main_v3
abbrev a2 : Vec Ideal S2048x7168 .bf16 := V m c main_v4
abbrev a3 : Vec Ideal S2x1024 .f32 := V m c main_arg3
abbrev a4 : Vec Ideal S2x1024 .f32 := V m c main_arg4

/-- The result arrays. -/
def G5 : Vec Ideal S24x16384x128 .f32 := fun i =>
  val5 (fun j => a0 m c (ValueIdx.ix2 (i 1) j)) (fun j => a1 m c (ValueIdx.ix2 0 j)) (fun k n => a2 m c (ValueIdx.ix2 k n)) (fun k j => a3 m c (ValueIdx.ix2 k j))
    (fun k j => a4 m c (ValueIdx.ix2 k j)) (i 0).val (i 2).val

def G6 : Vec Ideal S24x16384x128 .bf16 := fun i =>
  val6 (fun j => a0 m c (ValueIdx.ix2 (i 1) j)) (fun j => a1 m c (ValueIdx.ix2 0 j)) (fun k n => a2 m c (ValueIdx.ix2 k n)) (i 0).val (i 2).val

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = 0 ∧ win0_5.index t (1 : Fin 3) = t.val ∧ win0_5.index t (2 : Fin 3) = 0 :=
  (by decide +kernel : ∀ t : Fin grid0.N, _)
theorem idx6 : ∀ t : Fin cfg0.N, win0_6.index t (0 : Fin 3) = 0 ∧ win0_6.index t (1 : Fin 3) = t.val ∧ win0_6.index t (2 : Fin 3) = 0 :=
  (by decide +kernel : ∀ t : Fin grid0.N, _)

theorem blk0 (t : Fin cfg0.N) (r : Fin 512) (k : Fin 2048) (R : Fin 16384) (hR : R.val = 512 * t.val + r.val) :
    iblk m c 0 t (ValueIdx.ix2 (n0 := 512) (n1 := 2048) r k) = a0 m c (ValueIdx.ix2 R k) := by
  obtain ⟨e0, e1⟩ := idx0 t
  refine congrArg (V m c main_v1) ?_
  funext a
  apply Fin.ext
  match a with
  | ⟨0, _⟩ => show win0_0.index t (0 : Fin 2) * 512 + 1 * r.val = R.val; rw [e0]; omega
  | ⟨1, _⟩ => show win0_0.index t (1 : Fin 2) * 2048 + 1 * k.val = k.val; rw [e1]; omega

theorem blk1 (t : Fin cfg0.N) (k : Fin 2048) :
    iblk m c 1 t (ValueIdx.ix2 (n0 := 1) (n1 := 2048) 0 k) = a1 m c (ValueIdx.ix2 0 k) := by
  obtain ⟨e0, e1⟩ := idx1 t
  refine congrArg (V m c main_v3) ?_
  funext a
  apply Fin.ext
  match a with
  | ⟨0, _⟩ => show win0_1.index t (0 : Fin 2) * 1 + 1 * 0 = 0; rw [e0]
  | ⟨1, _⟩ => show win0_1.index t (1 : Fin 2) * 2048 + 1 * k.val = k.val; rw [e1]; omega

theorem blk2 (t : Fin cfg0.N) (k : Fin 2048) (n : Fin 7168) :
    iblk m c 2 t (ValueIdx.ix2 (n0 := 2048) (n1 := 7168) k n) = a2 m c (ValueIdx.ix2 k n) := by
  obtain ⟨e0, e1⟩ := idx2 t
  refine congrArg (V m c main_v4) ?_
  funext a
  apply Fin.ext
  match a with
  | ⟨0, _⟩ => show win0_2.index t (0 : Fin 2) * 2048 + 1 * k.val = k.val; rw [e0]; omega
  | ⟨1, _⟩ => show win0_2.index t (1 : Fin 2) * 7168 + 1 * n.val = n.val; rw [e1]; omega

theorem blk3 (t : Fin cfg0.N) (k : Fin 2) (n : Fin 1024) :
    iblk m c 3 t (ValueIdx.ix2 (n0 := 2) (n1 := 1024) k n) = a3 m c (ValueIdx.ix2 k n) := by
  obtain ⟨e0, e1⟩ := idx3 t
  refine congrArg (V m c main_arg3) ?_
  funext a
  apply Fin.ext
  match a with
  | ⟨0, _⟩ => show win0_3.index t (0 : Fin 2) * 2 + 1 * k.val = k.val; rw [e0]; omega
  | ⟨1, _⟩ => show win0_3.index t (1 : Fin 2) * 1024 + 1 * n.val = n.val; rw [e1]; omega

theorem blk4 (t : Fin cfg0.N) (k : Fin 2) (n : Fin 1024) :
    iblk m c 4 t (ValueIdx.ix2 (n0 := 2) (n1 := 1024) k n) = a4 m c (ValueIdx.ix2 k n) := by
  obtain ⟨e0, e1⟩ := idx4 t
  refine congrArg (V m c main_arg4) ?_
  funext a
  apply Fin.ext
  match a with
  | ⟨0, _⟩ => show win0_4.index t (0 : Fin 2) * 2 + 1 * k.val = k.val; rw [e0]; omega
  | ⟨1, _⟩ => show win0_4.index t (1 : Fin 2) * 1024 + 1 * n.val = n.val; rw [e1]; omega

/-- What point `t` writes back is block `t` of the array. -/
theorem flushed5_eq (t : Fin cfg0.N) : (dats m 0 c).flushed 5 t = ((cfg0.win 5).blk t).view.read (Elt Ideal) (G5 m c) := by
  rw [Value.flushed5, out5]
  obtain ⟨e0, e1, e2⟩ := idx5 t
  funext y
  show E5 (iblk m c 0 t) (iblk m c 1 t) (iblk m c 2 t) (iblk m c 3 t) (iblk m c 4 t) y = G5 m c (((cfg0.win 5).blk t).view.emb y)
  unfold E5 G5
  refine val5_congr (fun j => blk0 m c t _ j _ ?_) (fun j => blk1 m c t j) (fun k n => blk2 m c t k n) (fun k n => blk3 m c t k n) (fun k n => blk4 m c t k n) ?_ ?_
  · show win0_5.index t (1 : Fin 3) * 512 + 1 * (y 1).val = 512 * t.val + (y 1).val; rw [e1]; omega
  · show (y 0).val = win0_5.index t (0 : Fin 3) * 24 + 1 * (y 0).val; rw [e0]; omega
  · show (y 2).val = win0_5.index t (2 : Fin 3) * 128 + 1 * (y 2).val; rw [e2]; omega

theorem flushed6_eq (t : Fin cfg0.N) : (dats m 0 c).flushed 6 t = ((cfg0.win 6).blk t).view.read (Elt Ideal) (G6 m c) := by
  rw [Value.flushed6, out6]
  obtain ⟨e0, e1, e2⟩ := idx6 t
  funext y
  show E6 (iblk m c 0 t) (iblk m c 1 t) (iblk m c 2 t) y = G6 m c (((cfg0.win 6).blk t).view.emb y)
  unfold E6 G6
  refine val6_congr (fun j => blk0 m c t _ j _ ?_) (fun j => blk1 m c t j) (fun k n => blk2 m c t k n) ?_ ?_
  · show win0_6.index t (1 : Fin 3) * 512 + 1 * (y 1).val = 512 * t.val + (y 1).val; rw [e1]; omega
  · show (y 0).val = win0_6.index t (0 : Fin 3) * 24 + 1 * (y 0).val; rw [e0]; omega
  · show (y 2).val = win0_6.index t (2 : Fin 3) * 128 + 1 * (y 2).val; rw [e2]; omega

/-- The point whose block holds row `R`. -/
def ptOf (R : Fin 16384) : Fin cfg0.N := ⟨R.val / 512, lt_of_lt_of_eq (by have := R.isLt; omega : R.val / 512 < 32) N_0.symm⟩

theorem cov5 (i : S24x16384x128.Idx) : ∃ t : Fin cfg0.N, (cfg0.win 5).flush t = true ∧ i ∈ ((cfg0.win 5).blk t).view.set := by
  refine ⟨ptOf (i 1), flush0_5 _, ?_⟩
  obtain ⟨e0, e1, e2⟩ := idx5 (ptOf (i 1))
  show i ∈ ((View.whole main_v5_0).slice (win0_5.rect (ptOf (i 1)))).set
  rw [View.set_slice_whole, Rect.mem_set_unit]
  have h0 : (i 0).val < 24 := (i 0).isLt
  have h1 : (i 1).val < 16384 := (i 1).isLt
  have h2 : (i 2).val < 128 := (i 2).isLt
  have e1' : win0_5.index (ptOf (i 1)) (1 : Fin 3) = (i 1).val / 512 := e1
  intro a
  match a with
  | ⟨0, _⟩ => show win0_5.index (ptOf (i 1)) (0 : Fin 3) * 24 ≤ (i 0).val ∧ (i 0).val < win0_5.index (ptOf (i 1)) (0 : Fin 3) * 24 + 24; rw [e0]; omega
  | ⟨1, _⟩ => show win0_5.index (ptOf (i 1)) (1 : Fin 3) * 512 ≤ (i 1).val ∧ (i 1).val < win0_5.index (ptOf (i 1)) (1 : Fin 3) * 512 + 512; rw [e1']; omega
  | ⟨2, _⟩ => show win0_5.index (ptOf (i 1)) (2 : Fin 3) * 128 ≤ (i 2).val ∧ (i 2).val < win0_5.index (ptOf (i 1)) (2 : Fin 3) * 128 + 128; rw [e2]; omega

theorem cov6 (i : S24x16384x128.Idx) : ∃ t : Fin cfg0.N, (cfg0.win 6).flush t = true ∧ i ∈ ((cfg0.win 6).blk t).view.set := by
  refine ⟨ptOf (i 1), flush0_6 _, ?_⟩
  obtain ⟨e0, e1, e2⟩ := idx6 (ptOf (i 1))
  show i ∈ ((View.whole main_v5_1).slice (win0_6.rect (ptOf (i 1)))).set
  rw [View.set_slice_whole, Rect.mem_set_unit]
  have h0 : (i 0).val < 24 := (i 0).isLt
  have h1 : (i 1).val < 16384 := (i 1).isLt
  have h2 : (i 2).val < 128 := (i 2).isLt
  have e1' : win0_6.index (ptOf (i 1)) (1 : Fin 3) = (i 1).val / 512 := e1
  intro a
  match a with
  | ⟨0, _⟩ => show win0_6.index (ptOf (i 1)) (0 : Fin 3) * 24 ≤ (i 0).val ∧ (i 0).val < win0_6.index (ptOf (i 1)) (0 : Fin 3) * 24 + 24; rw [e0]; omega
  | ⟨1, _⟩ => show win0_6.index (ptOf (i 1)) (1 : Fin 3) * 512 ≤ (i 1).val ∧ (i 1).val < win0_6.index (ptOf (i 1)) (1 : Fin 3) * 512 + 512; rw [e1']; omega
  | ⟨2, _⟩ => show win0_6.index (ptOf (i 1)) (2 : Fin 3) * 128 ≤ (i 2).val ∧ (i 2).val < win0_6.index (ptOf (i 1)) (2 : Fin 3) * 128 + 128; rw [e2]; omega

theorem final5 : (dats m 0 c).arrAt 5 cfg0.N = G5 m c :=
  (dats m 0 c).arrAt_eq_of_cover 5 _ (fun t _ => flushed5_eq m c t) cov5

theorem final6 : (dats m 0 c).arrAt 6 cfg0.N = G6 m c :=
  (dats m 0 c).arrAt_eq_of_cover 6 _ (fun t _ => flushed6_eq m c t) cov6

end Cert.ProjVal

end
-- ==== Proof.ProjVal.Final.lean ====
/-
  The input projection's reference, read at one head slot, row and lane: the same expression the kernel's result arrays
  hold there; with it the algebraic claim about the pair.
-/
module

public import proofs.«01_k».proof.Defs
public import proofs.«01_k».proof.Proof.Gen.ProjRefIdeal.Read
public import proofs.«01_k».proof.Proof.FfnVal.Final
public import proofs.«01_k».proof.Proof.ProjVal.Sweep
public import Idealize.ShloMosaic.Lib.KernelVsHost

@[expose] public section

set_option maxHeartbeats 1000000

noncomputable section

namespace Cert.ProjVal

open Idealize.ShloMosaic Idealize.ShloMosaic.TcCoe Idealize.ShloMosaic.Tactic Idealize.SL.Sem
open Cert.FfnVal (rms bat pos)
open scoped BigOperators

section Reference

open Cert.ProjRefIdeal Cert.ProjRefIdeal.Gen Cert.ProjRefIdeal.Read

variable (x0 : FVec Ideal S2x8192x2048 .f32) (x1 : FVec Ideal S1x2048 .f32) (x2 : FVec Ideal S1x2048x7168 .f32)
  (x3 x4 : FVec Ideal S2x1024 .f32)

theorem neg_inf : Ideal.ofBits .f32 0xFF800000#32 = (⊥ : EReal) := by simp [Ideal.ofBits, Ideal.ieee]

/-- The larger of two entries, as the reference takes it. -/
theorem r_max (v : FVec Ideal S2x1024 .f32) (j : Fin 1024) :
    Host.reduce FloatOps.maximumf v (constant (F := Ideal) S_ .f32 0xFF800000#32) reducesTo_S2x1024_S1024_d0 h_S_ (ValueIdx.ix1 j)
      = mx fun q => v (ValueIdx.ix2 q j) := by
  have hr : S2x1024.Reduces [0] S1024 := Cert.ProjIdeal.Gen.reduces_S2x1024_S1024
  refine (congrFun (hostReduce_maximumf_eq_multiReduction v 0xFF800000#32 reducesTo_S2x1024_S1024_d0 h_S_ hr (.inl rfl) rfl) (ValueIdx.ix1 j)).trans ?_
  refine (Ideal.multiReduction_maximumf_single v _ hr (.inl rfl) rfl (ValueIdx.ix1 j)).trans ?_
  refine congrArg ((Finset.univ : Finset (Fin 2)).fold max (Ideal.ofBits .f32 0xFF800000#32)) ?_
  funext q
  refine congrArg v ?_
  funext a
  match a with
  | ⟨0, _⟩ => rfl
  | ⟨1, _⟩ => rfl

/-- A running sum down two rows leaves the first row as it is. -/
theorem r_cum (y : FVec Ideal S2x1024 .f32) (z : FVec Ideal S_ .f32) (hz : ∀ i, z i = Ideal.ofBits .f32 0x00000000#32) (j : Fin 1024) :
    Host.reduceWindowAdd ![2, 1] ![1, 1] ![1, 0] ![0, 0] y z reduceWindows_S2x1024_S2x1024_w2s1p1_0_w1s1p0_0 h_S_ (ValueIdx.ix2 0 j) = y (ValueIdx.ix2 0 j) := by
  show Ideal.hostReduceWindowAdd ![2, 1] ![1, 1] ![1, 0] ![0, 0] reduceWindows_S2x1024_S2x1024_w2s1p1_0_w1s1p0_0 y (z (Shape.Idx.first h_S_)) (ValueIdx.ix2 0 j) = _
  rw [hz, Ideal.ofBits_zero_f32]
  unfold Ideal.hostReduceWindowAdd Host.reduceWindow
  have e0 : ∀ a, ((Shape.rowMajor ⟨2, ![2, 1]⟩).symm ⟨0, by decide⟩ a).val = 0 := by decide +kernel
  have e1 : ∀ a, ((Shape.rowMajor ⟨2, ![2, 1]⟩).symm ⟨1, by decide⟩ a).val = (![1, 0] : Fin 2 → ℕ) a := by decide +kernel
  have hl : List.finRange (Shape.numel ⟨2, ![2, 1]⟩) = [⟨0, by decide⟩, ⟨1, by decide⟩] := by decide +kernel
  dsimp only
  refine (congrArg (List.foldl _ _) hl).trans ?_
  simp only [List.foldl]
  rw [dif_neg (fun h => absurd (h 0).1 (by rw [e0]; show ¬ (1 ≤ 0 * 1 + 0); decide)), add_zero, zero_add]
  have hin : ∀ a : Fin 2, (![1, 0] : Fin 2 → ℕ) a ≤ ((ValueIdx.ix2 (n0 := 2) (n1 := 1024) 0 j) a).val * (![1, 1] : Fin 2 → ℕ) a + ((Shape.rowMajor ⟨2, ![2, 1]⟩).symm ⟨1, by decide⟩ a).val
      ∧ ((ValueIdx.ix2 (n0 := 2) (n1 := 1024) 0 j) a).val * (![1, 1] : Fin 2 → ℕ) a + ((Shape.rowMajor ⟨2, ![2, 1]⟩).symm ⟨1, by decide⟩ a).val - (![1, 0] : Fin 2 → ℕ) a < S2x1024.size a := by
    intro a
    rw [e1]
    match a with
    | ⟨0, _⟩ => show 1 ≤ 0 * 1 + 1 ∧ 0 * 1 + 1 - 1 < 2; decide
    | ⟨1, _⟩ => show 0 ≤ j.val * 1 + 0 ∧ j.val * 1 + 0 - 0 < 1024; have := j.isLt; omega
  refine (dif_pos hin).trans (congrArg y ?_)
  funext a
  apply Fin.ext
  match a with
  | ⟨0, _⟩ => show 0 * 1 + ((Shape.rowMajor ⟨2, ![2, 1]⟩).symm ⟨1, by decide⟩ 0).val - 1 = 0; rw [e1]; rfl
  | ⟨1, _⟩ => show j.val * 1 + ((Shape.rowMajor ⟨2, ![2, 1]⟩).symm ⟨1, by decide⟩ 1).val - 0 = j.val; rw [e1]; show j.val * 1 + 0 - 0 = j.val; omega

/-- The softmax's first row, the reference's lower bound of the decay. -/
theorem r_lbx3 (j : Fin 1024) : val_main_v11 (F := Ideal) x3 (ValueIdx.ix2 0 j) = lb fun k => x3 (ValueIdx.ix2 k j) := by
  have hm : val_main_v2 (F := Ideal) x3 (ValueIdx.ix1 j) = mx fun q => x3 (ValueIdx.ix2 q j) := by
    rw [val_main_v2_apply, val_main_v1_apply, val_main_cst_0_apply]
    unfold val_main_v0
    refine (congrArg (FloatOps.maximumf (F := Ideal) (φ := .f32) (FloatOps.ofBits (F := Ideal) .f32 0xFF800000#32)) (r_max x3 j)).trans ?_
    show max (Ideal.ofBits .f32 0xFF800000#32) _ = _
    rw [neg_inf]
    exact max_eq_right bot_le
  have hx : ∀ k : Fin 2, val_main_v6 (F := Ideal) x3 (ValueIdx.ix2 k j) = Ideal.exp (x3 (ValueIdx.ix2 k j) - mx fun q => x3 (ValueIdx.ix2 q j)) := by
    intro k
    rw [val_main_v6_apply, val_main_v5_apply, val_main_v4_apply, val_main_v3_apply]
    have e : idx_main_v3 (idx_main_v4 (ValueIdx.ix2 k j)) = ValueIdx.ix1 j := by
      funext a
      match a with
      | ⟨0, _⟩ => rfl
    rw [e, hm]
    rfl
  unfold val_main_v11
  refine (r_cum (val_main_v10 (F := Ideal) x3) (val_main_call0_call0_v0 (F := Ideal)) (fun i => by rw [val_main_call0_call0_v0_apply]; rfl) j).trans ?_
  rw [val_main_v10_apply, val_main_v9_apply, val_main_v8_apply, val_main_v7_apply]
  have e : idx_main_v8 (idx_main_v9 (ValueIdx.ix2 0 j)) = ValueIdx.ix1 j := by
    funext a
    match a with
    | ⟨0, _⟩ => rfl
  have e' : ∀ k : Fin 2, idx_main_v7 (ValueIdx.ix1 j) k = ValueIdx.ix2 k j := by
    intro k; funext a
    match a with
    | ⟨0, _⟩ => rfl
    | ⟨1, _⟩ => rfl
  rw [e, hx]
  simp only [e', hx]
  unfold lb
  show Ideal.div _ (Ideal.ofBits .f32 0x00000000#32 + _) = _
  rw [Ideal.ofBits_zero_f32, zero_add]

/-- The softmax's first row, the reference's lower bound of the decay. -/
theorem r_lbx4 (j : Fin 1024) : val_main_v23 (F := Ideal) x4 (ValueIdx.ix2 0 j) = lb fun k => x4 (ValueIdx.ix2 k j) := by
  have hm : val_main_v14 (F := Ideal) x4 (ValueIdx.ix1 j) = mx fun q => x4 (ValueIdx.ix2 q j) := by
    rw [val_main_v14_apply, val_main_v13_apply, val_main_cst_3_apply]
    unfold val_main_v12
    refine (congrArg (FloatOps.maximumf (F := Ideal) (φ := .f32) (FloatOps.ofBits (F := Ideal) .f32 0xFF800000#32)) (r_max x4 j)).trans ?_
    show max (Ideal.ofBits .f32 0xFF800000#32) _ = _
    rw [neg_inf]
    exact max_eq_right bot_le
  have hx : ∀ k : Fin 2, val_main_v18 (F := Ideal) x4 (ValueIdx.ix2 k j) = Ideal.exp (x4 (ValueIdx.ix2 k j) - mx fun q => x4 (ValueIdx.ix2 q j)) := by
    intro k
    rw [val_main_v18_apply, val_main_v17_apply, val_main_v16_apply, val_main_v15_apply]
    have e : idx_main_v15 (idx_main_v16 (ValueIdx.ix2 k j)) = ValueIdx.ix1 j := by
      funext a
      match a with
      | ⟨0, _⟩ => rfl
    rw [e, hm]
    rfl
  unfold val_main_v23
  refine (r_cum (val_main_v22 (F := Ideal) x4) (val_main_call1_call0_v0 (F := Ideal)) (fun i => by rw [val_main_call1_call0_v0_apply]; rfl) j).trans ?_
  rw [val_main_v22_apply, val_main_v21_apply, val_main_v20_apply, val_main_v19_apply]
  have e : idx_main_v20 (idx_main_v21 (ValueIdx.ix2 0 j)) = ValueIdx.ix1 j := by
    funext a
    match a with
    | ⟨0, _⟩ => rfl
  have e' : ∀ k : Fin 2, idx_main_v19 (ValueIdx.ix1 j) k = ValueIdx.ix2 k j := by
    intro k; funext a
    match a with
    | ⟨0, _⟩ => rfl
    | ⟨1, _⟩ => rfl
  rw [e, hx]
  simp only [e', hx]
  unfold lb
  show Ideal.div _ (Ideal.ofBits .f32 0x00000000#32 + _) = _
  rw [Ideal.ofBits_zero_f32, zero_add]

/-- The normalisation. -/
theorem r_norm (b : Fin 2) (l : Fin 8192) (k : Fin 2048) :
    val_main_v37 (F := Ideal) x0 x1 (ValueIdx.ix3 b l k) = rms (fun j => x0 (ValueIdx.ix3 b l j)) (fun j => x1 (ValueIdx.ix2 0 j)) k := by
  rw [val_main_v37_apply, val_main_v36_apply, val_main_v35_apply, val_main_v24_apply, val_main_v34_apply, val_main_v33_apply, val_main_v32_apply,
    val_main_v31_apply, val_main_v30_apply, val_main_cst_7_apply, val_main_v29_apply, val_main_v28_apply, val_main_cst_6_apply, val_main_v27_apply,
    val_main_v26_apply, val_main_cst_5_apply]
  simp only [val_main_v25_apply]
  have e1 : idx_main_v24 (idx_main_v35 (idx_main_v36 (ValueIdx.ix3 b l k))) = ValueIdx.ix2 0 k := by
    funext a; apply Fin.ext
    match a with
    | ⟨0, _⟩ => rfl
    | ⟨1, _⟩ => exact Nat.mod_eq_of_lt k.isLt
  have e2 : ∀ j : Fin 2048, idx_main_v26 (idx_main_v27 (idx_main_v33 (ValueIdx.ix3 b l k))) j = ValueIdx.ix3 b l j := by
    intro j; funext a
    match a with
    | ⟨0, _⟩ => rfl
    | ⟨1, _⟩ => rfl
    | ⟨2, _⟩ => rfl
  rw [e1]
  simp only [e2]
  unfold rms
  show x0 _ * Ideal.rsqrt (Ideal.div (Ideal.ofBits .f32 0x00000000#32 + ∑ j : Fin 2048, x0 (ValueIdx.ix3 b l j) * x0 (ValueIdx.ix3 b l j)) _ + _) * _ = _
  rw [Ideal.ofBits_zero_f32, zero_add]
  rfl

/-- The projections' row, over the reference's arguments. -/
def rp (R : Fin 16384) (n : ℕ) : EReal :=
  prj (fun j => x0 (ValueIdx.ix3 (bat R) (pos R) j)) (fun j => x1 (ValueIdx.ix2 0 j)) (fun k n => x2 (ValueIdx.ix3 0 k n)) n

theorem r_prj (R : Fin 16384) (n : Fin 7168) : val_main_v39 (F := Ideal) x0 x1 x2 (ValueIdx.ix3 (bat R) (pos R) n) = rp x0 x1 x2 R n.val := by
  rw [val_main_v39_apply]
  unfold rp prj
  refine Finset.sum_congr rfl fun k _ => ?_
  have e1 : lidx_main_v39 (ValueIdx.ix3 (bat R) (pos R) n) k = ValueIdx.ix3 (bat R) (pos R) k := by
    funext a
    match a with
    | ⟨0, _⟩ => rfl
    | ⟨1, _⟩ => rfl
    | ⟨2, _⟩ => rfl
  have e2 : idx_main_v38 (ridx_main_v39 (ValueIdx.ix3 (bat R) (pos R) n) k) = ValueIdx.ix3 0 k n := by
    funext a; apply Fin.ext
    have hk := k.isLt; have hn := n.isLt
    match a with
    | ⟨0, _⟩ => rfl
    | ⟨1, _⟩ => show (k.val * 7168 + n.val) / 7168 % 2048 = k.val; omega
    | ⟨2, _⟩ => show (k.val * 7168 + n.val) % 7168 = n.val; omega
  have e3 : cN n.val = n := Fin.ext (Nat.mod_eq_of_lt n.isLt)
  rw [val_main_v38_apply, e1, e2, r_norm, e3]

theorem r_v40 (R : Fin 16384) (n : Fin 1024) : val_main_v40 (F := Ideal) x0 x1 x2 (ValueIdx.ix3 (bat R) (pos R) n) = rp x0 x1 x2 R (0 + n.val) := by
  rw [val_main_v40_apply]
  have hn := n.isLt
  have e : idx_main_v40 (ValueIdx.ix3 (bat R) (pos R) n) = ValueIdx.ix3 (bat R) (pos R) (⟨0 + n.val, by omega⟩ : Fin 7168) := by
    funext a; apply Fin.ext
    match a with
    | ⟨0, _⟩ => rfl
    | ⟨1, _⟩ => rfl
    | ⟨2, _⟩ => show n.val = 0 + n.val; omega
  rw [e, r_prj]

theorem r_v41 (R : Fin 16384) (n : Fin 1024) : val_main_v41 (F := Ideal) x0 x1 x2 (ValueIdx.ix3 (bat R) (pos R) n) = rp x0 x1 x2 R (1024 + n.val) := by
  rw [val_main_v41_apply]
  have hn := n.isLt
  have e : idx_main_v41 (ValueIdx.ix3 (bat R) (pos R) n) = ValueIdx.ix3 (bat R) (pos R) (⟨1024 + n.val, by omega⟩ : Fin 7168) := by
    funext a; apply Fin.ext
    match a with
    | ⟨0, _⟩ => rfl
    | ⟨1, _⟩ => rfl
    | ⟨2, _⟩ => rfl
  rw [e, r_prj]

theorem r_v42 (R : Fin 16384) (n : Fin 1024) : val_main_v42 (F := Ideal) x0 x1 x2 (ValueIdx.ix3 (bat R) (pos R) n) = rp x0 x1 x2 R (2048 + n.val) := by
  rw [val_main_v42_apply]
  have hn := n.isLt
  have e : idx_main_v42 (ValueIdx.ix3 (bat R) (pos R) n) = ValueIdx.ix3 (bat R) (pos R) (⟨2048 + n.val, by omega⟩ : Fin 7168) := by
    funext a; apply Fin.ext
    match a with
    | ⟨0, _⟩ => rfl
    | ⟨1, _⟩ => rfl
    | ⟨2, _⟩ => rfl
  rw [e, r_prj]

theorem r_v43 (R : Fin 16384) (n : Fin 1024) : val_main_v43 (F := Ideal) x0 x1 x2 (ValueIdx.ix3 (bat R) (pos R) n) = rp x0 x1 x2 R (3072 + n.val) := by
  rw [val_main_v43_apply]
  have hn := n.isLt
  have e : idx_main_v43 (ValueIdx.ix3 (bat R) (pos R) n) = ValueIdx.ix3 (bat R) (pos R) (⟨3072 + n.val, by omega⟩ : Fin 7168) := by
    funext a; apply Fin.ext
    match a with
    | ⟨0, _⟩ => rfl
    | ⟨1, _⟩ => rfl
    | ⟨2, _⟩ => rfl
  rw [e, r_prj]

theorem r_v44 (R : Fin 16384) (n : Fin 1024) : val_main_v44 (F := Ideal) x0 x1 x2 (ValueIdx.ix3 (bat R) (pos R) n) = rp x0 x1 x2 R (4096 + n.val) := by
  rw [val_main_v44_apply]
  have hn := n.isLt
  have e : idx_main_v44 (ValueIdx.ix3 (bat R) (pos R) n) = ValueIdx.ix3 (bat R) (pos R) (⟨4096 + n.val, by omega⟩ : Fin 7168) := by
    funext a; apply Fin.ext
    match a with
    | ⟨0, _⟩ => rfl
    | ⟨1, _⟩ => rfl
    | ⟨2, _⟩ => rfl
  rw [e, r_prj]

theorem r_v45 (R : Fin 16384) (n : Fin 1024) : val_main_v45 (F := Ideal) x0 x1 x2 (ValueIdx.ix3 (bat R) (pos R) n) = rp x0 x1 x2 R (5120 + n.val) := by
  rw [val_main_v45_apply]
  have hn := n.isLt
  have e : idx_main_v45 (ValueIdx.ix3 (bat R) (pos R) n) = ValueIdx.ix3 (bat R) (pos R) (⟨5120 + n.val, by omega⟩ : Fin 7168) := by
    funext a; apply Fin.ext
    match a with
    | ⟨0, _⟩ => rfl
    | ⟨1, _⟩ => rfl
    | ⟨2, _⟩ => rfl
  rw [e, r_prj]

theorem r_v46 (R : Fin 16384) (n : Fin 1024) : val_main_v46 (F := Ideal) x0 x1 x2 (ValueIdx.ix3 (bat R) (pos R) n) = rp x0 x1 x2 R (6144 + n.val) := by
  rw [val_main_v46_apply]
  have hn := n.isLt
  have e : idx_main_v46 (ValueIdx.ix3 (bat R) (pos R) n) = ValueIdx.ix3 (bat R) (pos R) (⟨6144 + n.val, by omega⟩ : Fin 7168) := by
    funext a; apply Fin.ext
    match a with
    | ⟨0, _⟩ => rfl
    | ⟨1, _⟩ => rfl
    | ⟨2, _⟩ => rfl
  rw [e, r_prj]

/-- The gated input. -/
theorem r_v53 (R : Fin 16384) (n : Fin 1024) :
    val_main_v53 (F := Ideal) x0 x1 x2 (ValueIdx.ix3 (bat R) (pos R) n) = rp x0 x1 x2 R (0 + n.val) * sg (rp x0 x1 x2 R (1024 + n.val)) := by
  rw [val_main_v53_apply, val_main_v52_apply, val_main_v51_apply, val_main_cst_9_apply, val_main_v50_apply, val_main_v49_apply, val_main_cst_8_apply,
    val_main_v48_apply, val_main_v47_apply, r_v40, r_v41]
  rfl

/-- A log forget gate. -/
theorem r_v70 (R : Fin 16384) (n : Fin 1024) :
    val_main_v70 (F := Ideal) x0 x1 x2 x3 (ValueIdx.ix3 (bat R) (pos R) n) = gt (lb fun k => x3 (ValueIdx.ix2 k n)) (rp x0 x1 x2 R (3072 + n.val)) := by
  have hb : val_main_v55 (F := Ideal) x3 (ValueIdx.ix1 n) = lb fun k => x3 (ValueIdx.ix2 k n) := by
    rw [val_main_v55_apply, val_main_v54_apply]
    have e : idx_main_v54 (idx_main_v55 (ValueIdx.ix1 n)) = ValueIdx.ix2 0 n := by
      funext a; apply Fin.ext
      match a with
      | ⟨0, _⟩ => rfl
      | ⟨1, _⟩ => exact Nat.mod_eq_of_lt n.isLt
    rw [e, r_lbx3]
  rw [val_main_v70_apply, val_main_v69_apply, val_main_v68_apply, val_main_v67_apply, val_main_v66_apply, val_main_v65_apply, val_main_v64_apply, val_main_v63_apply, val_main_v62_apply, val_main_cst_12_apply, val_main_v61_apply,
    val_main_v60_apply, val_main_cst_11_apply, val_main_v59_apply, val_main_v58_apply, r_v43, val_main_v57_apply, val_main_v56_apply, val_main_cst_10_apply]
  have e1 : idx_main_v67 (idx_main_v68 (ValueIdx.ix3 (bat R) (pos R) n)) = ValueIdx.ix1 n := by
    funext a
    match a with
    | ⟨0, _⟩ => rfl
  have e2 : idx_main_v64 (idx_main_v65 (ValueIdx.ix3 (bat R) (pos R) n)) = ValueIdx.ix1 n := by
    funext a
    match a with
    | ⟨0, _⟩ => rfl
  rw [e1, e2, hb]
  rfl

/-- A log forget gate. -/
theorem r_v87 (R : Fin 16384) (n : Fin 1024) :
    val_main_v87 (F := Ideal) x0 x1 x2 x4 (ValueIdx.ix3 (bat R) (pos R) n) = gt (lb fun k => x4 (ValueIdx.ix2 k n)) (rp x0 x1 x2 R (4096 + n.val)) := by
  have hb : val_main_v72 (F := Ideal) x4 (ValueIdx.ix1 n) = lb fun k => x4 (ValueIdx.ix2 k n) := by
    rw [val_main_v72_apply, val_main_v71_apply]
    have e : idx_main_v71 (idx_main_v72 (ValueIdx.ix1 n)) = ValueIdx.ix2 0 n := by
      funext a; apply Fin.ext
      match a with
      | ⟨0, _⟩ => rfl
      | ⟨1, _⟩ => exact Nat.mod_eq_of_lt n.isLt
    rw [e, r_lbx4]
  rw [val_main_v87_apply, val_main_v86_apply, val_main_v85_apply, val_main_v84_apply, val_main_v83_apply, val_main_v82_apply, val_main_v81_apply, val_main_v80_apply, val_main_v79_apply, val_main_cst_15_apply, val_main_v78_apply,
    val_main_v77_apply, val_main_cst_14_apply, val_main_v76_apply, val_main_v75_apply, r_v44, val_main_v74_apply, val_main_v73_apply, val_main_cst_13_apply]
  have e1 : idx_main_v84 (idx_main_v85 (ValueIdx.ix3 (bat R) (pos R) n)) = ValueIdx.ix1 n := by
    funext a
    match a with
    | ⟨0, _⟩ => rfl
  have e2 : idx_main_v81 (idx_main_v82 (ValueIdx.ix3 (bat R) (pos R) n)) = ValueIdx.ix1 n := by
    funext a
    match a with
    | ⟨0, _⟩ => rfl
  rw [e1, e2, hb]
  rfl

theorem r_v94 (R : Fin 16384) (n : Fin 1024) :
    val_main_v94 (F := Ideal) x0 x1 x2 (ValueIdx.ix3 (bat R) (pos R) n) = rp x0 x1 x2 R (2048 + n.val) * sg (rp x0 x1 x2 R (2048 + n.val)) := by
  rw [val_main_v94_apply, val_main_call2_v5_apply, val_main_call2_v4_apply, val_main_call2_cst_0_apply, val_main_call2_v3_apply, val_main_call2_v2_apply, val_main_call2_cst_apply, val_main_call2_v1_apply, val_main_call2_v0_apply, r_v42]
  rfl

theorem r_v95 (R : Fin 16384) (n : Fin 1024) :
    val_main_v95 (F := Ideal) x0 x1 x2 (ValueIdx.ix3 (bat R) (pos R) n) = rp x0 x1 x2 R (6144 + n.val) * sg (rp x0 x1 x2 R (6144 + n.val)) := by
  rw [val_main_v95_apply, val_main_call3_v5_apply, val_main_call3_v4_apply, val_main_call3_cst_0_apply, val_main_call3_v3_apply, val_main_call3_v2_apply, val_main_call3_cst_apply, val_main_call3_v1_apply, val_main_call3_v0_apply, r_v46]
  rfl

/-- The column of head slot `s` and lane `l`. -/
def col (s : Fin 8) (l : Fin 128) : Fin 1024 := ⟨128 * s.val + l.val, by have := s.isLt; have := l.isLt; omega⟩

theorem r_v89 (s : Fin 8) (R : Fin 16384) (l : Fin 128) :
    val_main_v89 (F := Ideal) x0 x1 x2 (ValueIdx.ix3 s R l) = rp x0 x1 x2 R (0 + (col s l).val) * sg (rp x0 x1 x2 R (1024 + (col s l).val)) := by
  rw [val_main_v89_apply, val_main_v88_apply]
  have e : idx_main_v88 (idx_main_v89 (ValueIdx.ix3 s R l)) = ValueIdx.ix3 (bat R) (pos R) (col s l) := by
    funext a; apply Fin.ext
    have hs := s.isLt; have hR := R.isLt; have hl := l.isLt
    match a with
    | ⟨0, _⟩ => show ((R.val * 8 + s.val) * 128 + l.val) / 8388608 = R.val / 8192; omega
    | ⟨1, _⟩ => show ((R.val * 8 + s.val) * 128 + l.val) / 1024 % 8192 = R.val % 8192; omega
    | ⟨2, _⟩ => show ((R.val * 8 + s.val) * 128 + l.val) % 1024 = 128 * s.val + l.val; omega
  rw [e, r_v53]

theorem r_v91 (s : Fin 8) (R : Fin 16384) (l : Fin 128) :
    val_main_v91 (F := Ideal) x0 x1 x2 x3 (ValueIdx.ix3 s R l) = gt (lb fun k => x3 (ValueIdx.ix2 k (col s l))) (rp x0 x1 x2 R (3072 + (col s l).val)) := by
  rw [val_main_v91_apply, val_main_v90_apply]
  have e : idx_main_v90 (idx_main_v91 (ValueIdx.ix3 s R l)) = ValueIdx.ix3 (bat R) (pos R) (col s l) := by
    funext a; apply Fin.ext
    have hs := s.isLt; have hR := R.isLt; have hl := l.isLt
    match a with
    | ⟨0, _⟩ => show ((R.val * 8 + s.val) * 128 + l.val) / 8388608 = R.val / 8192; omega
    | ⟨1, _⟩ => show ((R.val * 8 + s.val) * 128 + l.val) / 1024 % 8192 = R.val % 8192; omega
    | ⟨2, _⟩ => show ((R.val * 8 + s.val) * 128 + l.val) % 1024 = 128 * s.val + l.val; omega
  rw [e, r_v70]

theorem r_v93 (s : Fin 8) (R : Fin 16384) (l : Fin 128) :
    val_main_v93 (F := Ideal) x0 x1 x2 x4 (ValueIdx.ix3 s R l) = gt (lb fun k => x4 (ValueIdx.ix2 k (col s l))) (rp x0 x1 x2 R (4096 + (col s l).val)) := by
  rw [val_main_v93_apply, val_main_v92_apply]
  have e : idx_main_v92 (idx_main_v93 (ValueIdx.ix3 s R l)) = ValueIdx.ix3 (bat R) (pos R) (col s l) := by
    funext a; apply Fin.ext
    have hs := s.isLt; have hR := R.isLt; have hl := l.isLt
    match a with
    | ⟨0, _⟩ => show ((R.val * 8 + s.val) * 128 + l.val) / 8388608 = R.val / 8192; omega
    | ⟨1, _⟩ => show ((R.val * 8 + s.val) * 128 + l.val) / 1024 % 8192 = R.val % 8192; omega
    | ⟨2, _⟩ => show ((R.val * 8 + s.val) * 128 + l.val) % 1024 = 128 * s.val + l.val; omega
  rw [e, r_v87]

theorem r_v97 (s : Fin 8) (R : Fin 16384) (l : Fin 128) :
    val_main_v97 (F := Ideal) x0 x1 x2 (ValueIdx.ix3 s R l) = rp x0 x1 x2 R (2048 + (col s l).val) * sg (rp x0 x1 x2 R (2048 + (col s l).val)) := by
  rw [val_main_v97_apply, val_main_v96_apply]
  have e : idx_main_v96 (idx_main_v97 (ValueIdx.ix3 s R l)) = ValueIdx.ix3 (bat R) (pos R) (col s l) := by
    funext a; apply Fin.ext
    have hs := s.isLt; have hR := R.isLt; have hl := l.isLt
    match a with
    | ⟨0, _⟩ => show ((R.val * 8 + s.val) * 128 + l.val) / 8388608 = R.val / 8192; omega
    | ⟨1, _⟩ => show ((R.val * 8 + s.val) * 128 + l.val) / 1024 % 8192 = R.val % 8192; omega
    | ⟨2, _⟩ => show ((R.val * 8 + s.val) * 128 + l.val) % 1024 = 128 * s.val + l.val; omega
  rw [e, r_v94]

theorem r_v99 (s : Fin 8) (R : Fin 16384) (l : Fin 128) :
    val_main_v99 (F := Ideal) x0 x1 x2 (ValueIdx.ix3 s R l) = rp x0 x1 x2 R (5120 + (col s l).val) := by
  rw [val_main_v99_apply, val_main_v98_apply]
  have e : idx_main_v98 (idx_main_v99 (ValueIdx.ix3 s R l)) = ValueIdx.ix3 (bat R) (pos R) (col s l) := by
    funext a; apply Fin.ext
    have hs := s.isLt; have hR := R.isLt; have hl := l.isLt
    match a with
    | ⟨0, _⟩ => show ((R.val * 8 + s.val) * 128 + l.val) / 8388608 = R.val / 8192; omega
    | ⟨1, _⟩ => show ((R.val * 8 + s.val) * 128 + l.val) / 1024 % 8192 = R.val % 8192; omega
    | ⟨2, _⟩ => show ((R.val * 8 + s.val) * 128 + l.val) % 1024 = 128 * s.val + l.val; omega
  rw [e, r_v45]

theorem r_v101 (s : Fin 8) (R : Fin 16384) (l : Fin 128) :
    val_main_v101 (F := Ideal) x0 x1 x2 (ValueIdx.ix3 s R l) = rp x0 x1 x2 R (6144 + (col s l).val) * sg (rp x0 x1 x2 R (6144 + (col s l).val)) := by
  rw [val_main_v101_apply, val_main_v100_apply]
  have e : idx_main_v100 (idx_main_v101 (ValueIdx.ix3 s R l)) = ValueIdx.ix3 (bat R) (pos R) (col s l) := by
    funext a; apply Fin.ext
    have hs := s.isLt; have hR := R.isLt; have hl := l.isLt
    match a with
    | ⟨0, _⟩ => show ((R.val * 8 + s.val) * 128 + l.val) / 8388608 = R.val / 8192; omega
    | ⟨1, _⟩ => show ((R.val * 8 + s.val) * 128 + l.val) / 1024 % 8192 = R.val % 8192; omega
    | ⟨2, _⟩ => show ((R.val * 8 + s.val) * 128 + l.val) % 1024 = 128 * s.val + l.val; omega
  rw [e, r_v95]

/-- Three stacks of eight head slots, joined: slot `s` is slot `s - 8 q` of stack `q`. -/
theorem join_apply (y0 y1 y2 : FVec Ideal S8x16384x128 .f32) (h) (s : Fin 24) (R : Fin 16384) (l : Fin 128) :
    (concatenate S24x16384x128 0 [⟨S8x16384x128, (y0 : S8x16384x128.Idx → Ideal .f32)⟩, ⟨S8x16384x128, (y1 : S8x16384x128.Idx → Ideal .f32)⟩, ⟨S8x16384x128, (y2 : S8x16384x128.Idx → Ideal .f32)⟩] h) (ValueIdx.ix3 s R l)
      = if h1 : s.val < 8 then y0 (ValueIdx.ix3 ⟨s.val, h1⟩ R l)
        else if h2 : s.val < 16 then y1 (ValueIdx.ix3 ⟨s.val - 8, by omega⟩ R l)
        else y2 (ValueIdx.ix3 ⟨s.val - 16, by have := s.isLt; omega⟩ R l) := by
  have hs := s.isLt
  split
  · rename_i h1
    refine concatenate_apply_piece (t := S24x16384x128) 0 _ h (ValueIdx.ix3 s R l) 0 (by show 0 < 3; decide) S8x16384x128 y0 rfl rfl 0 rfl (ValueIdx.ix3 ⟨s.val, h1⟩ R l) ?_ ?_
    · intro b hb
      match b with
      | ⟨0, _⟩ => exact absurd rfl hb
      | ⟨1, _⟩ => rfl
      | ⟨2, _⟩ => rfl
    · show 0 + s.val = s.val; omega
  · split
    · rename_i h1 h2
      refine concatenate_apply_piece (t := S24x16384x128) 0 _ h (ValueIdx.ix3 s R l) 1 (by show 1 < 3; decide) S8x16384x128 y1 rfl rfl 8 rfl (ValueIdx.ix3 ⟨s.val - 8, by omega⟩ R l) ?_ ?_
      · intro b hb
        match b with
        | ⟨0, _⟩ => exact absurd rfl hb
        | ⟨1, _⟩ => rfl
        | ⟨2, _⟩ => rfl
      · show 8 + (s.val - 8) = s.val; omega
    · rename_i h1 h2
      refine concatenate_apply_piece (t := S24x16384x128) 0 _ h (ValueIdx.ix3 s R l) 2 (by show 2 < 3; decide) S8x16384x128 y2 rfl rfl 16 rfl (ValueIdx.ix3 ⟨s.val - 16, by omega⟩ R l) ?_ ?_
      · intro b hb
        match b with
        | ⟨0, _⟩ => exact absurd rfl hb
        | ⟨1, _⟩ => rfl
        | ⟨2, _⟩ => rfl
      · show 16 + (s.val - 16) = s.val; omega

theorem jN_col (s : Fin 8) (l : Fin 128) : jN (128 * s.val + l.val) = col s l :=
  Fin.ext (Nat.mod_eq_of_lt (col s l).isLt)

/-- The first result. -/
theorem r_res5 (s : Fin 24) (R : Fin 16384) (l : Fin 128) :
    val_main_v102 (F := Ideal) x0 x1 x2 x3 x4 (ValueIdx.ix3 s R l)
      = val5 (fun j => x0 (ValueIdx.ix3 (bat R) (pos R) j)) (fun j => x1 (ValueIdx.ix2 0 j)) (fun k n => x2 (ValueIdx.ix3 0 k n)) (fun k j => x3 (ValueIdx.ix2 k j))
          (fun k j => x4 (ValueIdx.ix2 k j)) s.val l.val := by
  unfold val_main_v102
  rw [join_apply]
  have hs := s.isLt
  unfold val5
  by_cases h1 : s.val < 8
  · rw [dif_pos h1, if_pos h1, r_v89]
    unfold rp
    rw [Nat.zero_add]
    rfl
  · rw [dif_neg h1, if_neg h1]
    by_cases h2 : s.val < 16
    · rw [dif_pos h2, if_pos h2, r_v91, jN_col ⟨s.val - 8, by omega⟩ l]
      rfl
    · rw [dif_neg h2, if_neg h2, r_v93, jN_col ⟨s.val - 16, by omega⟩ l]
      rfl

/-- The second result. -/
theorem r_res6 (s : Fin 24) (R : Fin 16384) (l : Fin 128) :
    val_main_v104 (F := Ideal) x0 x1 x2 (ValueIdx.ix3 s R l)
      = val6 (fun j => x0 (ValueIdx.ix3 (bat R) (pos R) j)) (fun j => x1 (ValueIdx.ix2 0 j)) (fun k n => x2 (ValueIdx.ix3 0 k n)) s.val l.val := by
  rw [val_main_v104_apply]
  show val_main_v103 (F := Ideal) x0 x1 x2 (ValueIdx.ix3 s R l) = _
  unfold val_main_v103
  rw [join_apply]
  have hs := s.isLt
  unfold val6
  by_cases h1 : s.val < 8
  · rw [dif_pos h1, if_pos h1, r_v97]
    rfl
  · rw [dif_neg h1, if_neg h1]
    by_cases h2 : s.val < 16
    · rw [dif_pos h2, if_pos h2, r_v99]
      rfl
    · rw [dif_neg h2, if_neg h2, r_v101]
      rfl

end Reference

section Kernel

open Cert.ProjIdeal Cert.ProjIdeal.Gen

variable (m : (ℓ : Loc nD τ sig) → Buf (Elt Ideal) ℓ) (c : Dev nD)

theorem a0_apply (R : Fin 16384) (k : Fin 2048) :
    a0 m c (ValueIdx.ix2 R k) = m ((c : Thread nD τ).loc main_arg0) (ValueIdx.ix3 (bat R) (pos R) k) := by
  have e : a0 m c = shapeCast S16384x2048 (m ((c : Thread nD τ).loc main_arg0)) shapeCasts_S2x8192x2048_S16384x2048 := by
    unfold a0 V hostOps0; after_results; rfl
  rw [e]
  refine shapeCast_apply _ shapeCasts_S2x8192x2048_S16384x2048 _ _ ?_
  rewrite [Shape.rowMajor_val_three, Shape.rowMajor_val_two]
  have hR := R.isLt
  show (R.val / 8192 * 8192 + R.val % 8192) * 2048 + k.val = R.val * 2048 + k.val
  omega

theorem a1_apply (k : Fin 2048) : a1 m c (ValueIdx.ix2 0 k) = m ((c : Thread nD τ).loc main_arg1) (ValueIdx.ix2 0 k) := by
  have e : a1 m c = shapeCast S1x2048 (shapeCast S2048 (m ((c : Thread nD τ).loc main_arg1)) shapeCasts_S1x2048_S2048) shapeCasts_S2048_S1x2048 := by
    unfold a1 V hostOps0; after_results; rfl
  rw [e]
  refine (shapeCast_apply _ shapeCasts_S2048_S1x2048 (ValueIdx.ix2 0 k) (ValueIdx.ix1 k) ?_).trans
    (shapeCast_apply _ shapeCasts_S1x2048_S2048 (ValueIdx.ix1 k) (ValueIdx.ix2 0 k) ?_)
  · rewrite [Shape.rowMajor_val_two, Shape.rowMajor_val_one]
    show k.val = 0 * 2048 + k.val
    omega
  · rewrite [Shape.rowMajor_val_two, Shape.rowMajor_val_one]
    show 0 * 2048 + k.val = k.val
    omega

theorem w_apply (x : FVec Ideal S1x2048x7168 .f32) (k : Fin 2048) (n : Fin 7168) :
    shapeCast S2048x7168 (truncf .bf16 x bitsLt_bf16_f32 : FVec Ideal S1x2048x7168 .bf16) shapeCasts_S1x2048x7168_S2048x7168 (ValueIdx.ix2 k n) = x (ValueIdx.ix3 0 k n) := by
  refine (shapeCast_apply _ shapeCasts_S1x2048x7168_S2048x7168 (ValueIdx.ix2 k n) (ValueIdx.ix3 0 k n) ?_).trans rfl
  rewrite [Shape.rowMajor_val_three, Shape.rowMajor_val_two]
  show (0 * 2048 + k.val) * 7168 + n.val = k.val * 7168 + n.val
  omega

theorem a2_apply (k : Fin 2048) (n : Fin 7168) : a2 m c (ValueIdx.ix2 k n) = m ((c : Thread nD τ).loc main_arg2) (ValueIdx.ix3 0 k n) := by
  have e : a2 m c = shapeCast S2048x7168 (truncf (F := Ideal) (s := S1x2048x7168) .bf16 (m ((c : Thread nD τ).loc main_arg2)) bitsLt_bf16_f32) shapeCasts_S1x2048x7168_S2048x7168 := by
    unfold a2 V hostOps0; after_results; rfl
  rw [e]
  exact w_apply _ k n

theorem a3_eq : a3 m c = m ((c : Thread nD τ).loc main_arg3) := by
  unfold a3 V hostOps0; after_results

theorem a4_eq : a4 m c = m ((c : Thread nD τ).loc main_arg4) := by
  unfold a4 V hostOps0; after_results

end Kernel

/-- The two programs' results agree. -/
theorem algebraic_proj : Cert.algebraic_ProjIdeal_ProjRefIdeal := by
  intro m ρ m' ρ' _ hagree
  refine ⟨fun c => G5 m c, fun c => G6 m c, ?_, ?_⟩
  · refine (θ_run Cert.ProjIdeal.defs _ _).mono (fun _ h c => ⟨(h c).1.trans (final5 m c), (h c).2.1.trans (final6 m c), (h c).2.2⟩) (Cert.ProjIdeal.Value.run_blocks m ρ)
  refine (θ_run Cert.ProjRefIdeal.defs _ _).mono (fun _ h c => ⟨(h c).1.trans ?_, (h c).2.1.trans ?_, (h c).2.2⟩) (Cert.ProjRefIdeal.Value.run m' ρ')
  · obtain ⟨g0, g1, g2, g3, g4⟩ := hagree c
    rw [Cert.ProjRefIdeal.Read.val_main_v102_eq, g0, g1, g2, g3, g4]
    funext y
    rw [ValueIdx.eq_ix3 y]
    refine (r_res5 _ _ _ _ _ _ _ _).trans ?_
    unfold G5
    exact val5_congr (fun j => (a0_apply m c _ j).symm) (fun j => (a1_apply m c j).symm) (fun k n => (a2_apply m c k n).symm)
      (fun k j => (congrFun (a3_eq m c) _).symm) (fun k j => (congrFun (a4_eq m c) _).symm) rfl rfl
  · obtain ⟨g0, g1, g2, g3, g4⟩ := hagree c
    rw [Cert.ProjRefIdeal.Read.val_main_v104_eq, g0, g1, g2]
    funext y
    rw [ValueIdx.eq_ix3 y]
    refine (r_res6 _ _ _ _ _ _).trans ?_
    unfold G6
    exact val6_congr (fun j => (a0_apply m c _ j).symm) (fun j => (a1_apply m c j).symm) (fun k n => (a2_apply m c k n).symm) rfl rfl

end Cert.ProjVal

end
-- ==== Proof.Ffn1Val.Pay.lean ====
/-
  The first feed-forward call's vector expressions read at one index, over the extended reals: a normalised row (`rms`), one
  hidden unit's gated activation (`act`) and a block of hidden units' contribution to one output (`part`).
-/
module

public import proofs.«01_k».proof.Proof.Gen.Ffn1Ideal.Skeleton
public import proofs.«01_k».proof.Proof.FfnVal.Pay
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.Pointwise
public import Idealize.ShloMosaic.PureOps.Ideal.Laws

@[expose] public section

noncomputable section

namespace Cert.Ffn1Val

open Idealize.ShloMosaic Idealize.ShloMosaic.ValueIdx
open scoped BigOperators

export Cert.FfnVal (rms act part)

open Cert.Ffn1Ideal Cert.Ffn1Ideal.Gen

theorem dot_a (a : FVec Ideal S256x2048 .bf16) (b : FVec Ideal S2048x512 .bf16) (r : Fin 256) (c : Fin 512) :
    matmul dot_S256x2048_S2048x512_S256x512_1_0_0_1_n_n none a b (constant (F := Ideal) S256x512 .f32 0x00000000#32) (ValueIdx.ix2 r c)
      = ∑ k : Fin 2048, a (ValueIdx.ix2 r k) * b (ValueIdx.ix2 k c) := by
  refine (Ideal.matmul_plain_apply (M := 256) (K := 2048) (N := 512) none a b _ r c).trans ?_
  rw [constant_apply, Ideal.ofBits_zero_f32, zero_add]

theorem dot_b (a : FVec Ideal S256x512 .bf16) (b : FVec Ideal S512x2048 .bf16) (r : Fin 256) (c : Fin 2048) :
    matmul dot_S256x512_S512x2048_S256x2048_1_0_0_1_n_n none a b (constant (F := Ideal) S256x2048 .f32 0x00000000#32) (ValueIdx.ix2 r c)
      = ∑ k : Fin 512, a (ValueIdx.ix2 r k) * b (ValueIdx.ix2 k c) := by
  refine (Ideal.matmul_plain_apply (M := 256) (K := 512) (N := 2048) none a b _ r c).trans ?_
  rw [constant_apply, Ideal.ofBits_zero_f32, zero_add]

theorem dot_c (a : FVec Ideal S512x2048 .bf16) (b : FVec Ideal S2048x512 .bf16) (r : Fin 512) (c : Fin 512) :
    matmul dot_S512x2048_S2048x512_S512x512_1_0_0_1_n_n none a b (constant (F := Ideal) S512x512 .f32 0x00000000#32) (ValueIdx.ix2 r c)
      = ∑ k : Fin 2048, a (ValueIdx.ix2 r k) * b (ValueIdx.ix2 k c) := by
  refine (Ideal.matmul_plain_apply (M := 512) (K := 2048) (N := 512) none a b _ r c).trans ?_
  rw [constant_apply, Ideal.ofBits_zero_f32, zero_add]

theorem dot_d (a : FVec Ideal S512x512 .bf16) (b : FVec Ideal S512x2048 .bf16) (r : Fin 512) (c : Fin 2048) :
    matmul dot_S512x512_S512x2048_S512x2048_1_0_0_1_n_n none a b (constant (F := Ideal) S512x2048 .f32 0x00000000#32) (ValueIdx.ix2 r c)
      = ∑ k : Fin 512, a (ValueIdx.ix2 r k) * b (ValueIdx.ix2 k c) := by
  refine (Ideal.matmul_plain_apply (M := 512) (K := 512) (N := 2048) none a b _ r c).trans ?_
  rw [constant_apply, Ideal.ofBits_zero_f32, zero_add]

/-- The sum along a row. -/
theorem rowsum (v : FVec Ideal S256x2048 .f32) (h hφ hacc) (r : Fin 256) :
    multiReduction .add [1] S256 v 0x00000000#32 h hφ hacc (ValueIdx.ix1 r) = ∑ k : Fin 2048, v (ValueIdx.ix2 r k) := by
  refine (Ideal.multiReduction_add_single v _ h hφ hacc _).trans ?_
  refine Finset.sum_congr rfl fun k _ => congrArg v ?_
  funext a
  match a with
  | ⟨0, _⟩ => rfl
  | ⟨1, _⟩ => rfl

theorem rowsum_col (v : FVec Ideal S256x2048 .f32) (h hφ hacc hc) (r : Fin 256) :
    shapeCast S256x1 (multiReduction .add [1] S256 v 0x00000000#32 h hφ hacc) hc (ValueIdx.ix2 r 0) = ∑ k : Fin 2048, v (ValueIdx.ix2 r k) :=
  (ValueIdx.shapeCast_a_a1_apply (a := 256) _ hc r 0).trans (rowsum v h hφ hacc r)

theorem col_apply (v : FVec Ideal S256x1 .f32) (h) (r : Fin 256) (k : Fin 2048) :
    broadcastTo S256x2048 v h (ValueIdx.ix2 r k) = v (ValueIdx.ix2 r 0) := by
  refine broadcastTo_apply v h _ _ ?_
  intro a
  match a with
  | ⟨0, _⟩ => simp
  | ⟨1, _⟩ => simp

theorem row_apply (v : FVec Ideal S1x2048 .f32) (h) (r : Fin 256) (k : Fin 2048) :
    broadcastTo S256x2048 v h (ValueIdx.ix2 r k) = v (ValueIdx.ix2 0 k) :=
  ValueIdx.broadcastTo_1b_ab_apply (a := 256) (b := 2048) v h r k

/-- A tile of 256 rows, each divided by its root mean square and scaled. -/
def rmsT (x : FVec Ideal S256x2048 .f32) (w : FVec Ideal S1x2048 .f32) : FVec Ideal S256x2048 .f32 :=
  mulf (mulf x (broadcastTo S256x2048 (rsqrt (addf (divf (shapeCast S256x1
    (multiReduction .add [1] S256 (mulf x x) 0x00000000#32 reduces_S256x2048_S256 (.inl rfl) rfl) shapeCasts_S256_S256x1)
    (broadcast S256x1 (FloatOps.ofBits .f32 0x45000000#32))) (broadcast S256x1 (FloatOps.ofBits .f32 0x358637BD#32)))) broadcasts_S256x1_S256x2048))
    (broadcastTo S256x2048 w broadcasts_S1x2048_S256x2048)

theorem rmsT_apply (x : FVec Ideal S256x2048 .f32) (w : FVec Ideal S1x2048 .f32) (r : Fin 256) (k : Fin 2048) :
    rmsT x w (ValueIdx.ix2 r k) = rms (fun j => x (ValueIdx.ix2 r j)) (fun j => w (ValueIdx.ix2 0 j)) k := by
  unfold rmsT Cert.FfnVal.rms
  simp only [mulf_apply, col_apply, row_apply]
  congr 2
  exact congrArg (fun z => Ideal.rsqrt (Ideal.div z (Ideal.ofBits .f32 0x45000000#32) + Ideal.ofBits .f32 0x358637BD#32)) (rowsum_col _ _ _ _ _ r)

/-- The gated activation of a tile's two products. -/
def gate {s : Shape} (a b : FVec Ideal s .f32) : FVec Ideal s .bf16 :=
  truncf .bf16 (mulf (mulf a (divf (broadcast s (FloatOps.ofBits .f32 0x3F800000#32)) (addf (broadcast s (FloatOps.ofBits .f32 0x3F800000#32))
    (exp (subf (broadcast s (FloatOps.ofBits .f32 0x00000000#32)) a))))) b) bitsLt_bf16_f32

theorem gate_apply {s : Shape} (a b : FVec Ideal s .f32) (i : s.Idx) :
    gate a b i = (a i * Ideal.div (Ideal.ofBits .f32 0x3F800000#32) (Ideal.ofBits .f32 0x3F800000#32 + Ideal.exp (-(a i)))) * b i := by
  show (a i * Ideal.div (Ideal.ofBits .f32 0x3F800000#32) (Ideal.ofBits .f32 0x3F800000#32 + Ideal.exp (Ideal.ofBits .f32 0x00000000#32 - a i))) * b i = _
  rw [Ideal.ofBits_zero_f32, zero_sub]

/-- The contribution of 512 hidden units to 256 rows. -/
def partA (h : FVec Ideal S256x2048 .bf16) (w1 w3 : FVec Ideal S2048x512 .bf16) (w2 : FVec Ideal S512x2048 .bf16) : FVec Ideal S256x2048 .f32 :=
  matmul dot_S256x512_S512x2048_S256x2048_1_0_0_1_n_n none
    (gate (matmul dot_S256x2048_S2048x512_S256x512_1_0_0_1_n_n none h w1 (constant (F := Ideal) S256x512 .f32 0x00000000#32))
      (matmul dot_S256x2048_S2048x512_S256x512_1_0_0_1_n_n none h w3 (constant (F := Ideal) S256x512 .f32 0x00000000#32)))
    w2 (constant (F := Ideal) S256x2048 .f32 0x00000000#32)

theorem partA_apply (h : FVec Ideal S256x2048 .bf16) (w1 w3 : FVec Ideal S2048x512 .bf16) (w2 : FVec Ideal S512x2048 .bf16)
    (r : Fin 256) (d : Fin 2048) :
    partA h w1 w3 w2 (ValueIdx.ix2 r d) = part (fun k => h (ValueIdx.ix2 r k)) (fun k j => w1 (ValueIdx.ix2 k j)) (fun k j => w3 (ValueIdx.ix2 k j))
      (fun j => w2 (ValueIdx.ix2 j d)) := by
  unfold partA Cert.FfnVal.part Cert.FfnVal.act
  simp only [dot_b, gate_apply, dot_a]

/-- The contribution of 512 hidden units to 512 rows. -/
def partB (h : FVec Ideal S512x2048 .bf16) (w1 w3 : FVec Ideal S2048x512 .bf16) (w2 : FVec Ideal S512x2048 .bf16) : FVec Ideal S512x2048 .f32 :=
  matmul dot_S512x512_S512x2048_S512x2048_1_0_0_1_n_n none
    (gate (matmul dot_S512x2048_S2048x512_S512x512_1_0_0_1_n_n none h w1 (constant (F := Ideal) S512x512 .f32 0x00000000#32))
      (matmul dot_S512x2048_S2048x512_S512x512_1_0_0_1_n_n none h w3 (constant (F := Ideal) S512x512 .f32 0x00000000#32)))
    w2 (constant (F := Ideal) S512x2048 .f32 0x00000000#32)

theorem partB_apply (h : FVec Ideal S512x2048 .bf16) (w1 w3 : FVec Ideal S2048x512 .bf16) (w2 : FVec Ideal S512x2048 .bf16)
    (r : Fin 512) (d : Fin 2048) :
    partB h w1 w3 w2 (ValueIdx.ix2 r d) = part (fun k => h (ValueIdx.ix2 r k)) (fun k j => w1 (ValueIdx.ix2 k j)) (fun k j => w3 (ValueIdx.ix2 k j))
      (fun j => w2 (ValueIdx.ix2 j d)) := by
  unfold partB Cert.FfnVal.part Cert.FfnVal.act
  simp only [dot_d, gate_apply, dot_c]

/-- The last block's tile: the row plus half of what the hidden units gave. -/
def finT (x acc : FVec Ideal S256x2048 .f32) : FVec Ideal S256x2048 .f32 :=
  addf x (mulf (broadcast S256x2048 (FloatOps.ofBits .f32 0x3F000000#32)) acc)

section Forms

variable (X : Vec Ideal S256x2048 .f32) (n : Vec Ideal S1x2048 .f32) (w1 w3 : Vec Ideal S2048x512 .bf16) (w2 : Vec Ideal S512x2048 .bf16)

theorem a_scr0 : k0_pay5 X n = rmsT X n := by unfold k0_pay5 k0_pay4; simp only [shapeCast_self]; rfl
theorem a_scr1 : k0_pay10 X n = rmsT X n := by unfold k0_pay10 k0_pay9; simp only [shapeCast_self]; rfl
theorem a_scr2 : k0_pay14 X n = rmsT X n := by unfold k0_pay14 k0_pay13; simp only [shapeCast_self]; rfl
theorem a_scr3 : k0_pay20 X n = rmsT X n := by unfold k0_pay20 k0_pay19; simp only [shapeCast_self]; rfl

theorem a_out0 : k0_pay8 (k0_pay6 X n w1 w3) (k0_pay7 w2) (constant S256x2048 .f32 0#32) = partA (rmsT X n) w1 w3 w2 := by
  unfold k0_pay8 k0_pay6 k0_pay7 k0_pay4; simp only [shapeCast_self]; rfl
theorem a_out1 : k0_pay12 (k0_pay11 X n w1 w3) w2 = partA (rmsT X n) w1 w3 w2 := by
  unfold k0_pay12 k0_pay11 k0_pay9; simp only [shapeCast_self]; rfl
theorem a_out2 : k0_pay18 (k0_pay15 X n w1) (k0_pay16 X n w3) (k0_pay17 X n w1) (FloatOps.ofBits .f32 1065353216#32) w2 = partA (rmsT X n) w1 w3 w2 := by
  unfold k0_pay18 k0_pay17 k0_pay16 k0_pay15 k0_pay13; simp only [shapeCast_self]; rfl
theorem a_out3 : k0_pay1 (k0_pay21 X n w1) (k0_pay22 X n w3) (k0_pay23 X n w1) w2 = partA (rmsT X n) w1 w3 w2 := by
  unfold k0_pay1 k0_pay23 k0_pay22 k0_pay21 k0_pay19; simp only [shapeCast_self]; rfl

variable (xo : Vec Ideal S512x2048 .f32) (xs : Vec Ideal S512x2048 .bf16)

theorem b_out0 : k0_pay24 xo xs w1 w3 w2 = addf xo (partB xs w1 w3 w2) := by
  unfold k0_pay24; simp only [shapeCast_self]; rfl
theorem b_out1 : k0_pay2 (k0_pay25 xo) xs (k0_pay26 xs w1) (k0_pay27 w3) w2 = addf xo (partB xs w1 w3 w2) := by
  unfold k0_pay2 k0_pay25 k0_pay26 k0_pay27; simp only [shapeCast_self]; rfl

variable (yo : Vec Ideal S256x2048 .f32) (ys : Vec Ideal S256x2048 .bf16)

theorem c_out0 : k0_pay28 yo ys w1 w3 w2 X = finT X (addf yo (partA ys w1 w3 w2)) := by
  unfold k0_pay28; simp only [shapeCast_self]; rfl
theorem c_out1 : k0_pay30 (k0_pay29 yo) ys w1 w3 w2 X = finT X (addf yo (partA ys w1 w3 w2)) := by
  unfold k0_pay30 k0_pay29; simp only [shapeCast_self]; rfl
theorem c_out2 : k0_pay34 (k0_pay31 yo) ys (k0_pay32 ys w1) (k0_pay33 w3) (constant S256x512 .f32 0#32) w2 X = finT X (addf yo (partA ys w1 w3 w2)) := by
  unfold k0_pay34 k0_pay31 k0_pay32 k0_pay33; simp only [shapeCast_self]; rfl
theorem c_out3 : k0_pay3 (k0_pay35 yo) (k0_pay36 ys w1) (k0_pay37 ys w3) (k0_pay38 ys w1) (FloatOps.ofBits .f32 1065353216#32) w2 X = finT X (addf yo (partA ys w1 w3 w2)) := by
  unfold k0_pay3 k0_pay38 k0_pay35 k0_pay36 k0_pay37; simp only [shapeCast_self]; rfl

end Forms

end Cert.Ffn1Val

end
-- ==== Proof.Ffn1Val.Cases.lean ====
/-
  What each of the first feed-forward call's three kinds of grid step leaves in its output block and its scratch: the first
  step of a row block normalises the rows and starts the sum, the middle steps add a block of hidden units, the last one
  adds its own block and adds half of the sum to the row.
-/
module

public import proofs.«01_k».proof.Proof.Gen.Ffn1Ideal.Frame
public import proofs.«01_k».proof.Proof.Ffn1Val.Pay

@[expose] public section

set_option maxHeartbeats 1000000

noncomputable section

namespace Cert.Ffn1Val

open Idealize.ShloMosaic Idealize.ShloMosaic.TcCoe Idealize.ShloMosaic.Tactic
open Cert.Ffn1Ideal Cert.Ffn1Ideal.Gen
open scoped BigOperators

theorem off00 : (![0, 0] : Fin 2 → Nat) = fun _ => 0 := by
  funext a
  match a with
  | ⟨0, _⟩ => rfl
  | ⟨1, _⟩ => rfl

theorem ld_w13 (X : Vec Ideal S2048x512 .bf16) (inb) : View.ld X (Rect.unit (s := S2048x512) ![0, 0] ![2048, 512] inb) = X :=
  View.ld_unit_zero (S := S2048x512) off00 inb X
theorem ld_w2 (X : Vec Ideal S512x2048 .bf16) (inb) : View.ld X (Rect.unit (s := S512x2048) ![0, 0] ![512, 2048] inb) = X :=
  View.ld_unit_zero (S := S512x2048) off00 inb X
theorem ld_n (X : Vec Ideal S1x2048 .f32) (inb) : View.ld X (Rect.unit (s := S1x2048) ![0, 0] ![1, 2048] inb) = X :=
  View.ld_unit_zero (S := S1x2048) off00 inb X

/-- The normalised rows. -/
def gS (x0 : Vec Ideal S1024x2048 .f32) (x1 : Vec Ideal S1x2048 .f32) : Vec Ideal S1024x2048 .bf16 := fun y =>
  rms (fun j => x0 (ValueIdx.ix2 (y 0) j)) (fun j => x1 (ValueIdx.ix2 0 j)) (y 1)

/-- A block of hidden units' contribution, from the rows `h`. -/
def gP (h : Vec Ideal S1024x2048 .bf16) (x2 x3 : Vec Ideal S2048x512 .bf16) (x4 : Vec Ideal S512x2048 .bf16) : Vec Ideal S1024x2048 .f32 := fun y =>
  part (fun k => h (ValueIdx.ix2 (y 0) k)) (fun k j => x2 (ValueIdx.ix2 k j)) (fun k j => x3 (ValueIdx.ix2 k j)) (fun j => x4 (ValueIdx.ix2 j (y 1)))

/-- The last step's rows. -/
def gF (x0 o : Vec Ideal S1024x2048 .f32) : Vec Ideal S1024x2048 .f32 := fun y =>
  x0 (ValueIdx.ix2 (y 0) (y 1)) + Ideal.ofBits .f32 0x3F000000#32 * o (ValueIdx.ix2 (y 0) (y 1))

theorem ex_ix2 {a b : ℕ} (x : (⟨2, ![a, b]⟩ : Shape).Idx) : ∃ (r : Fin a) (k : Fin b), x = ValueIdx.ix2 r k :=
  ⟨x 0, x 1, ValueIdx.eq_ix2 x⟩

/-- An index of a tile's row, placed. -/
theorem place (R : ℕ) (off : ℕ) (inb : ∀ a, (![off, 0] : Fin 2 → Nat) a + (![R, 2048] : Fin 2 → Nat) a ≤ S1024x2048.size a)
    (r : Fin R) (c j : Fin 2048) :
    (Rect.unit (s := S1024x2048) ![off, 0] ![R, 2048] inb).idx (ValueIdx.ix2 r j)
      = ValueIdx.ix2 ((Rect.unit (s := S1024x2048) ![off, 0] ![R, 2048] inb).emb (ValueIdx.ix2 r c) 0) j := by
  funext a
  match a with
  | ⟨0, _⟩ => rfl
  | ⟨1, _⟩ => exact Fin.ext (by show 0 + 1 * j.val = j.val; omega)

theorem place1 (R : ℕ) (off : ℕ) (inb : ∀ a, (![off, 0] : Fin 2 → Nat) a + (![R, 2048] : Fin 2 → Nat) a ≤ S1024x2048.size a)
    (r : Fin R) (c : Fin 2048) :
    (Rect.unit (s := S1024x2048) ![off, 0] ![R, 2048] inb).emb (ValueIdx.ix2 r c) 1 = c :=
  Fin.ext (by show 0 + 1 * c.val = c.val; omega)

theorem ld_row (e : EltTy) (X : Vec Ideal S1024x2048 e) (R : ℕ) (off : ℕ) (inb : ∀ a, (![off, 0] : Fin 2 → Nat) a + (![R, 2048] : Fin 2 → Nat) a ≤ S1024x2048.size a)
    (r : Fin R) (c j : Fin 2048) :
    View.ld X (Rect.unit (s := S1024x2048) ![off, 0] ![R, 2048] inb) (ValueIdx.ix2 r j)
      = X (ValueIdx.ix2 ((Rect.unit (s := S1024x2048) ![off, 0] ![R, 2048] inb).emb (ValueIdx.ix2 r c) 0) j) :=
  congrArg X (place R off inb r c j)

section Tiles

variable (x0 : Vec Ideal S1024x2048 .f32) (x1 : Vec Ideal S1x2048 .f32) (x2 x3 : Vec Ideal S2048x512 .bf16) (x4 : Vec Ideal S512x2048 .bf16)
  (xo : Vec Ideal S1024x2048 .f32) (xs : Vec Ideal S1024x2048 .bf16)

theorem tileS (off : ℕ) (inb : ∀ a, (![off, 0] : Fin 2 → Nat) a + (![256, 2048] : Fin 2 → Nat) a ≤ S1024x2048.size a) (x : S256x2048.Idx) :
    rmsT (View.ld x0 (Rect.unit (s := S1024x2048) ![off, 0] ![256, 2048] inb)) x1 x
      = gS x0 x1 ((Rect.unit (s := S1024x2048) ![off, 0] ![256, 2048] inb).emb x) := by
  obtain ⟨r, c, rfl⟩ := ex_ix2 x
  refine (rmsT_apply _ _ _ _).trans ?_
  unfold gS
  erw [place1]
  congr 1
  funext j
  exact ld_row .f32 x0 256 off inb r c j

theorem tileA (off : ℕ) (inb : ∀ a, (![off, 0] : Fin 2 → Nat) a + (![256, 2048] : Fin 2 → Nat) a ≤ S1024x2048.size a) (x : S256x2048.Idx) :
    partA (rmsT (View.ld x0 (Rect.unit (s := S1024x2048) ![off, 0] ![256, 2048] inb)) x1) x2 x3 x4 x
      = gP (gS x0 x1) x2 x3 x4 ((Rect.unit (s := S1024x2048) ![off, 0] ![256, 2048] inb).emb x) := by
  obtain ⟨r, c, rfl⟩ := ex_ix2 x
  refine (partA_apply _ _ _ _ _ _).trans ?_
  unfold gP
  erw [place1]
  congr 1
  funext k
  refine (rmsT_apply _ _ _ _).trans ?_
  unfold gS
  congr 1
  funext j
  exact ld_row .f32 x0 256 off inb r c j

theorem tileB (off : ℕ) (inb : ∀ a, (![off, 0] : Fin 2 → Nat) a + (![512, 2048] : Fin 2 → Nat) a ≤ S1024x2048.size a) (x : S512x2048.Idx) :
    addf (View.ld xo (Rect.unit (s := S1024x2048) ![off, 0] ![512, 2048] inb)) (partB (View.ld xs (Rect.unit (s := S1024x2048) ![off, 0] ![512, 2048] inb)) x2 x3 x4) x
      = xo ((Rect.unit (s := S1024x2048) ![off, 0] ![512, 2048] inb).emb x) + gP xs x2 x3 x4 ((Rect.unit (s := S1024x2048) ![off, 0] ![512, 2048] inb).emb x) := by
  obtain ⟨r, c, rfl⟩ := ex_ix2 x
  rw [addf_apply]
  congr 1
  refine (partB_apply _ _ _ _ _ _).trans ?_
  unfold gP
  erw [place1]
  congr 1
  funext j
  exact ld_row .bf16 xs 512 off inb r c j

theorem tileC (off : ℕ) (inb : ∀ a, (![off, 0] : Fin 2 → Nat) a + (![256, 2048] : Fin 2 → Nat) a ≤ S1024x2048.size a) (x : S256x2048.Idx) :
    finT (View.ld x0 (Rect.unit (s := S1024x2048) ![off, 0] ![256, 2048] inb)) (addf (View.ld xo (Rect.unit (s := S1024x2048) ![off, 0] ![256, 2048] inb))
      (partA (View.ld xs (Rect.unit (s := S1024x2048) ![off, 0] ![256, 2048] inb)) x2 x3 x4)) x
      = gF x0 (fun y => xo y + gP xs x2 x3 x4 y) ((Rect.unit (s := S1024x2048) ![off, 0] ![256, 2048] inb).emb x) := by
  obtain ⟨r, c, rfl⟩ := ex_ix2 x
  unfold gF finT
  erw [place1]
  rw [addf_apply, mulf_apply, addf_apply, partA_apply]
  refine congr (congrArg _ (ld_row .f32 x0 256 off inb r c c)) ?_
  refine congrArg (Ideal.ofBits .f32 0x3F000000#32 * ·) ?_
  refine congr (congrArg _ (ld_row .f32 xo 256 off inb r c c)) ?_
  unfold gP
  congr 1
  funext k
  exact ld_row .bf16 xs 256 off inb r c k

end Tiles

section Cases

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32)

theorem caseA_out (hc0 : cond0_0 i) (hc1 : ¬cond0_1 i) (hc2 : ¬cond0_2 i) :
    out0_A_6 c i arg2 harg2 arg3 harg3 arg4 harg4 arg5 harg5 arg6 harg6 arg7 harg7 arg8 harg8 arg9 harg9 hc0 hc1 hc2 x0 x1 x2 x3 x4 x5 = gP (gS x0 x1) x2 x3 x4 := by
  funext y
  have hcov := cover0_A_6 c i arg2 harg2 arg3 harg3 arg4 harg4 arg5 harg5 arg6 harg6 arg7 harg7 arg8 harg8 arg9 harg9 hc0 hc1 hc2 x0 x1 x2 x3 x4 x5 y
  unfold out0_A_6
  rw [View.read_writes_eq_canon _ _ _ (by apply cover0_A_6)]
  revert hcov
  unfold kernelRun0_A
  dsimp only
  sl_unfold_words
  simp only [View.readAt_eq_ld, harg8.read_unread, harg2.read_unread, harg3.read_unread, harg4.read_unread, harg5.read_unread, harg6.read_unread, harg7.read_unread, harg9.read_unread, ld_w13, ld_w2, ld_n]
  simp only [a_out0, a_out1, a_out2, a_out3]
  intro hcov
  refine View.canon_apply_of_pieces (gP (gS x0 x1) x2 x3 x4) _ ?_ y hcov
  intro p hp x
  simp only [List.mem_cons, List.not_mem_nil, or_false] at hp
  rcases hp with rfl | rfl | rfl | rfl
  · exact tileA x0 x1 x2 x3 x4 768 _ x
  · exact tileA x0 x1 x2 x3 x4 512 _ x
  · exact tileA x0 x1 x2 x3 x4 256 _ x
  · exact tileA x0 x1 x2 x3 x4 0 _ x

theorem caseA_scr (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 hc0 hc1 hc2 x0 x1 x2 x3 x4 x5 = gS x0 x1 := by
  funext y
  have hcov := scover0_A_0 c i arg2 harg2 arg3 harg3 arg4 harg4 arg5 harg5 arg6 harg6 arg7 harg7 arg8 harg8 arg9 harg9 hc0 hc1 hc2 x0 x1 x2 x3 x4 x5 y
  unfold sout0_A_0
  rw [View.read_writes_eq_canon _ _ _ (by apply scover0_A_0)]
  revert hcov
  unfold kernelRun0_A
  dsimp only
  sl_unfold_words
  simp only [View.readAt_eq_ld, harg8.read_unread, harg2.read_unread, harg3.read_unread, harg4.read_unread, harg5.read_unread, harg6.read_unread, harg7.read_unread, harg9.read_unread, ld_w13, ld_w2, ld_n]
  simp only [a_scr0, a_scr1, a_scr2, a_scr3]
  intro hcov
  refine View.canon_apply_of_pieces (gS x0 x1) _ ?_ y hcov
  intro p hp x
  simp only [List.mem_cons, List.not_mem_nil, or_false] at hp
  rcases hp with rfl | rfl | rfl | rfl
  · exact tileS x0 x1 768 _ x
  · exact tileS x0 x1 512 _ x
  · exact tileS x0 x1 256 _ x
  · exact tileS x0 x1 0 _ x

variable (xo : Vec Ideal S1024x2048 .f32) (xs : Vec Ideal S1024x2048 .bf16)

theorem caseB_out (hc0 : ¬cond0_0 i) (hc1 : cond0_1 i) (hc2 : ¬cond0_2 i) :
    out0_B_6 c i arg2 harg2 arg3 harg3 arg4 harg4 arg5 harg5 arg6 harg6 arg7 harg7 arg8 harg8 arg9 harg9 hc0 hc1 hc2 x0 x1 x2 x3 x4 x5 xo xs = fun y => xo y + gP xs x2 x3 x4 y := by
  funext y
  have hcov := cover0_B_6 c i arg2 harg2 arg3 harg3 arg4 harg4 arg5 harg5 arg6 harg6 arg7 harg7 arg8 harg8 arg9 harg9 hc0 hc1 hc2 x0 x1 x2 x3 x4 x5 xo xs y
  unfold out0_B_6
  rw [View.read_writes_eq_canon _ _ _ (by apply cover0_B_6)]
  revert hcov
  unfold kernelRun0_B
  dsimp only
  sl_unfold_words
  simp only [View.readAt_eq_ld, harg8.read_unread, harg2.read_unread, harg3.read_unread, harg4.read_unread, harg5.read_unread, harg6.read_unread, harg7.read_unread, harg9.read_unread, ld_w13, ld_w2, ld_n]
  simp only [b_out0, b_out1]
  intro hcov
  refine View.canon_apply_of_pieces (fun y => xo y + gP xs x2 x3 x4 y) _ ?_ y hcov
  intro p hp x
  simp only [List.mem_cons, List.not_mem_nil, or_false] at hp
  rcases hp with rfl | rfl
  · exact tileB x2 x3 x4 xo xs 512 _ x
  · exact tileB x2 x3 x4 xo xs 0 _ x

theorem caseB_scr (hc0 : ¬cond0_0 i) (hc1 : cond0_1 i) (hc2 : ¬cond0_2 i) :
    sout0_B_0 c i arg2 harg2 arg3 harg3 arg4 harg4 arg5 harg5 arg6 harg6 arg7 harg7 arg8 harg8 arg9 harg9 hc0 hc1 hc2 x0 x1 x2 x3 x4 x5 xo xs = xs := by
  unfold sout0_B_0
  rfl

theorem caseC_out (hc0 : ¬cond0_0 i) (hc1 : ¬cond0_1 i) (hc2 : cond0_2 i) :
    out0_C_6 c i arg2 harg2 arg3 harg3 arg4 harg4 arg5 harg5 arg6 harg6 arg7 harg7 arg8 harg8 arg9 harg9 hc0 hc1 hc2 x0 x1 x2 x3 x4 x5 xo xs = gF x0 (fun y => xo y + gP xs x2 x3 x4 y) := by
  funext y
  have hcov := cover0_C_6 c i arg2 harg2 arg3 harg3 arg4 harg4 arg5 harg5 arg6 harg6 arg7 harg7 arg8 harg8 arg9 harg9 hc0 hc1 hc2 x0 x1 x2 x3 x4 x5 xo xs y
  unfold out0_C_6
  rw [View.read_writes_eq_canon _ _ _ (by apply cover0_C_6)]
  revert hcov
  unfold kernelRun0_C
  dsimp only
  sl_unfold_words
  simp only [View.readAt_eq_ld, harg8.read_unread, harg2.read_unread, harg3.read_unread, harg4.read_unread, harg5.read_unread, harg6.read_unread, harg7.read_unread, harg9.read_unread, ld_w13, ld_w2, ld_n]
  simp only [c_out0, c_out1, c_out2, c_out3]
  intro hcov
  refine View.canon_apply_of_pieces (gF x0 (fun y => xo y + gP xs x2 x3 x4 y)) _ ?_ y hcov
  intro p hp x
  simp only [List.mem_cons, List.not_mem_nil, or_false] at hp
  rcases hp with rfl | rfl | rfl | rfl
  · exact tileC x0 x2 x3 x4 xo xs 768 _ x
  · exact tileC x0 x2 x3 x4 xo xs 512 _ x
  · exact tileC x0 x2 x3 x4 xo xs 256 _ x
  · exact tileC x0 x2 x3 x4 xo xs 0 _ x

end Cases

end Cert.Ffn1Val

end
-- ==== Proof.Ffn1Val.Sweep.lean ====
/-
  The first feed-forward call's result: a row block's eleven grid steps add the hidden units block by block, so the array ends
  holding, at row `R` and column `d`, the sum of the row and half of all 5632 hidden units' contributions.
-/
module

public import proofs.«01_k».proof.Proof.Gen.Ffn1Ideal.Value
public import proofs.«01_k».proof.Proof.Ffn1Val.Cases
public import proofs.«01_k».proof.Proof.FfnVal.Sweep

@[expose] public section

set_option maxHeartbeats 1000000

noncomputable section

namespace Cert.Ffn1Val

open Idealize.ShloMosaic Idealize.ShloMosaic.TcCoe Idealize.ShloMosaic.Tactic Idealize.SL.Sem
open Cert.Ffn1Ideal Cert.Ffn1Ideal.Gen
open scoped BigOperators

/-- A row number. -/
def Rn (n : ℕ) : Fin 16384 := ⟨n % 16384, Nat.mod_lt _ (by decide)⟩
/-- A hidden unit's number. -/
def Cn (n : ℕ) : Fin 5632 := ⟨n % 5632, Nat.mod_lt _ (by decide)⟩

section Terms

variable (A0 : Vec Ideal S16384x2048 .f32) (A1 : Vec Ideal S1x2048 .f32) (A2 A3 : Vec Ideal S2048x5632 .bf16) (A4 : Vec Ideal S5632x2048 .bf16)

/-- Row `R`, normalised. -/
def hrow (R : Fin 16384) (k : Fin 2048) : EReal := rms (fun j => A0 (ValueIdx.ix2 R j)) (fun j => A1 (ValueIdx.ix2 0 j)) k

/-- What hidden unit `f` adds to row `R`, column `d`. -/
def up (R : Fin 16384) (f : Fin 5632) (d : Fin 2048) : EReal :=
  act (hrow A0 A1 R) (fun k => A2 (ValueIdx.ix2 k f)) (fun k => A3 (ValueIdx.ix2 k f)) * A4 (ValueIdx.ix2 f d)

/-- What block `b` of the hidden units adds to the row block `i`. -/
def T (i b : ℕ) (y : S1024x2048.Idx) : EReal := ∑ j : Fin 512, up A0 A1 A2 A3 A4 (Rn (1024 * i + (y 0).val)) (Cn (512 * b + j.val)) (y 1)

/-- Row block `i`, normalised. -/
def H (i : ℕ) : Vec Ideal S1024x2048 .bf16 := fun y => hrow A0 A1 (Rn (1024 * i + (y 0).val)) (y 1)

/-- The result at row `R`. -/
def res (R : Fin 16384) (d : Fin 2048) : EReal :=
  A0 (ValueIdx.ix2 R d) + Ideal.ofBits .f32 0x3F000000#32 * ∑ f : Fin 5632, up A0 A1 A2 A3 A4 R f d

theorem sum_blocks (R : Fin 16384) (d : Fin 2048) :
    ∑ b ∈ Finset.range 11, ∑ j : Fin 512, up A0 A1 A2 A3 A4 R (Cn (512 * b + j.val)) d = ∑ f : Fin 5632, up A0 A1 A2 A3 A4 R f d := by
  rw [Finset.sum_range (fun b => ∑ j : Fin 512, up A0 A1 A2 A3 A4 R (Cn (512 * b + j.val)) d)]
  rw [← Fintype.sum_prod_type' (fun (b : Fin 11) (j : Fin 512) => up A0 A1 A2 A3 A4 R (Cn (512 * b.val + j.val)) d)]
  refine Fintype.sum_equiv (finProdFinEquiv (m := 11) (n := 512)) _ (fun f : Fin 5632 => up A0 A1 A2 A3 A4 R f d) ?_
  rintro ⟨b, j⟩
  have hb := b.isLt
  have hj := j.isLt
  refine congrArg (fun f => up A0 A1 A2 A3 A4 R f d) (Fin.ext ?_)
  show (512 * b.val + j.val) % 5632 = j.val + 512 * b.val
  omega

end Terms

export Cert.FfnVal (rms_congr act_congr)

section Run

variable (m : (ℓ : Loc nD τ sig) → Buf (Elt Ideal) ℓ) (c : Dev nD)

/-- The arrays the region finds. -/
abbrev a0 : Vec Ideal S16384x2048 .f32 := V m c main_v3
abbrev a1 : Vec Ideal S1x2048 .f32 := V m c main_v5
abbrev a2 : Vec Ideal S2048x5632 .bf16 := V m c main_v6
abbrev a3 : Vec Ideal S2048x5632 .bf16 := V m c main_v7
abbrev a4 : Vec Ideal S5632x2048 .bf16 := V m c main_v8

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)
theorem blk0 (t : Fin cfg0.N) (r : Fin 1024) (k : Fin 2048) :
    iblk m c 0 t (ValueIdx.ix2 (n0 := 1024) (n1 := 2048) r k) = a0 m c (ValueIdx.ix2 (Rn (1024 * (t.val / 11) + r.val)) k) := by
  have ht : t.val < 176 := lt_of_lt_of_eq t.isLt N_0
  obtain ⟨e0, e1⟩ := idx0 t
  refine congrArg (V m c main_v3) ?_
  funext a
  apply Fin.ext
  match a with
  | ⟨0, _⟩ => show win0_0.index t (0 : Fin 2) * 1024 + 1 * r.val = (1024 * (t.val / 11) + r.val) % 16384; rw [e0]; have := r.isLt; omega
  | ⟨1, _⟩ => show win0_0.index t (1 : Fin 2) * 2048 + 1 * k.val = k.val; rw [e1]; omega

theorem blk1 (t : Fin cfg0.N) (k : Fin 2048) :
    iblk m c 1 t (ValueIdx.ix2 (n0 := 1) (n1 := 2048) 0 k) = a1 m c (ValueIdx.ix2 0 k) := by
  obtain ⟨e0, e1⟩ := idx1 t
  refine congrArg (V m c main_v5) ?_
  funext a
  apply Fin.ext
  match a with
  | ⟨0, _⟩ => show win0_1.index t (0 : Fin 2) * 1 + 1 * 0 = 0; rw [e0]
  | ⟨1, _⟩ => show win0_1.index t (1 : Fin 2) * 2048 + 1 * k.val = k.val; rw [e1]; omega

theorem blk2 (t : Fin cfg0.N) (k : Fin 2048) (j : Fin 512) :
    iblk m c 2 t (ValueIdx.ix2 (n0 := 2048) (n1 := 512) k j) = a2 m c (ValueIdx.ix2 k (Cn (512 * (t.val % 11) + j.val))) := by
  obtain ⟨e0, e1⟩ := idx2 t
  refine congrArg (V m c main_v6) ?_
  funext a
  apply Fin.ext
  match a with
  | ⟨0, _⟩ => show win0_2.index t (0 : Fin 2) * 2048 + 1 * k.val = k.val; rw [e0]; omega
  | ⟨1, _⟩ => show win0_2.index t (1 : Fin 2) * 512 + 1 * j.val = (512 * (t.val % 11) + j.val) % 5632; rw [e1]; have := j.isLt; omega

theorem blk3 (t : Fin cfg0.N) (k : Fin 2048) (j : Fin 512) :
    iblk m c 3 t (ValueIdx.ix2 (n0 := 2048) (n1 := 512) k j) = a3 m c (ValueIdx.ix2 k (Cn (512 * (t.val % 11) + j.val))) := by
  obtain ⟨e0, e1⟩ := idx3 t
  refine congrArg (V m c main_v7) ?_
  funext a
  apply Fin.ext
  match a with
  | ⟨0, _⟩ => show win0_3.index t (0 : Fin 2) * 2048 + 1 * k.val = k.val; rw [e0]; omega
  | ⟨1, _⟩ => show win0_3.index t (1 : Fin 2) * 512 + 1 * j.val = (512 * (t.val % 11) + j.val) % 5632; rw [e1]; have := j.isLt; omega

theorem blk4 (t : Fin cfg0.N) (j : Fin 512) (d : Fin 2048) :
    iblk m c 4 t (ValueIdx.ix2 (n0 := 512) (n1 := 2048) j d) = a4 m c (ValueIdx.ix2 (Cn (512 * (t.val % 11) + j.val)) d) := by
  obtain ⟨e0, e1⟩ := idx4 t
  refine congrArg (V m c main_v8) ?_
  funext a
  apply Fin.ext
  match a with
  | ⟨0, _⟩ => show win0_4.index t (0 : Fin 2) * 512 + 1 * j.val = (512 * (t.val % 11) + j.val) % 5632; rw [e0]; have := j.isLt; omega
  | ⟨1, _⟩ => show win0_4.index t (1 : Fin 2) * 2048 + 1 * d.val = d.val; rw [e1]; omega

theorem gS_eq (t : Fin cfg0.N) : gS (iblk m c 0 t) (iblk m c 1 t) = H (a0 m c) (a1 m c) (t.val / 11) := by
  funext y
  exact rms_congr (fun j => blk0 m c t (y 0) j) (fun j => blk1 m c t j) (y 1)

theorem gP_eq (t : Fin cfg0.N) (y : S1024x2048.Idx) :
    gP (H (a0 m c) (a1 m c) (t.val / 11)) (iblk m c 2 t) (iblk m c 3 t) (iblk m c 4 t) y
      = T (a0 m c) (a1 m c) (a2 m c) (a3 m c) (a4 m c) (t.val / 11) (t.val % 11) y := by
  unfold gP T Cert.FfnVal.part up
  refine Finset.sum_congr rfl fun j _ => ?_
  exact act_congr (fun k => rfl) (fun k => blk2 m c t k j) (fun k => blk3 m c t k j) (blk4 m c t j (y 1))

/-- The state after a step that is not a row block's last. -/
theorem inv : ∀ (n : ℕ) (h : n < cfg0.N), n % 11 < 10 →
    outsAt0 m c n h = ((fun y => ∑ b ∈ Finset.range (n % 11 + 1), T (a0 m c) (a1 m c) (a2 m c) (a3 m c) (a4 m c) (n / 11) b y),
      H (a0 m c) (a1 m c) (n / 11)) := by
  intro n
  induction n with
  | zero =>
    intro h _
    refine (outsAt0_A m c ⟨0, h⟩ (by show 0 % 11 = 0; omega) (by show ¬(1 ≤ 0 % 11 ∧ _); omega) (by show ¬(0 % 11 = 10); omega)).trans ?_
    rw [caseA_out, caseA_scr, gS_eq]
    refine Prod.ext ?_ rfl
    funext y
    refine (gP_eq m c ⟨0, h⟩ y).trans ?_
    simp
  | succ n ih =>
    intro h hn
    by_cases h0 : (n + 1) % 11 = 0
    · refine (outsAt0_A m c ⟨n + 1, h⟩ h0 (by show ¬(1 ≤ (n + 1) % 11 ∧ _); omega) (by show ¬((n + 1) % 11 = 10); omega)).trans ?_
      rw [caseA_out, caseA_scr, gS_eq]
      refine Prod.ext ?_ rfl
      funext y
      refine (gP_eq m c ⟨n + 1, h⟩ y).trans ?_
      show T _ _ _ _ _ ((n + 1) / 11) ((n + 1) % 11) y = _
      rw [h0]
      simp
    · have hp := ih (Nat.lt_of_succ_lt h) (by omega)
      refine (outsAt0_B m c ⟨n + 1, h⟩ h0 (by show 1 ≤ (n + 1) % 11 ∧ (n + 1) % 11 ≤ 9; omega) (by show ¬((n + 1) % 11 = 10); omega)).trans ?_
      rw [caseB_out, caseB_scr]
      have e : outsAt0 m c ((⟨n + 1, h⟩ : Fin cfg0.N).val - 1) (Nat.lt_of_le_of_lt (Nat.sub_le _ _) h) = _ := hp
      rw [e]
      have d1 : n / 11 = (n + 1) / 11 := by omega
      have d2 : n % 11 + 1 = (n + 1) % 11 := by omega
      rw [d1, d2]
      refine Prod.ext ?_ rfl
      funext y
      refine Eq.trans ?_ (Finset.sum_range_succ (fun b => T (a0 m c) (a1 m c) (a2 m c) (a3 m c) (a4 m c) ((n + 1) / 11) b y) ((n + 1) % 11)).symm
      exact congrArg (_ + ·) (gP_eq m c ⟨n + 1, h⟩ y)

/-- The block a row block's last step leaves. -/
theorem last (n : ℕ) (h : n < cfg0.N) (hn : n % 11 = 10) (y : S1024x2048.Idx) :
    (outsAt0 m c n h).1 y = res (a0 m c) (a1 m c) (a2 m c) (a3 m c) (a4 m c) (Rn (1024 * (n / 11) + (y 0).val)) (y 1) := by
  have e1 := outsAt0_C m c ⟨n, h⟩ (by show ¬(n % 11 = 0); omega) (by show ¬(1 ≤ n % 11 ∧ n % 11 ≤ 9); omega) hn
  have hp := inv m c (n - 1) (Nat.lt_of_le_of_lt (Nat.sub_le _ _) h) (by omega)
  refine (congrFun (congrArg Prod.fst e1) y).trans ?_
  dsimp only
  rw [caseC_out, hp]
  have d1 : (n - 1) / 11 = n / 11 := by omega
  have d2 : (n - 1) % 11 + 1 = 10 := by omega
  rw [d1, d2]
  have e3 := gP_eq m c ⟨n, h⟩ (ValueIdx.ix2 (y 0) (y 1))
  have e4 : (⟨n, h⟩ : Fin cfg0.N).val / 11 = n / 11 := rfl
  have e5 : (⟨n, h⟩ : Fin cfg0.N).val % 11 = 10 := hn
  rw [e4, e5] at e3
  have e6 := sum_blocks (a0 m c) (a1 m c) (a2 m c) (a3 m c) (a4 m c) (Rn (1024 * (n / 11) + (y 0).val)) (y 1)
  rw [Finset.sum_range_succ] at e6
  unfold gF res
  refine congrArg₂ (· + ·) (blk0 m c ⟨n, h⟩ (y 0) (y 1)) (congrArg (fun z => Ideal.ofBits .f32 0x3F000000#32 * z) ?_)
  refine Eq.trans ?_ e6
  exact congrArg₂ (· + ·) rfl e3

/-- The result array. -/
theorem G6_apply (R : Fin 16384) (d : Fin 2048) :
    Value.G6 m c (ValueIdx.ix2 R d) = res (a0 m c) (a1 m c) (a2 m c) (a3 m c) (a4 m c) R d := by
  have hR := R.isLt
  have hd := d.isLt
  have hp : Value.pt6Of (ValueIdx.ix2 R d) = 11 * (R.val / 1024) + 10 := by
    show 11 * (1 * (R.val / 1024 - 0) + 1 * (d.val / 2048 - 0)) + 10 = _
    omega
  have hlt : Value.pt6Of (ValueIdx.ix2 R d) < cfg0.N := by
    rw [hp, show cfg0.N = 176 from N_0]; omega
  unfold Value.G6
  rw [dif_pos hlt, ← Value.outsAt0_sweep m c _ hlt]
  rw [last m c _ hlt (by rw [hp]; omega)]
  have e0 : Rn (1024 * (Value.pt6Of (ValueIdx.ix2 R d) / 11) + (Value.loc6Of (ValueIdx.ix2 R d) 0).val) = R := by
    rw [hp]
    refine Fin.ext ?_
    show (1024 * ((11 * (R.val / 1024) + 10) / 11) + R.val % 1024) % 16384 = R.val
    omega
  have e1 : Value.loc6Of (ValueIdx.ix2 R d) 1 = d := Fin.ext (by show d.val % 2048 = d.val; omega)
  rw [e0, e1]

end Run

end Cert.Ffn1Val

end
-- ==== Proof.Ffn1Val.Final.lean ====
/-
  The reference's first feed-forward layer reads, at row `R` and column `d`, as the same expression the kernel's result array
  holds there; with it the algebraic claim about the pair.
-/
module

public import proofs.«01_k».proof.Defs
public import proofs.«01_k».proof.Proof.Gen.Ffn1RefIdeal.Read
public import proofs.«01_k».proof.Proof.Ffn1Val.Sweep
public import proofs.«01_k».proof.Proof.FfnVal.Final

@[expose] public section

set_option maxHeartbeats 1000000

noncomputable section

namespace Cert.Ffn1Val

open Idealize.ShloMosaic Idealize.ShloMosaic.TcCoe Idealize.ShloMosaic.Tactic Idealize.SL.Sem
open scoped BigOperators

section Reference

open Cert.Ffn1RefIdeal Cert.Ffn1RefIdeal.Gen Cert.Ffn1RefIdeal.Read

variable (x0 : FVec Ideal S2x8192x2048 .f32) (x1 : FVec Ideal S1x2048 .f32) (x2 x3 : FVec Ideal S1x2048x5632 .f32)
  (x4 : FVec Ideal S1x5632x2048 .f32)

/-- The first normalisation. -/
theorem r_norm (b : Fin 2) (l : Fin 8192) (k : Fin 2048) :
    val_main_v13 (F := Ideal) x0 x1 (ValueIdx.ix3 b l k) = rms (fun j => x0 (ValueIdx.ix3 b l j)) (fun j => x1 (ValueIdx.ix2 0 j)) k := by
  rw [val_main_v13_apply, val_main_v12_apply, val_main_v11_apply, val_main_v0_apply, val_main_v10_apply, val_main_v9_apply, val_main_v8_apply,
    val_main_v7_apply, val_main_v6_apply, val_main_cst_1_apply, val_main_v5_apply, val_main_v4_apply, val_main_cst_0_apply, val_main_v3_apply,
    val_main_v2_apply, val_main_cst_apply]
  simp only [val_main_v1_apply]
  have e1 : idx_main_v0 (idx_main_v11 (idx_main_v12 (ValueIdx.ix3 b l k))) = ValueIdx.ix2 0 k := by
    funext a; apply Fin.ext
    match a with
    | ⟨0, _⟩ => rfl
    | ⟨1, _⟩ => exact Nat.mod_eq_of_lt k.isLt
  have e2 : ∀ j : Fin 2048, idx_main_v2 (idx_main_v3 (idx_main_v9 (ValueIdx.ix3 b l k))) j = ValueIdx.ix3 b l j := by
    intro j; funext a
    match a with
    | ⟨0, _⟩ => rfl
    | ⟨1, _⟩ => rfl
    | ⟨2, _⟩ => rfl
  rw [e1]
  simp only [e2]
  unfold Cert.FfnVal.rms
  show x0 _ * Ideal.rsqrt (Ideal.div (Ideal.ofBits .f32 0x00000000#32 + ∑ j : Fin 2048, x0 (ValueIdx.ix3 b l j) * x0 (ValueIdx.ix3 b l j)) _ + _) * _ = _
  rw [Ideal.ofBits_zero_f32, zero_add]
  rfl

theorem r_w1 (k : Fin 2048) (f : Fin 5632) : val_main_v14 (F := Ideal) x2 (ValueIdx.ix2 k f) = x2 (ValueIdx.ix3 0 k f) := by
  rw [val_main_v14_apply]
  refine congrArg x2 ?_
  funext a; apply Fin.ext
  have hk := k.isLt; have hf := f.isLt
  match a with
  | ⟨0, _⟩ => rfl
  | ⟨1, _⟩ => show (k.val * 5632 + f.val) / 5632 % 2048 = k.val; omega
  | ⟨2, _⟩ => show (k.val * 5632 + f.val) % 5632 = f.val; omega

theorem r_w3 (k : Fin 2048) (f : Fin 5632) : val_main_v15 (F := Ideal) x3 (ValueIdx.ix2 k f) = x3 (ValueIdx.ix3 0 k f) := r_w1 x3 k f

theorem r_w2 (f : Fin 5632) (d : Fin 2048) : val_main_v16 (F := Ideal) x4 (ValueIdx.ix2 f d) = x4 (ValueIdx.ix3 0 f d) := by
  rw [val_main_v16_apply]
  refine congrArg x4 ?_
  funext a; apply Fin.ext
  have hk := f.isLt; have hf := d.isLt
  match a with
  | ⟨0, _⟩ => rfl
  | ⟨1, _⟩ => show (f.val * 2048 + d.val) / 2048 % 5632 = f.val; omega
  | ⟨2, _⟩ => show (f.val * 2048 + d.val) % 2048 = d.val; omega

theorem r_dot1 (b : Fin 2) (l : Fin 8192) (f : Fin 5632) :
    val_main_v17 (F := Ideal) x0 x1 x2 (ValueIdx.ix3 b l f)
      = ∑ k : Fin 2048, rms (fun j => x0 (ValueIdx.ix3 b l j)) (fun j => x1 (ValueIdx.ix2 0 j)) k * x2 (ValueIdx.ix3 0 k f) := by
  rw [val_main_v17_apply]
  refine Finset.sum_congr rfl fun k _ => ?_
  have e1 : lidx_main_v17 (ValueIdx.ix3 b l f) k = ValueIdx.ix3 b l k := by
    funext a
    match a with
    | ⟨0, _⟩ => rfl
    | ⟨1, _⟩ => rfl
    | ⟨2, _⟩ => rfl
  have e2 : ridx_main_v17 (ValueIdx.ix3 b l f) k = ValueIdx.ix2 k f := by
    funext a
    match a with
    | ⟨0, _⟩ => rfl
    | ⟨1, _⟩ => rfl
  rw [e1, e2, r_norm, r_w1]

theorem r_dot3 (b : Fin 2) (l : Fin 8192) (f : Fin 5632) :
    val_main_v19 (F := Ideal) x0 x1 x3 (ValueIdx.ix3 b l f)
      = ∑ k : Fin 2048, rms (fun j => x0 (ValueIdx.ix3 b l j)) (fun j => x1 (ValueIdx.ix2 0 j)) k * x3 (ValueIdx.ix3 0 k f) :=
  r_dot1 x0 x1 x3 b l f

/-- One hidden unit. -/
theorem r_act (b : Fin 2) (l : Fin 8192) (f : Fin 5632) :
    val_main_v20 (F := Ideal) x0 x1 x2 x3 (ValueIdx.ix3 b l f)
      = act (rms (fun j => x0 (ValueIdx.ix3 b l j)) (fun j => x1 (ValueIdx.ix2 0 j))) (fun k => x2 (ValueIdx.ix3 0 k f)) (fun k => x3 (ValueIdx.ix3 0 k f)) := by
  rw [val_main_v20_apply, val_main_v18_apply, val_main_call0_v5_apply, val_main_call0_v4_apply, val_main_call0_cst_0_apply, val_main_call0_v3_apply,
    val_main_call0_v2_apply, val_main_call0_cst_apply, val_main_call0_v1_apply, val_main_call0_v0_apply, r_dot1, r_dot3]
  rfl

/-- The row after the residual. -/
theorem r_res (b : Fin 2) (l : Fin 8192) (d : Fin 2048) :
    val_main_v24 (F := Ideal) x0 x1 x2 x3 x4 (ValueIdx.ix3 b l d)
      = x0 (ValueIdx.ix3 b l d) + Ideal.ofBits .f32 0x3F000000#32 * ∑ f : Fin 5632,
          act (rms (fun j => x0 (ValueIdx.ix3 b l j)) (fun j => x1 (ValueIdx.ix2 0 j))) (fun k => x2 (ValueIdx.ix3 0 k f)) (fun k => x3 (ValueIdx.ix3 0 k f))
            * x4 (ValueIdx.ix3 0 f d) := by
  rw [val_main_v24_apply, val_main_v23_apply, val_main_v22_apply, val_main_cst_2_apply, val_main_v21_apply]
  refine congrArg (x0 (ValueIdx.ix3 b l d) + Ideal.ofBits .f32 0x3F000000#32 * ·) ?_
  refine Finset.sum_congr rfl fun f _ => ?_
  have e1 : lidx_main_v21 (ValueIdx.ix3 b l d) f = ValueIdx.ix3 b l f := by
    funext a
    match a with
    | ⟨0, _⟩ => rfl
    | ⟨1, _⟩ => rfl
    | ⟨2, _⟩ => rfl
  have e2 : ridx_main_v21 (ValueIdx.ix3 b l d) f = ValueIdx.ix2 f d := by
    funext a
    match a with
    | ⟨0, _⟩ => rfl
    | ⟨1, _⟩ => rfl
  rw [e1, e2, r_act, r_w2]

export Cert.FfnVal (bat pos act_eq)

/-- The reference's result is the kernel's expression over the reshaped arrays. -/
theorem r_final (A0 : Vec Ideal Cert.Ffn1Ideal.S16384x2048 .f32) (A1 : Vec Ideal Cert.Ffn1Ideal.S1x2048 .f32) (A2 A3 : Vec Ideal Cert.Ffn1Ideal.S2048x5632 .bf16)
    (A4 : Vec Ideal Cert.Ffn1Ideal.S5632x2048 .bf16)
    (h0 : ∀ R k, A0 (ValueIdx.ix2 R k) = x0 (ValueIdx.ix3 (bat R) (pos R) k)) (h1 : ∀ k, A1 (ValueIdx.ix2 0 k) = x1 (ValueIdx.ix2 0 k))
    (h2 : ∀ k f, A2 (ValueIdx.ix2 k f) = x2 (ValueIdx.ix3 0 k f)) (h3 : ∀ k f, A3 (ValueIdx.ix2 k f) = x3 (ValueIdx.ix3 0 k f))
    (h4 : ∀ f d, A4 (ValueIdx.ix2 f d) = x4 (ValueIdx.ix3 0 f d))
    (R : Fin 16384) (d : Fin 2048) :
    res A0 A1 A2 A3 A4 R d = val_main_v25 (F := Ideal) x0 x1 x2 x3 x4 (ValueIdx.ix2 R d) := by
  rw [val_main_v25_apply]
  have e : idx_main_v25 (ValueIdx.ix2 R d) = ValueIdx.ix3 (bat R) (pos R) d := by
    funext a; apply Fin.ext
    have hR := R.isLt; have hd := d.isLt
    match a with
    | ⟨0, _⟩ => show (R.val * 2048 + d.val) / 16777216 = R.val / 8192; omega
    | ⟨1, _⟩ => show (R.val * 2048 + d.val) / 2048 % 8192 = R.val % 8192; omega
    | ⟨2, _⟩ => show (R.val * 2048 + d.val) % 2048 = d.val; omega
  rw [e, r_res]
  unfold res
  refine congr (congrArg (· + ·) (h0 R d)) (congrArg (Ideal.ofBits .f32 0x3F000000#32 * ·) (Finset.sum_congr rfl fun f _ => ?_))
  exact congr (congrArg (· * ·) (act_eq (fun k => rms_congr (h0 R) h1 k) (fun k => h2 k f) (fun k => h3 k f))) (h4 f d)

end Reference

section Kernel

open Cert.Ffn1Ideal Cert.Ffn1Ideal.Gen

variable (m : (ℓ : Loc nD τ sig) → Buf (Elt Ideal) ℓ) (c : Dev nD)

theorem a0_apply (R : Fin 16384) (k : Fin 2048) :
    a0 m c (ValueIdx.ix2 R k) = m ((c : Thread nD τ).loc main_arg0) (ValueIdx.ix3 (bat R) (pos R) k) := by
  have e : a0 m c = shapeCast S16384x2048 (m ((c : Thread nD τ).loc main_arg0)) shapeCasts_S2x8192x2048_S16384x2048 := by
    unfold a0 V hostOps0; after_results; rfl
  rw [e]
  refine shapeCast_apply _ shapeCasts_S2x8192x2048_S16384x2048 _ _ ?_
  rewrite [Shape.rowMajor_val_three, Shape.rowMajor_val_two]
  have hR := R.isLt
  show (R.val / 8192 * 8192 + R.val % 8192) * 2048 + k.val = R.val * 2048 + k.val
  omega

theorem a1_apply (k : Fin 2048) : a1 m c (ValueIdx.ix2 0 k) = m ((c : Thread nD τ).loc main_arg1) (ValueIdx.ix2 0 k) := by
  have e : a1 m c = shapeCast S1x2048 (shapeCast S2048 (m ((c : Thread nD τ).loc main_arg1)) shapeCasts_S1x2048_S2048) shapeCasts_S2048_S1x2048 := by
    unfold a1 V hostOps0; after_results; rfl
  rw [e]
  refine (shapeCast_apply _ shapeCasts_S2048_S1x2048 (ValueIdx.ix2 0 k) (ValueIdx.ix1 k) ?_).trans
    (shapeCast_apply _ shapeCasts_S1x2048_S2048 (ValueIdx.ix1 k) (ValueIdx.ix2 0 k) ?_)
  · rewrite [Shape.rowMajor_val_two, Shape.rowMajor_val_one]
    show k.val = 0 * 2048 + k.val
    omega
  · rewrite [Shape.rowMajor_val_two, Shape.rowMajor_val_one]
    show 0 * 2048 + k.val = k.val
    omega

/-- A stacked weight's only layer, cast. -/
theorem w13_apply (x : FVec Ideal S1x2048x5632 .f32) (k : Fin 2048) (f : Fin 5632) :
    shapeCast S2048x5632 (truncf .bf16 x bitsLt_bf16_f32 : FVec Ideal S1x2048x5632 .bf16) shapeCasts_S1x2048x5632_S2048x5632 (ValueIdx.ix2 k f) = x (ValueIdx.ix3 0 k f) := by
  refine (shapeCast_apply _ shapeCasts_S1x2048x5632_S2048x5632 (ValueIdx.ix2 k f) (ValueIdx.ix3 0 k f) ?_).trans rfl
  rewrite [Shape.rowMajor_val_three, Shape.rowMajor_val_two]
  show (0 * 2048 + k.val) * 5632 + f.val = k.val * 5632 + f.val
  omega

theorem w2_apply (x : FVec Ideal S1x5632x2048 .f32) (f : Fin 5632) (d : Fin 2048) :
    shapeCast S5632x2048 (truncf .bf16 x bitsLt_bf16_f32 : FVec Ideal S1x5632x2048 .bf16) shapeCasts_S1x5632x2048_S5632x2048 (ValueIdx.ix2 f d) = x (ValueIdx.ix3 0 f d) := by
  refine (shapeCast_apply _ shapeCasts_S1x5632x2048_S5632x2048 (ValueIdx.ix2 f d) (ValueIdx.ix3 0 f d) ?_).trans rfl
  rewrite [Shape.rowMajor_val_three, Shape.rowMajor_val_two]
  show (0 * 5632 + f.val) * 2048 + d.val = f.val * 2048 + d.val
  omega

theorem a2_apply (k : Fin 2048) (f : Fin 5632) : a2 m c (ValueIdx.ix2 k f) = m ((c : Thread nD τ).loc main_arg2) (ValueIdx.ix3 0 k f) := by
  have e : a2 m c = shapeCast S2048x5632 (truncf (F := Ideal) (s := S1x2048x5632) .bf16 (m ((c : Thread nD τ).loc main_arg2)) bitsLt_bf16_f32) shapeCasts_S1x2048x5632_S2048x5632 := by
    unfold a2 V hostOps0; after_results; rfl
  rw [e]
  exact w13_apply _ k f

theorem a3_apply (k : Fin 2048) (f : Fin 5632) : a3 m c (ValueIdx.ix2 k f) = m ((c : Thread nD τ).loc main_arg3) (ValueIdx.ix3 0 k f) := by
  have e : a3 m c = shapeCast S2048x5632 (truncf (F := Ideal) (s := S1x2048x5632) .bf16 (m ((c : Thread nD τ).loc main_arg3)) bitsLt_bf16_f32) shapeCasts_S1x2048x5632_S2048x5632 := by
    unfold a3 V hostOps0; after_results; rfl
  rw [e]
  exact w13_apply _ k f

theorem a4_apply (f : Fin 5632) (d : Fin 2048) : a4 m c (ValueIdx.ix2 f d) = m ((c : Thread nD τ).loc main_arg4) (ValueIdx.ix3 0 f d) := by
  have e : a4 m c = shapeCast S5632x2048 (truncf (F := Ideal) (s := S1x5632x2048) .bf16 (m ((c : Thread nD τ).loc main_arg4)) bitsLt_bf16_f32) shapeCasts_S1x5632x2048_S5632x2048 := by
    unfold a4 V hostOps0; after_results; rfl
  rw [e]
  exact w2_apply _ f d

end Kernel

/-- The two programs' results agree. -/
theorem algebraic_ffn1 : Cert.algebraic_Ffn1Ideal_Ffn1RefIdeal := by
  intro m ρ m' ρ' _ hagree
  refine ⟨fun c => Cert.Ffn1Ideal.Value.G6 m c, Cert.Ffn1Ideal.Value.run m ρ, ?_⟩
  refine (θ_run Cert.Ffn1RefIdeal.defs _ _).mono (fun _ h c => ⟨(h c).1.trans ?_, (h c).2⟩) (Cert.Ffn1RefIdeal.Value.run m' ρ')
  obtain ⟨g0, g1, g2, g3, g4⟩ := hagree c
  rw [Cert.Ffn1RefIdeal.Read.val_main_v25_eq, g0, g1, g2, g3, g4]
  funext y
  rw [ValueIdx.eq_ix2 y]
  refine (r_final _ _ _ _ _ _ _ _ _ _ (a0_apply m c) (a1_apply m c) (a2_apply m c) (a3_apply m c) (a4_apply m c) _ _).symm.trans ?_
  exact (G6_apply m c _ _).symm

end Cert.Ffn1Val

end
-- ==== Proof.MixVal.Base.lean ====
module

public import proofs.«01_k».proof.Proof.Gen.MixIdeal.Launch
public import proofs.«01_k».proof.Proof.Gen.MixIdeal.Skeleton
public import proofs.«01_k».proof.Proof.Gen.MixIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixVal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).1 3).trans (((dats 0 c).arrAt_in 3 rfl _).trans ((hA c 3).trans (V_main_arg1 m c))),
      ((h c).1 6).trans (((dats 0 c).arrAt_in 6 rfl _).trans ((hA c 6).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

abbrev VO0_13 : View sig .tc .vmem S512x2048 .f32 := (Memref.whole cc0_stg13_0 : Memref sig .tc .vmem S512x2048 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x31x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x2048 .f32 := win0_13.stage (cfg0.slots t 13)
abbrev hs0_13 (t : Fin cfg0.N) : (ms0_13 t).IsWhole := hstage0_13 ((cfg0.slots t 13).cast nbuf0_13)
abbrev scM0_0 : Memref sig .tc .vmem S8x544x128 .f32 := Memref.whole cc0_scratch0
abbrev scM0_1 : Memref sig .tc .vmem S8x128x128 .f32 := Memref.whole cc0_scratch1
abbrev scM0_2 : Memref sig .tc .vmem S2x128x1024 .bf16 := Memref.whole cc0_scratch2

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.MixVal

end
-- ==== Proof.MixVal.Run.lean ====
module

public import proofs.«01_k».proof.Proof.MixVal.Base

@[expose] public section

set_option maxRecDepth 16384

noncomputable section

namespace Cert.MixVal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
instance slotOff9 (k : Fin k0_t1_loop.trips) : ClosedOff (k0_off9 k) := ⟨![(k.val + 1) % 2, 0, 0], (by decide +kernel : ∀ k : Fin k0_t1_loop.trips, k0_off9 k = ![(k.val + 1) % 2, 0, 0]) k⟩
instance slotOff10 (k : Fin k0_t1_loop.trips) : ClosedOff (k0_off10 k) := ⟨![(k.val + 1) % 2, 0, 128], (by decide +kernel : ∀ k : Fin k0_t1_loop.trips, k0_off10 k = ![(k.val + 1) % 2, 0, 128]) k⟩
instance slotOff11 (k : Fin k0_t1_loop.trips) : ClosedOff (k0_off11 k) := ⟨![(k.val + 1) % 2, 0, 256], (by decide +kernel : ∀ k : Fin k0_t1_loop.trips, k0_off11 k = ![(k.val + 1) % 2, 0, 256]) k⟩
instance slotOff12 (k : Fin k0_t1_loop.trips) : ClosedOff (k0_off12 k) := ⟨![(k.val + 1) % 2, 0, 384], (by decide +kernel : ∀ k : Fin k0_t1_loop.trips, k0_off12 k = ![(k.val + 1) % 2, 0, 384]) k⟩
instance slotOff13 (k : Fin k0_t1_loop.trips) : ClosedOff (k0_off13 k) := ⟨![(k.val + 1) % 2, 0, 512], (by decide +kernel : ∀ k : Fin k0_t1_loop.trips, k0_off13 k = ![(k.val + 1) % 2, 0, 512]) k⟩
instance slotOff14 (k : Fin k0_t1_loop.trips) : ClosedOff (k0_off14 k) := ⟨![(k.val + 1) % 2, 0, 640], (by decide +kernel : ∀ k : Fin k0_t1_loop.trips, k0_off14 k = ![(k.val + 1) % 2, 0, 640]) k⟩
instance slotOff15 (k : Fin k0_t1_loop.trips) : ClosedOff (k0_off15 k) := ⟨![(k.val + 1) % 2, 0, 768], (by decide +kernel : ∀ k : Fin k0_t1_loop.trips, k0_off15 k = ![(k.val + 1) % 2, 0, 768]) k⟩
instance slotOff16 (k : Fin k0_t1_loop.trips) : ClosedOff (k0_off16 k) := ⟨![(k.val + 1) % 2, 0, 896], (by decide +kernel : ∀ k : Fin k0_t1_loop.trips, k0_off16 k = ![(k.val + 1) % 2, 0, 896]) k⟩
instance slotOff17 (k : Fin k0_t1_loop.trips) : ClosedOff (k0_off17 k) := ⟨![(k.val + 1) % 2, 32, 0], (by decide +kernel : ∀ k : Fin k0_t1_loop.trips, k0_off17 k = ![(k.val + 1) % 2, 32, 0]) k⟩
instance slotOff18 (k : Fin k0_t1_loop.trips) : ClosedOff (k0_off18 k) := ⟨![(k.val + 1) % 2, 32, 128], (by decide +kernel : ∀ k : Fin k0_t1_loop.trips, k0_off18 k = ![(k.val + 1) % 2, 32, 128]) k⟩
instance slotOff19 (k : Fin k0_t1_loop.trips) : ClosedOff (k0_off19 k) := ⟨![(k.val + 1) % 2, 32, 256], (by decide +kernel : ∀ k : Fin k0_t1_loop.trips, k0_off19 k = ![(k.val + 1) % 2, 32, 256]) k⟩
instance slotOff20 (k : Fin k0_t1_loop.trips) : ClosedOff (k0_off20 k) := ⟨![(k.val + 1) % 2, 32, 384], (by decide +kernel : ∀ k : Fin k0_t1_loop.trips, k0_off20 k = ![(k.val + 1) % 2, 32, 384]) k⟩
instance slotOff21 (k : Fin k0_t1_loop.trips) : ClosedOff (k0_off21 k) := ⟨![(k.val + 1) % 2, 32, 512], (by decide +kernel : ∀ k : Fin k0_t1_loop.trips, k0_off21 k = ![(k.val + 1) % 2, 32, 512]) k⟩
instance slotOff22 (k : Fin k0_t1_loop.trips) : ClosedOff (k0_off22 k) := ⟨![(k.val + 1) % 2, 32, 640], (by decide +kernel : ∀ k : Fin k0_t1_loop.trips, k0_off22 k = ![(k.val + 1) % 2, 32, 640]) k⟩
instance slotOff23 (k : Fin k0_t1_loop.trips) : ClosedOff (k0_off23 k) := ⟨![(k.val + 1) % 2, 32, 768], (by decide +kernel : ∀ k : Fin k0_t1_loop.trips, k0_off23 k = ![(k.val + 1) % 2, 32, 768]) k⟩
instance slotOff24 (k : Fin k0_t1_loop.trips) : ClosedOff (k0_off24 k) := ⟨![(k.val + 1) % 2, 32, 896], (by decide +kernel : ∀ k : Fin k0_t1_loop.trips, k0_off24 k = ![(k.val + 1) % 2, 32, 896]) k⟩
instance slotOff25 (k : Fin k0_t1_loop.trips) : ClosedOff (k0_off25 k) := ⟨![(k.val + 1) % 2, 64, 0], (by decide +kernel : ∀ k : Fin k0_t1_loop.trips, k0_off25 k = ![(k.val + 1) % 2, 64, 0]) k⟩
instance slotOff26 (k : Fin k0_t1_loop.trips) : ClosedOff (k0_off26 k) := ⟨![(k.val + 1) % 2, 64, 128], (by decide +kernel : ∀ k : Fin k0_t1_loop.trips, k0_off26 k = ![(k.val + 1) % 2, 64, 128]) k⟩
instance slotOff27 (k : Fin k0_t1_loop.trips) : ClosedOff (k0_off27 k) := ⟨![(k.val + 1) % 2, 64, 256], (by decide +kernel : ∀ k : Fin k0_t1_loop.trips, k0_off27 k = ![(k.val + 1) % 2, 64, 256]) k⟩
instance slotOff28 (k : Fin k0_t1_loop.trips) : ClosedOff (k0_off28 k) := ⟨![(k.val + 1) % 2, 64, 384], (by decide +kernel : ∀ k : Fin k0_t1_loop.trips, k0_off28 k = ![(k.val + 1) % 2, 64, 384]) k⟩
instance slotOff29 (k : Fin k0_t1_loop.trips) : ClosedOff (k0_off29 k) := ⟨![(k.val + 1) % 2, 64, 512], (by decide +kernel : ∀ k : Fin k0_t1_loop.trips, k0_off29 k = ![(k.val + 1) % 2, 64, 512]) k⟩
instance slotOff30 (k : Fin k0_t1_loop.trips) : ClosedOff (k0_off30 k) := ⟨![(k.val + 1) % 2, 64, 640], (by decide +kernel : ∀ k : Fin k0_t1_loop.trips, k0_off30 k = ![(k.val + 1) % 2, 64, 640]) k⟩
instance slotOff31 (k : Fin k0_t1_loop.trips) : ClosedOff (k0_off31 k) := ⟨![(k.val + 1) % 2, 64, 768], (by decide +kernel : ∀ k : Fin k0_t1_loop.trips, k0_off31 k = ![(k.val + 1) % 2, 64, 768]) k⟩
instance slotOff32 (k : Fin k0_t1_loop.trips) : ClosedOff (k0_off32 k) := ⟨![(k.val + 1) % 2, 64, 896], (by decide +kernel : ∀ k : Fin k0_t1_loop.trips, k0_off32 k = ![(k.val + 1) % 2, 64, 896]) k⟩
instance slotOff33 (k : Fin k0_t1_loop.trips) : ClosedOff (k0_off33 k) := ⟨![(k.val + 1) % 2, 96, 0], (by decide +kernel : ∀ k : Fin k0_t1_loop.trips, k0_off33 k = ![(k.val + 1) % 2, 96, 0]) k⟩
instance slotOff34 (k : Fin k0_t1_loop.trips) : ClosedOff (k0_off34 k) := ⟨![(k.val + 1) % 2, 96, 128], (by decide +kernel : ∀ k : Fin k0_t1_loop.trips, k0_off34 k = ![(k.val + 1) % 2, 96, 128]) k⟩
instance slotOff35 (k : Fin k0_t1_loop.trips) : ClosedOff (k0_off35 k) := ⟨![(k.val + 1) % 2, 96, 256], (by decide +kernel : ∀ k : Fin k0_t1_loop.trips, k0_off35 k = ![(k.val + 1) % 2, 96, 256]) k⟩
instance slotOff36 (k : Fin k0_t1_loop.trips) : ClosedOff (k0_off36 k) := ⟨![(k.val + 1) % 2, 96, 384], (by decide +kernel : ∀ k : Fin k0_t1_loop.trips, k0_off36 k = ![(k.val + 1) % 2, 96, 384]) k⟩
instance slotOff37 (k : Fin k0_t1_loop.trips) : ClosedOff (k0_off37 k) := ⟨![(k.val + 1) % 2, 96, 512], (by decide +kernel : ∀ k : Fin k0_t1_loop.trips, k0_off37 k = ![(k.val + 1) % 2, 96, 512]) k⟩
instance slotOff38 (k : Fin k0_t1_loop.trips) : ClosedOff (k0_off38 k) := ⟨![(k.val + 1) % 2, 96, 640], (by decide +kernel : ∀ k : Fin k0_t1_loop.trips, k0_off38 k = ![(k.val + 1) % 2, 96, 640]) k⟩
instance slotOff39 (k : Fin k0_t1_loop.trips) : ClosedOff (k0_off39 k) := ⟨![(k.val + 1) % 2, 96, 768], (by decide +kernel : ∀ k : Fin k0_t1_loop.trips, k0_off39 k = ![(k.val + 1) % 2, 96, 768]) k⟩
instance slotOff40 (k : Fin k0_t1_loop.trips) : ClosedOff (k0_off40 k) := ⟨![(k.val + 1) % 2, 96, 896], (by decide +kernel : ∀ k : Fin k0_t1_loop.trips, k0_off40 k = ![(k.val + 1) % 2, 96, 896]) k⟩
instance slotOff49 (k : Fin k0_t1_loop.trips) : ClosedOff (k0_off49 k) := ⟨![k.val % 2, 0, 0], (by decide +kernel : ∀ k : Fin k0_t1_loop.trips, k0_off49 k = ![k.val % 2, 0, 0]) k⟩

set_option maxHeartbeats 3120000 in
noncomputable def bodyRun (c : Dev nD) (i : grid0.Coords) (arg2 : Memref sig .tc .vmem S512x2048 .f32) (harg2 : arg2.IsWhole) (arg3 : Memref sig .tc .vmem S8x512x128 .f32) (harg3 : arg3.IsWhole) (arg4 : Memref sig .tc .vmem S8x16x128 .f32) (harg4 : arg4.IsWhole) (arg5 : Memref sig .tc .vmem S8x16x128 .f32) (harg5 : arg5.IsWhole) (arg6 : Memref sig .tc .vmem S8x512x128 .bf16) (harg6 : arg6.IsWhole) (arg7 : Memref sig .tc .vmem S8x512x128 .bf16) (harg7 : arg7.IsWhole) (arg8 : Memref sig .tc .vmem S8x512x128 .bf16) (harg8 : arg8.IsWhole) (arg9 : Memref sig .tc .vmem S8x31x128 .f32) (harg9 : arg9.IsWhole) (arg10 : Memref sig .tc .vmem S8x1x128 .f32) (harg10 : arg10.IsWhole) (arg11 : Memref sig .tc .vmem S8x1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S2048x2048 .bf16) (harg14 : arg14.IsWhole) (arg15 : Memref sig .tc .vmem S512x2048 .f32) (harg15 : arg15.IsWhole) (arg16 : Memref sig .tc .vmem S8x544x128 .f32) (harg16 : arg16.IsWhole) (arg17 : Memref sig .tc .vmem S8x128x128 .f32) (harg17 : arg17.IsWhole) (arg18 : Memref sig .tc .vmem S2x128x1024 .bf16) (harg18 : arg18.IsWhole)
    (x0 : Vec F S512x2048 .f32) (x1 : Vec F S8x512x128 .f32) (x2 : Vec F S8x16x128 .f32) (x3 : Vec F S8x16x128 .f32) (x4 : Vec F S8x512x128 .bf16) (x5 : Vec F S8x512x128 .bf16) (x6 : Vec F S8x512x128 .bf16) (x7 : Vec F S8x31x128 .f32) (x8 : Vec F S8x1x128 .f32) (x9 : Vec F S8x1x128 .f32) (x10 : Vec F S8x1x128 .f32) (x11 : Vec F S1x128 .f32) (x12 : Vec F S2048x2048 .bf16) :
    Σ' (L13 : List (View.Piece (Elt F) S512x2048 .f32)), Σ' (LT0 : List (View.Piece (Elt F) S8x544x128 .f32)), Σ' (LT1 : List (View.Piece (Elt F) S8x128x128 .f32)), { LT2 : List (View.Piece (Elt F) S2x128x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ (∃ f, arg18.view.loc (c : Thread nD τ) ↦[arg18.view.set]{fullShare} arg18.view.writes (Elt F) f LT2)) -∗ K ⟨⟩))
          ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_mix_out_eq_skeleton]; unfold cc0_mix_out_skel
    simp only [k0_part117_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    set_option sl_exec.unrollTrips 3 in sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [HS0]; · iexists _; iexact HS0
    isplitl [HS1]; · iexists _; iexact HS1
    iexists _; iexact HS2

end Cert.MixVal

end
-- ==== Proof.MixVal.Frame.lean ====
module

public import proofs.«01_k».proof.Proof.MixVal.Run
public import Idealize.ShloMosaic.Lib.Claim

@[expose] public section

set_option maxRecDepth 16384

noncomputable section

namespace Cert.MixVal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem coverOut (c : Dev nD) (i : grid0.Coords) (arg2 : Memref sig .tc .vmem S512x2048 .f32) (harg2 : arg2.IsWhole) (arg3 : Memref sig .tc .vmem S8x512x128 .f32) (harg3 : arg3.IsWhole) (arg4 : Memref sig .tc .vmem S8x16x128 .f32) (harg4 : arg4.IsWhole) (arg5 : Memref sig .tc .vmem S8x16x128 .f32) (harg5 : arg5.IsWhole) (arg6 : Memref sig .tc .vmem S8x512x128 .bf16) (harg6 : arg6.IsWhole) (arg7 : Memref sig .tc .vmem S8x512x128 .bf16) (harg7 : arg7.IsWhole) (arg8 : Memref sig .tc .vmem S8x512x128 .bf16) (harg8 : arg8.IsWhole) (arg9 : Memref sig .tc .vmem S8x31x128 .f32) (harg9 : arg9.IsWhole) (arg10 : Memref sig .tc .vmem S8x1x128 .f32) (harg10 : arg10.IsWhole) (arg11 : Memref sig .tc .vmem S8x1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S2048x2048 .bf16) (harg14 : arg14.IsWhole) (arg15 : Memref sig .tc .vmem S512x2048 .f32) (harg15 : arg15.IsWhole) (arg16 : Memref sig .tc .vmem S8x544x128 .f32) (harg16 : arg16.IsWhole) (arg17 : Memref sig .tc .vmem S8x128x128 .f32) (harg17 : arg17.IsWhole) (arg18 : Memref sig .tc .vmem S2x128x1024 .bf16) (harg18 : arg18.IsWhole)
    (x0 : Vec F S512x2048 .f32) (x1 : Vec F S8x512x128 .f32) (x2 : Vec F S8x16x128 .f32) (x3 : Vec F S8x16x128 .f32) (x4 : Vec F S8x512x128 .bf16) (x5 : Vec F S8x512x128 .bf16) (x6 : Vec F S8x512x128 .bf16) (x7 : Vec F S8x31x128 .f32) (x8 : Vec F S8x1x128 .f32) (x9 : Vec F S8x1x128 .f32) (x10 : Vec F S8x1x128 .f32) (x11 : Vec F S1x128 .f32) (x12 : Vec F S2048x2048 .bf16) (y : S512x2048.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1 S128x2048.size (by sl_kernel_rfl) y

def outBlk (c : Dev nD) (i : grid0.Coords) (arg2 : Memref sig .tc .vmem S512x2048 .f32) (harg2 : arg2.IsWhole) (arg3 : Memref sig .tc .vmem S8x512x128 .f32) (harg3 : arg3.IsWhole) (arg4 : Memref sig .tc .vmem S8x16x128 .f32) (harg4 : arg4.IsWhole) (arg5 : Memref sig .tc .vmem S8x16x128 .f32) (harg5 : arg5.IsWhole) (arg6 : Memref sig .tc .vmem S8x512x128 .bf16) (harg6 : arg6.IsWhole) (arg7 : Memref sig .tc .vmem S8x512x128 .bf16) (harg7 : arg7.IsWhole) (arg8 : Memref sig .tc .vmem S8x512x128 .bf16) (harg8 : arg8.IsWhole) (arg9 : Memref sig .tc .vmem S8x31x128 .f32) (harg9 : arg9.IsWhole) (arg10 : Memref sig .tc .vmem S8x1x128 .f32) (harg10 : arg10.IsWhole) (arg11 : Memref sig .tc .vmem S8x1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S2048x2048 .bf16) (harg14 : arg14.IsWhole) (arg15 : Memref sig .tc .vmem S512x2048 .f32) (harg15 : arg15.IsWhole) (arg16 : Memref sig .tc .vmem S8x544x128 .f32) (harg16 : arg16.IsWhole) (arg17 : Memref sig .tc .vmem S8x128x128 .f32) (harg17 : arg17.IsWhole) (arg18 : Memref sig .tc .vmem S2x128x1024 .bf16) (harg18 : arg18.IsWhole)
    (x0 : Vec F S512x2048 .f32) (x1 : Vec F S8x512x128 .f32) (x2 : Vec F S8x16x128 .f32) (x3 : Vec F S8x16x128 .f32) (x4 : Vec F S8x512x128 .bf16) (x5 : Vec F S8x512x128 .bf16) (x6 : Vec F S8x512x128 .bf16) (x7 : Vec F S8x31x128 .f32) (x8 : Vec F S8x1x128 .f32) (x9 : Vec F S8x1x128 .f32) (x10 : Vec F S8x1x128 .f32) (x11 : Vec F S1x128 .f32) (x12 : Vec F S2048x2048 .bf16) : Vec F S512x2048 .f32 :=
  VO0_13.read (Elt F) (VO0_13.writes (Elt F) VO0_13.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1)

def outsAt0 (c : Dev nD) (t : Fin cfg0.N) : Vec F S512x2048 .f32 :=
  outBlk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  unfold outsAt0
  unfold outBlk
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((bodyRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  isplitl [HS2]; · iexact HS2
  iintro ⟨H0, H1, H2, H3, H4, H5, H6, H7, H8, H9, H10, H11, H12, ⟨%e13, H13⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro; exact View.read_writes_of_cover _ _ _ _ _ (coverOut c _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.MixVal

end
-- ==== Proof.MixVal.Pay.lean ====
/-
  The mix call's body as a handful of uniform expressions: a head's convolved rows, a chunk's normalised and gated
  rows, and a block's output rows, each as a function of what the body loads; and the statement that the pieces the
  body's run writes are exactly these.
-/
module

public import proofs.«01_k».proof.Proof.MixVal.Run
import all proofs.«01_k».proof.Proof.MixVal.Run

@[expose] public section

set_option maxRecDepth 100000
set_option maxHeartbeats 4000000

noncomputable section

namespace Cert.MixVal

open Cert.MixIdeal Cert.MixIdeal.Gen
open Idealize.ShloMosaic Idealize.ShloMosaic.TcCoe Idealize.ShloMosaic.Tactic

variable {F : FTy → Type} [FloatOps F]

theorem slT (r : Fin 8) : S136x128.Slices ![r.val, 0] S128x128 :=
  match r with
  | ⟨0, _⟩ => slices_S136x128_o0_0_S128x128
  | ⟨1, _⟩ => slices_S136x128_o1_0_S128x128
  | ⟨2, _⟩ => slices_S136x128_o2_0_S128x128
  | ⟨3, _⟩ => slices_S136x128_o3_0_S128x128
  | ⟨4, _⟩ => slices_S136x128_o4_0_S128x128
  | ⟨5, _⟩ => slices_S136x128_o5_0_S128x128
  | ⟨6, _⟩ => slices_S136x128_o6_0_S128x128
  | ⟨7, _⟩ => slices_S136x128_o7_0_S128x128

theorem slH (r : Fin 8) : S8x32x128.Slices ![r.val, 0, 0] S1x32x128 :=
  match r with
  | ⟨0, _⟩ => slices_S8x32x128_o0_0_0_S1x32x128
  | ⟨1, _⟩ => slices_S8x32x128_o1_0_0_S1x32x128
  | ⟨2, _⟩ => slices_S8x32x128_o2_0_0_S1x32x128
  | ⟨3, _⟩ => slices_S8x32x128_o3_0_0_S1x32x128
  | ⟨4, _⟩ => slices_S8x32x128_o4_0_0_S1x32x128
  | ⟨5, _⟩ => slices_S8x32x128_o5_0_0_S1x32x128
  | ⟨6, _⟩ => slices_S8x32x128_o6_0_0_S1x32x128
  | ⟨7, _⟩ => slices_S8x32x128_o7_0_0_S1x32x128

/-- One tap's product: the tap's weights against the window moved down by `r` rows. -/
def term (W : FVec F S1x1x128 .f32) (w : FVec F S1x136x128 .f32) (r : Fin 8) : FVec F S128x128 .f32 :=
  mulf (broadcastTo S128x128 (shapeCast S1x128 W shapeCasts_S1x1x128_S1x128) broadcasts_S1x128_S128x128)
    (extractStridedSlice S128x128 ![r.val, 0] (shapeCast S136x128 w shapeCasts_S1x136x128_S136x128) (slT r))

/-- The three taps that need no move. -/
def row0 (W : Fin 31 → FVec F S1x1x128 .f32) (w : Fin 4 → FVec F S1x136x128 .f32) : FVec F S128x128 .f32 :=
  addf (addf (term (W ⟨7, by decide⟩) (w ⟨1, by decide⟩) ⟨0, by decide⟩) (term (W ⟨15, by decide⟩) (w ⟨2, by decide⟩) ⟨0, by decide⟩))
    (term (W ⟨23, by decide⟩) (w ⟨3, by decide⟩) ⟨0, by decide⟩)

/-- The four taps that share a move. -/
def row4 (W0 W1 W2 W3 : FVec F S1x1x128 .f32) (w : Fin 4 → FVec F S1x136x128 .f32) (r : Fin 8) : FVec F S128x128 .f32 :=
  addf (addf (addf (term W0 (w ⟨0, by decide⟩) r) (term W1 (w ⟨1, by decide⟩) r)) (term W2 (w ⟨2, by decide⟩) r)) (term W3 (w ⟨3, by decide⟩) r)

/-- A head's convolved rows. -/
def convP (cb : FVec F S1x1x128 .f32) (W : Fin 31 → FVec F S1x1x128 .f32) (w : Fin 4 → FVec F S1x136x128 .f32) : FVec F S1x128x128 .f32 :=
  shapeCast S1x128x128 (
    addf (addf (addf (addf (addf (addf (addf (addf (addf (broadcast S128x128 (Scalar.ofBits .f32 0x00000000#32)) (broadcastTo S128x128 (shapeCast S1x128 cb shapeCasts_S1x1x128_S1x128) broadcasts_S1x128_S128x128)) (row0 W w))
    (row4 (W ⟨0, by decide⟩) (W ⟨8, by decide⟩) (W ⟨16, by decide⟩) (W ⟨24, by decide⟩) w ⟨1, by decide⟩))
    (row4 (W ⟨1, by decide⟩) (W ⟨9, by decide⟩) (W ⟨17, by decide⟩) (W ⟨25, by decide⟩) w ⟨2, by decide⟩))
    (row4 (W ⟨2, by decide⟩) (W ⟨10, by decide⟩) (W ⟨18, by decide⟩) (W ⟨26, by decide⟩) w ⟨3, by decide⟩))
    (row4 (W ⟨3, by decide⟩) (W ⟨11, by decide⟩) (W ⟨19, by decide⟩) (W ⟨27, by decide⟩) w ⟨4, by decide⟩))
    (row4 (W ⟨4, by decide⟩) (W ⟨12, by decide⟩) (W ⟨20, by decide⟩) (W ⟨28, by decide⟩) w ⟨5, by decide⟩))
    (row4 (W ⟨5, by decide⟩) (W ⟨13, by decide⟩) (W ⟨21, by decide⟩) (W ⟨29, by decide⟩) w ⟨6, by decide⟩))
    (row4 (W ⟨6, by decide⟩) (W ⟨14, by decide⟩) (W ⟨22, by decide⟩) (W ⟨30, by decide⟩) w ⟨7, by decide⟩)) shapeCasts_S128x128_S1x128x128

/-- A chunk's rows, normalised over all lanes of all heads and gated by their own sigmoid. -/
def lnP (y : FVec F S8x32x128 .f32) (lw lb : FVec F S8x1x128 .f32) : FVec F S8x32x128 .bf16 :=
  k0_pay142 (k0_pay141 y) lw lb

/-- One head of such a chunk. -/
def lnH (y : FVec F S8x32x128 .f32) (lw lb : FVec F S8x1x128 .f32) (k : Fin 8) : FVec F S1x32x128 .bf16 :=
  shapeCast S1x32x128 (shapeCast S32x128 (extractStridedSlice S1x32x128 ![k.val, 0, 0] (lnP y lw lb) (slH k)) shapeCasts_S1x32x128_S32x128) shapeCasts_S32x128_S1x32x128

/-- A head's gated rows of the two directions' sum. -/
def gateP (a b : FVec F S1x128x128 .bf16) (hn : FVec F S1x128 .f32) (g : FVec F S1x128x128 .bf16) : FVec F S128x128 .bf16 :=
  k0_pay186 a b hn g

/-- A block's output rows. -/
def mixP (a b g : Fin 8 → FVec F S1x128x128 .bf16) (hn : FVec F S1x128 .f32) (u : FVec F S1x128x1024 .bf16)
    (x : FVec F S128x2048 .f32) (w : FVec F S2048x2048 .bf16) : FVec F S128x2048 .f32 :=
  addf (shapeCast S128x2048 x shapeCasts_S128x2048_S128x2048)
    (matmul dot_S128x2048_S2048x2048_S128x2048_1_0_0_1_n_n none
      (concatenate S128x2048 1 [⟨S128x1024, shapeCast S128x1024 u shapeCasts_S1x128x1024_S128x1024⟩,
        ⟨S128x1024, concatenate S128x1024 1 [⟨S128x128, gateP (a ⟨0, by decide⟩) (b ⟨0, by decide⟩) hn (g ⟨0, by decide⟩)⟩, ⟨S128x128, gateP (a ⟨1, by decide⟩) (b ⟨1, by decide⟩) hn (g ⟨1, by decide⟩)⟩, ⟨S128x128, gateP (a ⟨2, by decide⟩) (b ⟨2, by decide⟩) hn (g ⟨2, by decide⟩)⟩, ⟨S128x128, gateP (a ⟨3, by decide⟩) (b ⟨3, by decide⟩) hn (g ⟨3, by decide⟩)⟩, ⟨S128x128, gateP (a ⟨4, by decide⟩) (b ⟨4, by decide⟩) hn (g ⟨4, by decide⟩)⟩, ⟨S128x128, gateP (a ⟨5, by decide⟩) (b ⟨5, by decide⟩) hn (g ⟨5, by decide⟩)⟩, ⟨S128x128, gateP (a ⟨6, by decide⟩) (b ⟨6, by decide⟩) hn (g ⟨6, by decide⟩)⟩, ⟨S128x128, gateP (a ⟨7, by decide⟩) (b ⟨7, by decide⟩) hn (g ⟨7, by decide⟩)⟩] concatenates_S128x128_S128x128_S128x128_S128x128_S128x128_S128x128_S128x128_S128x128_S128x1024_d1⟩] concatenates_S128x1024_S128x1024_S128x2048_d1)
      (shapeCast S2048x2048 w shapeCasts_S2048x2048_S2048x2048) (constant S128x2048 .f32 0x00000000#32))

theorem inbW (k : Fin 8) (t : Fin 31) : ∀ a, (![k.val, t.val, 0] : Fin 3 → Nat) a + S1x1x128.size a ≤ S8x31x128.size a := by
  have := k.isLt; have := t.isLt
  intro a; fin_cases a
  · show k.val + 1 ≤ 8; omega
  · show t.val + 1 ≤ 31; omega
  · show 0 + 128 ≤ 128; omega
theorem inbB (k : Fin 8) : ∀ a, (![k.val, 0, 0] : Fin 3 → Nat) a + S1x1x128.size a ≤ S8x1x128.size a := by
  have := k.isLt
  intro a; fin_cases a
  · show k.val + 1 ≤ 8; omega
  · show 0 + 1 ≤ 1; omega
  · show 0 + 128 ≤ 128; omega
theorem inbX (j : Fin 4) (k : Fin 8) (b : Fin 4) : ∀ a, (![k.val, 128 * j.val + 8 * b.val, 0] : Fin 3 → Nat) a + S1x136x128.size a ≤ S8x544x128.size a := by
  have := k.isLt; have := j.isLt; have := b.isLt
  intro a; fin_cases a
  · show k.val + 1 ≤ 8; omega
  · show 128 * j.val + 8 * b.val + 136 ≤ 544; omega
  · show 0 + 128 ≤ 128; omega
theorem inbY (q : Fin 4) : ∀ a, (![0, 32 * q.val, 0] : Fin 3 → Nat) a + S8x32x128.size a ≤ S8x128x128.size a := by
  have := q.isLt
  intro a; fin_cases a
  · show 0 + 8 ≤ 8; omega
  · show 32 * q.val + 32 ≤ 128; omega
  · show 0 + 128 ≤ 128; omega
theorem inbP (k : Fin 8) : ∀ a, (![k.val, 0, 0] : Fin 3 → Nat) a + S1x128x128.size a ≤ S8x128x128.size a := by
  have := k.isLt
  intro a; fin_cases a
  · show k.val + 1 ≤ 8; omega
  · show 0 + 128 ≤ 128; omega
  · show 0 + 128 ≤ 128; omega
theorem inbU (s : Fin 2) (q : Fin 4) (k : Fin 8) : ∀ a, (![s.val, 32 * q.val, 128 * k.val] : Fin 3 → Nat) a + S1x32x128.size a ≤ S2x128x1024.size a := by
  have := q.isLt; have := k.isLt; have := s.isLt
  intro a; fin_cases a
  · show s.val + 1 ≤ 2; omega
  · show 32 * q.val + 32 ≤ 128; omega
  · show 128 * k.val + 128 ≤ 1024; omega
theorem inbS (s : Fin 2) : ∀ a, (![s.val, 0, 0] : Fin 3 → Nat) a + S1x128x1024.size a ≤ S2x128x1024.size a := by
  have := s.isLt
  intro a; fin_cases a
  · show s.val + 1 ≤ 2; omega
  · show 0 + 128 ≤ 128; omega
  · show 0 + 1024 ≤ 1024; omega
theorem inbO (j : Fin 4) (k : Fin 8) : ∀ a, (![k.val, 128 * j.val, 0] : Fin 3 → Nat) a + S1x128x128.size a ≤ S8x512x128.size a := by
  have := k.isLt; have := j.isLt
  intro a; fin_cases a
  · show k.val + 1 ≤ 8; omega
  · show 128 * j.val + 128 ≤ 512; omega
  · show 0 + 128 ≤ 128; omega
theorem inbR (j : Fin 4) : ∀ a, (![128 * j.val, 0] : Fin 2 → Nat) a + S128x2048.size a ≤ S512x2048.size a := by
  have := j.isLt
  intro a; fin_cases a
  · show 128 * j.val + 128 ≤ 512; omega
  · show 0 + 2048 ≤ 2048; omega

/-- The pieces the three stores of a step's rows and halos leave. -/
def xL (i : grid0.Coords) (c : FVec F S8x512x128 .f32) (p n : FVec F S8x16x128 .f32) : List (View.Piece (Elt F) S8x544x128 .f32) :=
  [⟨Rect.unit (s := S8x544x128) ![0, 528, 0] S8x16x128.size inb_S8x544x128_S8x16x128_0_528_0, k0_pay204 i n⟩,
   ⟨Rect.unit (s := S8x544x128) ![0, 0, 0] S8x16x128.size inb_S8x544x128_S8x16x128_0_0_0, k0_pay203 i p⟩,
   ⟨Rect.unit (s := S8x544x128) ![0, 16, 0] S8x512x128.size inb_S8x544x128_S8x512x128_0_16_0, k0_pay202 c⟩]

/-- The pieces a block's eight heads leave. -/
def yL (p : Fin 8 → FVec F S1x128x128 .f32) (L : List (View.Piece (Elt F) S8x128x128 .f32)) : List (View.Piece (Elt F) S8x128x128 .f32) :=
  ⟨Rect.unit (s := S8x128x128) ![(⟨7, by decide⟩ : Fin 8).val, 0, 0] S1x128x128.size (inbP ⟨7, by decide⟩), p ⟨7, by decide⟩⟩ ::
  ⟨Rect.unit (s := S8x128x128) ![(⟨6, by decide⟩ : Fin 8).val, 0, 0] S1x128x128.size (inbP ⟨6, by decide⟩), p ⟨6, by decide⟩⟩ ::
  ⟨Rect.unit (s := S8x128x128) ![(⟨5, by decide⟩ : Fin 8).val, 0, 0] S1x128x128.size (inbP ⟨5, by decide⟩), p ⟨5, by decide⟩⟩ ::
  ⟨Rect.unit (s := S8x128x128) ![(⟨4, by decide⟩ : Fin 8).val, 0, 0] S1x128x128.size (inbP ⟨4, by decide⟩), p ⟨4, by decide⟩⟩ ::
  ⟨Rect.unit (s := S8x128x128) ![(⟨3, by decide⟩ : Fin 8).val, 0, 0] S1x128x128.size (inbP ⟨3, by decide⟩), p ⟨3, by decide⟩⟩ ::
  ⟨Rect.unit (s := S8x128x128) ![(⟨2, by decide⟩ : Fin 8).val, 0, 0] S1x128x128.size (inbP ⟨2, by decide⟩), p ⟨2, by decide⟩⟩ ::
  ⟨Rect.unit (s := S8x128x128) ![(⟨1, by decide⟩ : Fin 8).val, 0, 0] S1x128x128.size (inbP ⟨1, by decide⟩), p ⟨1, by decide⟩⟩ ::
  ⟨Rect.unit (s := S8x128x128) ![(⟨0, by decide⟩ : Fin 8).val, 0, 0] S1x128x128.size (inbP ⟨0, by decide⟩), p ⟨0, by decide⟩⟩ ::
  L

/-- The pieces a block's four chunks leave in the slot `s`. -/
def uL (s : Fin 2) (p : Fin 4 → Fin 8 → FVec F S1x32x128 .bf16) (L : List (View.Piece (Elt F) S2x128x1024 .bf16)) : List (View.Piece (Elt F) S2x128x1024 .bf16) :=
  ⟨Rect.unit (s := S2x128x1024) ![s.val, 32 * (⟨3, by decide⟩ : Fin 4).val, 128 * (⟨7, by decide⟩ : Fin 8).val] S1x32x128.size (inbU s ⟨3, by decide⟩ ⟨7, by decide⟩), p ⟨3, by decide⟩ ⟨7, by decide⟩⟩ ::
  ⟨Rect.unit (s := S2x128x1024) ![s.val, 32 * (⟨3, by decide⟩ : Fin 4).val, 128 * (⟨6, by decide⟩ : Fin 8).val] S1x32x128.size (inbU s ⟨3, by decide⟩ ⟨6, by decide⟩), p ⟨3, by decide⟩ ⟨6, by decide⟩⟩ ::
  ⟨Rect.unit (s := S2x128x1024) ![s.val, 32 * (⟨3, by decide⟩ : Fin 4).val, 128 * (⟨5, by decide⟩ : Fin 8).val] S1x32x128.size (inbU s ⟨3, by decide⟩ ⟨5, by decide⟩), p ⟨3, by decide⟩ ⟨5, by decide⟩⟩ ::
  ⟨Rect.unit (s := S2x128x1024) ![s.val, 32 * (⟨3, by decide⟩ : Fin 4).val, 128 * (⟨4, by decide⟩ : Fin 8).val] S1x32x128.size (inbU s ⟨3, by decide⟩ ⟨4, by decide⟩), p ⟨3, by decide⟩ ⟨4, by decide⟩⟩ ::
  ⟨Rect.unit (s := S2x128x1024) ![s.val, 32 * (⟨3, by decide⟩ : Fin 4).val, 128 * (⟨3, by decide⟩ : Fin 8).val] S1x32x128.size (inbU s ⟨3, by decide⟩ ⟨3, by decide⟩), p ⟨3, by decide⟩ ⟨3, by decide⟩⟩ ::
  ⟨Rect.unit (s := S2x128x1024) ![s.val, 32 * (⟨3, by decide⟩ : Fin 4).val, 128 * (⟨2, by decide⟩ : Fin 8).val] S1x32x128.size (inbU s ⟨3, by decide⟩ ⟨2, by decide⟩), p ⟨3, by decide⟩ ⟨2, by decide⟩⟩ ::
  ⟨Rect.unit (s := S2x128x1024) ![s.val, 32 * (⟨3, by decide⟩ : Fin 4).val, 128 * (⟨1, by decide⟩ : Fin 8).val] S1x32x128.size (inbU s ⟨3, by decide⟩ ⟨1, by decide⟩), p ⟨3, by decide⟩ ⟨1, by decide⟩⟩ ::
  ⟨Rect.unit (s := S2x128x1024) ![s.val, 32 * (⟨3, by decide⟩ : Fin 4).val, 128 * (⟨0, by decide⟩ : Fin 8).val] S1x32x128.size (inbU s ⟨3, by decide⟩ ⟨0, by decide⟩), p ⟨3, by decide⟩ ⟨0, by decide⟩⟩ ::
  ⟨Rect.unit (s := S2x128x1024) ![s.val, 32 * (⟨2, by decide⟩ : Fin 4).val, 128 * (⟨7, by decide⟩ : Fin 8).val] S1x32x128.size (inbU s ⟨2, by decide⟩ ⟨7, by decide⟩), p ⟨2, by decide⟩ ⟨7, by decide⟩⟩ ::
  ⟨Rect.unit (s := S2x128x1024) ![s.val, 32 * (⟨2, by decide⟩ : Fin 4).val, 128 * (⟨6, by decide⟩ : Fin 8).val] S1x32x128.size (inbU s ⟨2, by decide⟩ ⟨6, by decide⟩), p ⟨2, by decide⟩ ⟨6, by decide⟩⟩ ::
  ⟨Rect.unit (s := S2x128x1024) ![s.val, 32 * (⟨2, by decide⟩ : Fin 4).val, 128 * (⟨5, by decide⟩ : Fin 8).val] S1x32x128.size (inbU s ⟨2, by decide⟩ ⟨5, by decide⟩), p ⟨2, by decide⟩ ⟨5, by decide⟩⟩ ::
  ⟨Rect.unit (s := S2x128x1024) ![s.val, 32 * (⟨2, by decide⟩ : Fin 4).val, 128 * (⟨4, by decide⟩ : Fin 8).val] S1x32x128.size (inbU s ⟨2, by decide⟩ ⟨4, by decide⟩), p ⟨2, by decide⟩ ⟨4, by decide⟩⟩ ::
  ⟨Rect.unit (s := S2x128x1024) ![s.val, 32 * (⟨2, by decide⟩ : Fin 4).val, 128 * (⟨3, by decide⟩ : Fin 8).val] S1x32x128.size (inbU s ⟨2, by decide⟩ ⟨3, by decide⟩), p ⟨2, by decide⟩ ⟨3, by decide⟩⟩ ::
  ⟨Rect.unit (s := S2x128x1024) ![s.val, 32 * (⟨2, by decide⟩ : Fin 4).val, 128 * (⟨2, by decide⟩ : Fin 8).val] S1x32x128.size (inbU s ⟨2, by decide⟩ ⟨2, by decide⟩), p ⟨2, by decide⟩ ⟨2, by decide⟩⟩ ::
  ⟨Rect.unit (s := S2x128x1024) ![s.val, 32 * (⟨2, by decide⟩ : Fin 4).val, 128 * (⟨1, by decide⟩ : Fin 8).val] S1x32x128.size (inbU s ⟨2, by decide⟩ ⟨1, by decide⟩), p ⟨2, by decide⟩ ⟨1, by decide⟩⟩ ::
  ⟨Rect.unit (s := S2x128x1024) ![s.val, 32 * (⟨2, by decide⟩ : Fin 4).val, 128 * (⟨0, by decide⟩ : Fin 8).val] S1x32x128.size (inbU s ⟨2, by decide⟩ ⟨0, by decide⟩), p ⟨2, by decide⟩ ⟨0, by decide⟩⟩ ::
  ⟨Rect.unit (s := S2x128x1024) ![s.val, 32 * (⟨1, by decide⟩ : Fin 4).val, 128 * (⟨7, by decide⟩ : Fin 8).val] S1x32x128.size (inbU s ⟨1, by decide⟩ ⟨7, by decide⟩), p ⟨1, by decide⟩ ⟨7, by decide⟩⟩ ::
  ⟨Rect.unit (s := S2x128x1024) ![s.val, 32 * (⟨1, by decide⟩ : Fin 4).val, 128 * (⟨6, by decide⟩ : Fin 8).val] S1x32x128.size (inbU s ⟨1, by decide⟩ ⟨6, by decide⟩), p ⟨1, by decide⟩ ⟨6, by decide⟩⟩ ::
  ⟨Rect.unit (s := S2x128x1024) ![s.val, 32 * (⟨1, by decide⟩ : Fin 4).val, 128 * (⟨5, by decide⟩ : Fin 8).val] S1x32x128.size (inbU s ⟨1, by decide⟩ ⟨5, by decide⟩), p ⟨1, by decide⟩ ⟨5, by decide⟩⟩ ::
  ⟨Rect.unit (s := S2x128x1024) ![s.val, 32 * (⟨1, by decide⟩ : Fin 4).val, 128 * (⟨4, by decide⟩ : Fin 8).val] S1x32x128.size (inbU s ⟨1, by decide⟩ ⟨4, by decide⟩), p ⟨1, by decide⟩ ⟨4, by decide⟩⟩ ::
  ⟨Rect.unit (s := S2x128x1024) ![s.val, 32 * (⟨1, by decide⟩ : Fin 4).val, 128 * (⟨3, by decide⟩ : Fin 8).val] S1x32x128.size (inbU s ⟨1, by decide⟩ ⟨3, by decide⟩), p ⟨1, by decide⟩ ⟨3, by decide⟩⟩ ::
  ⟨Rect.unit (s := S2x128x1024) ![s.val, 32 * (⟨1, by decide⟩ : Fin 4).val, 128 * (⟨2, by decide⟩ : Fin 8).val] S1x32x128.size (inbU s ⟨1, by decide⟩ ⟨2, by decide⟩), p ⟨1, by decide⟩ ⟨2, by decide⟩⟩ ::
  ⟨Rect.unit (s := S2x128x1024) ![s.val, 32 * (⟨1, by decide⟩ : Fin 4).val, 128 * (⟨1, by decide⟩ : Fin 8).val] S1x32x128.size (inbU s ⟨1, by decide⟩ ⟨1, by decide⟩), p ⟨1, by decide⟩ ⟨1, by decide⟩⟩ ::
  ⟨Rect.unit (s := S2x128x1024) ![s.val, 32 * (⟨1, by decide⟩ : Fin 4).val, 128 * (⟨0, by decide⟩ : Fin 8).val] S1x32x128.size (inbU s ⟨1, by decide⟩ ⟨0, by decide⟩), p ⟨1, by decide⟩ ⟨0, by decide⟩⟩ ::
  ⟨Rect.unit (s := S2x128x1024) ![s.val, 32 * (⟨0, by decide⟩ : Fin 4).val, 128 * (⟨7, by decide⟩ : Fin 8).val] S1x32x128.size (inbU s ⟨0, by decide⟩ ⟨7, by decide⟩), p ⟨0, by decide⟩ ⟨7, by decide⟩⟩ ::
  ⟨Rect.unit (s := S2x128x1024) ![s.val, 32 * (⟨0, by decide⟩ : Fin 4).val, 128 * (⟨6, by decide⟩ : Fin 8).val] S1x32x128.size (inbU s ⟨0, by decide⟩ ⟨6, by decide⟩), p ⟨0, by decide⟩ ⟨6, by decide⟩⟩ ::
  ⟨Rect.unit (s := S2x128x1024) ![s.val, 32 * (⟨0, by decide⟩ : Fin 4).val, 128 * (⟨5, by decide⟩ : Fin 8).val] S1x32x128.size (inbU s ⟨0, by decide⟩ ⟨5, by decide⟩), p ⟨0, by decide⟩ ⟨5, by decide⟩⟩ ::
  ⟨Rect.unit (s := S2x128x1024) ![s.val, 32 * (⟨0, by decide⟩ : Fin 4).val, 128 * (⟨4, by decide⟩ : Fin 8).val] S1x32x128.size (inbU s ⟨0, by decide⟩ ⟨4, by decide⟩), p ⟨0, by decide⟩ ⟨4, by decide⟩⟩ ::
  ⟨Rect.unit (s := S2x128x1024) ![s.val, 32 * (⟨0, by decide⟩ : Fin 4).val, 128 * (⟨3, by decide⟩ : Fin 8).val] S1x32x128.size (inbU s ⟨0, by decide⟩ ⟨3, by decide⟩), p ⟨0, by decide⟩ ⟨3, by decide⟩⟩ ::
  ⟨Rect.unit (s := S2x128x1024) ![s.val, 32 * (⟨0, by decide⟩ : Fin 4).val, 128 * (⟨2, by decide⟩ : Fin 8).val] S1x32x128.size (inbU s ⟨0, by decide⟩ ⟨2, by decide⟩), p ⟨0, by decide⟩ ⟨2, by decide⟩⟩ ::
  ⟨Rect.unit (s := S2x128x1024) ![s.val, 32 * (⟨0, by decide⟩ : Fin 4).val, 128 * (⟨1, by decide⟩ : Fin 8).val] S1x32x128.size (inbU s ⟨0, by decide⟩ ⟨1, by decide⟩), p ⟨0, by decide⟩ ⟨1, by decide⟩⟩ ::
  ⟨Rect.unit (s := S2x128x1024) ![s.val, 32 * (⟨0, by decide⟩ : Fin 4).val, 128 * (⟨0, by decide⟩ : Fin 8).val] S1x32x128.size (inbU s ⟨0, by decide⟩ ⟨0, by decide⟩), p ⟨0, by decide⟩ ⟨0, by decide⟩⟩ ::
  L

section run

variable (c : Dev nD) (i : grid0.Coords) (arg2 : Memref sig .tc .vmem S512x2048 .f32) (harg2 : arg2.IsWhole) (arg3 : Memref sig .tc .vmem S8x512x128 .f32) (harg3 : arg3.IsWhole) (arg4 : Memref sig .tc .vmem S8x16x128 .f32) (harg4 : arg4.IsWhole) (arg5 : Memref sig .tc .vmem S8x16x128 .f32) (harg5 : arg5.IsWhole) (arg6 : Memref sig .tc .vmem S8x512x128 .bf16) (harg6 : arg6.IsWhole) (arg7 : Memref sig .tc .vmem S8x512x128 .bf16) (harg7 : arg7.IsWhole) (arg8 : Memref sig .tc .vmem S8x512x128 .bf16) (harg8 : arg8.IsWhole) (arg9 : Memref sig .tc .vmem S8x31x128 .f32) (harg9 : arg9.IsWhole) (arg10 : Memref sig .tc .vmem S8x1x128 .f32) (harg10 : arg10.IsWhole) (arg11 : Memref sig .tc .vmem S8x1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S2048x2048 .bf16) (harg14 : arg14.IsWhole) (arg15 : Memref sig .tc .vmem S512x2048 .f32) (harg15 : arg15.IsWhole) (arg16 : Memref sig .tc .vmem S8x544x128 .f32) (harg16 : arg16.IsWhole) (arg17 : Memref sig .tc .vmem S8x128x128 .f32) (harg17 : arg17.IsWhole) (arg18 : Memref sig .tc .vmem S2x128x1024 .bf16) (harg18 : arg18.IsWhole)
  (x0 : Vec F S512x2048 .f32) (x1 : Vec F S8x512x128 .f32) (x2 : Vec F S8x16x128 .f32) (x3 : Vec F S8x16x128 .f32) (x4 : Vec F S8x512x128 .bf16) (x5 : Vec F S8x512x128 .bf16) (x6 : Vec F S8x512x128 .bf16) (x7 : Vec F S8x31x128 .f32) (x8 : Vec F S8x1x128 .f32) (x9 : Vec F S8x1x128 .f32) (x10 : Vec F S8x1x128 .f32) (x11 : Vec F S1x128 .f32) (x12 : Vec F S2048x2048 .bf16)

def xs := xL i (View.readAt (Elt F) arg3.view (Rect.unit (s := S8x512x128) ![0, 0, 0] S8x512x128.size inb_S8x512x128_S8x512x128_0_0_0).toLoadRect (harg3.unread x1))
  (View.readAt (Elt F) arg4.view (Rect.unit (s := S8x16x128) ![0, 0, 0] S8x16x128.size inb_S8x16x128_S8x16x128_0_0_0).toLoadRect (harg4.unread x2))
  (View.readAt (Elt F) arg5.view (Rect.unit (s := S8x16x128) ![0, 0, 0] S8x16x128.size inb_S8x16x128_S8x16x128_0_0_0).toLoadRect (harg5.unread x3))

/-- A block's convolved rows, head by head, from the loads. -/
def convL (j : Fin 4) (k : Fin 8) : FVec F S1x128x128 .f32 :=
  convP (View.readAt (Elt F) arg10.view (Rect.unit (s := S8x1x128) ![k.val, 0, 0] S1x1x128.size (inbB k)).toLoadRect (harg10.unread x8))
    (fun t => View.readAt (Elt F) arg9.view (Rect.unit (s := S8x31x128) ![k.val, t.val, 0] S1x1x128.size (inbW k t)).toLoadRect (harg9.unread x7))
    (fun b => arg16.view.readCov (xs i arg3 harg3 arg4 harg4 arg5 harg5 x1 x2 x3) (Rect.unit (s := S8x544x128) ![k.val, 128 * j.val + 8 * b.val, 0] S1x136x128.size (inbX j k b)).toLoadRect)

def ys : ℕ → List (View.Piece (Elt F) S8x128x128 .f32)
  | 0 => []
  | j + 1 => yL (convL i arg3 harg3 arg4 harg4 arg5 harg5 arg9 harg9 arg10 harg10 arg16 x1 x2 x3 x7 x8 (Fin.ofNat 4 j)) (ys j)

/-- A chunk's rows, head by head, from the loads. -/
def lnL (j : Fin 4) (q : Fin 4) (k : Fin 8) : FVec F S1x32x128 .bf16 :=
  lnH (arg17.view.readCov (ys i arg3 harg3 arg4 harg4 arg5 harg5 arg9 harg9 arg10 harg10 arg16 x1 x2 x3 x7 x8 (j.val + 1)) (Rect.unit (s := S8x128x128) ![0, 32 * q.val, 0] S8x32x128.size (inbY q)).toLoadRect)
    (View.readAt (Elt F) arg11.view (Rect.unit (s := S8x1x128) ![0, 0, 0] S8x1x128.size inb_S8x1x128_S8x1x128_0_0_0).toLoadRect (harg11.unread x9))
    (View.readAt (Elt F) arg12.view (Rect.unit (s := S8x1x128) ![0, 0, 0] S8x1x128.size inb_S8x1x128_S8x1x128_0_0_0).toLoadRect (harg12.unread x10)) k

def us : ℕ → List (View.Piece (Elt F) S2x128x1024 .bf16)
  | 0 => []
  | j + 1 => uL (Fin.ofNat 2 j) (lnL i arg3 harg3 arg4 harg4 arg5 harg5 arg9 harg9 arg10 harg10 arg11 harg11 arg12 harg12 arg16 arg17 x1 x2 x3 x7 x8 x9 x10 (Fin.ofNat 4 j)) (us j)

/-- A block's output rows, from the loads. -/
def mixL (j : Fin 4) (s : Fin 2) (n : ℕ) : FVec F S128x2048 .f32 :=
  mixP (fun k => View.readAt (Elt F) arg6.view (Rect.unit (s := S8x512x128) ![k.val, 128 * j.val, 0] S1x128x128.size (inbO j k)).toLoadRect (harg6.unread x4))
    (fun k => View.readAt (Elt F) arg7.view (Rect.unit (s := S8x512x128) ![k.val, 128 * j.val, 0] S1x128x128.size (inbO j k)).toLoadRect (harg7.unread x5))
    (fun k => View.readAt (Elt F) arg8.view (Rect.unit (s := S8x512x128) ![k.val, 128 * j.val, 0] S1x128x128.size (inbO j k)).toLoadRect (harg8.unread x6))
    (View.readAt (Elt F) arg13.view (Rect.unit (s := S1x128) ![0, 0] S1x128.size inb_S1x128_S1x128_0_0).toLoadRect (harg13.unread x11))
    (arg18.view.readCov (us i arg3 harg3 arg4 harg4 arg5 harg5 arg9 harg9 arg10 harg10 arg11 harg11 arg12 harg12 arg16 arg17 x1 x2 x3 x7 x8 x9 x10 n) (Rect.unit (s := S2x128x1024) ![s.val, 0, 0] S1x128x1024.size (inbS s)).toLoadRect)
    (View.readAt (Elt F) arg2.view (Rect.unit (s := S512x2048) ![128 * j.val, 0] S128x2048.size (inbR j)).toLoadRect (harg2.unread x0))
    (View.readAt (Elt F) arg14.view (Rect.unit (s := S2048x2048) ![0, 0] S2048x2048.size inb_S2048x2048_S2048x2048_0_0).toLoadRect (harg14.unread x12))

theorem xs_eq : bodyRun.sl.HS0_3 c i arg3 harg3 arg4 harg4 arg5 harg5 x1 x2 x3 = xs i arg3 harg3 arg4 harg4 arg5 harg5 x1 x2 x3 := by
  sl_kernel_rfl

theorem ys_eq1 : bodyRun.sl.HS1_8 c i arg3 harg3 arg4 harg4 arg5 harg5 arg9 harg9 arg10 harg10 arg16 x1 x2 x3 x7 x8 = ys i arg3 harg3 arg4 harg4 arg5 harg5 arg9 harg9 arg10 harg10 arg16 x1 x2 x3 x7 x8 1 := by
  sl_kernel_rfl

theorem ys_eq2 : bodyRun.sl.HS1_16 c i arg3 harg3 arg4 harg4 arg5 harg5 arg9 harg9 arg10 harg10 arg16 x1 x2 x3 x7 x8 = ys i arg3 harg3 arg4 harg4 arg5 harg5 arg9 harg9 arg10 harg10 arg16 x1 x2 x3 x7 x8 2 := by
  sl_kernel_rfl

theorem ys_eq3 : bodyRun.sl.HS1_24 c i arg3 harg3 arg4 harg4 arg5 harg5 arg9 harg9 arg10 harg10 arg16 x1 x2 x3 x7 x8 = ys i arg3 harg3 arg4 harg4 arg5 harg5 arg9 harg9 arg10 harg10 arg16 x1 x2 x3 x7 x8 3 := by
  sl_kernel_rfl

theorem ys_eq4 : bodyRun.sl.HS1_32 c i arg3 harg3 arg4 harg4 arg5 harg5 arg9 harg9 arg10 harg10 arg16 x1 x2 x3 x7 x8 = ys i arg3 harg3 arg4 harg4 arg5 harg5 arg9 harg9 arg10 harg10 arg16 x1 x2 x3 x7 x8 4 := by
  sl_kernel_rfl

theorem us_eq2 : bodyRun.sl.HS2_64 c i arg3 harg3 arg4 harg4 arg5 harg5 arg9 harg9 arg10 harg10 arg11 harg11 arg12 harg12 arg16 arg17 x1 x2 x3 x7 x8 x9 x10 = us i arg3 harg3 arg4 harg4 arg5 harg5 arg9 harg9 arg10 harg10 arg11 harg11 arg12 harg12 arg16 arg17 x1 x2 x3 x7 x8 x9 x10 2 := by
  sl_kernel_rfl

theorem us_eq3 : bodyRun.sl.HS2_96 c i arg3 harg3 arg4 harg4 arg5 harg5 arg9 harg9 arg10 harg10 arg11 harg11 arg12 harg12 arg16 arg17 x1 x2 x3 x7 x8 x9 x10 = us i arg3 harg3 arg4 harg4 arg5 harg5 arg9 harg9 arg10 harg10 arg11 harg11 arg12 harg12 arg16 arg17 x1 x2 x3 x7 x8 x9 x10 3 := by
  sl_kernel_rfl

theorem us_eq4 : bodyRun.sl.HS2_128 c i arg3 harg3 arg4 harg4 arg5 harg5 arg9 harg9 arg10 harg10 arg11 harg11 arg12 harg12 arg16 arg17 x1 x2 x3 x7 x8 x9 x10 = us i arg3 harg3 arg4 harg4 arg5 harg5 arg9 harg9 arg10 harg10 arg11 harg11 arg12 harg12 arg16 arg17 x1 x2 x3 x7 x8 x9 x10 4 := by
  sl_kernel_rfl

/-- The run's output pieces. -/
theorem out_eq : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1 =
    [⟨Rect.unit (s := S512x2048) ![128 * (⟨3, by decide⟩ : Fin 4).val, 0] S128x2048.size (inbR ⟨3, by decide⟩), mixL i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 ⟨3, by decide⟩ ⟨1, by decide⟩ 4⟩,
     ⟨Rect.unit (s := S512x2048) ![128 * (⟨2, by decide⟩ : Fin 4).val, 0] S128x2048.size (inbR ⟨2, by decide⟩), mixL i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 ⟨2, by decide⟩ ⟨0, by decide⟩ 4⟩,
     ⟨Rect.unit (s := S512x2048) ![128 * (⟨1, by decide⟩ : Fin 4).val, 0] S128x2048.size (inbR ⟨1, by decide⟩), mixL i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 ⟨1, by decide⟩ ⟨1, by decide⟩ 3⟩,
     ⟨Rect.unit (s := S512x2048) ![128 * (⟨0, by decide⟩ : Fin 4).val, 0] S128x2048.size (inbR ⟨0, by decide⟩), mixL i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 ⟨0, by decide⟩ ⟨0, by decide⟩ 2⟩] := by
  sl_kernel_rfl

end run

end Cert.MixVal

end
-- ==== Proof.MixVal.Val.lean ====
/-
  The mix call's vector expressions read at one index, over the extended reals: a row's convolution over its taps, its
  normalisation over all 1024 channels with the silu on it, the gated rows of the two directions' sum, and the product
  of the joined row with a column of the output weights.
-/
module

public import proofs.«01_k».proof.Proof.MixVal.Pay
public import proofs.«01_k».proof.Proof.ProjVal.Pay

@[expose] public section

set_option maxHeartbeats 1000000

noncomputable section

namespace Cert.MixVal

open Idealize.ShloMosaic
open Cert.ProjVal (sg)
open scoped BigOperators

/-- A channel's head and lane. -/
def hd (n : Fin 1024) : Fin 8 := ⟨n.val / 128, by have := n.isLt; omega⟩
def la (n : Fin 1024) : Fin 128 := ⟨n.val % 128, Nat.mod_lt _ (by decide)⟩

/-- A head's lane as a channel. -/
def ch (h : Fin 8) (l : Fin 128) : Fin 1024 := ⟨128 * h.val + l.val, by have := h.isLt; have := l.isLt; omega⟩

theorem hd_ch (h : Fin 8) (l : Fin 128) : hd (ch h l) = h := Fin.ext (by have := l.isLt; show (128 * h.val + l.val) / 128 = h.val; omega)
theorem la_ch (h : Fin 8) (l : Fin 128) : la (ch h l) = l := Fin.ext (by have := l.isLt; show (128 * h.val + l.val) % 128 = l.val; omega)
theorem ch_hd (n : Fin 1024) : ch (hd n) (la n) = n := Fin.ext (by show 128 * (n.val / 128) + n.val % 128 = n.val; omega)

/-- One channel's convolution. -/
def cv (A W : Fin 31 → EReal) (b : EReal) : EReal := (∑ t, A t * W t) + b

/-- A row less its mean. -/
def xc (Y : Fin 1024 → EReal) (n : Fin 1024) : EReal := Y n - Ideal.div (∑ m, Y m) (Ideal.ofBits .f32 0x44800000#32)

/-- A row's normalisation. -/
def lnV (Y : Fin 1024 → EReal) (w b : EReal) (n : Fin 1024) : EReal :=
  xc Y n * Ideal.rsqrt (Ideal.div (∑ m, xc Y m * xc Y m) (Ideal.ofBits .f32 0x44800000#32) + Ideal.ofBits .f32 0x358637BD#32) * w + b

def silu (v : EReal) : EReal := v * sg v

/-- A head's normalised row, scaled and gated. -/
def gateV (o : Fin 128 → EReal) (hn g : EReal) (l : Fin 128) : EReal :=
  o l * Ideal.rsqrt (Ideal.div (∑ m, o m * o m) (Ideal.ofBits .f32 0x43000000#32) + Ideal.ofBits .f32 0x358637BD#32) * hn * g

/-- The joined row: the convolution's half and the attention's half. -/
def act (Y lw lb : Fin 1024 → EReal) (O G : Fin 8 → Fin 128 → EReal) (hn : Fin 128 → EReal) (k : Fin 2048) : EReal :=
  if h : k.val < 1024 then silu (lnV Y (lw ⟨k.val, h⟩) (lb ⟨k.val, h⟩) ⟨k.val, h⟩)
  else gateV (O (hd ⟨k.val - 1024, by have := k.isLt; omega⟩)) (hn (la ⟨k.val - 1024, by have := k.isLt; omega⟩))
    (G (hd ⟨k.val - 1024, by have := k.isLt; omega⟩) (la ⟨k.val - 1024, by have := k.isLt; omega⟩)) (la ⟨k.val - 1024, by have := k.isLt; omega⟩)

/-- One entry of the result. -/
def rowV (Y lw lb : Fin 1024 → EReal) (O G : Fin 8 → Fin 128 → EReal) (hn : Fin 128 → EReal) (x : EReal) (W : Fin 2048 → EReal) : EReal :=
  x + ∑ k, act Y lw lb O G hn k * W k

theorem fin31 : List.finRange 31 = [0, 1, 2, 3, 4, 5, 6, 7, 8, 9, 10, 11, 12, 13, 14, 15, 16, 17, 18, 19, 20, 21, 22, 23, 24, 25, 26, 27, 28, 29, 30] := by decide

theorem sum31 (T : Fin 31 → EReal) : ∑ t, T t = T 0 + T 1 + T 2 + T 3 + T 4 + T 5 + T 6 + T 7 + T 8 + T 9 + T 10 + T 11 + T 12 + T 13 + T 14 + T 15
    + T 16 + T 17 + T 18 + T 19 + T 20 + T 21 + T 22 + T 23 + T 24 + T 25 + T 26 + T 27 + T 28 + T 29 + T 30 := by
  rw [Fin.sum_univ_def, fin31]
  simp only [List.map_cons, List.map_nil, List.sum_cons, List.sum_nil, add_zero]
  ac_rfl

theorem c1024 : Ideal.ofBits .f32 0x44800000#32 = ((1024 : ℝ) : EReal) := by
  simp [Ideal.ofBits, Ideal.ieee, -EReal.coe_mul]; norm_num
theorem c1024i : Ideal.ofBits .f32 0x3A800000#32 = ((1 / 1024 : ℝ) : EReal) := by
  simp [Ideal.ofBits, Ideal.ieee, -EReal.coe_mul]; norm_num

/-- A 1024th of a sum, as a product and as a quotient. -/
theorem mean_eq (x : EReal) : x * Ideal.ofBits .f32 0x3A800000#32 = Ideal.div x (Ideal.ofBits .f32 0x44800000#32) := by
  rw [c1024, c1024i, Ideal.div_coe (by norm_num)]

/-- A sum over lanes and heads is a sum over channels. -/
theorem sum_ch (f : Fin 8 → Fin 128 → EReal) : ∑ l, ∑ h, f h l = ∑ n, f (hd n) (la n) := by
  rw [Finset.sum_comm, ← Fintype.sum_prod_type']
  refine Fintype.sum_equiv (⟨fun p => ch p.1 p.2, fun n => (hd n, la n), fun p => ?_, fun n => ch_hd n⟩ : Fin 8 × Fin 128 ≃ Fin 1024) _ _ fun p => ?_
  · exact Prod.ext (hd_ch _ _) (la_ch _ _)
  · show f p.1 p.2 = f (hd (ch p.1 p.2)) (la (ch p.1 p.2))
    rw [hd_ch, la_ch]

open Cert.MixIdeal Cert.MixIdeal.Gen

section Conv

theorem w_apply (W : FVec Ideal S1x1x128 .f32) (h h') (r l : Fin 128) :
    broadcastTo S128x128 (shapeCast S1x128 W h) h' (ValueIdx.ix2 r l) = W (ValueIdx.ix3 0 0 l) := by
  refine (ValueIdx.broadcastTo_1b_ab_apply (a := 128) (b := 128) _ h' r l).trans ?_
  refine shapeCast_apply W h _ _ ?_
  rewrite [Shape.rowMajor_val_two, Shape.rowMajor_val_three]
  show (0 * 1 + 0) * 128 + l.val = 0 * 128 + l.val
  omega

theorem term_apply (W : FVec Ideal S1x1x128 .f32) (w : FVec Ideal S1x136x128 .f32) (s : Fin 8) (r l : Fin 128) :
    term W w s (ValueIdx.ix2 r l) = w (ValueIdx.ix3 0 ⟨r.val + s.val, by have := r.isLt; have := s.isLt; omega⟩ l) * W (ValueIdx.ix3 0 0 l) := by
  unfold term
  show broadcastTo S128x128 _ _ (ValueIdx.ix2 r l) * extractStridedSlice S128x128 _ _ _ (ValueIdx.ix2 r l) = _
  rw [w_apply, mul_comm]
  refine congrArg (· * _) ?_
  have hr := r.isLt
  have hs := s.isLt
  refine (extractStridedSlice_apply ![s.val, 0] _ (slT s) (ValueIdx.ix2 r l) (ValueIdx.ix2 ⟨r.val + s.val, by omega⟩ l) ?_).trans ?_
  · intro a
    match a with
    | ⟨0, _⟩ => show r.val + s.val = s.val + r.val; omega
    | ⟨1, _⟩ => show l.val = 0 + l.val; omega
  · refine shapeCast_apply w _ _ _ ?_
    rewrite [Shape.rowMajor_val_two, Shape.rowMajor_val_three]
    show (0 * 136 + (r.val + s.val)) * 128 + l.val = (r.val + s.val) * 128 + l.val
    omega

/-- A head's convolved row: the windows `w` are the padded rows `X` from `8 b` on. -/
theorem convP_apply (cb : FVec Ideal S1x1x128 .f32) (W : Fin 31 → FVec Ideal S1x1x128 .f32) (w : Fin 4 → FVec Ideal S1x136x128 .f32)
    (X : ℕ → Fin 128 → EReal) (hw : ∀ (b : Fin 4) (i : Fin 136) (l : Fin 128), w b (ValueIdx.ix3 0 i l) = X (8 * b.val + i.val) l) (r l : Fin 128) :
    convP cb W w (ValueIdx.ix3 0 r l) = cv (fun t => X (r.val + t.val + 1) l) (fun t => W t (ValueIdx.ix3 0 0 l)) (cb (ValueIdx.ix3 0 0 l)) := by
  have hr := r.isLt
  obtain ⟨T, hT⟩ : ∃ T : Fin 31 → EReal, ∀ t, T t = X (r.val + t.val + 1) l * W t (ValueIdx.ix3 0 0 l) := ⟨fun t => _, fun t => rfl⟩
  have hcv : cv (fun t => X (r.val + t.val + 1) l) (fun t => W t (ValueIdx.ix3 0 0 l)) (cb (ValueIdx.ix3 0 0 l)) = (∑ t, T t) + cb (ValueIdx.ix3 0 0 l) := by
    simp only [hT]
    rfl
  rw [hcv]
  have tm : ∀ (t : Fin 31) (b : Fin 4) (s : Fin 8), t.val + 1 = 8 * b.val + s.val →
      term (W t) (w b) s (ValueIdx.ix2 r l) = T t := by
    intro t b s h
    rw [term_apply, hw, hT]
    refine congrArg (fun z => X z l * _) ?_
    show 8 * b.val + (r.val + s.val) = _
    omega
  unfold convP
  refine (shapeCast_apply _ shapeCasts_S128x128_S1x128x128 (ValueIdx.ix3 0 r l) (ValueIdx.ix2 r l) ?_).trans ?_
  · rewrite [Shape.rowMajor_val_two, Shape.rowMajor_val_three]
    show r.val * 128 + l.val = (0 * 128 + r.val) * 128 + l.val
    omega
  unfold row0 row4
  show (((((((((Ideal.ofBits .f32 0x00000000#32 + broadcastTo S128x128 _ _ (ValueIdx.ix2 r l)) + ((term _ _ _ (ValueIdx.ix2 r l) + term _ _ _ (ValueIdx.ix2 r l)) + term _ _ _ (ValueIdx.ix2 r l)))
    + (((term _ _ _ (ValueIdx.ix2 r l) + term _ _ _ (ValueIdx.ix2 r l)) + term _ _ _ (ValueIdx.ix2 r l)) + term _ _ _ (ValueIdx.ix2 r l)))
    + (((term _ _ _ (ValueIdx.ix2 r l) + term _ _ _ (ValueIdx.ix2 r l)) + term _ _ _ (ValueIdx.ix2 r l)) + term _ _ _ (ValueIdx.ix2 r l)))
    + (((term _ _ _ (ValueIdx.ix2 r l) + term _ _ _ (ValueIdx.ix2 r l)) + term _ _ _ (ValueIdx.ix2 r l)) + term _ _ _ (ValueIdx.ix2 r l)))
    + (((term _ _ _ (ValueIdx.ix2 r l) + term _ _ _ (ValueIdx.ix2 r l)) + term _ _ _ (ValueIdx.ix2 r l)) + term _ _ _ (ValueIdx.ix2 r l)))
    + (((term _ _ _ (ValueIdx.ix2 r l) + term _ _ _ (ValueIdx.ix2 r l)) + term _ _ _ (ValueIdx.ix2 r l)) + term _ _ _ (ValueIdx.ix2 r l)))
    + (((term _ _ _ (ValueIdx.ix2 r l) + term _ _ _ (ValueIdx.ix2 r l)) + term _ _ _ (ValueIdx.ix2 r l)) + term _ _ _ (ValueIdx.ix2 r l)))
    + (((term _ _ _ (ValueIdx.ix2 r l) + term _ _ _ (ValueIdx.ix2 r l)) + term _ _ _ (ValueIdx.ix2 r l)) + term _ _ _ (ValueIdx.ix2 r l))) = _
  rw [w_apply, Ideal.ofBits_zero_f32, zero_add, sum31,
    tm ⟨7, by decide⟩ ⟨1, by decide⟩ ⟨0, by decide⟩ (by decide), tm ⟨15, by decide⟩ ⟨2, by decide⟩ ⟨0, by decide⟩ (by decide), tm ⟨23, by decide⟩ ⟨3, by decide⟩ ⟨0, by decide⟩ (by decide),
    tm ⟨0, by decide⟩ ⟨0, by decide⟩ ⟨1, by decide⟩ (by decide), tm ⟨8, by decide⟩ ⟨1, by decide⟩ ⟨1, by decide⟩ (by decide), tm ⟨16, by decide⟩ ⟨2, by decide⟩ ⟨1, by decide⟩ (by decide), tm ⟨24, by decide⟩ ⟨3, by decide⟩ ⟨1, by decide⟩ (by decide),
    tm ⟨1, by decide⟩ ⟨0, by decide⟩ ⟨2, by decide⟩ (by decide), tm ⟨9, by decide⟩ ⟨1, by decide⟩ ⟨2, by decide⟩ (by decide), tm ⟨17, by decide⟩ ⟨2, by decide⟩ ⟨2, by decide⟩ (by decide), tm ⟨25, by decide⟩ ⟨3, by decide⟩ ⟨2, by decide⟩ (by decide),
    tm ⟨2, by decide⟩ ⟨0, by decide⟩ ⟨3, by decide⟩ (by decide), tm ⟨10, by decide⟩ ⟨1, by decide⟩ ⟨3, by decide⟩ (by decide), tm ⟨18, by decide⟩ ⟨2, by decide⟩ ⟨3, by decide⟩ (by decide), tm ⟨26, by decide⟩ ⟨3, by decide⟩ ⟨3, by decide⟩ (by decide),
    tm ⟨3, by decide⟩ ⟨0, by decide⟩ ⟨4, by decide⟩ (by decide), tm ⟨11, by decide⟩ ⟨1, by decide⟩ ⟨4, by decide⟩ (by decide), tm ⟨19, by decide⟩ ⟨2, by decide⟩ ⟨4, by decide⟩ (by decide), tm ⟨27, by decide⟩ ⟨3, by decide⟩ ⟨4, by decide⟩ (by decide),
    tm ⟨4, by decide⟩ ⟨0, by decide⟩ ⟨5, by decide⟩ (by decide), tm ⟨12, by decide⟩ ⟨1, by decide⟩ ⟨5, by decide⟩ (by decide), tm ⟨20, by decide⟩ ⟨2, by decide⟩ ⟨5, by decide⟩ (by decide), tm ⟨28, by decide⟩ ⟨3, by decide⟩ ⟨5, by decide⟩ (by decide),
    tm ⟨5, by decide⟩ ⟨0, by decide⟩ ⟨6, by decide⟩ (by decide), tm ⟨13, by decide⟩ ⟨1, by decide⟩ ⟨6, by decide⟩ (by decide), tm ⟨21, by decide⟩ ⟨2, by decide⟩ ⟨6, by decide⟩ (by decide), tm ⟨29, by decide⟩ ⟨3, by decide⟩ ⟨6, by decide⟩ (by decide),
    tm ⟨6, by decide⟩ ⟨0, by decide⟩ ⟨7, by decide⟩ (by decide), tm ⟨14, by decide⟩ ⟨1, by decide⟩ ⟨7, by decide⟩ (by decide), tm ⟨22, by decide⟩ ⟨2, by decide⟩ ⟨7, by decide⟩ (by decide), tm ⟨30, by decide⟩ ⟨3, by decide⟩ ⟨7, by decide⟩ (by decide)]
  generalize cb (ValueIdx.ix3 0 0 l) = b
  show b + (T 7 + T 15 + T 23) + (T 0 + T 8 + T 16 + T 24) + (T 1 + T 9 + T 17 + T 25) + (T 2 + T 10 + T 18 + T 26) + (T 3 + T 11 + T 19 + T 27)
    + (T 4 + T 12 + T 20 + T 28) + (T 5 + T 13 + T 21 + T 29) + (T 6 + T 14 + T 22 + T 30) = _
  ac_rfl

end Conv

section Norm

/-- The mean over heads and lanes of each of a chunk's rows. -/
def mT (v : FVec Ideal S8x32x128 .f32) : FVec Ideal S32x1 .f32 :=
  mulf (shapeCast S32x1 (multiReduction .add [1] S32 (multiReduction .add [0] S32x128 v 0x00000000#32 reduces_S8x32x128_S32x128 (.inl rfl) rfl)
    0x00000000#32 reduces_S32x128_S32 (.inl rfl) rfl) shapeCasts_S32_S32x1) (broadcast S32x1 (Scalar.ofBits .f32 0x3A800000#32))

/-- A column over all heads and lanes. -/
def upT (w : FVec Ideal S32x1 .f32) : FVec Ideal S8x32x128 .f32 :=
  broadcastTo S8x32x128 (shapeCast S1x32x1 w shapeCasts_S32x1_S1x32x1) broadcasts_S1x32x1_S8x32x128

theorem mT_apply (v : FVec Ideal S8x32x128 .f32) (r : Fin 32) :
    mT v (ValueIdx.ix2 r 0) = Ideal.div (∑ n, v (ValueIdx.ix3 (hd n) r (la n))) (Ideal.ofBits .f32 0x44800000#32) := by
  unfold mT
  show shapeCast S32x1 _ _ _ * Ideal.ofBits .f32 0x3A800000#32 = _
  rw [mean_eq]
  refine congrArg (Ideal.div · _) ?_
  refine (ValueIdx.shapeCast_a_a1_apply (a := 32) _ shapeCasts_S32_S32x1 r 0).trans ?_
  refine (Ideal.multiReduction_add_single _ _ reduces_S32x128_S32 (.inl rfl) rfl (ValueIdx.ix1 r)).trans ?_
  refine Eq.trans ?_ (sum_ch fun h l => v (ValueIdx.ix3 h r l))
  refine Finset.sum_congr rfl fun l _ => ?_
  refine (Ideal.multiReduction_add_single v _ reduces_S8x32x128_S32x128 (.inl rfl) rfl _).trans ?_
  refine Finset.sum_congr rfl fun h _ => congrArg v ?_
  funext a
  match a with
  | ⟨0, _⟩ => rfl
  | ⟨1, _⟩ => rfl
  | ⟨2, _⟩ => rfl

theorem upT_apply (w : FVec Ideal S32x1 .f32) (h : Fin 8) (r : Fin 32) (l : Fin 128) : upT w (ValueIdx.ix3 h r l) = w (ValueIdx.ix2 r 0) := by
  unfold upT
  refine (broadcastTo_apply _ broadcasts_S1x32x1_S8x32x128 (ValueIdx.ix3 h r l) (ValueIdx.ix3 0 r 0) ?_).trans ?_
  · intro a
    match a with
    | ⟨0, _⟩ => simp [S1x32x1]
    | ⟨1, _⟩ => simp [S1x32x1]
    | ⟨2, _⟩ => simp [S1x32x1]
  · refine shapeCast_apply w _ _ _ ?_
    rewrite [Shape.rowMajor_val_two, Shape.rowMajor_val_three]
    show r.val * 1 + 0 = (0 * 32 + r.val) * 1 + 0
    omega

theorem norm_apply (y : FVec Ideal S8x32x128 .f32) (h : Fin 8) (r : Fin 32) (l : Fin 128) :
    (k0_pay141 (F := Ideal) y) (ValueIdx.ix3 h r l) = xc (fun n => y (ValueIdx.ix3 (hd n) r (la n))) (ch h l)
      * Ideal.rsqrt (Ideal.div (∑ m, xc (fun n => y (ValueIdx.ix3 (hd n) r (la n))) m * xc (fun n => y (ValueIdx.ix3 (hd n) r (la n))) m) (Ideal.ofBits .f32 0x44800000#32) + Ideal.ofBits .f32 0x358637BD#32) := by
  have hx : ∀ (h : Fin 8) (l : Fin 128), subf y (upT (mT y)) (ValueIdx.ix3 h r l) = xc (fun n => y (ValueIdx.ix3 (hd n) r (la n))) (ch h l) := by
    intro h l
    show y (ValueIdx.ix3 h r l) - upT (mT y) (ValueIdx.ix3 h r l) = _
    rw [upT_apply, mT_apply]
    unfold xc
    dsimp only
    rw [hd_ch, la_ch]
  have e : k0_pay141 y = mulf (subf y (upT (mT y))) (upT (rsqrt (addf (mT (mulf (subf y (upT (mT y))) (subf y (upT (mT y))))) (broadcast S32x1 (Scalar.ofBits .f32 0x358637BD#32))))) := rfl
  rw [e]
  show subf y (upT (mT y)) (ValueIdx.ix3 h r l) * upT _ (ValueIdx.ix3 h r l) = _
  rw [hx, upT_apply]
  show _ * Ideal.rsqrt (mT _ (ValueIdx.ix2 r 0) + _) = _
  rw [mT_apply]
  have hs : ∀ n : Fin 1024, mulf (subf y (upT (mT y))) (subf y (upT (mT y))) (ValueIdx.ix3 (hd n) r (la n))
      = xc (fun n => y (ValueIdx.ix3 (hd n) r (la n))) n * xc (fun n => y (ValueIdx.ix3 (hd n) r (la n))) n := by
    intro n
    show subf y (upT (mT y)) (ValueIdx.ix3 (hd n) r (la n)) * subf y (upT (mT y)) (ValueIdx.ix3 (hd n) r (la n)) = _
    rw [hx, ch_hd]
  simp only [hs]
  rfl

theorem col_apply (v : FVec Ideal S8x1x128 .f32) (h : Fin 8) (r : Fin 32) (l : Fin 128) :
    broadcastTo S8x32x128 v broadcasts_S8x1x128_S8x32x128 (ValueIdx.ix3 h r l) = v (ValueIdx.ix3 h 0 l) := by
  refine broadcastTo_apply _ broadcasts_S8x1x128_S8x32x128 (ValueIdx.ix3 h r l) (ValueIdx.ix3 h 0 l) ?_
  intro a
  match a with
  | ⟨0, _⟩ => simp [S8x1x128]
  | ⟨1, _⟩ => simp [S8x1x128]
  | ⟨2, _⟩ => simp [S8x1x128]

theorem lnP_apply (y : FVec Ideal S8x32x128 .f32) (lw lb : FVec Ideal S8x1x128 .f32) (h : Fin 8) (r : Fin 32) (l : Fin 128) :
    lnP y lw lb (ValueIdx.ix3 h r l) = silu (lnV (fun n => y (ValueIdx.ix3 (hd n) r (la n))) (lw (ValueIdx.ix3 h 0 l)) (lb (ValueIdx.ix3 h 0 l)) (ch h l)) := by
  have e : ∀ v : FVec Ideal S8x32x128 .f32, k0_pay142 v lw lb = fun i =>
      (v i * broadcastTo S8x32x128 lw broadcasts_S8x1x128_S8x32x128 i + broadcastTo S8x32x128 lb broadcasts_S8x1x128_S8x32x128 i)
      * Ideal.div (Ideal.ofBits .f32 0x3F800000#32) (Ideal.ofBits .f32 0x3F800000#32 + Ideal.exp (Ideal.ofBits .f32 0x00000000#32 -
        (v i * broadcastTo S8x32x128 lw broadcasts_S8x1x128_S8x32x128 i + broadcastTo S8x32x128 lb broadcasts_S8x1x128_S8x32x128 i))) := by
    intro v
    unfold k0_pay142
    simp only [shapeCast_self]
    rfl
  unfold lnP
  rw [e]
  dsimp only
  rw [col_apply, col_apply, norm_apply, Ideal.ofBits_zero_f32, zero_sub]
  rfl

theorem lnH_apply (y : FVec Ideal S8x32x128 .f32) (lw lb : FVec Ideal S8x1x128 .f32) (h : Fin 8) (r : Fin 32) (l : Fin 128) :
    lnH y lw lb h (ValueIdx.ix3 0 r l) = silu (lnV (fun n => y (ValueIdx.ix3 (hd n) r (la n))) (lw (ValueIdx.ix3 h 0 l)) (lb (ValueIdx.ix3 h 0 l)) (ch h l)) := by
  unfold lnH
  refine (shapeCast_apply _ shapeCasts_S32x128_S1x32x128 (ValueIdx.ix3 0 r l) (ValueIdx.ix2 r l) ?_).trans ?_
  · rewrite [Shape.rowMajor_val_two, Shape.rowMajor_val_three]
    show r.val * 128 + l.val = (0 * 32 + r.val) * 128 + l.val
    omega
  refine (shapeCast_apply _ shapeCasts_S1x32x128_S32x128 (ValueIdx.ix2 r l) (ValueIdx.ix3 0 r l) ?_).trans ?_
  · rewrite [Shape.rowMajor_val_two, Shape.rowMajor_val_three]
    show (0 * 32 + r.val) * 128 + l.val = r.val * 128 + l.val
    omega
  refine (extractStridedSlice_apply ![h.val, 0, 0] _ (slH h) (ValueIdx.ix3 0 r l) (ValueIdx.ix3 h r l) ?_).trans (lnP_apply y lw lb h r l)
  intro a
  match a with
  | ⟨0, _⟩ => show h.val = h.val + 0; omega
  | ⟨1, _⟩ => show r.val = 0 + r.val; omega
  | ⟨2, _⟩ => show l.val = 0 + l.val; omega

end Norm

section Gate

theorem un_apply {φ : FTy} (v : FVec Ideal S1x128x128 φ) (r l : Fin 128) :
    shapeCast S128x128 v shapeCasts_S1x128x128_S128x128 (ValueIdx.ix2 r l) = v (ValueIdx.ix3 0 r l) := by
  refine shapeCast_apply v _ _ _ ?_
  rewrite [Shape.rowMajor_val_two, Shape.rowMajor_val_three]
  show (0 * 128 + r.val) * 128 + l.val = r.val * 128 + l.val
  omega

theorem gateP_apply (a b : FVec Ideal S1x128x128 .bf16) (hn : FVec Ideal S1x128 .f32) (g : FVec Ideal S1x128x128 .bf16) (r l : Fin 128) :
    gateP a b hn g (ValueIdx.ix2 r l) = gateV (fun m => a (ValueIdx.ix3 0 r m) + b (ValueIdx.ix3 0 r m)) (hn (ValueIdx.ix2 0 l)) (g (ValueIdx.ix3 0 r l)) l := by
  have ho : ∀ m, (addf (extf .f32 (shapeCast S128x128 a shapeCasts_S1x128x128_S128x128) bitsLt_bf16_f32) (extf .f32 (shapeCast S128x128 b shapeCasts_S1x128x128_S128x128) bitsLt_bf16_f32) : FVec Ideal S128x128 .f32) (ValueIdx.ix2 r m)
      = a (ValueIdx.ix3 0 r m) + b (ValueIdx.ix3 0 r m) := by
    intro m
    show shapeCast S128x128 a _ _ + shapeCast S128x128 b _ _ = _
    rw [un_apply, un_apply]
  unfold gateP k0_pay186
  simp only [shapeCast_self]
  generalize (addf (extf .f32 (shapeCast S128x128 a shapeCasts_S1x128x128_S128x128) bitsLt_bf16_f32) (extf .f32 (shapeCast S128x128 b shapeCasts_S1x128x128_S128x128) bitsLt_bf16_f32) : FVec Ideal S128x128 .f32) = o at ho ⊢
  show o (ValueIdx.ix2 r l) * broadcastTo S128x128 _ _ (ValueIdx.ix2 r l) * broadcastTo S128x128 hn _ (ValueIdx.ix2 r l) * shapeCast S128x128 g _ (ValueIdx.ix2 r l) = _
  rw [un_apply, ValueIdx.broadcastTo_1b_ab_apply (a := 128) (b := 128) hn _ r l]
  have hb : ∀ (w : FVec Ideal S128x1 .f32), broadcastTo S128x128 w broadcasts_S128x1_S128x128 (ValueIdx.ix2 r l) = w (ValueIdx.ix2 r 0) := by
    intro w
    refine broadcastTo_apply _ broadcasts_S128x1_S128x128 (ValueIdx.ix2 r l) (ValueIdx.ix2 r 0) ?_
    intro a
    match a with
    | ⟨0, _⟩ => simp [S128x1]
    | ⟨1, _⟩ => simp [S128x1]
  rw [hb, ho]
  show _ * Ideal.rsqrt (Ideal.div (shapeCast S128x1 _ _ (ValueIdx.ix2 r 0)) _ + _) * _ * _ = _
  rw [ValueIdx.shapeCast_a_a1_apply (a := 128) _ shapeCasts_S128_S128x1 r]
  have hs : multiReduction .add [1] S128 (mulf o o) 0x00000000#32 reduces_S128x128_S128 (.inl rfl) rfl (ValueIdx.ix1 r) = ∑ m : Fin 128, (a (ValueIdx.ix3 0 r m) + b (ValueIdx.ix3 0 r m)) * (a (ValueIdx.ix3 0 r m) + b (ValueIdx.ix3 0 r m)) := by
    refine (Ideal.multiReduction_add_single _ _ reduces_S128x128_S128 (.inl rfl) rfl (ValueIdx.ix1 r)).trans ?_
    refine Finset.sum_congr rfl fun m _ => ?_
    refine Eq.trans (congrArg (mulf o o) (?_ : _ = ValueIdx.ix2 r m)) ?_
    · funext a
      match a with
      | ⟨0, _⟩ => rfl
      | ⟨1, _⟩ => rfl
    · exact congr (congrArg (fun p q : EReal => p * q) (ho m)) (ho m)
  rw [hs]
  rfl

end Gate

section Mix

variable (a b g : Fin 8 → FVec Ideal S1x128x128 .bf16) (hn : FVec Ideal S1x128 .f32) (u : FVec Ideal S1x128x1024 .bf16)
    (x : FVec Ideal S128x2048 .f32) (w : FVec Ideal S2048x2048 .bf16)

/-- Eight heads' tiles side by side. -/
theorem heads_apply (p : Fin 8 → FVec Ideal S128x128 .bf16) (h) (r : Fin 128) (n : Fin 1024) :
    (concatenate S128x1024 1 [⟨S128x128, (p ⟨0, by decide⟩ : S128x128.Idx → Ideal .bf16)⟩, ⟨S128x128, (p ⟨1, by decide⟩ : S128x128.Idx → Ideal .bf16)⟩, ⟨S128x128, (p ⟨2, by decide⟩ : S128x128.Idx → Ideal .bf16)⟩, ⟨S128x128, (p ⟨3, by decide⟩ : S128x128.Idx → Ideal .bf16)⟩,
      ⟨S128x128, (p ⟨4, by decide⟩ : S128x128.Idx → Ideal .bf16)⟩, ⟨S128x128, (p ⟨5, by decide⟩ : S128x128.Idx → Ideal .bf16)⟩, ⟨S128x128, (p ⟨6, by decide⟩ : S128x128.Idx → Ideal .bf16)⟩, ⟨S128x128, (p ⟨7, by decide⟩ : S128x128.Idx → Ideal .bf16)⟩] h) (ValueIdx.ix2 r n)
      = p (hd n) (ValueIdx.ix2 r (la n)) := by
  obtain ⟨m, l, rfl⟩ : ∃ m l, n = ch m l := ⟨hd n, la n, (ch_hd n).symm⟩
  rw [hd_ch, la_ch]
  match m with
  | ⟨0, _⟩ => exact concatenate_apply_piece (t := S128x1024) 1 _ h (ValueIdx.ix2 r (ch ⟨0, by decide⟩ l)) 0 (by show 0 < 8; decide) S128x128 (p ⟨0, by decide⟩) rfl rfl 0 rfl (ValueIdx.ix2 r l) (fun b hb => match b with | ⟨0, _⟩ => rfl | ⟨1, _⟩ => absurd rfl hb) rfl
  | ⟨1, _⟩ => exact concatenate_apply_piece (t := S128x1024) 1 _ h (ValueIdx.ix2 r (ch ⟨1, by decide⟩ l)) 1 (by show 1 < 8; decide) S128x128 (p ⟨1, by decide⟩) rfl rfl 128 rfl (ValueIdx.ix2 r l) (fun b hb => match b with | ⟨0, _⟩ => rfl | ⟨1, _⟩ => absurd rfl hb) rfl
  | ⟨2, _⟩ => exact concatenate_apply_piece (t := S128x1024) 1 _ h (ValueIdx.ix2 r (ch ⟨2, by decide⟩ l)) 2 (by show 2 < 8; decide) S128x128 (p ⟨2, by decide⟩) rfl rfl 256 rfl (ValueIdx.ix2 r l) (fun b hb => match b with | ⟨0, _⟩ => rfl | ⟨1, _⟩ => absurd rfl hb) rfl
  | ⟨3, _⟩ => exact concatenate_apply_piece (t := S128x1024) 1 _ h (ValueIdx.ix2 r (ch ⟨3, by decide⟩ l)) 3 (by show 3 < 8; decide) S128x128 (p ⟨3, by decide⟩) rfl rfl 384 rfl (ValueIdx.ix2 r l) (fun b hb => match b with | ⟨0, _⟩ => rfl | ⟨1, _⟩ => absurd rfl hb) rfl
  | ⟨4, _⟩ => exact concatenate_apply_piece (t := S128x1024) 1 _ h (ValueIdx.ix2 r (ch ⟨4, by decide⟩ l)) 4 (by show 4 < 8; decide) S128x128 (p ⟨4, by decide⟩) rfl rfl 512 rfl (ValueIdx.ix2 r l) (fun b hb => match b with | ⟨0, _⟩ => rfl | ⟨1, _⟩ => absurd rfl hb) rfl
  | ⟨5, _⟩ => exact concatenate_apply_piece (t := S128x1024) 1 _ h (ValueIdx.ix2 r (ch ⟨5, by decide⟩ l)) 5 (by show 5 < 8; decide) S128x128 (p ⟨5, by decide⟩) rfl rfl 640 rfl (ValueIdx.ix2 r l) (fun b hb => match b with | ⟨0, _⟩ => rfl | ⟨1, _⟩ => absurd rfl hb) rfl
  | ⟨6, _⟩ => exact concatenate_apply_piece (t := S128x1024) 1 _ h (ValueIdx.ix2 r (ch ⟨6, by decide⟩ l)) 6 (by show 6 < 8; decide) S128x128 (p ⟨6, by decide⟩) rfl rfl 768 rfl (ValueIdx.ix2 r l) (fun b hb => match b with | ⟨0, _⟩ => rfl | ⟨1, _⟩ => absurd rfl hb) rfl
  | ⟨7, _⟩ => exact concatenate_apply_piece (t := S128x1024) 1 _ h (ValueIdx.ix2 r (ch ⟨7, by decide⟩ l)) 7 (by show 7 < 8; decide) S128x128 (p ⟨7, by decide⟩) rfl rfl 896 rfl (ValueIdx.ix2 r l) (fun b hb => match b with | ⟨0, _⟩ => rfl | ⟨1, _⟩ => absurd rfl hb) rfl

/-- Two halves side by side. -/
theorem join_apply (u o : FVec Ideal S128x1024 .bf16) (h) (r : Fin 128) (k : Fin 2048) :
    (concatenate S128x2048 1 [⟨S128x1024, (u : S128x1024.Idx → Ideal .bf16)⟩, ⟨S128x1024, (o : S128x1024.Idx → Ideal .bf16)⟩] h) (ValueIdx.ix2 r k)
      = if h1 : k.val < 1024 then u (ValueIdx.ix2 r ⟨k.val, h1⟩) else o (ValueIdx.ix2 r ⟨k.val - 1024, by have := k.isLt; omega⟩) := by
  have hk := k.isLt
  split
  · rename_i h1
    exact concatenate_apply_piece (t := S128x2048) 1 _ h (ValueIdx.ix2 r k) 0 (by show 0 < 2; decide) S128x1024 u rfl rfl 0 rfl (ValueIdx.ix2 r ⟨k.val, h1⟩)
      (fun b hb => match b with | ⟨0, _⟩ => rfl | ⟨1, _⟩ => absurd rfl hb) (by show 0 + k.val = k.val; omega)
  · rename_i h1
    exact concatenate_apply_piece (t := S128x2048) 1 _ h (ValueIdx.ix2 r k) 1 (by show 1 < 2; decide) S128x1024 o rfl rfl 1024 rfl (ValueIdx.ix2 r ⟨k.val - 1024, by omega⟩)
      (fun b hb => match b with | ⟨0, _⟩ => rfl | ⟨1, _⟩ => absurd rfl hb) (by show 1024 + (k.val - 1024) = k.val; omega)

theorem mixP_apply (Y lw lb : Fin 1024 → EReal) (r : Fin 128) (n : Fin 2048)
    (hu : ∀ k : Fin 1024, u (ValueIdx.ix3 0 r k) = silu (lnV Y (lw k) (lb k) k)) :
    mixP a b g hn u x w (ValueIdx.ix2 r n) = rowV Y lw lb (fun h l => a h (ValueIdx.ix3 0 r l) + b h (ValueIdx.ix3 0 r l)) (fun h l => g h (ValueIdx.ix3 0 r l)) (fun l => hn (ValueIdx.ix2 0 l))
      (x (ValueIdx.ix2 r n)) (fun k => w (ValueIdx.ix2 k n)) := by
  unfold mixP rowV
  simp only [shapeCast_self]
  show x (ValueIdx.ix2 r n) + matmul _ _ _ _ _ _ = _
  refine congrArg (x (ValueIdx.ix2 r n) + ·) ?_
  refine (Ideal.matmul_plain_apply (M := 128) (K := 2048) (N := 2048) none _ w _ r n).trans ?_
  refine (congrArg (· + _) (Ideal.ofBits_zero_f32 : constant (F := Ideal) S128x2048 .f32 0x00000000#32 (ValueIdx.ix2 r n) = 0)).trans ((zero_add _).trans ?_)
  refine Finset.sum_congr rfl fun k _ => congrArg (· * w (ValueIdx.ix2 k n)) ?_
  refine (join_apply _ _ _ r k).trans ?_
  unfold act
  have hk := k.isLt
  by_cases h1 : k.val < 1024
  · rw [dif_pos h1, dif_pos h1, ← hu]
    refine shapeCast_apply u _ _ _ ?_
    rewrite [Shape.rowMajor_val_two, Shape.rowMajor_val_three]
    show (0 * 128 + r.val) * 1024 + k.val = r.val * 1024 + k.val
    omega
  · rw [dif_neg h1, dif_neg h1]
    refine (heads_apply (fun m => gateP (a m) (b m) hn (g m)) _ r ⟨k.val - 1024, by omega⟩).trans ?_
    exact gateP_apply _ _ _ _ _ _

end Mix

end Cert.MixVal

end
-- ==== Proof.MixVal.Cases.lean ====
/-
  The mix call's buffers read at one index: the padded rows, a block's convolved rows head by head, its normalised rows
  chunk by chunk, and with them the output block of one step, row by row (`rowV`).
-/
module

public import proofs.«01_k».proof.Proof.MixVal.Val
public import proofs.«01_k».proof.Proof.MixVal.Frame
public import Idealize.ShloMosaic.Lib.Pipeline.Value
public import Idealize.ShloMosaic.Lib.Pipeline.ValueKit.Tiles

@[expose] public section

set_option maxHeartbeats 2000000
set_option maxRecDepth 20000

noncomputable section

namespace Cert.MixVal

open Idealize.ShloMosaic Idealize.SL
open Idealize.ShloMosaic.Pipeline (Dat Cfg Window)
open Cert.MixIdeal Cert.MixIdeal.Gen
open scoped BigOperators

/-- A written list's newest pieces decide an index they hold, -/
theorem canon_hit {S : Shape} {e : EltTy} : ∀ (A B : List (View.Piece (Elt Ideal) S e)) (y : S.Idx) (v : Elt Ideal e)
    (_ : ∃ p ∈ A, y ∈ p.1.set) (_ : View.AllAt A y v), View.canon (A ++ B) y = v
  | [], _, _, _, hc, _ => by obtain ⟨p, hp, _⟩ := hc; exact absurd hp List.not_mem_nil
  | p :: A, B, y, v, hc, h => by
    by_cases hm : y ∈ p.1.set
    · obtain ⟨x, rfl⟩ := p.1.exists_idx_of_mem hm
      obtain ⟨r, w⟩ := p
      exact (View.canon_cons_emb r w (A ++ B) x).trans (h ⟨r, w⟩ (List.Mem.head _) x rfl)
    · refine (View.canon_cons_of_not_mem p (A ++ B) hm).trans (canon_hit A B y v ?_ fun q hq => h q (List.Mem.tail _ hq))
      obtain ⟨q, hq, hy⟩ := hc
      rcases List.mem_cons.mp hq with rfl | hq
      · exact absurd hy hm
      · exact ⟨q, hq, hy⟩

/-- A load of a whole buffer's contents, at an index, -/
theorem rd {S : Shape} {e : EltTy} (a : Memref sig .tc .vmem S e) (h : a.IsWhole) (x : Vec Ideal S e) (r : Rect S)
    (j : r.toLoadRect.shape.Idx) (k : S.Idx) (hk : r.toLoadRect.idx j = k) :
    View.readAt (Elt Ideal) a.view r.toLoadRect (h.unread x) j = x k := by
  subst hk
  show a.view.read (Elt Ideal) (h.unread x) _ = _
  rw [h.read_unread]

/-- and of a list of written pieces. -/
theorem rc {S : Shape} {e : EltTy} (a : Memref sig .tc .vmem S e) (L : List (View.Piece (Elt Ideal) S e)) (r : LoadRect S)
    (j : r.shape.Idx) (k : S.Idx) (hk : r.idx j = k) : a.view.readCov (Val := Elt Ideal) L r j = View.canon L k := by
  subst hk
  exact congrFun (View.readCov_eq_canon' a.view L r) j

/-! ## The padded rows -/

/-- The rows a step's convolution reads: the previous step's last 16, the step's 512, the next step's first 16, zeros
    where the sequence ends. -/
def padX (i : grid0.Coords) (c : Vec Ideal S8x512x128 .f32) (p n : Vec Ideal S8x16x128 .f32) (h : Fin 8) (ρ : ℕ) (l : Fin 128) : EReal :=
  if ρ < 16 then (if 0 < (i 1).val then p (ValueIdx.ix3 h ⟨ρ % 16, Nat.mod_lt _ (by decide)⟩ l) else 0)
  else if ρ < 528 then c (ValueIdx.ix3 h ⟨(ρ - 16) % 512, Nat.mod_lt _ (by decide)⟩ l)
  else (if (i 1).val < 15 then n (ValueIdx.ix3 h ⟨(ρ - 528) % 16, Nat.mod_lt _ (by decide)⟩ l) else 0)

theorem sgt_iff : ∀ a : Fin 16, (Scalar.cmpi .sgt (BitVec.ofNat 32 a.val) 0#32 = 1) ↔ 0 < a.val := by decide
theorem slt_iff : ∀ a : Fin 16, (Scalar.cmpi .slt (BitVec.ofNat 32 a.val) 15#32 = 1) ↔ a.val < 15 := by decide

theorem pay202_at (x : Vec Ideal S8x512x128 .f32) (y : S8x512x128.Idx) : k0_pay202 (F := Ideal) x y = x y := by
  unfold k0_pay202
  rw [shapeCast_self]

theorem zero_at (y : S8x16x128.Idx) : broadcast S8x16x128 (Scalar.ofBits (F := Ideal) .f32 0x00000000#32) y = (0 : EReal) :=
  Ideal.ofBits_zero_f32

theorem pay203_at (i : grid0.Coords) (x : Vec Ideal S8x16x128 .f32) (y : S8x16x128.Idx) :
    k0_pay203 (F := Ideal) i x y = if 0 < (i 1).val then x y else 0 := by
  unfold k0_pay203
  dsimp only
  rw [shapeCast_self]
  unfold Scalar.select
  by_cases h : 0 < (i 1).val
  · rw [if_pos ((sgt_iff (i 1)).2 h), if_pos h]
  · rw [if_neg (fun e => h ((sgt_iff (i 1)).1 e)), if_neg h]
    exact zero_at y

theorem pay204_at (i : grid0.Coords) (x : Vec Ideal S8x16x128 .f32) (y : S8x16x128.Idx) :
    k0_pay204 (F := Ideal) i x y = if (i 1).val < 15 then x y else 0 := by
  unfold k0_pay204
  dsimp only
  rw [shapeCast_self]
  unfold Scalar.select
  by_cases h : (i 1).val < 15
  · rw [if_pos ((slt_iff (i 1)).2 h), if_pos h]
  · rw [if_neg (fun e => h ((slt_iff (i 1)).1 e)), if_neg h]
    exact zero_at y

theorem xL_at (i : grid0.Coords) (c : Vec Ideal S8x512x128 .f32) (p n : Vec Ideal S8x16x128 .f32) (h : Fin 8) (ρ : Fin 544) (l : Fin 128) :
    View.canon (xL (F := Ideal) i c p n) (ValueIdx.ix3 h ρ l) = padX i c p n h ρ.val l := by
  have hρ := ρ.isLt; have hh := h.isLt; have hl := l.isLt
  refine View.canon_eq_of_allAt _ _ _ ?_ ?_
  · by_cases h1 : ρ.val < 16
    · refine ⟨⟨Rect.unit (s := S8x544x128) ![0, 0, 0] S8x16x128.size inb_S8x544x128_S8x16x128_0_0_0, k0_pay203 i p⟩, List.Mem.tail _ (List.Mem.head _), ?_⟩
      show (ValueIdx.ix3 h ρ l : S8x544x128.Idx) ∈ (Rect.unit (s := S8x544x128) ![0, 0, 0] S8x16x128.size inb_S8x544x128_S8x16x128_0_0_0).set
      refine Rect.mem_set_unit.2 fun a => ?_
      fin_cases a
      · show 0 ≤ h.val ∧ h.val < 0 + 8; omega
      · show 0 ≤ ρ.val ∧ ρ.val < 0 + 16; omega
      · show 0 ≤ l.val ∧ l.val < 0 + 128; omega
    · by_cases h2 : ρ.val < 528
      · refine ⟨⟨Rect.unit (s := S8x544x128) ![0, 16, 0] S8x512x128.size inb_S8x544x128_S8x512x128_0_16_0, k0_pay202 c⟩, List.Mem.tail _ (List.Mem.tail _ (List.Mem.head _)), ?_⟩
        show (ValueIdx.ix3 h ρ l : S8x544x128.Idx) ∈ (Rect.unit (s := S8x544x128) ![0, 16, 0] S8x512x128.size inb_S8x544x128_S8x512x128_0_16_0).set
        refine Rect.mem_set_unit.2 fun a => ?_
        fin_cases a
        · show 0 ≤ h.val ∧ h.val < 0 + 8; omega
        · show 16 ≤ ρ.val ∧ ρ.val < 16 + 512; omega
        · show 0 ≤ l.val ∧ l.val < 0 + 128; omega
      · refine ⟨⟨Rect.unit (s := S8x544x128) ![0, 528, 0] S8x16x128.size inb_S8x544x128_S8x16x128_0_528_0, k0_pay204 i n⟩, List.Mem.head _, ?_⟩
        show (ValueIdx.ix3 h ρ l : S8x544x128.Idx) ∈ (Rect.unit (s := S8x544x128) ![0, 528, 0] S8x16x128.size inb_S8x544x128_S8x16x128_0_528_0).set
        refine Rect.mem_set_unit.2 fun a => ?_
        fin_cases a
        · show 0 ≤ h.val ∧ h.val < 0 + 8; omega
        · show 528 ≤ ρ.val ∧ ρ.val < 528 + 16; omega
        · show 0 ≤ l.val ∧ l.val < 0 + 128; omega
  · unfold xL padX
    refine View.allAt_cons_unit _ _ _ _ _ ?_ (View.allAt_cons_unit _ _ _ _ _ ?_ (View.allAt_cons_unit _ _ _ _ _ ?_ (View.allAt_nil _ _)))
    · intro x hx
      have e0 : h.val = 0 + (x 0).val := hx 0
      have e1 : ρ.val = 528 + (x 1).val := hx 1
      have e2 : l.val = 0 + (x 2).val := hx 2
      rw [if_neg (by omega), if_neg (by omega)]
      refine (pay204_at i n x).trans ?_
      refine congrArg (fun v : EReal => if (i 1).val < 15 then v else 0) (congrArg n ?_)
      funext a; apply Fin.ext; fin_cases a
      · show (x 0).val = h.val; omega
      · have := (x 1).isLt; show (x 1).val = (ρ.val - 528) % 16; omega
      · show (x 2).val = l.val; omega
    · intro x hx
      have e0 : h.val = 0 + (x 0).val := hx 0
      have e1 : ρ.val = 0 + (x 1).val := hx 1
      have e2 : l.val = 0 + (x 2).val := hx 2
      have b1 : (x 1).val < 16 := (x 1).isLt
      rw [if_pos (by omega)]
      refine (pay203_at i p x).trans ?_
      refine congrArg (fun v : EReal => if 0 < (i 1).val then v else 0) (congrArg p ?_)
      funext a; apply Fin.ext; fin_cases a
      · show (x 0).val = h.val; omega
      · show (x 1).val = ρ.val % 16; omega
      · show (x 2).val = l.val; omega
    · intro x hx
      have e0 : h.val = 0 + (x 0).val := hx 0
      have e1 : ρ.val = 16 + (x 1).val := hx 1
      have e2 : l.val = 0 + (x 2).val := hx 2
      have b1 : (x 1).val < 512 := (x 1).isLt
      rw [if_neg (by omega), if_pos (by omega)]
      refine (pay202_at c x).trans (congrArg c ?_)
      funext a; apply Fin.ext; fin_cases a
      · show (x 0).val = h.val; omega
      · show (x 1).val = (ρ.val - 16) % 512; omega
      · show (x 2).val = l.val; omega

/-! ## A block's heads, and its chunks -/

theorem tileY (p : Fin 8 → FVec Ideal S1x128x128 .f32) (k h : Fin 8) (r l : Fin 128) :
    View.TileAt (Val := Elt Ideal) (S := S8x128x128) (e := .f32) (ValueIdx.ix3 h r l) ![k.val, 0, 0] S1x128x128.size (p k) (p h (ValueIdx.ix3 0 r l)) := by
  intro x hx
  have e0 : h.val = k.val + (x 0).val := hx 0
  have e1 : r.val = 0 + (x 1).val := hx 1
  have e2 : l.val = 0 + (x 2).val := hx 2
  have b0 : (x 0).val < 1 := (x 0).isLt
  have e : h = k := Fin.ext (by omega)
  subst e
  refine congrArg (p h) ?_
  funext a; apply Fin.ext; fin_cases a
  · show (x 0).val = 0; omega
  · show (x 1).val = r.val; omega
  · show (x 2).val = l.val; omega

theorem hitY (k : Fin 8) (r l : Fin 128) :
    (ValueIdx.ix3 k r l : S8x128x128.Idx) ∈ (Rect.unit (s := S8x128x128) ![k.val, 0, 0] S1x128x128.size (inbP k)).set := by
  have := r.isLt; have := l.isLt
  refine Rect.mem_set_unit.2 fun a => ?_
  fin_cases a
  · show k.val ≤ k.val ∧ k.val < k.val + 1; omega
  · show 0 ≤ r.val ∧ r.val < 0 + 128; omega
  · show 0 ≤ l.val ∧ l.val < 0 + 128; omega

theorem memY (p : Fin 8 → FVec Ideal S1x128x128 .f32) : ∀ k : Fin 8,
    (⟨Rect.unit (s := S8x128x128) ![k.val, 0, 0] S1x128x128.size (inbP k), p k⟩ : View.Piece (Elt Ideal) S8x128x128 .f32) ∈ yL p []
  | ⟨0, _⟩ => List.Mem.tail _ (List.Mem.tail _ (List.Mem.tail _ (List.Mem.tail _ (List.Mem.tail _ (List.Mem.tail _ (List.Mem.tail _ (List.Mem.head _)))))))
  | ⟨1, _⟩ => List.Mem.tail _ (List.Mem.tail _ (List.Mem.tail _ (List.Mem.tail _ (List.Mem.tail _ (List.Mem.tail _ (List.Mem.head _))))))
  | ⟨2, _⟩ => List.Mem.tail _ (List.Mem.tail _ (List.Mem.tail _ (List.Mem.tail _ (List.Mem.tail _ (List.Mem.head _)))))
  | ⟨3, _⟩ => List.Mem.tail _ (List.Mem.tail _ (List.Mem.tail _ (List.Mem.tail _ (List.Mem.head _))))
  | ⟨4, _⟩ => List.Mem.tail _ (List.Mem.tail _ (List.Mem.tail _ (List.Mem.head _)))
  | ⟨5, _⟩ => List.Mem.tail _ (List.Mem.tail _ (List.Mem.head _))
  | ⟨6, _⟩ => List.Mem.tail _ (List.Mem.head _)
  | ⟨7, _⟩ => List.Mem.head _

theorem yL_at (p : Fin 8 → FVec Ideal S1x128x128 .f32) (L : List (View.Piece (Elt Ideal) S8x128x128 .f32)) (h : Fin 8) (r l : Fin 128) :
    View.canon (yL p L) (ValueIdx.ix3 h r l) = p h (ValueIdx.ix3 0 r l) :=
  canon_hit (yL p []) L _ _ ⟨_, memY p h, hitY h r l⟩
    (View.allAt_cons_unit _ _ _ _ _ (tileY p _ h r l) (View.allAt_cons_unit _ _ _ _ _ (tileY p _ h r l) (View.allAt_cons_unit _ _ _ _ _ (tileY p _ h r l) (View.allAt_cons_unit _ _ _ _ _ (tileY p _ h r l) (View.allAt_cons_unit _ _ _ _ _ (tileY p _ h r l) (View.allAt_cons_unit _ _ _ _ _ (tileY p _ h r l) (View.allAt_cons_unit _ _ _ _ _ (tileY p _ h r l) (View.allAt_cons_unit _ _ _ _ _ (tileY p _ h r l) (View.allAt_nil _ _)))))))))

theorem tileU (s : Fin 2) (p : Fin 4 → Fin 8 → FVec Ideal S1x32x128 .bf16) (q : Fin 4) (k : Fin 8) (q' : Fin 4) (k' : Fin 8) (r : Fin 32) (l : Fin 128)
    (R : Fin 128) (n : Fin 1024) (hR : R.val = 32 * q'.val + r.val) (hn : n.val = 128 * k'.val + l.val) :
    View.TileAt (Val := Elt Ideal) (S := S2x128x1024) (e := .bf16) (ValueIdx.ix3 s R n) ![s.val, 32 * q.val, 128 * k.val] S1x32x128.size (p q k) (p q' k' (ValueIdx.ix3 0 r l)) := by
  intro x hx
  have e0 : s.val = s.val + (x 0).val := hx 0
  have e1 : R.val = 32 * q.val + (x 1).val := hx 1
  have e2 : n.val = 128 * k.val + (x 2).val := hx 2
  have b1 : (x 1).val < 32 := (x 1).isLt
  have b2 : (x 2).val < 128 := (x 2).isLt
  have := r.isLt; have := l.isLt
  have e : q' = q := Fin.ext (by omega)
  have e' : k' = k := Fin.ext (by omega)
  subst e; subst e'
  refine congrArg (p q' k') ?_
  funext a; apply Fin.ext; fin_cases a
  · show (x 0).val = 0; omega
  · show (x 1).val = r.val; omega
  · show (x 2).val = l.val; omega

theorem hitU (s : Fin 2) (q : Fin 4) (k : Fin 8) (r : Fin 32) (l : Fin 128)
    (R : Fin 128) (n : Fin 1024) (hR : R.val = 32 * q.val + r.val) (hn : n.val = 128 * k.val + l.val) :
    (ValueIdx.ix3 s R n : S2x128x1024.Idx) ∈ (Rect.unit (s := S2x128x1024) ![s.val, 32 * q.val, 128 * k.val] S1x32x128.size (inbU s q k)).set := by
  have := r.isLt; have := l.isLt
  refine Rect.mem_set_unit.2 fun a => ?_
  fin_cases a
  · show s.val ≤ s.val ∧ s.val < s.val + 1; omega
  · show 32 * q.val ≤ R.val ∧ R.val < 32 * q.val + 32; omega
  · show 128 * k.val ≤ n.val ∧ n.val < 128 * k.val + 128; omega

theorem missU (s s' : Fin 2) (hs : s ≠ s') (q : Fin 4) (k : Fin 8) (R : Fin 128) (n : Fin 1024) :
    (ValueIdx.ix3 s R n : S2x128x1024.Idx) ∉ (Rect.unit (s := S2x128x1024) ![s'.val, 32 * q.val, 128 * k.val] S1x32x128.size (inbU s' q k)).set := by
  intro h
  have h0 : s'.val ≤ s.val ∧ s.val < s'.val + 1 := Rect.mem_set_unit.1 h 0
  exact hs (Fin.ext (by omega))

theorem memU (s : Fin 2) (p : Fin 4 → Fin 8 → FVec Ideal S1x32x128 .bf16) : ∀ (q : Fin 4) (k : Fin 8),
    (⟨Rect.unit (s := S2x128x1024) ![s.val, 32 * q.val, 128 * k.val] S1x32x128.size (inbU s q k), p q k⟩ : View.Piece (Elt Ideal) S2x128x1024 .bf16) ∈ uL s p []
  | ⟨0, _⟩, ⟨0, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))
  | ⟨0, _⟩, ⟨1, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))
  | ⟨0, _⟩, ⟨2, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))
  | ⟨0, _⟩, ⟨3, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))
  | ⟨0, _⟩, ⟨4, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))
  | ⟨0, _⟩, ⟨5, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))
  | ⟨0, _⟩, ⟨6, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))
  | ⟨0, _⟩, ⟨7, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))
  | ⟨1, _⟩, ⟨0, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))
  | ⟨1, _⟩, ⟨1, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))
  | ⟨1, _⟩, ⟨2, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))
  | ⟨1, _⟩, ⟨3, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))
  | ⟨1, _⟩, ⟨4, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))
  | ⟨1, _⟩, ⟨5, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))
  | ⟨1, _⟩, ⟨6, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))
  | ⟨1, _⟩, ⟨7, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))
  | ⟨2, _⟩, ⟨0, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))
  | ⟨2, _⟩, ⟨1, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))
  | ⟨2, _⟩, ⟨2, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))
  | ⟨2, _⟩, ⟨3, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))
  | ⟨2, _⟩, ⟨4, _⟩ => List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))
  | ⟨2, _⟩, ⟨5, _⟩ => List.Mem.tail _ (List.Mem.tail _ (List.Mem.tail _ (List.Mem.tail _ (List.Mem.tail _ (List.Mem.tail _ (List.Mem.tail _ (List.Mem.tail _ (List.Mem.tail _ (List.Mem.tail _ (List.Mem.head _))))))))))
  | ⟨2, _⟩, ⟨6, _⟩ => List.Mem.tail _ (List.Mem.tail _ (List.Mem.tail _ (List.Mem.tail _ (List.Mem.tail _ (List.Mem.tail _ (List.Mem.tail _ (List.Mem.tail _ (List.Mem.tail _ (List.Mem.head _)))))))))
  | ⟨2, _⟩, ⟨7, _⟩ => List.Mem.tail _ (List.Mem.tail _ (List.Mem.tail _ (List.Mem.tail _ (List.Mem.tail _ (List.Mem.tail _ (List.Mem.tail _ (List.Mem.tail _ (List.Mem.head _))))))))
  | ⟨3, _⟩, ⟨0, _⟩ => List.Mem.tail _ (List.Mem.tail _ (List.Mem.tail _ (List.Mem.tail _ (List.Mem.tail _ (List.Mem.tail _ (List.Mem.tail _ (List.Mem.head _)))))))
  | ⟨3, _⟩, ⟨1, _⟩ => List.Mem.tail _ (List.Mem.tail _ (List.Mem.tail _ (List.Mem.tail _ (List.Mem.tail _ (List.Mem.tail _ (List.Mem.head _))))))
  | ⟨3, _⟩, ⟨2, _⟩ => List.Mem.tail _ (List.Mem.tail _ (List.Mem.tail _ (List.Mem.tail _ (List.Mem.tail _ (List.Mem.head _)))))
  | ⟨3, _⟩, ⟨3, _⟩ => List.Mem.tail _ (List.Mem.tail _ (List.Mem.tail _ (List.Mem.tail _ (List.Mem.head _))))
  | ⟨3, _⟩, ⟨4, _⟩ => List.Mem.tail _ (List.Mem.tail _ (List.Mem.tail _ (List.Mem.head _)))
  | ⟨3, _⟩, ⟨5, _⟩ => List.Mem.tail _ (List.Mem.tail _ (List.Mem.head _))
  | ⟨3, _⟩, ⟨6, _⟩ => List.Mem.tail _ (List.Mem.head _)
  | ⟨3, _⟩, ⟨7, _⟩ => List.Mem.head _

theorem uL_hit (s : Fin 2) (p : Fin 4 → Fin 8 → FVec Ideal S1x32x128 .bf16) (L : List (View.Piece (Elt Ideal) S2x128x1024 .bf16))
    (q : Fin 4) (k : Fin 8) (r : Fin 32) (l : Fin 128) (R : Fin 128) (n : Fin 1024) (hR : R.val = 32 * q.val + r.val) (hn : n.val = 128 * k.val + l.val) :
    View.canon (uL s p L) (ValueIdx.ix3 s R n) = p q k (ValueIdx.ix3 0 r l) :=
  canon_hit (uL s p []) L _ _ ⟨_, memU s p q k, hitU s q k r l R n hR hn⟩
    (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_cons_unit _ _ _ _ _ (tileU s p _ _ q k r l R n hR hn) (View.allAt_nil _ _)))))))))))))))))))))))))))))))))

/-- Pieces none of which holds an index leave it to the older ones. -/
theorem canon_miss {S : Shape} {e : EltTy} : ∀ (A B : List (View.Piece (Elt Ideal) S e)) (y : S.Idx)
    (_ : ∀ p ∈ A, y ∉ p.1.set), View.canon (A ++ B) y = View.canon B y
  | [], _, _, _ => rfl
  | p :: A, B, y, h => (View.canon_cons_of_not_mem p (A ++ B) (h p (List.Mem.head _))).trans (canon_miss A B y fun q hq => h q (List.Mem.tail _ hq))

theorem miss_cons {S : Shape} {e : EltTy} {r : Rect S} {w : r.shape.Idx → Elt Ideal e} {A : List (View.Piece (Elt Ideal) S e)} {y : S.Idx}
    (h : y ∉ r.set) (hA : ∀ p ∈ A, y ∉ p.1.set) : ∀ p ∈ ((⟨r, w⟩ : View.Piece (Elt Ideal) S e) :: A), y ∉ p.1.set := by
  intro p hp
  rcases List.mem_cons.mp hp with rfl | hp
  · exact h
  · exact hA p hp

theorem uL_miss (s s' : Fin 2) (hs : s ≠ s') (p : Fin 4 → Fin 8 → FVec Ideal S1x32x128 .bf16) (L : List (View.Piece (Elt Ideal) S2x128x1024 .bf16))
    (R : Fin 128) (n : Fin 1024) : View.canon (uL s' p L) (ValueIdx.ix3 s R n) = View.canon L (ValueIdx.ix3 s R n) := by
  refine canon_miss (uL s' p []) L _ ?_
  unfold uL
  exact miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (miss_cons (missU s s' hs _ _ R n) (fun p hp => absurd hp List.not_mem_nil))))))))))))))))))))))))))))))))

/-! ## The step -/

section run

variable (c : Dev nD) (i : grid0.Coords) (arg2 : Memref sig .tc .vmem S512x2048 .f32) (harg2 : arg2.IsWhole) (arg3 : Memref sig .tc .vmem S8x512x128 .f32) (harg3 : arg3.IsWhole) (arg4 : Memref sig .tc .vmem S8x16x128 .f32) (harg4 : arg4.IsWhole) (arg5 : Memref sig .tc .vmem S8x16x128 .f32) (harg5 : arg5.IsWhole) (arg6 : Memref sig .tc .vmem S8x512x128 .bf16) (harg6 : arg6.IsWhole) (arg7 : Memref sig .tc .vmem S8x512x128 .bf16) (harg7 : arg7.IsWhole) (arg8 : Memref sig .tc .vmem S8x512x128 .bf16) (harg8 : arg8.IsWhole) (arg9 : Memref sig .tc .vmem S8x31x128 .f32) (harg9 : arg9.IsWhole) (arg10 : Memref sig .tc .vmem S8x1x128 .f32) (harg10 : arg10.IsWhole) (arg11 : Memref sig .tc .vmem S8x1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S2048x2048 .bf16) (harg14 : arg14.IsWhole) (arg15 : Memref sig .tc .vmem S512x2048 .f32) (harg15 : arg15.IsWhole) (arg16 : Memref sig .tc .vmem S8x544x128 .f32) (harg16 : arg16.IsWhole) (arg17 : Memref sig .tc .vmem S8x128x128 .f32) (harg17 : arg17.IsWhole) (arg18 : Memref sig .tc .vmem S2x128x1024 .bf16) (harg18 : arg18.IsWhole)
  (x0 : Vec Ideal S512x2048 .f32) (x1 : Vec Ideal S8x512x128 .f32) (x2 : Vec Ideal S8x16x128 .f32) (x3 : Vec Ideal S8x16x128 .f32) (x4 : Vec Ideal S8x512x128 .bf16) (x5 : Vec Ideal S8x512x128 .bf16) (x6 : Vec Ideal S8x512x128 .bf16) (x7 : Vec Ideal S8x31x128 .f32) (x8 : Vec Ideal S8x1x128 .f32) (x9 : Vec Ideal S8x1x128 .f32) (x10 : Vec Ideal S8x1x128 .f32) (x11 : Vec Ideal S1x128 .f32) (x12 : Vec Ideal S2048x2048 .bf16)

/-- A channel of a row's convolution. -/
def cvX (R : ℕ) (n : Fin 1024) : EReal :=
  cv (fun t : Fin 31 => padX i x1 x2 x3 (hd n) (R + t.val + 1) (la n)) (fun t => x7 (ValueIdx.ix3 (hd n) t (la n))) (x8 (ValueIdx.ix3 (hd n) 0 (la n)))

/-- The step's output block. -/
def outE (y : S512x2048.Idx) : EReal :=
  rowV (cvX i x1 x2 x3 x7 x8 (y 0).val) (fun n => x9 (ValueIdx.ix3 (hd n) 0 (la n))) (fun n => x10 (ValueIdx.ix3 (hd n) 0 (la n)))
    (fun h l => x4 (ValueIdx.ix3 h (y 0) l) + x5 (ValueIdx.ix3 h (y 0) l)) (fun h l => x6 (ValueIdx.ix3 h (y 0) l))
    (fun l => x11 (ValueIdx.ix2 0 l)) (x0 y) (fun k => x12 (ValueIdx.ix2 k (y 1)))

theorem xs_at (h : Fin 8) (ρ : Fin 544) (l : Fin 128) :
    View.canon (xs (F := Ideal) i arg3 harg3 arg4 harg4 arg5 harg5 x1 x2 x3) (ValueIdx.ix3 h ρ l) = padX i x1 x2 x3 h ρ.val l := by
  unfold xs
  rw [xL_at]
  have e1 : View.readAt (Elt Ideal) arg3.view (Rect.unit (s := S8x512x128) ![0, 0, 0] S8x512x128.size inb_S8x512x128_S8x512x128_0_0_0).toLoadRect (harg3.unread x1) = x1 := by
    funext y; refine rd arg3 harg3 x1 _ y y ?_
    funext a; apply Fin.ext; fin_cases a
    · show 0 + 1 * (y 0).val = (y 0).val; omega
    · show 0 + 1 * (y 1).val = (y 1).val; omega
    · show 0 + 1 * (y 2).val = (y 2).val; omega
  have e2 : View.readAt (Elt Ideal) arg4.view (Rect.unit (s := S8x16x128) ![0, 0, 0] S8x16x128.size inb_S8x16x128_S8x16x128_0_0_0).toLoadRect (harg4.unread x2) = x2 := by
    funext y; refine rd arg4 harg4 x2 _ y y ?_
    funext a; apply Fin.ext; fin_cases a
    · show 0 + 1 * (y 0).val = (y 0).val; omega
    · show 0 + 1 * (y 1).val = (y 1).val; omega
    · show 0 + 1 * (y 2).val = (y 2).val; omega
  have e3 : View.readAt (Elt Ideal) arg5.view (Rect.unit (s := S8x16x128) ![0, 0, 0] S8x16x128.size inb_S8x16x128_S8x16x128_0_0_0).toLoadRect (harg5.unread x3) = x3 := by
    funext y; refine rd arg5 harg5 x3 _ y y ?_
    funext a; apply Fin.ext; fin_cases a
    · show 0 + 1 * (y 0).val = (y 0).val; omega
    · show 0 + 1 * (y 1).val = (y 1).val; omega
    · show 0 + 1 * (y 2).val = (y 2).val; omega
  rw [e1, e2, e3]

theorem convL_at (j : Fin 4) (h : Fin 8) (r l : Fin 128) (n : Fin 1024) (hh : hd n = h) (hl : la n = l) :
    convL (F := Ideal) i arg3 harg3 arg4 harg4 arg5 harg5 arg9 harg9 arg10 harg10 arg16 x1 x2 x3 x7 x8 j h (ValueIdx.ix3 0 r l) = cvX i x1 x2 x3 x7 x8 (128 * j.val + r.val) n := by
  subst hh; subst hl
  have hj := j.isLt; have hr := r.isLt
  unfold convL
  refine (convP_apply _ _ _ (fun ρ l => padX i x1 x2 x3 (hd n) (128 * j.val + ρ) l) ?_ r (la n)).trans ?_
  · intro b q l
    have hb := b.isLt; have hq := q.isLt
    have hlt : 128 * j.val + 8 * b.val + q.val < 544 := by omega
    refine (rc arg16 _ _ _ (ValueIdx.ix3 (hd n) ⟨128 * j.val + 8 * b.val + q.val, hlt⟩ l) ?_).trans ?_
    · funext a; apply Fin.ext; fin_cases a
      · show (hd n).val + 1 * 0 = (hd n).val; omega
      · show 128 * j.val + 8 * b.val + 1 * q.val = 128 * j.val + 8 * b.val + q.val; omega
      · show 0 + 1 * l.val = l.val; omega
    · refine (xs_at i arg3 harg3 arg4 harg4 arg5 harg5 x1 x2 x3 _ _ _).trans ?_
      exact congrArg (fun ρ => padX i x1 x2 x3 (hd n) ρ l) (show 128 * j.val + 8 * b.val + q.val = 128 * j.val + (8 * b.val + q.val) by omega)
  · unfold cvX
    refine congr (congr (congrArg cv ?_) ?_) ?_
    · funext t
      exact congrArg (fun ρ => padX i x1 x2 x3 (hd n) ρ (la n)) (show 128 * j.val + (r.val + t.val + 1) = 128 * j.val + r.val + t.val + 1 by omega)
    · funext t
      refine rd arg9 harg9 x7 _ _ _ ?_
      funext a; apply Fin.ext; fin_cases a
      · show (hd n).val + 1 * 0 = (hd n).val; omega
      · show t.val + 1 * 0 = t.val; omega
      · show 0 + 1 * (la n).val = (la n).val; omega
    · refine rd arg10 harg10 x8 _ _ _ ?_
      funext a; apply Fin.ext; fin_cases a
      · show (hd n).val + 1 * 0 = (hd n).val; omega
      · show 0 + 1 * 0 = 0; omega
      · show 0 + 1 * (la n).val = (la n).val; omega

theorem ofNat4 (j : Fin 4) : Fin.ofNat 4 j.val = j := by revert j; decide

theorem lnL_at (j q : Fin 4) (h : Fin 8) (r : Fin 32) (l : Fin 128) (n : Fin 1024) (hh : hd n = h) (hl : la n = l) :
    lnL (F := Ideal) i arg3 harg3 arg4 harg4 arg5 harg5 arg9 harg9 arg10 harg10 arg11 harg11 arg12 harg12 arg16 arg17 x1 x2 x3 x7 x8 x9 x10 j q h (ValueIdx.ix3 0 r l) =
      silu (lnV (cvX i x1 x2 x3 x7 x8 (128 * j.val + (32 * q.val + r.val))) (x9 (ValueIdx.ix3 (hd n) 0 (la n))) (x10 (ValueIdx.ix3 (hd n) 0 (la n))) n) := by
  have hq := q.isLt; have hr := r.isLt
  have hn : ch h l = n := by rw [← hh, ← hl]; exact ch_hd n
  unfold lnL
  refine (lnH_apply _ _ _ h r l).trans (congrArg silu ?_)
  rw [hn]
  subst hh; subst hl
  refine congr (congr (congr (congrArg lnV ?_) ?_) ?_) rfl
  · funext m
    have hlt : 32 * q.val + r.val < 128 := by omega
    refine (rc arg17 _ _ _ (ValueIdx.ix3 (hd m) ⟨32 * q.val + r.val, hlt⟩ (la m)) ?_).trans ?_
    · funext a; apply Fin.ext; fin_cases a
      · show 0 + 1 * (hd m).val = (hd m).val; omega
      · show 32 * q.val + 1 * r.val = 32 * q.val + r.val; omega
      · show 0 + 1 * (la m).val = (la m).val; omega
    · refine (yL_at _ _ _ _ _).trans ?_
      rw [ofNat4]
      exact convL_at i arg3 harg3 arg4 harg4 arg5 harg5 arg9 harg9 arg10 harg10 arg16 x1 x2 x3 x7 x8 j _ _ _ m rfl rfl
  · refine rd arg11 harg11 x9 _ _ _ ?_
    funext a; apply Fin.ext; fin_cases a
    · show 0 + 1 * (hd n).val = (hd n).val; omega
    · show 0 + 1 * 0 = 0; omega
    · show 0 + 1 * (la n).val = (la n).val; omega
  · refine rd arg12 harg12 x10 _ _ _ ?_
    funext a; apply Fin.ext; fin_cases a
    · show 0 + 1 * (hd n).val = (hd n).val; omega
    · show 0 + 1 * 0 = 0; omega
    · show 0 + 1 * (la n).val = (la n).val; omega

/-- A slot of the joined rows after its block's chunks, -/
theorem us_at (j : Fin 4) (s : Fin 2) (hs : Fin.ofNat 2 j.val = s) (r : Fin 128) (n : Fin 1024) :
    View.canon (us (F := Ideal) i arg3 harg3 arg4 harg4 arg5 harg5 arg9 harg9 arg10 harg10 arg11 harg11 arg12 harg12 arg16 arg17 x1 x2 x3 x7 x8 x9 x10 (j.val + 1)) (ValueIdx.ix3 s r n) =
      silu (lnV (cvX i x1 x2 x3 x7 x8 (128 * j.val + r.val)) (x9 (ValueIdx.ix3 (hd n) 0 (la n))) (x10 (ValueIdx.ix3 (hd n) 0 (la n))) n) := by
  subst hs
  have hr := r.isLt
  refine (uL_hit _ _ _ ⟨r.val / 32, by omega⟩ (hd n) ⟨r.val % 32, Nat.mod_lt _ (by decide)⟩ (la n) r n
    (by show r.val = 32 * (r.val / 32) + r.val % 32; omega) (by show n.val = 128 * (n.val / 128) + n.val % 128; omega)).trans ?_
  rw [ofNat4]
  refine (lnL_at i arg3 harg3 arg4 harg4 arg5 harg5 arg9 harg9 arg10 harg10 arg11 harg11 arg12 harg12 arg16 arg17 x1 x2 x3 x7 x8 x9 x10 j _ _ _ _ n rfl rfl).trans ?_
  have e : 128 * j.val + (32 * (r.val / 32) + r.val % 32) = 128 * j.val + r.val := by omega
  exact congrArg (fun R => silu (lnV (cvX i x1 x2 x3 x7 x8 R) (x9 (ValueIdx.ix3 (hd n) 0 (la n))) (x10 (ValueIdx.ix3 (hd n) 0 (la n))) n)) e

/-- and after the next block's, in the other slot. -/
theorem us_at' (j : Fin 4) (s : Fin 2) (hs : Fin.ofNat 2 j.val = s) (hs' : s ≠ Fin.ofNat 2 (j.val + 1)) (r : Fin 128) (n : Fin 1024) :
    View.canon (us (F := Ideal) i arg3 harg3 arg4 harg4 arg5 harg5 arg9 harg9 arg10 harg10 arg11 harg11 arg12 harg12 arg16 arg17 x1 x2 x3 x7 x8 x9 x10 (j.val + 1 + 1)) (ValueIdx.ix3 s r n) =
      silu (lnV (cvX i x1 x2 x3 x7 x8 (128 * j.val + r.val)) (x9 (ValueIdx.ix3 (hd n) 0 (la n))) (x10 (ValueIdx.ix3 (hd n) 0 (la n))) n) :=
  (uL_miss _ _ hs' _ _ r n).trans (us_at i arg3 harg3 arg4 harg4 arg5 harg5 arg9 harg9 arg10 harg10 arg11 harg11 arg12 harg12 arg16 arg17 x1 x2 x3 x7 x8 x9 x10 j s hs r n)

theorem mixL_at (j : Fin 4) (s : Fin 2) (N : ℕ)
    (hu : ∀ (r : Fin 128) (n : Fin 1024), View.canon (us (F := Ideal) i arg3 harg3 arg4 harg4 arg5 harg5 arg9 harg9 arg10 harg10 arg11 harg11 arg12 harg12 arg16 arg17 x1 x2 x3 x7 x8 x9 x10 N) (ValueIdx.ix3 s r n) =
      silu (lnV (cvX i x1 x2 x3 x7 x8 (128 * j.val + r.val)) (x9 (ValueIdx.ix3 (hd n) 0 (la n))) (x10 (ValueIdx.ix3 (hd n) 0 (la n))) n))
    (y : S128x2048.Idx) :
    mixL (F := Ideal) i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 j s N y =
      outE i x0 x1 x2 x3 x4 x5 x6 x7 x8 x9 x10 x11 x12 ((Rect.unit (s := S512x2048) ![128 * j.val, 0] S128x2048.size (inbR j)).emb y) := by
  have hj := j.isLt
  obtain ⟨r, m, rfl⟩ : ∃ (r : Fin 128) (m : Fin 2048), y = ValueIdx.ix2 r m := ⟨y 0, y 1, ValueIdx.eq_ix2 y⟩
  have hr := r.isLt
  have hlt : 128 * j.val + r.val < 512 := by omega
  have ey : (Rect.unit (s := S512x2048) ![128 * j.val, 0] S128x2048.size (inbR j)).emb (ValueIdx.ix2 r m) =
      (ValueIdx.ix2 ⟨128 * j.val + r.val, hlt⟩ m : S512x2048.Idx) := by
    funext a; apply Fin.ext; fin_cases a
    · show 128 * j.val + 1 * r.val = 128 * j.val + r.val; omega
    · show 0 + 1 * m.val = m.val; omega
  rw [ey]
  have hO : ∀ (a : Memref sig .tc .vmem S8x512x128 .bf16) (ha : a.IsWhole) (x : Vec Ideal S8x512x128 .bf16) (h : Fin 8) (l : Fin 128),
      View.readAt (Elt Ideal) a.view (Rect.unit (s := S8x512x128) ![h.val, 128 * j.val, 0] S1x128x128.size (inbO j h)).toLoadRect (ha.unread x) (ValueIdx.ix3 0 r l) =
        x (ValueIdx.ix3 h ⟨128 * j.val + r.val, hlt⟩ l) := by
    intro a ha x h l
    refine rd a ha x _ _ _ ?_
    funext b; apply Fin.ext; fin_cases b
    · show h.val + 1 * 0 = h.val; omega
    · show 128 * j.val + 1 * r.val = 128 * j.val + r.val; omega
    · show 0 + 1 * l.val = l.val; omega
  unfold mixL outE
  refine (mixP_apply _ _ _ _ _ _ _ (cvX i x1 x2 x3 x7 x8 (128 * j.val + r.val)) (fun n => x9 (ValueIdx.ix3 (hd n) 0 (la n))) (fun n => x10 (ValueIdx.ix3 (hd n) 0 (la n))) r m ?_).trans ?_
  · intro k
    refine (rc arg18 _ _ _ (ValueIdx.ix3 s r k) ?_).trans (hu r k)
    funext b; apply Fin.ext; fin_cases b
    · show s.val + 1 * 0 = s.val; omega
    · show 0 + 1 * r.val = r.val; omega
    · show 0 + 1 * k.val = k.val; omega
  · refine congr (congr (congr (congr (congr (congrArg (fun Y => rowV Y _ _) rfl) ?_) ?_) ?_) ?_) ?_
    · funext h l; exact congr (congrArg _ (hO arg6 harg6 x4 h l)) (hO arg7 harg7 x5 h l)
    · funext h l; exact hO arg8 harg8 x6 h l
    · funext l
      refine rd arg13 harg13 x11 _ _ _ ?_
      funext b; apply Fin.ext; fin_cases b
      · show 0 + 1 * 0 = 0; omega
      · show 0 + 1 * l.val = l.val; omega
    · refine rd arg2 harg2 x0 _ _ _ ?_
      funext b; apply Fin.ext; fin_cases b
      · show 128 * j.val + 1 * r.val = 128 * j.val + r.val; omega
      · show 0 + 1 * m.val = m.val; omega
    · funext k
      refine rd arg14 harg14 x12 _ _ _ ?_
      funext b; apply Fin.ext; fin_cases b
      · show 0 + 1 * k.val = k.val; omega
      · show 0 + 1 * m.val = m.val; omega

/-- The step's output block, at an index. -/
theorem outBlk_at (y : S512x2048.Idx) :
    outBlk (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 y = outE i x0 x1 x2 x3 x4 x5 x6 x7 x8 x9 x10 x11 x12 y := by
  unfold outBlk
  refine (congrFun (View.read_writes_eq_canon VO0_13 VO0_13.junk _ (coverOut c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12)) y).trans ?_
  refine View.canon_apply_of_pieces (outE i x0 x1 x2 x3 x4 x5 x6 x7 x8 x9 x10 x11 x12) _ ?_ y (coverOut c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 y)
  rw [out_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12]
  intro p hp
  simp only [List.mem_cons, List.mem_nil_iff, or_false] at hp
  rcases hp with rfl | rfl | rfl | rfl
  · exact mixL_at i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 _ _ _ (us_at i arg3 harg3 arg4 harg4 arg5 harg5 arg9 harg9 arg10 harg10 arg11 harg11 arg12 harg12 arg16 arg17 x1 x2 x3 x7 x8 x9 x10 ⟨3, by decide⟩ ⟨1, by decide⟩ rfl)
  · exact mixL_at i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 _ _ _ (us_at' i arg3 harg3 arg4 harg4 arg5 harg5 arg9 harg9 arg10 harg10 arg11 harg11 arg12 harg12 arg16 arg17 x1 x2 x3 x7 x8 x9 x10 ⟨2, by decide⟩ ⟨0, by decide⟩ rfl (by decide))
  · exact mixL_at i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 _ _ _ (us_at' i arg3 harg3 arg4 harg4 arg5 harg5 arg9 harg9 arg10 harg10 arg11 harg11 arg12 harg12 arg16 arg17 x1 x2 x3 x7 x8 x9 x10 ⟨1, by decide⟩ ⟨1, by decide⟩ rfl (by decide))
  · exact mixL_at i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 _ _ _ (us_at' i arg3 harg3 arg4 harg4 arg5 harg5 arg9 harg9 arg10 harg10 arg11 harg11 arg12 harg12 arg16 arg17 x1 x2 x3 x7 x8 x9 x10 ⟨0, by decide⟩ ⟨0, by decide⟩ rfl (by decide))

end run

end Cert.MixVal

end
-- ==== Proof.MixVal.Blocks.lean ====
module

public import proofs.«01_k».proof.Proof.MixVal.Frame
public import Idealize.ShloMosaic.Lib.Pipeline.Value

@[expose] public section

noncomputable section

namespace Cert.MixVal

open Cert.MixIdeal Cert.MixIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed13 (c : Dev nD) (t : Fin cfg0.N) :
    (dats m 0 c).flushed 13 t = (cfg0.win 13).cut (grid0.coords t) (outsAt0 m c t) := by
  show (cfg0.win 13).cut (grid0.coords t) ((dats m 0 c).after 13 t) = _
  rw [after0_13]

theorem flushed13_A (c : Dev nD) (t : Fin cfg0.N) :
    (dats m 0 c).flushed 13 t = (cfg0.win 13).cut (grid0.coords t) (outBlk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed13, outsAt0]

theorem idx_inj13 : ∀ t t' : Fin cfg0.N, win0_13.index t = win0_13.index t' → t = t' :=
  (by decide +kernel : ∀ t t' : Fin grid0.N, win0_13.index t = win0_13.index t' → t = t')

theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

theorem entry13 (c : Dev nD) (i : S16384x2048.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

theorem post13 (r : PUnit × MemSt nD τ sig (Elt F)) (h : Pipeline.FramePost cfgs (dats m) 0 (V m) r) (c : Dev nD) :
    r.2.mem ((c : Thread nD τ).loc main_v20) = (dats m 0 c).arrAt 13 cfg0.N :=
  (h c).1 13

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 6).trans (((dats m 0 c).arrAt_in 6 rfl _).trans ((A_eq m c 6).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem run_blocks : θ_run defs (onTc (τ := τ) (main (F := F))) ⟨m, fun _ => 0, ρ⟩ fun r => ∀ c : Dev nD,
      r.2.mem ((c : Thread nD τ).loc main_v20) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post13 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.MixVal

end
-- ==== Proof.MixVal.Ref.lean ====
/-
  The mix call's reference, read at one row and channel: the padded rows, the thirty-one taps, the normalisation and its
  silu, the gated heads and the product with the output weights. The same expression (`rowV`) the kernel's blocks hold.
-/
module

public import proofs.«01_k».proof.Proof.Gen.MixRefIdeal.Read
public import proofs.«01_k».proof.Proof.FfnVal.Final
public import proofs.«01_k».proof.Proof.MixVal.Val
public import Idealize.ShloMosaic.Lib.KernelVsHost

@[expose] public section

set_option maxHeartbeats 2000000

noncomputable section

namespace Cert.MixVal

open Idealize.ShloMosaic Idealize.ShloMosaic.TcCoe Idealize.ShloMosaic.Tactic Idealize.SL.Sem
open Cert.FfnVal (bat pos)
open Cert.ProjVal (sg)
open scoped BigOperators

/-- A head among the projections' slots. -/
def h24 (h : Fin 8) : Fin 24 := ⟨h.val, by have := h.isLt; omega⟩
def g24 (h : Fin 8) : Fin 24 := ⟨16 + h.val, by have := h.isLt; omega⟩

/-- A sequence's position as a row of both. -/
def rowOf (b : Fin 2) (q : ℕ) : Fin 16384 := ⟨(8192 * b.val + q) % 16384, Nat.mod_lt _ (by decide)⟩

/-- A sequence padded with fifteen zeros at both ends, read at a position of the padded one. -/
def padB (x : Fin 24 → Fin 16384 → Fin 128 → EReal) (b : Fin 2) (q : ℕ) (n : Fin 1024) : EReal :=
  if 15 ≤ q ∧ q < 8207 then x (h24 (hd n)) (rowOf b (q - 15)) (la n) else 0

theorem rowOf_bat (R : Fin 16384) : rowOf (bat R) (pos R).val = R :=
  Fin.ext (by have := R.isLt; show (8192 * (R.val / 8192) + R.val % 8192) % 16384 = R.val; omega)

theorem rowV_congr {Y Y' lw lw' lb lb' : Fin 1024 → EReal} {O O' G G' : Fin 8 → Fin 128 → EReal} {hn hn' : Fin 128 → EReal} {x x' : EReal} {W W' : Fin 2048 → EReal}
    (hY : ∀ n, Y n = Y' n) (hw : ∀ n, lw n = lw' n) (hb : ∀ n, lb n = lb' n) (hO : ∀ h l, O h l = O' h l) (hG : ∀ h l, G h l = G' h l)
    (hh : ∀ l, hn l = hn' l) (hx : x = x') (hW : ∀ k, W k = W' k) : rowV Y lw lb O G hn x W = rowV Y' lw' lb' O' G' hn' x' W' := by
  rw [funext hY, funext hw, funext hb, funext fun h => funext (hO h), funext fun h => funext (hG h), funext hh, hx, funext hW]

section Reference

open Cert.MixRefIdeal Cert.MixRefIdeal.Gen Cert.MixRefIdeal.Read

variable (x0 : FVec Ideal S2x8192x2048 .f32) (x1 : FVec Ideal S24x16384x128 .f32) (x2 : FVec Ideal S24x16384x128 .bf16) (x3 x4 : FVec Ideal S8x16384x128 .bf16)
  (x5 : FVec Ideal S1x31x1024 .f32) (x6 x7 x8 : FVec Ideal S1x1024 .f32) (x9 : FVec Ideal S1x128 .f32) (x10 : FVec Ideal S1x2048x2048 .f32)

/-- A token's channel among its heads. -/
theorem tok3 (b : Fin 2) (s : Fin 8192) (n : Fin 1024) : idx_main_v3 (ValueIdx.ix3 b s n) = (ValueIdx.ix4 b s (hd n) (la n) : S2x8192x8x128.Idx) := by
  have hb := b.isLt; have hs := s.isLt; have hn := n.isLt
  funext a; apply Fin.ext
  match a with
  | ⟨0, _⟩ => show ((b.val * 8192 + s.val) * 1024 + n.val) / 8388608 = b.val; omega
  | ⟨1, _⟩ => show ((b.val * 8192 + s.val) * 1024 + n.val) / 1024 % 8192 = s.val; omega
  | ⟨2, _⟩ => show ((b.val * 8192 + s.val) * 1024 + n.val) / 128 % 8 = n.val / 128; omega
  | ⟨3, _⟩ => show ((b.val * 8192 + s.val) * 1024 + n.val) % 128 = n.val % 128; omega

theorem tok2 (b : Fin 2) (s : Fin 8192) (h : Fin 8) (l : Fin 128) : idx_main_v2 (ValueIdx.ix4 b s h l) = (ValueIdx.ix3 (rowOf b s.val) h l : S16384x8x128.Idx) := by
  have hb := b.isLt; have hs := s.isLt; have hh := h.isLt; have hl := l.isLt
  funext a; apply Fin.ext
  match a with
  | ⟨0, _⟩ => show (((b.val * 8192 + s.val) * 8 + h.val) * 128 + l.val) / 1024 = (8192 * b.val + s.val) % 16384; omega
  | ⟨1, _⟩ => show (((b.val * 8192 + s.val) * 8 + h.val) * 128 + l.val) / 128 % 8 = h.val; omega
  | ⟨2, _⟩ => show (((b.val * 8192 + s.val) * 8 + h.val) * 128 + l.val) % 128 = l.val; omega

theorem r_v3 (b : Fin 2) (s : Fin 8192) (n : Fin 1024) :
    val_main_v3 (F := Ideal) x1 (ValueIdx.ix3 b s n) = x1 (ValueIdx.ix3 (h24 (hd n)) (rowOf b s.val) (la n)) := by
  rw [val_main_v3_apply, tok3, val_main_v2_apply, tok2, val_main_v1_apply, val_main_v0_apply]
  refine congrArg x1 ?_
  funext a
  match a with
  | ⟨0, _⟩ => rfl
  | ⟨1, _⟩ => rfl
  | ⟨2, _⟩ => rfl

/-- The projections' convolved slots, as a function. -/
abbrev px (x1 : FVec Ideal S24x16384x128 .f32) : Fin 24 → Fin 16384 → Fin 128 → EReal := fun h r l => x1 (ValueIdx.ix3 h r l)

theorem r_pad (b : Fin 2) (q : Fin 8222) (n : Fin 1024) : val_main_v6 (F := Ideal) x1 (ValueIdx.ix3 b q n) = padB (px x1) b q.val n := by
  unfold val_main_v6 padB
  by_cases h : 15 ≤ q.val ∧ q.val < 8207
  · rw [if_pos h]
    refine (pad_apply_of_inside _ _ _ _ _ _ _ _ (ValueIdx.ix3 b (⟨q.val - 15, by omega⟩ : Fin 8192) n) ?_).trans (r_v3 x1 b _ n)
    intro a
    match a with
    | ⟨0, _⟩ => show b.val = 0 + b.val * (0 + 1); omega
    | ⟨1, _⟩ => show q.val = 15 + (q.val - 15) * (0 + 1); omega
    | ⟨2, _⟩ => show n.val = 0 + n.val * (0 + 1); omega
  · rw [if_neg h]
    refine (pad_apply_of_not_inside _ _ _ _ _ _ _ (ValueIdx.ix3 b q n) ⟨1, by decide⟩ ?_).trans ?_
    · intro h'
      have h1 : 15 ≤ q.val := h'.1
      have h2 : (q.val - 15) / (0 + 1) < 8192 := h'.2.2
      exact h ⟨h1, by omega⟩
    · rw [val_main_call0_v0_apply, val_main_c_apply]
      show ((BitVec.toInt 0#32 : ℝ) : EReal) = 0
      simp

theorem r_v4 (t : Fin 31) (n : Fin 1024) : val_main_v4 (F := Ideal) x5 (ValueIdx.ix2 t n) = x5 (ValueIdx.ix3 0 t n) := by
  have ht := t.isLt; have hn := n.isLt
  rw [val_main_v4_apply]
  refine congrArg x5 ?_
  funext a; apply Fin.ext
  match a with
  | ⟨0, _⟩ => rfl
  | ⟨1, _⟩ => show (t.val * 1024 + n.val) / 1024 % 31 = t.val; omega
  | ⟨2, _⟩ => show (t.val * 1024 + n.val) % 1024 = n.val; omega

theorem r_tap0 (b : Fin 2) (s : Fin 8192) (n : Fin 1024) :
    val_main_v12 (F := Ideal) x1 x5 (ValueIdx.ix3 b s n) = padB (px x1) b (s.val + (0 : Fin 31).val) n * x5 (ValueIdx.ix3 0 (0 : Fin 31) n) := by
  have hs := s.isLt
  rw [val_main_v12_apply, val_main_v7_apply, val_main_v11_apply, val_main_v10_apply, val_main_v9_apply, val_main_v8_apply]
  have e1 : idx_main_v7 (ValueIdx.ix3 b s n) = ValueIdx.ix3 b (⟨s.val + (0 : Fin 31).val, by show s.val + 0 < 8222; omega⟩ : Fin 8222) n := by
    funext a; apply Fin.ext
    match a with
    | ⟨0, _⟩ => rfl
    | ⟨1, _⟩ => show s.val = s.val + 0; omega
    | ⟨2, _⟩ => rfl
  have e2 : idx_main_v8 (idx_main_v9 (idx_main_v10 (idx_main_v11 (ValueIdx.ix3 b s n)))) = ValueIdx.ix2 (0 : Fin 31) n := by
    funext a; apply Fin.ext
    match a with
    | ⟨0, _⟩ => rfl
    | ⟨1, _⟩ => exact Nat.mod_eq_of_lt n.isLt
  rw [e1, e2, r_pad, r_v4]
  rfl

theorem r_tap1 (b : Fin 2) (s : Fin 8192) (n : Fin 1024) :
    val_main_v18 (F := Ideal) x1 x5 (ValueIdx.ix3 b s n) = padB (px x1) b (s.val + (1 : Fin 31).val) n * x5 (ValueIdx.ix3 0 (1 : Fin 31) n) := by
  have hs := s.isLt
  rw [val_main_v18_apply, val_main_v13_apply, val_main_v17_apply, val_main_v16_apply, val_main_v15_apply, val_main_v14_apply]
  have e1 : idx_main_v13 (ValueIdx.ix3 b s n) = ValueIdx.ix3 b (⟨s.val + (1 : Fin 31).val, by show s.val + 1 < 8222; omega⟩ : Fin 8222) n := by
    funext a; apply Fin.ext
    match a with
    | ⟨0, _⟩ => rfl
    | ⟨1, _⟩ => show 1 + s.val = s.val + 1; omega
    | ⟨2, _⟩ => rfl
  have e2 : idx_main_v14 (idx_main_v15 (idx_main_v16 (idx_main_v17 (ValueIdx.ix3 b s n)))) = ValueIdx.ix2 (1 : Fin 31) n := by
    funext a; apply Fin.ext
    match a with
    | ⟨0, _⟩ => rfl
    | ⟨1, _⟩ => exact Nat.mod_eq_of_lt n.isLt
  rw [e1, e2, r_pad, r_v4]
  rfl

theorem r_tap2 (b : Fin 2) (s : Fin 8192) (n : Fin 1024) :
    val_main_v25 (F := Ideal) x1 x5 (ValueIdx.ix3 b s n) = padB (px x1) b (s.val + (2 : Fin 31).val) n * x5 (ValueIdx.ix3 0 (2 : Fin 31) n) := by
  have hs := s.isLt
  rw [val_main_v25_apply, val_main_v20_apply, val_main_v24_apply, val_main_v23_apply, val_main_v22_apply, val_main_v21_apply]
  have e1 : idx_main_v20 (ValueIdx.ix3 b s n) = ValueIdx.ix3 b (⟨s.val + (2 : Fin 31).val, by show s.val + 2 < 8222; omega⟩ : Fin 8222) n := by
    funext a; apply Fin.ext
    match a with
    | ⟨0, _⟩ => rfl
    | ⟨1, _⟩ => show 2 + s.val = s.val + 2; omega
    | ⟨2, _⟩ => rfl
  have e2 : idx_main_v21 (idx_main_v22 (idx_main_v23 (idx_main_v24 (ValueIdx.ix3 b s n)))) = ValueIdx.ix2 (2 : Fin 31) n := by
    funext a; apply Fin.ext
    match a with
    | ⟨0, _⟩ => rfl
    | ⟨1, _⟩ => exact Nat.mod_eq_of_lt n.isLt
  rw [e1, e2, r_pad, r_v4]
  rfl

theorem r_tap3 (b : Fin 2) (s : Fin 8192) (n : Fin 1024) :
    val_main_v32 (F := Ideal) x1 x5 (ValueIdx.ix3 b s n) = padB (px x1) b (s.val + (3 : Fin 31).val) n * x5 (ValueIdx.ix3 0 (3 : Fin 31) n) := by
  have hs := s.isLt
  rw [val_main_v32_apply, val_main_v27_apply, val_main_v31_apply, val_main_v30_apply, val_main_v29_apply, val_main_v28_apply]
  have e1 : idx_main_v27 (ValueIdx.ix3 b s n) = ValueIdx.ix3 b (⟨s.val + (3 : Fin 31).val, by show s.val + 3 < 8222; omega⟩ : Fin 8222) n := by
    funext a; apply Fin.ext
    match a with
    | ⟨0, _⟩ => rfl
    | ⟨1, _⟩ => show 3 + s.val = s.val + 3; omega
    | ⟨2, _⟩ => rfl
  have e2 : idx_main_v28 (idx_main_v29 (idx_main_v30 (idx_main_v31 (ValueIdx.ix3 b s n)))) = ValueIdx.ix2 (3 : Fin 31) n := by
    funext a; apply Fin.ext
    match a with
    | ⟨0, _⟩ => rfl
    | ⟨1, _⟩ => exact Nat.mod_eq_of_lt n.isLt
  rw [e1, e2, r_pad, r_v4]
  rfl

theorem r_tap4 (b : Fin 2) (s : Fin 8192) (n : Fin 1024) :
    val_main_v39 (F := Ideal) x1 x5 (ValueIdx.ix3 b s n) = padB (px x1) b (s.val + (4 : Fin 31).val) n * x5 (ValueIdx.ix3 0 (4 : Fin 31) n) := by
  have hs := s.isLt
  rw [val_main_v39_apply, val_main_v34_apply, val_main_v38_apply, val_main_v37_apply, val_main_v36_apply, val_main_v35_apply]
  have e1 : idx_main_v34 (ValueIdx.ix3 b s n) = ValueIdx.ix3 b (⟨s.val + (4 : Fin 31).val, by show s.val + 4 < 8222; omega⟩ : Fin 8222) n := by
    funext a; apply Fin.ext
    match a with
    | ⟨0, _⟩ => rfl
    | ⟨1, _⟩ => show 4 + s.val = s.val + 4; omega
    | ⟨2, _⟩ => rfl
  have e2 : idx_main_v35 (idx_main_v36 (idx_main_v37 (idx_main_v38 (ValueIdx.ix3 b s n)))) = ValueIdx.ix2 (4 : Fin 31) n := by
    funext a; apply Fin.ext
    match a with
    | ⟨0, _⟩ => rfl
    | ⟨1, _⟩ => exact Nat.mod_eq_of_lt n.isLt
  rw [e1, e2, r_pad, r_v4]
  rfl

theorem r_tap5 (b : Fin 2) (s : Fin 8192) (n : Fin 1024) :
    val_main_v46 (F := Ideal) x1 x5 (ValueIdx.ix3 b s n) = padB (px x1) b (s.val + (5 : Fin 31).val) n * x5 (ValueIdx.ix3 0 (5 : Fin 31) n) := by
  have hs := s.isLt
  rw [val_main_v46_apply, val_main_v41_apply, val_main_v45_apply, val_main_v44_apply, val_main_v43_apply, val_main_v42_apply]
  have e1 : idx_main_v41 (ValueIdx.ix3 b s n) = ValueIdx.ix3 b (⟨s.val + (5 : Fin 31).val, by show s.val + 5 < 8222; omega⟩ : Fin 8222) n := by
    funext a; apply Fin.ext
    match a with
    | ⟨0, _⟩ => rfl
    | ⟨1, _⟩ => show 5 + s.val = s.val + 5; omega
    | ⟨2, _⟩ => rfl
  have e2 : idx_main_v42 (idx_main_v43 (idx_main_v44 (idx_main_v45 (ValueIdx.ix3 b s n)))) = ValueIdx.ix2 (5 : Fin 31) n := by
    funext a; apply Fin.ext
    match a with
    | ⟨0, _⟩ => rfl
    | ⟨1, _⟩ => exact Nat.mod_eq_of_lt n.isLt
  rw [e1, e2, r_pad, r_v4]
  rfl

theorem r_tap6 (b : Fin 2) (s : Fin 8192) (n : Fin 1024) :
    val_main_v53 (F := Ideal) x1 x5 (ValueIdx.ix3 b s n) = padB (px x1) b (s.val + (6 : Fin 31).val) n * x5 (ValueIdx.ix3 0 (6 : Fin 31) n) := by
  have hs := s.isLt
  rw [val_main_v53_apply, val_main_v48_apply, val_main_v52_apply, val_main_v51_apply, val_main_v50_apply, val_main_v49_apply]
  have e1 : idx_main_v48 (ValueIdx.ix3 b s n) = ValueIdx.ix3 b (⟨s.val + (6 : Fin 31).val, by show s.val + 6 < 8222; omega⟩ : Fin 8222) n := by
    funext a; apply Fin.ext
    match a with
    | ⟨0, _⟩ => rfl
    | ⟨1, _⟩ => show 6 + s.val = s.val + 6; omega
    | ⟨2, _⟩ => rfl
  have e2 : idx_main_v49 (idx_main_v50 (idx_main_v51 (idx_main_v52 (ValueIdx.ix3 b s n)))) = ValueIdx.ix2 (6 : Fin 31) n := by
    funext a; apply Fin.ext
    match a with
    | ⟨0, _⟩ => rfl
    | ⟨1, _⟩ => exact Nat.mod_eq_of_lt n.isLt
  rw [e1, e2, r_pad, r_v4]
  rfl

theorem r_tap7 (b : Fin 2) (s : Fin 8192) (n : Fin 1024) :
    val_main_v60 (F := Ideal) x1 x5 (ValueIdx.ix3 b s n) = padB (px x1) b (s.val + (7 : Fin 31).val) n * x5 (ValueIdx.ix3 0 (7 : Fin 31) n) := by
  have hs := s.isLt
  rw [val_main_v60_apply, val_main_v55_apply, val_main_v59_apply, val_main_v58_apply, val_main_v57_apply, val_main_v56_apply]
  have e1 : idx_main_v55 (ValueIdx.ix3 b s n) = ValueIdx.ix3 b (⟨s.val + (7 : Fin 31).val, by show s.val + 7 < 8222; omega⟩ : Fin 8222) n := by
    funext a; apply Fin.ext
    match a with
    | ⟨0, _⟩ => rfl
    | ⟨1, _⟩ => show 7 + s.val = s.val + 7; omega
    | ⟨2, _⟩ => rfl
  have e2 : idx_main_v56 (idx_main_v57 (idx_main_v58 (idx_main_v59 (ValueIdx.ix3 b s n)))) = ValueIdx.ix2 (7 : Fin 31) n := by
    funext a; apply Fin.ext
    match a with
    | ⟨0, _⟩ => rfl
    | ⟨1, _⟩ => exact Nat.mod_eq_of_lt n.isLt
  rw [e1, e2, r_pad, r_v4]
  rfl

theorem r_tap8 (b : Fin 2) (s : Fin 8192) (n : Fin 1024) :
    val_main_v67 (F := Ideal) x1 x5 (ValueIdx.ix3 b s n) = padB (px x1) b (s.val + (8 : Fin 31).val) n * x5 (ValueIdx.ix3 0 (8 : Fin 31) n) := by
  have hs := s.isLt
  rw [val_main_v67_apply, val_main_v62_apply, val_main_v66_apply, val_main_v65_apply, val_main_v64_apply, val_main_v63_apply]
  have e1 : idx_main_v62 (ValueIdx.ix3 b s n) = ValueIdx.ix3 b (⟨s.val + (8 : Fin 31).val, by show s.val + 8 < 8222; omega⟩ : Fin 8222) n := by
    funext a; apply Fin.ext
    match a with
    | ⟨0, _⟩ => rfl
    | ⟨1, _⟩ => show 8 + s.val = s.val + 8; omega
    | ⟨2, _⟩ => rfl
  have e2 : idx_main_v63 (idx_main_v64 (idx_main_v65 (idx_main_v66 (ValueIdx.ix3 b s n)))) = ValueIdx.ix2 (8 : Fin 31) n := by
    funext a; apply Fin.ext
    match a with
    | ⟨0, _⟩ => rfl
    | ⟨1, _⟩ => exact Nat.mod_eq_of_lt n.isLt
  rw [e1, e2, r_pad, r_v4]
  rfl

theorem r_tap9 (b : Fin 2) (s : Fin 8192) (n : Fin 1024) :
    val_main_v74 (F := Ideal) x1 x5 (ValueIdx.ix3 b s n) = padB (px x1) b (s.val + (9 : Fin 31).val) n * x5 (ValueIdx.ix3 0 (9 : Fin 31) n) := by
  have hs := s.isLt
  rw [val_main_v74_apply, val_main_v69_apply, val_main_v73_apply, val_main_v72_apply, val_main_v71_apply, val_main_v70_apply]
  have e1 : idx_main_v69 (ValueIdx.ix3 b s n) = ValueIdx.ix3 b (⟨s.val + (9 : Fin 31).val, by show s.val + 9 < 8222; omega⟩ : Fin 8222) n := by
    funext a; apply Fin.ext
    match a with
    | ⟨0, _⟩ => rfl
    | ⟨1, _⟩ => show 9 + s.val = s.val + 9; omega
    | ⟨2, _⟩ => rfl
  have e2 : idx_main_v70 (idx_main_v71 (idx_main_v72 (idx_main_v73 (ValueIdx.ix3 b s n)))) = ValueIdx.ix2 (9 : Fin 31) n := by
    funext a; apply Fin.ext
    match a with
    | ⟨0, _⟩ => rfl
    | ⟨1, _⟩ => exact Nat.mod_eq_of_lt n.isLt
  rw [e1, e2, r_pad, r_v4]
  rfl

theorem r_tap10 (b : Fin 2) (s : Fin 8192) (n : Fin 1024) :
    val_main_v81 (F := Ideal) x1 x5 (ValueIdx.ix3 b s n) = padB (px x1) b (s.val + (10 : Fin 31).val) n * x5 (ValueIdx.ix3 0 (10 : Fin 31) n) := by
  have hs := s.isLt
  rw [val_main_v81_apply, val_main_v76_apply, val_main_v80_apply, val_main_v79_apply, val_main_v78_apply, val_main_v77_apply]
  have e1 : idx_main_v76 (ValueIdx.ix3 b s n) = ValueIdx.ix3 b (⟨s.val + (10 : Fin 31).val, by show s.val + 10 < 8222; omega⟩ : Fin 8222) n := by
    funext a; apply Fin.ext
    match a with
    | ⟨0, _⟩ => rfl
    | ⟨1, _⟩ => show 10 + s.val = s.val + 10; omega
    | ⟨2, _⟩ => rfl
  have e2 : idx_main_v77 (idx_main_v78 (idx_main_v79 (idx_main_v80 (ValueIdx.ix3 b s n)))) = ValueIdx.ix2 (10 : Fin 31) n := by
    funext a; apply Fin.ext
    match a with
    | ⟨0, _⟩ => rfl
    | ⟨1, _⟩ => exact Nat.mod_eq_of_lt n.isLt
  rw [e1, e2, r_pad, r_v4]
  rfl

theorem r_tap11 (b : Fin 2) (s : Fin 8192) (n : Fin 1024) :
    val_main_v88 (F := Ideal) x1 x5 (ValueIdx.ix3 b s n) = padB (px x1) b (s.val + (11 : Fin 31).val) n * x5 (ValueIdx.ix3 0 (11 : Fin 31) n) := by
  have hs := s.isLt
  rw [val_main_v88_apply, val_main_v83_apply, val_main_v87_apply, val_main_v86_apply, val_main_v85_apply, val_main_v84_apply]
  have e1 : idx_main_v83 (ValueIdx.ix3 b s n) = ValueIdx.ix3 b (⟨s.val + (11 : Fin 31).val, by show s.val + 11 < 8222; omega⟩ : Fin 8222) n := by
    funext a; apply Fin.ext
    match a with
    | ⟨0, _⟩ => rfl
    | ⟨1, _⟩ => show 11 + s.val = s.val + 11; omega
    | ⟨2, _⟩ => rfl
  have e2 : idx_main_v84 (idx_main_v85 (idx_main_v86 (idx_main_v87 (ValueIdx.ix3 b s n)))) = ValueIdx.ix2 (11 : Fin 31) n := by
    funext a; apply Fin.ext
    match a with
    | ⟨0, _⟩ => rfl
    | ⟨1, _⟩ => exact Nat.mod_eq_of_lt n.isLt
  rw [e1, e2, r_pad, r_v4]
  rfl

theorem r_tap12 (b : Fin 2) (s : Fin 8192) (n : Fin 1024) :
    val_main_v95 (F := Ideal) x1 x5 (ValueIdx.ix3 b s n) = padB (px x1) b (s.val + (12 : Fin 31).val) n * x5 (ValueIdx.ix3 0 (12 : Fin 31) n) := by
  have hs := s.isLt
  rw [val_main_v95_apply, val_main_v90_apply, val_main_v94_apply, val_main_v93_apply, val_main_v92_apply, val_main_v91_apply]
  have e1 : idx_main_v90 (ValueIdx.ix3 b s n) = ValueIdx.ix3 b (⟨s.val + (12 : Fin 31).val, by show s.val + 12 < 8222; omega⟩ : Fin 8222) n := by
    funext a; apply Fin.ext
    match a with
    | ⟨0, _⟩ => rfl
    | ⟨1, _⟩ => show 12 + s.val = s.val + 12; omega
    | ⟨2, _⟩ => rfl
  have e2 : idx_main_v91 (idx_main_v92 (idx_main_v93 (idx_main_v94 (ValueIdx.ix3 b s n)))) = ValueIdx.ix2 (12 : Fin 31) n := by
    funext a; apply Fin.ext
    match a with
    | ⟨0, _⟩ => rfl
    | ⟨1, _⟩ => exact Nat.mod_eq_of_lt n.isLt
  rw [e1, e2, r_pad, r_v4]
  rfl

theorem r_tap13 (b : Fin 2) (s : Fin 8192) (n : Fin 1024) :
    val_main_v102 (F := Ideal) x1 x5 (ValueIdx.ix3 b s n) = padB (px x1) b (s.val + (13 : Fin 31).val) n * x5 (ValueIdx.ix3 0 (13 : Fin 31) n) := by
  have hs := s.isLt
  rw [val_main_v102_apply, val_main_v97_apply, val_main_v101_apply, val_main_v100_apply, val_main_v99_apply, val_main_v98_apply]
  have e1 : idx_main_v97 (ValueIdx.ix3 b s n) = ValueIdx.ix3 b (⟨s.val + (13 : Fin 31).val, by show s.val + 13 < 8222; omega⟩ : Fin 8222) n := by
    funext a; apply Fin.ext
    match a with
    | ⟨0, _⟩ => rfl
    | ⟨1, _⟩ => show 13 + s.val = s.val + 13; omega
    | ⟨2, _⟩ => rfl
  have e2 : idx_main_v98 (idx_main_v99 (idx_main_v100 (idx_main_v101 (ValueIdx.ix3 b s n)))) = ValueIdx.ix2 (13 : Fin 31) n := by
    funext a; apply Fin.ext
    match a with
    | ⟨0, _⟩ => rfl
    | ⟨1, _⟩ => exact Nat.mod_eq_of_lt n.isLt
  rw [e1, e2, r_pad, r_v4]
  rfl

theorem r_tap14 (b : Fin 2) (s : Fin 8192) (n : Fin 1024) :
    val_main_v109 (F := Ideal) x1 x5 (ValueIdx.ix3 b s n) = padB (px x1) b (s.val + (14 : Fin 31).val) n * x5 (ValueIdx.ix3 0 (14 : Fin 31) n) := by
  have hs := s.isLt
  rw [val_main_v109_apply, val_main_v104_apply, val_main_v108_apply, val_main_v107_apply, val_main_v106_apply, val_main_v105_apply]
  have e1 : idx_main_v104 (ValueIdx.ix3 b s n) = ValueIdx.ix3 b (⟨s.val + (14 : Fin 31).val, by show s.val + 14 < 8222; omega⟩ : Fin 8222) n := by
    funext a; apply Fin.ext
    match a with
    | ⟨0, _⟩ => rfl
    | ⟨1, _⟩ => show 14 + s.val = s.val + 14; omega
    | ⟨2, _⟩ => rfl
  have e2 : idx_main_v105 (idx_main_v106 (idx_main_v107 (idx_main_v108 (ValueIdx.ix3 b s n)))) = ValueIdx.ix2 (14 : Fin 31) n := by
    funext a; apply Fin.ext
    match a with
    | ⟨0, _⟩ => rfl
    | ⟨1, _⟩ => exact Nat.mod_eq_of_lt n.isLt
  rw [e1, e2, r_pad, r_v4]
  rfl

theorem r_tap15 (b : Fin 2) (s : Fin 8192) (n : Fin 1024) :
    val_main_v116 (F := Ideal) x1 x5 (ValueIdx.ix3 b s n) = padB (px x1) b (s.val + (15 : Fin 31).val) n * x5 (ValueIdx.ix3 0 (15 : Fin 31) n) := by
  have hs := s.isLt
  rw [val_main_v116_apply, val_main_v111_apply, val_main_v115_apply, val_main_v114_apply, val_main_v113_apply, val_main_v112_apply]
  have e1 : idx_main_v111 (ValueIdx.ix3 b s n) = ValueIdx.ix3 b (⟨s.val + (15 : Fin 31).val, by show s.val + 15 < 8222; omega⟩ : Fin 8222) n := by
    funext a; apply Fin.ext
    match a with
    | ⟨0, _⟩ => rfl
    | ⟨1, _⟩ => show 15 + s.val = s.val + 15; omega
    | ⟨2, _⟩ => rfl
  have e2 : idx_main_v112 (idx_main_v113 (idx_main_v114 (idx_main_v115 (ValueIdx.ix3 b s n)))) = ValueIdx.ix2 (15 : Fin 31) n := by
    funext a; apply Fin.ext
    match a with
    | ⟨0, _⟩ => rfl
    | ⟨1, _⟩ => exact Nat.mod_eq_of_lt n.isLt
  rw [e1, e2, r_pad, r_v4]
  rfl

theorem r_tap16 (b : Fin 2) (s : Fin 8192) (n : Fin 1024) :
    val_main_v123 (F := Ideal) x1 x5 (ValueIdx.ix3 b s n) = padB (px x1) b (s.val + (16 : Fin 31).val) n * x5 (ValueIdx.ix3 0 (16 : Fin 31) n) := by
  have hs := s.isLt
  rw [val_main_v123_apply, val_main_v118_apply, val_main_v122_apply, val_main_v121_apply, val_main_v120_apply, val_main_v119_apply]
  have e1 : idx_main_v118 (ValueIdx.ix3 b s n) = ValueIdx.ix3 b (⟨s.val + (16 : Fin 31).val, by show s.val + 16 < 8222; omega⟩ : Fin 8222) n := by
    funext a; apply Fin.ext
    match a with
    | ⟨0, _⟩ => rfl
    | ⟨1, _⟩ => show 16 + s.val = s.val + 16; omega
    | ⟨2, _⟩ => rfl
  have e2 : idx_main_v119 (idx_main_v120 (idx_main_v121 (idx_main_v122 (ValueIdx.ix3 b s n)))) = ValueIdx.ix2 (16 : Fin 31) n := by
    funext a; apply Fin.ext
    match a with
    | ⟨0, _⟩ => rfl
    | ⟨1, _⟩ => exact Nat.mod_eq_of_lt n.isLt
  rw [e1, e2, r_pad, r_v4]
  rfl

theorem r_tap17 (b : Fin 2) (s : Fin 8192) (n : Fin 1024) :
    val_main_v130 (F := Ideal) x1 x5 (ValueIdx.ix3 b s n) = padB (px x1) b (s.val + (17 : Fin 31).val) n * x5 (ValueIdx.ix3 0 (17 : Fin 31) n) := by
  have hs := s.isLt
  rw [val_main_v130_apply, val_main_v125_apply, val_main_v129_apply, val_main_v128_apply, val_main_v127_apply, val_main_v126_apply]
  have e1 : idx_main_v125 (ValueIdx.ix3 b s n) = ValueIdx.ix3 b (⟨s.val + (17 : Fin 31).val, by show s.val + 17 < 8222; omega⟩ : Fin 8222) n := by
    funext a; apply Fin.ext
    match a with
    | ⟨0, _⟩ => rfl
    | ⟨1, _⟩ => show 17 + s.val = s.val + 17; omega
    | ⟨2, _⟩ => rfl
  have e2 : idx_main_v126 (idx_main_v127 (idx_main_v128 (idx_main_v129 (ValueIdx.ix3 b s n)))) = ValueIdx.ix2 (17 : Fin 31) n := by
    funext a; apply Fin.ext
    match a with
    | ⟨0, _⟩ => rfl
    | ⟨1, _⟩ => exact Nat.mod_eq_of_lt n.isLt
  rw [e1, e2, r_pad, r_v4]
  rfl

theorem r_tap18 (b : Fin 2) (s : Fin 8192) (n : Fin 1024) :
    val_main_v137 (F := Ideal) x1 x5 (ValueIdx.ix3 b s n) = padB (px x1) b (s.val + (18 : Fin 31).val) n * x5 (ValueIdx.ix3 0 (18 : Fin 31) n) := by
  have hs := s.isLt
  rw [val_main_v137_apply, val_main_v132_apply, val_main_v136_apply, val_main_v135_apply, val_main_v134_apply, val_main_v133_apply]
  have e1 : idx_main_v132 (ValueIdx.ix3 b s n) = ValueIdx.ix3 b (⟨s.val + (18 : Fin 31).val, by show s.val + 18 < 8222; omega⟩ : Fin 8222) n := by
    funext a; apply Fin.ext
    match a with
    | ⟨0, _⟩ => rfl
    | ⟨1, _⟩ => show 18 + s.val = s.val + 18; omega
    | ⟨2, _⟩ => rfl
  have e2 : idx_main_v133 (idx_main_v134 (idx_main_v135 (idx_main_v136 (ValueIdx.ix3 b s n)))) = ValueIdx.ix2 (18 : Fin 31) n := by
    funext a; apply Fin.ext
    match a with
    | ⟨0, _⟩ => rfl
    | ⟨1, _⟩ => exact Nat.mod_eq_of_lt n.isLt
  rw [e1, e2, r_pad, r_v4]
  rfl

theorem r_tap19 (b : Fin 2) (s : Fin 8192) (n : Fin 1024) :
    val_main_v144 (F := Ideal) x1 x5 (ValueIdx.ix3 b s n) = padB (px x1) b (s.val + (19 : Fin 31).val) n * x5 (ValueIdx.ix3 0 (19 : Fin 31) n) := by
  have hs := s.isLt
  rw [val_main_v144_apply, val_main_v139_apply, val_main_v143_apply, val_main_v142_apply, val_main_v141_apply, val_main_v140_apply]
  have e1 : idx_main_v139 (ValueIdx.ix3 b s n) = ValueIdx.ix3 b (⟨s.val + (19 : Fin 31).val, by show s.val + 19 < 8222; omega⟩ : Fin 8222) n := by
    funext a; apply Fin.ext
    match a with
    | ⟨0, _⟩ => rfl
    | ⟨1, _⟩ => show 19 + s.val = s.val + 19; omega
    | ⟨2, _⟩ => rfl
  have e2 : idx_main_v140 (idx_main_v141 (idx_main_v142 (idx_main_v143 (ValueIdx.ix3 b s n)))) = ValueIdx.ix2 (19 : Fin 31) n := by
    funext a; apply Fin.ext
    match a with
    | ⟨0, _⟩ => rfl
    | ⟨1, _⟩ => exact Nat.mod_eq_of_lt n.isLt
  rw [e1, e2, r_pad, r_v4]
  rfl

theorem r_tap20 (b : Fin 2) (s : Fin 8192) (n : Fin 1024) :
    val_main_v151 (F := Ideal) x1 x5 (ValueIdx.ix3 b s n) = padB (px x1) b (s.val + (20 : Fin 31).val) n * x5 (ValueIdx.ix3 0 (20 : Fin 31) n) := by
  have hs := s.isLt
  rw [val_main_v151_apply, val_main_v146_apply, val_main_v150_apply, val_main_v149_apply, val_main_v148_apply, val_main_v147_apply]
  have e1 : idx_main_v146 (ValueIdx.ix3 b s n) = ValueIdx.ix3 b (⟨s.val + (20 : Fin 31).val, by show s.val + 20 < 8222; omega⟩ : Fin 8222) n := by
    funext a; apply Fin.ext
    match a with
    | ⟨0, _⟩ => rfl
    | ⟨1, _⟩ => show 20 + s.val = s.val + 20; omega
    | ⟨2, _⟩ => rfl
  have e2 : idx_main_v147 (idx_main_v148 (idx_main_v149 (idx_main_v150 (ValueIdx.ix3 b s n)))) = ValueIdx.ix2 (20 : Fin 31) n := by
    funext a; apply Fin.ext
    match a with
    | ⟨0, _⟩ => rfl
    | ⟨1, _⟩ => exact Nat.mod_eq_of_lt n.isLt
  rw [e1, e2, r_pad, r_v4]
  rfl

theorem r_tap21 (b : Fin 2) (s : Fin 8192) (n : Fin 1024) :
    val_main_v158 (F := Ideal) x1 x5 (ValueIdx.ix3 b s n) = padB (px x1) b (s.val + (21 : Fin 31).val) n * x5 (ValueIdx.ix3 0 (21 : Fin 31) n) := by
  have hs := s.isLt
  rw [val_main_v158_apply, val_main_v153_apply, val_main_v157_apply, val_main_v156_apply, val_main_v155_apply, val_main_v154_apply]
  have e1 : idx_main_v153 (ValueIdx.ix3 b s n) = ValueIdx.ix3 b (⟨s.val + (21 : Fin 31).val, by show s.val + 21 < 8222; omega⟩ : Fin 8222) n := by
    funext a; apply Fin.ext
    match a with
    | ⟨0, _⟩ => rfl
    | ⟨1, _⟩ => show 21 + s.val = s.val + 21; omega
    | ⟨2, _⟩ => rfl
  have e2 : idx_main_v154 (idx_main_v155 (idx_main_v156 (idx_main_v157 (ValueIdx.ix3 b s n)))) = ValueIdx.ix2 (21 : Fin 31) n := by
    funext a; apply Fin.ext
    match a with
    | ⟨0, _⟩ => rfl
    | ⟨1, _⟩ => exact Nat.mod_eq_of_lt n.isLt
  rw [e1, e2, r_pad, r_v4]
  rfl

theorem r_tap22 (b : Fin 2) (s : Fin 8192) (n : Fin 1024) :
    val_main_v165 (F := Ideal) x1 x5 (ValueIdx.ix3 b s n) = padB (px x1) b (s.val + (22 : Fin 31).val) n * x5 (ValueIdx.ix3 0 (22 : Fin 31) n) := by
  have hs := s.isLt
  rw [val_main_v165_apply, val_main_v160_apply, val_main_v164_apply, val_main_v163_apply, val_main_v162_apply, val_main_v161_apply]
  have e1 : idx_main_v160 (ValueIdx.ix3 b s n) = ValueIdx.ix3 b (⟨s.val + (22 : Fin 31).val, by show s.val + 22 < 8222; omega⟩ : Fin 8222) n := by
    funext a; apply Fin.ext
    match a with
    | ⟨0, _⟩ => rfl
    | ⟨1, _⟩ => show 22 + s.val = s.val + 22; omega
    | ⟨2, _⟩ => rfl
  have e2 : idx_main_v161 (idx_main_v162 (idx_main_v163 (idx_main_v164 (ValueIdx.ix3 b s n)))) = ValueIdx.ix2 (22 : Fin 31) n := by
    funext a; apply Fin.ext
    match a with
    | ⟨0, _⟩ => rfl
    | ⟨1, _⟩ => exact Nat.mod_eq_of_lt n.isLt
  rw [e1, e2, r_pad, r_v4]
  rfl

theorem r_tap23 (b : Fin 2) (s : Fin 8192) (n : Fin 1024) :
    val_main_v172 (F := Ideal) x1 x5 (ValueIdx.ix3 b s n) = padB (px x1) b (s.val + (23 : Fin 31).val) n * x5 (ValueIdx.ix3 0 (23 : Fin 31) n) := by
  have hs := s.isLt
  rw [val_main_v172_apply, val_main_v167_apply, val_main_v171_apply, val_main_v170_apply, val_main_v169_apply, val_main_v168_apply]
  have e1 : idx_main_v167 (ValueIdx.ix3 b s n) = ValueIdx.ix3 b (⟨s.val + (23 : Fin 31).val, by show s.val + 23 < 8222; omega⟩ : Fin 8222) n := by
    funext a; apply Fin.ext
    match a with
    | ⟨0, _⟩ => rfl
    | ⟨1, _⟩ => show 23 + s.val = s.val + 23; omega
    | ⟨2, _⟩ => rfl
  have e2 : idx_main_v168 (idx_main_v169 (idx_main_v170 (idx_main_v171 (ValueIdx.ix3 b s n)))) = ValueIdx.ix2 (23 : Fin 31) n := by
    funext a; apply Fin.ext
    match a with
    | ⟨0, _⟩ => rfl
    | ⟨1, _⟩ => exact Nat.mod_eq_of_lt n.isLt
  rw [e1, e2, r_pad, r_v4]
  rfl

theorem r_tap24 (b : Fin 2) (s : Fin 8192) (n : Fin 1024) :
    val_main_v179 (F := Ideal) x1 x5 (ValueIdx.ix3 b s n) = padB (px x1) b (s.val + (24 : Fin 31).val) n * x5 (ValueIdx.ix3 0 (24 : Fin 31) n) := by
  have hs := s.isLt
  rw [val_main_v179_apply, val_main_v174_apply, val_main_v178_apply, val_main_v177_apply, val_main_v176_apply, val_main_v175_apply]
  have e1 : idx_main_v174 (ValueIdx.ix3 b s n) = ValueIdx.ix3 b (⟨s.val + (24 : Fin 31).val, by show s.val + 24 < 8222; omega⟩ : Fin 8222) n := by
    funext a; apply Fin.ext
    match a with
    | ⟨0, _⟩ => rfl
    | ⟨1, _⟩ => show 24 + s.val = s.val + 24; omega
    | ⟨2, _⟩ => rfl
  have e2 : idx_main_v175 (idx_main_v176 (idx_main_v177 (idx_main_v178 (ValueIdx.ix3 b s n)))) = ValueIdx.ix2 (24 : Fin 31) n := by
    funext a; apply Fin.ext
    match a with
    | ⟨0, _⟩ => rfl
    | ⟨1, _⟩ => exact Nat.mod_eq_of_lt n.isLt
  rw [e1, e2, r_pad, r_v4]
  rfl

theorem r_tap25 (b : Fin 2) (s : Fin 8192) (n : Fin 1024) :
    val_main_v186 (F := Ideal) x1 x5 (ValueIdx.ix3 b s n) = padB (px x1) b (s.val + (25 : Fin 31).val) n * x5 (ValueIdx.ix3 0 (25 : Fin 31) n) := by
  have hs := s.isLt
  rw [val_main_v186_apply, val_main_v181_apply, val_main_v185_apply, val_main_v184_apply, val_main_v183_apply, val_main_v182_apply]
  have e1 : idx_main_v181 (ValueIdx.ix3 b s n) = ValueIdx.ix3 b (⟨s.val + (25 : Fin 31).val, by show s.val + 25 < 8222; omega⟩ : Fin 8222) n := by
    funext a; apply Fin.ext
    match a with
    | ⟨0, _⟩ => rfl
    | ⟨1, _⟩ => show 25 + s.val = s.val + 25; omega
    | ⟨2, _⟩ => rfl
  have e2 : idx_main_v182 (idx_main_v183 (idx_main_v184 (idx_main_v185 (ValueIdx.ix3 b s n)))) = ValueIdx.ix2 (25 : Fin 31) n := by
    funext a; apply Fin.ext
    match a with
    | ⟨0, _⟩ => rfl
    | ⟨1, _⟩ => exact Nat.mod_eq_of_lt n.isLt
  rw [e1, e2, r_pad, r_v4]
  rfl

theorem r_tap26 (b : Fin 2) (s : Fin 8192) (n : Fin 1024) :
    val_main_v193 (F := Ideal) x1 x5 (ValueIdx.ix3 b s n) = padB (px x1) b (s.val + (26 : Fin 31).val) n * x5 (ValueIdx.ix3 0 (26 : Fin 31) n) := by
  have hs := s.isLt
  rw [val_main_v193_apply, val_main_v188_apply, val_main_v192_apply, val_main_v191_apply, val_main_v190_apply, val_main_v189_apply]
  have e1 : idx_main_v188 (ValueIdx.ix3 b s n) = ValueIdx.ix3 b (⟨s.val + (26 : Fin 31).val, by show s.val + 26 < 8222; omega⟩ : Fin 8222) n := by
    funext a; apply Fin.ext
    match a with
    | ⟨0, _⟩ => rfl
    | ⟨1, _⟩ => show 26 + s.val = s.val + 26; omega
    | ⟨2, _⟩ => rfl
  have e2 : idx_main_v189 (idx_main_v190 (idx_main_v191 (idx_main_v192 (ValueIdx.ix3 b s n)))) = ValueIdx.ix2 (26 : Fin 31) n := by
    funext a; apply Fin.ext
    match a with
    | ⟨0, _⟩ => rfl
    | ⟨1, _⟩ => exact Nat.mod_eq_of_lt n.isLt
  rw [e1, e2, r_pad, r_v4]
  rfl

theorem r_tap27 (b : Fin 2) (s : Fin 8192) (n : Fin 1024) :
    val_main_v200 (F := Ideal) x1 x5 (ValueIdx.ix3 b s n) = padB (px x1) b (s.val + (27 : Fin 31).val) n * x5 (ValueIdx.ix3 0 (27 : Fin 31) n) := by
  have hs := s.isLt
  rw [val_main_v200_apply, val_main_v195_apply, val_main_v199_apply, val_main_v198_apply, val_main_v197_apply, val_main_v196_apply]
  have e1 : idx_main_v195 (ValueIdx.ix3 b s n) = ValueIdx.ix3 b (⟨s.val + (27 : Fin 31).val, by show s.val + 27 < 8222; omega⟩ : Fin 8222) n := by
    funext a; apply Fin.ext
    match a with
    | ⟨0, _⟩ => rfl
    | ⟨1, _⟩ => show 27 + s.val = s.val + 27; omega
    | ⟨2, _⟩ => rfl
  have e2 : idx_main_v196 (idx_main_v197 (idx_main_v198 (idx_main_v199 (ValueIdx.ix3 b s n)))) = ValueIdx.ix2 (27 : Fin 31) n := by
    funext a; apply Fin.ext
    match a with
    | ⟨0, _⟩ => rfl
    | ⟨1, _⟩ => exact Nat.mod_eq_of_lt n.isLt
  rw [e1, e2, r_pad, r_v4]
  rfl

theorem r_tap28 (b : Fin 2) (s : Fin 8192) (n : Fin 1024) :
    val_main_v207 (F := Ideal) x1 x5 (ValueIdx.ix3 b s n) = padB (px x1) b (s.val + (28 : Fin 31).val) n * x5 (ValueIdx.ix3 0 (28 : Fin 31) n) := by
  have hs := s.isLt
  rw [val_main_v207_apply, val_main_v202_apply, val_main_v206_apply, val_main_v205_apply, val_main_v204_apply, val_main_v203_apply]
  have e1 : idx_main_v202 (ValueIdx.ix3 b s n) = ValueIdx.ix3 b (⟨s.val + (28 : Fin 31).val, by show s.val + 28 < 8222; omega⟩ : Fin 8222) n := by
    funext a; apply Fin.ext
    match a with
    | ⟨0, _⟩ => rfl
    | ⟨1, _⟩ => show 28 + s.val = s.val + 28; omega
    | ⟨2, _⟩ => rfl
  have e2 : idx_main_v203 (idx_main_v204 (idx_main_v205 (idx_main_v206 (ValueIdx.ix3 b s n)))) = ValueIdx.ix2 (28 : Fin 31) n := by
    funext a; apply Fin.ext
    match a with
    | ⟨0, _⟩ => rfl
    | ⟨1, _⟩ => exact Nat.mod_eq_of_lt n.isLt
  rw [e1, e2, r_pad, r_v4]
  rfl

theorem r_tap29 (b : Fin 2) (s : Fin 8192) (n : Fin 1024) :
    val_main_v214 (F := Ideal) x1 x5 (ValueIdx.ix3 b s n) = padB (px x1) b (s.val + (29 : Fin 31).val) n * x5 (ValueIdx.ix3 0 (29 : Fin 31) n) := by
  have hs := s.isLt
  rw [val_main_v214_apply, val_main_v209_apply, val_main_v213_apply, val_main_v212_apply, val_main_v211_apply, val_main_v210_apply]
  have e1 : idx_main_v209 (ValueIdx.ix3 b s n) = ValueIdx.ix3 b (⟨s.val + (29 : Fin 31).val, by show s.val + 29 < 8222; omega⟩ : Fin 8222) n := by
    funext a; apply Fin.ext
    match a with
    | ⟨0, _⟩ => rfl
    | ⟨1, _⟩ => show 29 + s.val = s.val + 29; omega
    | ⟨2, _⟩ => rfl
  have e2 : idx_main_v210 (idx_main_v211 (idx_main_v212 (idx_main_v213 (ValueIdx.ix3 b s n)))) = ValueIdx.ix2 (29 : Fin 31) n := by
    funext a; apply Fin.ext
    match a with
    | ⟨0, _⟩ => rfl
    | ⟨1, _⟩ => exact Nat.mod_eq_of_lt n.isLt
  rw [e1, e2, r_pad, r_v4]
  rfl

theorem r_tap30 (b : Fin 2) (s : Fin 8192) (n : Fin 1024) :
    val_main_v221 (F := Ideal) x1 x5 (ValueIdx.ix3 b s n) = padB (px x1) b (s.val + (30 : Fin 31).val) n * x5 (ValueIdx.ix3 0 (30 : Fin 31) n) := by
  have hs := s.isLt
  rw [val_main_v221_apply, val_main_v216_apply, val_main_v220_apply, val_main_v219_apply, val_main_v218_apply, val_main_v217_apply]
  have e1 : idx_main_v216 (ValueIdx.ix3 b s n) = ValueIdx.ix3 b (⟨s.val + (30 : Fin 31).val, by show s.val + 30 < 8222; omega⟩ : Fin 8222) n := by
    funext a; apply Fin.ext
    match a with
    | ⟨0, _⟩ => rfl
    | ⟨1, _⟩ => show 30 + s.val = s.val + 30; omega
    | ⟨2, _⟩ => rfl
  have e2 : idx_main_v217 (idx_main_v218 (idx_main_v219 (idx_main_v220 (ValueIdx.ix3 b s n)))) = ValueIdx.ix2 (30 : Fin 31) n := by
    funext a; apply Fin.ext
    match a with
    | ⟨0, _⟩ => rfl
    | ⟨1, _⟩ => exact Nat.mod_eq_of_lt n.isLt
  rw [e1, e2, r_pad, r_v4]
  rfl

/-- A token's convolved row. -/
def rY (b : Fin 2) (s : Fin 8192) (n : Fin 1024) : EReal :=
  cv (fun t : Fin 31 => padB (px x1) b (s.val + t.val) n) (fun t => x5 (ValueIdx.ix3 0 t n)) (x6 (ValueIdx.ix2 0 n))

theorem r_conv (b : Fin 2) (s : Fin 8192) (n : Fin 1024) : val_main_v225 (F := Ideal) x1 x5 x6 (ValueIdx.ix3 b s n) = rY x1 x5 x6 b s n := by
  rw [val_main_v225_apply, val_main_v222_apply, val_main_v215_apply, val_main_v208_apply, val_main_v201_apply, val_main_v194_apply, val_main_v187_apply, val_main_v180_apply, val_main_v173_apply, val_main_v166_apply, val_main_v159_apply, val_main_v152_apply, val_main_v145_apply, val_main_v138_apply, val_main_v131_apply, val_main_v124_apply, val_main_v117_apply, val_main_v110_apply, val_main_v103_apply, val_main_v96_apply, val_main_v89_apply, val_main_v82_apply, val_main_v75_apply, val_main_v68_apply, val_main_v61_apply, val_main_v54_apply, val_main_v47_apply, val_main_v40_apply, val_main_v33_apply, val_main_v26_apply, val_main_v19_apply,
    r_tap0, r_tap1, r_tap2, r_tap3, r_tap4, r_tap5, r_tap6, r_tap7, r_tap8, r_tap9, r_tap10, r_tap11, r_tap12, r_tap13, r_tap14, r_tap15, r_tap16, r_tap17, r_tap18, r_tap19, r_tap20, r_tap21, r_tap22, r_tap23, r_tap24, r_tap25, r_tap26, r_tap27, r_tap28, r_tap29, r_tap30]
  rw [val_main_v224_apply, val_main_v223_apply, val_main_v5_apply]
  have e : idx_main_v5 (idx_main_v223 (idx_main_v224 (ValueIdx.ix3 b s n))) = ValueIdx.ix2 0 n := by
    funext a; apply Fin.ext
    match a with
    | ⟨0, _⟩ => rfl
    | ⟨1, _⟩ => exact Nat.mod_eq_of_lt n.isLt
  rw [e]
  unfold rY cv
  rw [sum31]
  rfl

/-- A token's row less its mean. -/
theorem r_xc (b : Fin 2) (s : Fin 8192) (n : Fin 1024) : val_main_v233 (F := Ideal) x1 x5 x6 (ValueIdx.ix3 b s n) = xc (rY x1 x5 x6 b s) n := by
  rw [val_main_v233_apply, r_conv, val_main_v232_apply, val_main_v231_apply, val_main_v229_apply, val_main_v228_apply, val_main_v230_apply, val_main_cst_0_apply, val_main_cst_apply]
  have e : ∀ k : Fin 1024, idx_main_v228 (idx_main_v229 (idx_main_v232 (ValueIdx.ix3 b s n))) k = ValueIdx.ix3 b s k := by
    intro k; funext a
    match a with
    | ⟨0, _⟩ => rfl
    | ⟨1, _⟩ => rfl
    | ⟨2, _⟩ => rfl
  simp only [e, r_conv]
  show rY x1 x5 x6 b s n - Ideal.div (Ideal.ofBits .f32 0x00000000#32 + ∑ k : Fin 1024, rY x1 x5 x6 b s k) (Ideal.ofBits .f32 0x44800000#32) = _
  rw [Ideal.ofBits_zero_f32, zero_add]
  rfl

theorem r_ln (b : Fin 2) (s : Fin 8192) (n : Fin 1024) :
    val_main_v249 (F := Ideal) x1 x5 x6 x7 x8 (ValueIdx.ix3 b s n) = lnV (rY x1 x5 x6 b s) (x7 (ValueIdx.ix2 0 n)) (x8 (ValueIdx.ix2 0 n)) n := by
  rw [val_main_v249_apply, val_main_v248_apply, val_main_v247_apply, val_main_v227_apply, val_main_v246_apply, val_main_v245_apply, val_main_v244_apply, val_main_v226_apply,
    val_main_v243_apply, r_xc, val_main_v242_apply, val_main_v241_apply, val_main_v240_apply, val_main_v239_apply, val_main_cst_3_apply, val_main_v238_apply, val_main_v237_apply,
    val_main_cst_2_apply, val_main_v236_apply, val_main_v235_apply, val_main_cst_1_apply]
  have e : ∀ k : Fin 1024, idx_main_v235 (idx_main_v236 (idx_main_v242 (ValueIdx.ix3 b s n))) k = ValueIdx.ix3 b s k := by
    intro k; funext a
    match a with
    | ⟨0, _⟩ => rfl
    | ⟨1, _⟩ => rfl
    | ⟨2, _⟩ => rfl
  have e7 : idx_main_v226 (idx_main_v244 (idx_main_v245 (ValueIdx.ix3 b s n))) = ValueIdx.ix2 0 n := by
    funext a; apply Fin.ext
    match a with
    | ⟨0, _⟩ => rfl
    | ⟨1, _⟩ => exact Nat.mod_eq_of_lt n.isLt
  have e8 : idx_main_v227 (idx_main_v247 (idx_main_v248 (ValueIdx.ix3 b s n))) = ValueIdx.ix2 0 n := by
    funext a; apply Fin.ext
    match a with
    | ⟨0, _⟩ => rfl
    | ⟨1, _⟩ => exact Nat.mod_eq_of_lt n.isLt
  rw [e7, e8]
  simp only [e, val_main_v234_apply, r_xc]
  unfold lnV
  show xc (rY x1 x5 x6 b s) n * Ideal.rsqrt (Ideal.div (Ideal.ofBits .f32 0x00000000#32 + ∑ k : Fin 1024, xc (rY x1 x5 x6 b s) k * xc (rY x1 x5 x6 b s) k) (Ideal.ofBits .f32 0x44800000#32) + Ideal.ofBits .f32 0x358637BD#32) * _ + _ = _
  rw [Ideal.ofBits_zero_f32, zero_add]

theorem r_silu (b : Fin 2) (s : Fin 8192) (n : Fin 1024) :
    val_main_v250 (F := Ideal) x1 x5 x6 x7 x8 (ValueIdx.ix3 b s n) = silu (lnV (rY x1 x5 x6 b s) (x7 (ValueIdx.ix2 0 n)) (x8 (ValueIdx.ix2 0 n)) n) := by
  rw [val_main_v250_apply, val_main_call1_v5_apply, val_main_call1_v4_apply, val_main_call1_cst_0_apply, val_main_call1_v3_apply, val_main_call1_v2_apply, val_main_call1_cst_apply,
    val_main_call1_v1_apply, val_main_call1_v0_apply, r_ln]
  rfl

/-! ## The attention's half -/

theorem r_o (b : Fin 2) (s : Fin 8192) (h : Fin 8) (l : Fin 128) :
    val_main_v255 (F := Ideal) x3 x4 (ValueIdx.ix4 b s h l) = x3 (ValueIdx.ix3 h (rowOf b s.val) l) + x4 (ValueIdx.ix3 h (rowOf b s.val) l) := by
  rw [val_main_v255_apply]
  rw [show idx_main_v255 (ValueIdx.ix4 b s h l) = (ValueIdx.ix3 (rowOf b s.val) h l : S16384x8x128.Idx) from tok2 b s h l]
  rw [val_main_v254_apply, val_main_v253_apply, val_main_v251_apply, val_main_v252_apply]
  have e : idx_main_v254 (ValueIdx.ix3 (rowOf b s.val) h l) = ValueIdx.ix3 h (rowOf b s.val) l := by
    funext a
    match a with
    | ⟨0, _⟩ => rfl
    | ⟨1, _⟩ => rfl
    | ⟨2, _⟩ => rfl
  rw [e]
  rfl

theorem r_gate (b : Fin 2) (s : Fin 8192) (n : Fin 1024) :
    val_main_v276 (F := Ideal) x2 x3 x4 x9 (ValueIdx.ix3 b s n) =
      gateV (fun l => x3 (ValueIdx.ix3 (hd n) (rowOf b s.val) l) + x4 (ValueIdx.ix3 (hd n) (rowOf b s.val) l)) (x9 (ValueIdx.ix2 0 (la n)))
        (x2 (ValueIdx.ix3 (g24 (hd n)) (rowOf b s.val) (la n))) (la n) := by
  rw [val_main_v276_apply, val_main_v275_apply, val_main_v270_apply]
  rw [show idx_main_v275 (ValueIdx.ix3 b s n) = (ValueIdx.ix4 b s (hd n) (la n) : S2x8192x8x128.Idx) from tok3 b s n,
    show idx_main_v270 (ValueIdx.ix3 b s n) = (ValueIdx.ix4 b s (hd n) (la n) : S2x8192x8x128.Idx) from tok3 b s n]
  rw [val_main_v274_apply, show idx_main_v274 (ValueIdx.ix4 b s (hd n) (la n)) = (ValueIdx.ix3 (rowOf b s.val) (hd n) (la n) : S16384x8x128.Idx) from tok2 b s _ _]
  rw [val_main_v273_apply, val_main_v272_apply, val_main_v271_apply]
  have e : idx_main_v271 (idx_main_v273 (ValueIdx.ix3 (rowOf b s.val) (hd n) (la n))) = ValueIdx.ix3 (g24 (hd n)) (rowOf b s.val) (la n) := by
    funext a
    match a with
    | ⟨0, _⟩ => rfl
    | ⟨1, _⟩ => rfl
    | ⟨2, _⟩ => rfl
  rw [e, val_main_v269_apply, val_main_v268_apply, val_main_v267_apply, val_main_v256_apply, val_main_v266_apply, r_o, val_main_v265_apply, val_main_v264_apply, val_main_v263_apply,
    val_main_v262_apply, val_main_cst_6_apply, val_main_v261_apply, val_main_v260_apply, val_main_cst_5_apply, val_main_v259_apply, val_main_v258_apply, val_main_cst_4_apply]
  have e9 : idx_main_v256 (idx_main_v267 (idx_main_v268 (ValueIdx.ix4 b s (hd n) (la n)))) = ValueIdx.ix2 0 (la n) := by
    funext a; apply Fin.ext
    match a with
    | ⟨0, _⟩ => rfl
    | ⟨1, _⟩ => exact Nat.mod_eq_of_lt (la n).isLt
  have ek : ∀ k : Fin 128, idx_main_v258 (idx_main_v259 (idx_main_v265 (ValueIdx.ix4 b s (hd n) (la n)))) k = ValueIdx.ix4 b s (hd n) k := by
    intro k; funext a
    match a with
    | ⟨0, _⟩ => rfl
    | ⟨1, _⟩ => rfl
    | ⟨2, _⟩ => rfl
    | ⟨3, _⟩ => rfl
  rw [e9]
  simp only [ek, val_main_v257_apply, r_o]
  unfold gateV
  show (_ + _) * Ideal.rsqrt (Ideal.div (Ideal.ofBits .f32 0x00000000#32 + ∑ k : Fin 128, (x3 (ValueIdx.ix3 (hd n) (rowOf b s.val) k) + x4 (ValueIdx.ix3 (hd n) (rowOf b s.val) k)) * (x3 (ValueIdx.ix3 (hd n) (rowOf b s.val) k) + x4 (ValueIdx.ix3 (hd n) (rowOf b s.val) k))) (Ideal.ofBits .f32 0x43000000#32) + Ideal.ofBits .f32 0x358637BD#32) * _ * _ = _
  rw [Ideal.ofBits_zero_f32, zero_add]
  rfl

/-! ## The joined row and its product -/

theorem r_act (b : Fin 2) (s : Fin 8192) (k : Fin 2048) :
    val_main_v277 (F := Ideal) x1 x2 x3 x4 x5 x6 x7 x8 x9 (ValueIdx.ix3 b s k) =
      act (rY x1 x5 x6 b s) (fun n => x7 (ValueIdx.ix2 0 n)) (fun n => x8 (ValueIdx.ix2 0 n))
        (fun h l => x3 (ValueIdx.ix3 h (rowOf b s.val) l) + x4 (ValueIdx.ix3 h (rowOf b s.val) l)) (fun h l => x2 (ValueIdx.ix3 (g24 h) (rowOf b s.val) l))
        (fun l => x9 (ValueIdx.ix2 0 l)) k := by
  have hk := k.isLt
  unfold act
  split
  · rename_i h1
    refine Eq.trans ?_ (r_silu x1 x5 x6 x7 x8 b s ⟨k.val, h1⟩)
    unfold val_main_v277
    generalize val_main_v250 (F := Ideal) x1 x5 x6 x7 x8 = y0
    generalize val_main_v276 (F := Ideal) x2 x3 x4 x9 = y1
    refine concatenate_apply_piece (t := S2x8192x2048) 2 _ _ (ValueIdx.ix3 b s k) 0 (by show 0 < 2; decide) S2x8192x1024 y0 rfl rfl 0 rfl (ValueIdx.ix3 b s ⟨k.val, h1⟩) ?_ ?_
    · intro a ha
      match a with
      | ⟨0, _⟩ => rfl
      | ⟨1, _⟩ => rfl
      | ⟨2, _⟩ => exact absurd rfl ha
    · show 0 + k.val = k.val; omega
  · rename_i h1
    refine Eq.trans ?_ (r_gate x2 x3 x4 x9 b s ⟨k.val - 1024, by omega⟩)
    unfold val_main_v277
    generalize val_main_v250 (F := Ideal) x1 x5 x6 x7 x8 = y0
    generalize val_main_v276 (F := Ideal) x2 x3 x4 x9 = y1
    refine concatenate_apply_piece (t := S2x8192x2048) 2 _ _ (ValueIdx.ix3 b s k) 1 (by show 1 < 2; decide) S2x8192x1024 y1 rfl rfl 1024 rfl (ValueIdx.ix3 b s ⟨k.val - 1024, by omega⟩) ?_ ?_
    · intro a ha
      match a with
      | ⟨0, _⟩ => rfl
      | ⟨1, _⟩ => rfl
      | ⟨2, _⟩ => exact absurd rfl ha
    · show 1024 + (k.val - 1024) = k.val; omega

/-- The reference's result at a row and column. -/
theorem r_res (R : Fin 16384) (j : Fin 2048) :
    val_main_v281 (F := Ideal) x0 x1 x2 x3 x4 x5 x6 x7 x8 x9 x10 (ValueIdx.ix2 R j) =
      rowV (rY x1 x5 x6 (bat R) (pos R)) (fun n => x7 (ValueIdx.ix2 0 n)) (fun n => x8 (ValueIdx.ix2 0 n))
        (fun h l => x3 (ValueIdx.ix3 h R l) + x4 (ValueIdx.ix3 h R l)) (fun h l => x2 (ValueIdx.ix3 (g24 h) R l))
        (fun l => x9 (ValueIdx.ix2 0 l)) (x0 (ValueIdx.ix3 (bat R) (pos R) j)) (fun k => x10 (ValueIdx.ix3 0 k j)) := by
  have hR := R.isLt; have hj := j.isLt
  rw [val_main_v281_apply]
  have e : idx_main_v281 (ValueIdx.ix2 R j) = (ValueIdx.ix3 (bat R) (pos R) j : S2x8192x2048.Idx) := by
    funext a; apply Fin.ext
    match a with
    | ⟨0, _⟩ => show (R.val * 2048 + j.val) / 16777216 = R.val / 8192; omega
    | ⟨1, _⟩ => show (R.val * 2048 + j.val) / 2048 % 8192 = R.val % 8192; omega
    | ⟨2, _⟩ => show (R.val * 2048 + j.val) % 2048 = j.val; omega
  rw [e, val_main_v280_apply, val_main_v279_apply]
  unfold rowV
  refine congrArg (x0 (ValueIdx.ix3 (bat R) (pos R) j) + ·) (Finset.sum_congr rfl fun k _ => ?_)
  have hk := k.isLt
  have e1 : lidx_main_v279 (ValueIdx.ix3 (bat R) (pos R) j) k = (ValueIdx.ix3 (bat R) (pos R) k : S2x8192x2048.Idx) := by
    funext a
    match a with
    | ⟨0, _⟩ => rfl
    | ⟨1, _⟩ => rfl
    | ⟨2, _⟩ => rfl
  have e2 : idx_main_v278 (ridx_main_v279 (ValueIdx.ix3 (bat R) (pos R) j) k) = (ValueIdx.ix3 0 k j : S1x2048x2048.Idx) := by
    funext a; apply Fin.ext
    match a with
    | ⟨0, _⟩ => rfl
    | ⟨1, _⟩ => show (k.val * 2048 + j.val) / 2048 % 2048 = k.val; omega
    | ⟨2, _⟩ => show (k.val * 2048 + j.val) % 2048 = j.val; omega
  rw [e1, val_main_v278_apply, e2, r_act, rowOf_bat]

end Reference

end Cert.MixVal

end
-- ==== Proof.MixVal.Sweep.lean ====
/-
  The mix call's result array, whole: grid step `t` leaves rows `512 t … 512 t + 511`; its padded rows are the padded
  sequence's, the neighbours' sixteen rows included; and the thirty-two steps' blocks tile the array.
-/
module

public import proofs.«01_k».proof.Proof.MixVal.Cases
public import proofs.«01_k».proof.Proof.MixVal.Blocks
public import proofs.«01_k».proof.Proof.MixVal.Ref

@[expose] public section

set_option maxHeartbeats 2000000

noncomputable section

namespace Cert.MixVal

open Idealize.ShloMosaic Idealize.ShloMosaic.TcCoe Idealize.ShloMosaic.Tactic Idealize.SL.Sem
open Cert.FfnVal (bat pos)
open scoped BigOperators

open Cert.MixIdeal Cert.MixIdeal.Gen

variable (m : (ℓ : Loc nD τ sig) → Buf (Elt Ideal) ℓ) (c : Dev nD)

/-- The arrays the region finds. -/
abbrev aX : Vec Ideal S16384x2048 .f32 := V m c main_v1
abbrev aC : Vec Ideal S24x16384x128 .f32 := V m c main_arg1
abbrev aG : Vec Ideal S24x16384x128 .bf16 := V m c main_arg2
abbrev aF : Vec Ideal S8x16384x128 .bf16 := V m c main_arg3
abbrev aB : Vec Ideal S8x16384x128 .bf16 := V m c main_arg4
abbrev aW : Vec Ideal S8x31x128 .f32 := V m c main_v13
abbrev aV : Vec Ideal S8x1x128 .f32 := V m c main_v15
abbrev aL : Vec Ideal S8x1x128 .f32 := V m c main_v17
abbrev aM : Vec Ideal S8x1x128 .f32 := V m c main_v19
abbrev aH : Vec Ideal S1x128 .f32 := V m c main_v10
abbrev aO : Vec Ideal S2048x2048 .bf16 := V m c main_v11

/-- A row's convolution. -/
def YG (R : Fin 16384) (n : Fin 1024) : EReal :=
  cv (fun t : Fin 31 => padB (fun h r l => aC m c (ValueIdx.ix3 h r l)) (bat R) ((pos R).val + t.val) n) (fun t => aW m c (ValueIdx.ix3 (hd n) t (la n)))
    (aV m c (ValueIdx.ix3 (hd n) 0 (la n)))

/-- The result array. -/
def G13 : Vec Ideal S16384x2048 .f32 := fun i =>
  rowV (YG m c (i 0)) (fun n => aL m c (ValueIdx.ix3 (hd n) 0 (la n))) (fun n => aM m c (ValueIdx.ix3 (hd n) 0 (la n)))
    (fun h l => aF m c (ValueIdx.ix3 h (i 0) l) + aB m c (ValueIdx.ix3 h (i 0) l)) (fun h l => aG m c (ValueIdx.ix3 (g24 h) (i 0) l))
    (fun l => aH m c (ValueIdx.ix2 0 l)) (aX m c i) (fun k => aO m c (ValueIdx.ix2 k (i 1)))

theorem crd1 : ∀ t : Fin cfg0.N, (grid0.coords t 1).val = t.val % 16 :=
  (by decide +kernel : ∀ t : Fin grid0.N, _)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx2 : ∀ t : Fin cfg0.N, win0_2.index t (0 : Fin 3) = 0 ∧ win0_2.index t (1 : Fin 3) = 32 * t.val - 1 ∧ win0_2.index t (2 : Fin 3) = 0 :=
  (by decide +kernel : ∀ t : Fin grid0.N, _)
theorem idx3 : ∀ t : Fin cfg0.N, win0_3.index t (0 : Fin 3) = 0 ∧ win0_3.index t (1 : Fin 3) = min (32 * (t.val + 1)) 1023 ∧ win0_3.index t (2 : Fin 3) = 0 :=
  (by decide +kernel : ∀ t : Fin grid0.N, _)
theorem idx4 : ∀ t : Fin cfg0.N, win0_4.index t (0 : Fin 3) = 0 ∧ win0_4.index t (1 : Fin 3) = t.val ∧ win0_4.index t (2 : Fin 3) = 0 :=
  (by decide +kernel : ∀ t : Fin grid0.N, _)
theorem idx5 : ∀ t : Fin cfg0.N, win0_5.index t (0 : Fin 3) = 0 ∧ win0_5.index t (1 : Fin 3) = t.val ∧ win0_5.index t (2 : Fin 3) = 0 :=
  (by decide +kernel : ∀ t : Fin grid0.N, _)
theorem idx6 : ∀ t : Fin cfg0.N, win0_6.index t (0 : Fin 3) = 2 ∧ win0_6.index t (1 : Fin 3) = t.val ∧ win0_6.index t (2 : Fin 3) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

theorem blk0 (t : Fin cfg0.N) (r : Fin 512) (k : Fin 2048) (R : Fin 16384) (hR : R.val = 512 * t.val + r.val) :
    iblk m c 0 t (ValueIdx.ix2 (n0 := 512) (n1 := 2048) r k) = aX m c (ValueIdx.ix2 R k) := by
  obtain ⟨e0, e1⟩ := idx0 t
  refine congrArg (V m c main_v1) ?_
  funext a
  apply Fin.ext
  match a with
  | ⟨0, _⟩ => show win0_0.index t (0 : Fin 2) * 512 + 1 * r.val = R.val; rw [e0]; omega
  | ⟨1, _⟩ => show win0_0.index t (1 : Fin 2) * 2048 + 1 * k.val = k.val; rw [e1]; omega

theorem blk1 (t : Fin cfg0.N) (h : Fin 8) (r : Fin 512) (l : Fin 128) (R : Fin 16384) (hR : R.val = 512 * t.val + r.val) :
    iblk m c 1 t (ValueIdx.ix3 (n0 := 8) (n1 := 512) (n2 := 128) h r l) = aC m c (ValueIdx.ix3 (h24 h) R l) := by
  obtain ⟨e0, e1, e2⟩ := idx1 t
  refine congrArg (V m c main_arg1) ?_
  funext a
  apply Fin.ext
  match a with
  | ⟨0, _⟩ => show win0_1.index t (0 : Fin 3) * 8 + 1 * h.val = h.val; rw [e0]; omega
  | ⟨1, _⟩ => show win0_1.index t (1 : Fin 3) * 512 + 1 * r.val = R.val; rw [e1]; omega
  | ⟨2, _⟩ => show win0_1.index t (2 : Fin 3) * 128 + 1 * l.val = l.val; rw [e2]; omega

theorem blk2 (t : Fin cfg0.N) (h : Fin 8) (r : Fin 16) (l : Fin 128) (R : Fin 16384) (hR : R.val = (32 * t.val - 1) * 16 + r.val) :
    iblk m c 2 t (ValueIdx.ix3 (n0 := 8) (n1 := 16) (n2 := 128) h r l) = aC m c (ValueIdx.ix3 (h24 h) R l) := by
  obtain ⟨e0, e1, e2⟩ := idx2 t
  refine congrArg (V m c main_arg1) ?_
  funext a
  apply Fin.ext
  match a with
  | ⟨0, _⟩ => show win0_2.index t (0 : Fin 3) * 8 + 1 * h.val = h.val; rw [e0]; omega
  | ⟨1, _⟩ => show win0_2.index t (1 : Fin 3) * 16 + 1 * r.val = R.val; rw [e1]; omega
  | ⟨2, _⟩ => show win0_2.index t (2 : Fin 3) * 128 + 1 * l.val = l.val; rw [e2]; omega

theorem blk3 (t : Fin cfg0.N) (h : Fin 8) (r : Fin 16) (l : Fin 128) (R : Fin 16384) (hR : R.val = min (32 * (t.val + 1)) 1023 * 16 + r.val) :
    iblk m c 3 t (ValueIdx.ix3 (n0 := 8) (n1 := 16) (n2 := 128) h r l) = aC m c (ValueIdx.ix3 (h24 h) R l) := by
  obtain ⟨e0, e1, e2⟩ := idx3 t
  refine congrArg (V m c main_arg1) ?_
  funext a
  apply Fin.ext
  match a with
  | ⟨0, _⟩ => show win0_3.index t (0 : Fin 3) * 8 + 1 * h.val = h.val; rw [e0]; omega
  | ⟨1, _⟩ => show win0_3.index t (1 : Fin 3) * 16 + 1 * r.val = R.val; rw [e1]; omega
  | ⟨2, _⟩ => show win0_3.index t (2 : Fin 3) * 128 + 1 * l.val = l.val; rw [e2]; omega

theorem blk4 (t : Fin cfg0.N) (h : Fin 8) (r : Fin 512) (l : Fin 128) (R : Fin 16384) (hR : R.val = 512 * t.val + r.val) :
    iblk m c 4 t (ValueIdx.ix3 (n0 := 8) (n1 := 512) (n2 := 128) h r l) = aF m c (ValueIdx.ix3 h R l) := by
  obtain ⟨e0, e1, e2⟩ := idx4 t
  refine congrArg (V m c main_arg3) ?_
  funext a
  apply Fin.ext
  match a with
  | ⟨0, _⟩ => show win0_4.index t (0 : Fin 3) * 8 + 1 * h.val = h.val; rw [e0]; omega
  | ⟨1, _⟩ => show win0_4.index t (1 : Fin 3) * 512 + 1 * r.val = R.val; rw [e1]; omega
  | ⟨2, _⟩ => show win0_4.index t (2 : Fin 3) * 128 + 1 * l.val = l.val; rw [e2]; omega

theorem blk5 (t : Fin cfg0.N) (h : Fin 8) (r : Fin 512) (l : Fin 128) (R : Fin 16384) (hR : R.val = 512 * t.val + r.val) :
    iblk m c 5 t (ValueIdx.ix3 (n0 := 8) (n1 := 512) (n2 := 128) h r l) = aB m c (ValueIdx.ix3 h R l) := by
  obtain ⟨e0, e1, e2⟩ := idx5 t
  refine congrArg (V m c main_arg4) ?_
  funext a
  apply Fin.ext
  match a with
  | ⟨0, _⟩ => show win0_5.index t (0 : Fin 3) * 8 + 1 * h.val = h.val; rw [e0]; omega
  | ⟨1, _⟩ => show win0_5.index t (1 : Fin 3) * 512 + 1 * r.val = R.val; rw [e1]; omega
  | ⟨2, _⟩ => show win0_5.index t (2 : Fin 3) * 128 + 1 * l.val = l.val; rw [e2]; omega

theorem blk6 (t : Fin cfg0.N) (h : Fin 8) (r : Fin 512) (l : Fin 128) (R : Fin 16384) (hR : R.val = 512 * t.val + r.val) :
    iblk m c 6 t (ValueIdx.ix3 (n0 := 8) (n1 := 512) (n2 := 128) h r l) = aG m c (ValueIdx.ix3 (g24 h) R l) := by
  obtain ⟨e0, e1, e2⟩ := idx6 t
  refine congrArg (V m c main_arg2) ?_
  funext a
  apply Fin.ext
  match a with
  | ⟨0, _⟩ => show win0_6.index t (0 : Fin 3) * 8 + 1 * h.val = 16 + h.val; rw [e0]; omega
  | ⟨1, _⟩ => show win0_6.index t (1 : Fin 3) * 512 + 1 * r.val = R.val; rw [e1]; omega
  | ⟨2, _⟩ => show win0_6.index t (2 : Fin 3) * 128 + 1 * l.val = l.val; rw [e2]; omega

theorem blk7 (t : Fin cfg0.N) (h : Fin 8) (r : Fin 31) (l : Fin 128) :
    iblk m c 7 t (ValueIdx.ix3 (n0 := 8) (n1 := 31) (n2 := 128) h r l) = aW m c (ValueIdx.ix3 h r l) := by
  obtain ⟨e0, e1, e2⟩ := idx7 t
  refine congrArg (V m c main_v13) ?_
  funext a
  apply Fin.ext
  match a with
  | ⟨0, _⟩ => show win0_7.index t (0 : Fin 3) * 8 + 1 * h.val = h.val; rw [e0]; omega
  | ⟨1, _⟩ => show win0_7.index t (1 : Fin 3) * 31 + 1 * r.val = r.val; rw [e1]; omega
  | ⟨2, _⟩ => show win0_7.index t (2 : Fin 3) * 128 + 1 * l.val = l.val; rw [e2]; omega

theorem blk8 (t : Fin cfg0.N) (h : Fin 8) (l : Fin 128) :
    iblk m c 8 t (ValueIdx.ix3 (n0 := 8) (n1 := 1) (n2 := 128) h 0 l) = aV m c (ValueIdx.ix3 h 0 l) := by
  obtain ⟨e0, e1, e2⟩ := idx8 t
  refine congrArg (V m c main_v15) ?_
  funext a
  apply Fin.ext
  match a with
  | ⟨0, _⟩ => show win0_8.index t (0 : Fin 3) * 8 + 1 * h.val = h.val; rw [e0]; omega
  | ⟨1, _⟩ => show win0_8.index t (1 : Fin 3) * 1 + 1 * 0 = 0; rw [e1]
  | ⟨2, _⟩ => show win0_8.index t (2 : Fin 3) * 128 + 1 * l.val = l.val; rw [e2]; omega

theorem blk9 (t : Fin cfg0.N) (h : Fin 8) (l : Fin 128) :
    iblk m c 9 t (ValueIdx.ix3 (n0 := 8) (n1 := 1) (n2 := 128) h 0 l) = aL m c (ValueIdx.ix3 h 0 l) := by
  obtain ⟨e0, e1, e2⟩ := idx9 t
  refine congrArg (V m c main_v17) ?_
  funext a
  apply Fin.ext
  match a with
  | ⟨0, _⟩ => show win0_9.index t (0 : Fin 3) * 8 + 1 * h.val = h.val; rw [e0]; omega
  | ⟨1, _⟩ => show win0_9.index t (1 : Fin 3) * 1 + 1 * 0 = 0; rw [e1]
  | ⟨2, _⟩ => show win0_9.index t (2 : Fin 3) * 128 + 1 * l.val = l.val; rw [e2]; omega

theorem blk10 (t : Fin cfg0.N) (h : Fin 8) (l : Fin 128) :
    iblk m c 10 t (ValueIdx.ix3 (n0 := 8) (n1 := 1) (n2 := 128) h 0 l) = aM m c (ValueIdx.ix3 h 0 l) := by
  obtain ⟨e0, e1, e2⟩ := idx10 t
  refine congrArg (V m c main_v19) ?_
  funext a
  apply Fin.ext
  match a with
  | ⟨0, _⟩ => show win0_10.index t (0 : Fin 3) * 8 + 1 * h.val = h.val; rw [e0]; omega
  | ⟨1, _⟩ => show win0_10.index t (1 : Fin 3) * 1 + 1 * 0 = 0; rw [e1]
  | ⟨2, _⟩ => show win0_10.index t (2 : Fin 3) * 128 + 1 * l.val = l.val; rw [e2]; omega

theorem blk11 (t : Fin cfg0.N) (l : Fin 128) :
    iblk m c 11 t (ValueIdx.ix2 (n0 := 1) (n1 := 128) 0 l) = aH m c (ValueIdx.ix2 0 l) := by
  obtain ⟨e0, e1⟩ := idx11 t
  refine congrArg (V m c main_v10) ?_
  funext a
  apply Fin.ext
  match a with
  | ⟨0, _⟩ => show win0_11.index t (0 : Fin 2) * 1 + 1 * 0 = 0; rw [e0]
  | ⟨1, _⟩ => show win0_11.index t (1 : Fin 2) * 128 + 1 * l.val = l.val; rw [e1]; omega

theorem blk12 (t : Fin cfg0.N) (k : Fin 2048) (n : Fin 2048) :
    iblk m c 12 t (ValueIdx.ix2 (n0 := 2048) (n1 := 2048) k n) = aO m c (ValueIdx.ix2 k n) := by
  obtain ⟨e0, e1⟩ := idx12 t
  refine congrArg (V m c main_v11) ?_
  funext a
  apply Fin.ext
  match a with
  | ⟨0, _⟩ => show win0_12.index t (0 : Fin 2) * 2048 + 1 * k.val = k.val; rw [e0]; omega
  | ⟨1, _⟩ => show win0_12.index t (1 : Fin 2) * 2048 + 1 * n.val = n.val; rw [e1]; omega

theorem lt_N (t : Fin cfg0.N) : t.val < 32 := lt_of_lt_of_eq t.isLt N_0

/-- A step's padded rows are the padded sequence's. -/
theorem padX_eq (t : Fin cfg0.N) (r : Fin 512) (τ : Fin 31) (n : Fin 1024) (R : Fin 16384) (hR : R.val = 512 * t.val + r.val) :
    padX (grid0.coords t) (iblk m c 1 t) (iblk m c 2 t) (iblk m c 3 t) (hd n) (r.val + τ.val + 1) (la n) =
      padB (fun h r l => aC m c (ValueIdx.ix3 h r l)) (bat R) ((pos R).val + τ.val) n := by
  have hc := crd1 t
  have hN := lt_N t
  have hr := r.isLt
  have hτ := τ.isLt
  have hRl := R.isLt
  have hb : (bat R).val = t.val / 16 := by show R.val / 8192 = t.val / 16; omega
  have hp : (pos R).val = 512 * (t.val % 16) + r.val := by show R.val % 8192 = _; omega
  unfold padX padB
  rw [hp, hc]
  by_cases h1 : r.val + τ.val + 1 < 16
  · rw [if_pos h1]
    by_cases h0 : 0 < t.val % 16
    · rw [if_pos h0, if_pos (by omega)]
      refine blk2 m c t (hd n) ⟨(r.val + τ.val + 1) % 16, Nat.mod_lt _ (by decide)⟩ (la n) _ ?_
      show (8192 * (bat R).val + (512 * (t.val % 16) + r.val + τ.val - 15)) % 16384 = (32 * t.val - 1) * 16 + (r.val + τ.val + 1) % 16
      rw [hb]; omega
    · rw [if_neg h0, if_neg (by omega)]
  · rw [if_neg h1]
    by_cases h2 : r.val + τ.val + 1 < 528
    · rw [if_pos h2, if_pos (by omega)]
      refine blk1 m c t (hd n) ⟨(r.val + τ.val + 1 - 16) % 512, Nat.mod_lt _ (by decide)⟩ (la n) _ ?_
      show (8192 * (bat R).val + (512 * (t.val % 16) + r.val + τ.val - 15)) % 16384 = 512 * t.val + (r.val + τ.val + 1 - 16) % 512
      rw [hb]; omega
    · rw [if_neg h2]
      by_cases h3 : t.val % 16 < 15
      · rw [if_pos h3, if_pos (by omega)]
        refine blk3 m c t (hd n) ⟨(r.val + τ.val + 1 - 528) % 16, Nat.mod_lt _ (by decide)⟩ (la n) _ ?_
        show (8192 * (bat R).val + (512 * (t.val % 16) + r.val + τ.val - 15)) % 16384 = min (32 * (t.val + 1)) 1023 * 16 + (r.val + τ.val + 1 - 528) % 16
        rw [hb]; omega
      · rw [if_neg h3, if_neg (by omega)]

/-- What a step's block holds is the array's rows. -/
theorem outE_eq (t : Fin cfg0.N) (r : Fin 512) (k : Fin 2048) (R : Fin 16384) (hR : R.val = 512 * t.val + r.val) :
    outE (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ValueIdx.ix2 r k) = G13 m c (ValueIdx.ix2 R k) := by
  unfold outE G13
  refine rowV_congr (fun n => ?_) (fun n => blk9 m c t _ _) (fun n => blk10 m c t _ _) (fun h l => ?_) (fun h l => blk6 m c t h r l R hR) (fun l => blk11 m c t l)
    (blk0 m c t r k R hR) (fun j => blk12 m c t j k)
  · unfold cvX YG
    refine congr (congr (congrArg cv (funext fun τ => ?_)) (funext fun τ => blk7 m c t (hd n) τ (la n))) (blk8 m c t (hd n) (la n))
    exact padX_eq m c t r τ n R hR
  · exact congr (congrArg (fun a b : EReal => a + b) (blk4 m c t h r l R hR)) (blk5 m c t h r l R hR)

/-- What point `t` writes back is block `t` of the array. -/
theorem flushed13_eq (t : Fin cfg0.N) : (dats m 0 c).flushed 13 t = ((cfg0.win 13).blk t).view.read (Elt Ideal) (G13 m c) := by
  rw [flushed13_A]
  obtain ⟨e0, e1⟩ := idx13 t
  have hN := lt_N t
  funext y
  obtain ⟨r, k, rfl⟩ : ∃ (r : Fin 512) (k : Fin 2048), y = ValueIdx.ix2 r k := ⟨y 0, y 1, ValueIdx.eq_ix2 y⟩
  have hr := r.isLt
  have hlt : 512 * t.val + r.val < 16384 := by omega
  refine Eq.trans (outBlk_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ValueIdx.ix2 r k)) ?_
  refine (outE_eq m c t r k ⟨512 * t.val + r.val, hlt⟩ rfl).trans ?_
  refine congrArg (G13 m c) ?_
  funext a
  apply Fin.ext
  match a with
  | ⟨0, _⟩ => show 512 * t.val + r.val = win0_13.index t (0 : Fin 2) * 512 + 1 * r.val; rw [e0]; omega
  | ⟨1, _⟩ => show k.val = win0_13.index t (1 : Fin 2) * 2048 + 1 * k.val; rw [e1]; omega

/-- The point whose block holds row `R`. -/
def ptOf (R : Fin 16384) : Fin cfg0.N := ⟨R.val / 512, lt_of_lt_of_eq (by have := R.isLt; omega : R.val / 512 < 32) N_0.symm⟩

theorem cov13 (i : S16384x2048.Idx) : ∃ t : Fin cfg0.N, (cfg0.win 13).flush t = true ∧ i ∈ ((cfg0.win 13).blk t).view.set := by
  refine ⟨ptOf (i 0), flush0_13 _, ?_⟩
  obtain ⟨e0, e1⟩ := idx13 (ptOf (i 0))
  show i ∈ ((View.whole main_v20).slice (win0_13.rect (ptOf (i 0)))).set
  rw [View.set_slice_whole, Rect.mem_set_unit]
  have h0 : (i 0).val < 16384 := (i 0).isLt
  have h1 : (i 1).val < 2048 := (i 1).isLt
  have e0' : win0_13.index (ptOf (i 0)) (0 : Fin 2) = (i 0).val / 512 := e0
  intro a
  match a with
  | ⟨0, _⟩ => show win0_13.index (ptOf (i 0)) (0 : Fin 2) * 512 ≤ (i 0).val ∧ (i 0).val < win0_13.index (ptOf (i 0)) (0 : Fin 2) * 512 + 512; rw [e0']; omega
  | ⟨1, _⟩ => show win0_13.index (ptOf (i 0)) (1 : Fin 2) * 2048 ≤ (i 1).val ∧ (i 1).val < win0_13.index (ptOf (i 0)) (1 : Fin 2) * 2048 + 2048; rw [e1]; omega

theorem final13 : (dats m 0 c).arrAt 13 cfg0.N = G13 m c :=
  (dats m 0 c).arrAt_eq_of_cover 13 _ (fun t _ => flushed13_eq m c t) cov13

end Cert.MixVal

end
-- ==== Proof.MixVal.Final.lean ====
/-
  The algebraic claim about the mix call and its reference: the arrays the call's windows cut, read from the arguments,
  and with them the two results' agreement.
-/
module

public import proofs.«01_k».proof.Defs
public import proofs.«01_k».proof.Proof.MixVal.Sweep

@[expose] public section

set_option maxHeartbeats 1000000

noncomputable section

namespace Cert.MixVal

open Idealize.ShloMosaic Idealize.ShloMosaic.TcCoe Idealize.ShloMosaic.Tactic Idealize.SL.Sem
open Cert.FfnVal (bat pos)
open scoped BigOperators

section Kernel

open Cert.MixIdeal Cert.MixIdeal.Gen

variable (m : (ℓ : Loc nD τ sig) → Buf (Elt Ideal) ℓ) (c : Dev nD)

theorem aX_apply (R : Fin 16384) (k : Fin 2048) :
    aX m c (ValueIdx.ix2 R k) = m ((c : Thread nD τ).loc main_arg0) (ValueIdx.ix3 (bat R) (pos R) k) := by
  have e : aX m c = shapeCast S16384x2048 (m ((c : Thread nD τ).loc main_arg0)) shapeCasts_S2x8192x2048_S16384x2048 := by
    unfold aX V hostOps0; after_results; rfl
  rw [e]
  refine shapeCast_apply _ shapeCasts_S2x8192x2048_S16384x2048 _ _ ?_
  rewrite [Shape.rowMajor_val_three, Shape.rowMajor_val_two]
  have hR := R.isLt
  show (R.val / 8192 * 8192 + R.val % 8192) * 2048 + k.val = R.val * 2048 + k.val
  omega

theorem aC_eq : aC m c = m ((c : Thread nD τ).loc main_arg1) := by
  unfold aC V hostOps0; after_results

theorem aG_eq : aG m c = m ((c : Thread nD τ).loc main_arg2) := by
  unfold aG V hostOps0; after_results

theorem aF_eq : aF m c = m ((c : Thread nD τ).loc main_arg3) := by
  unfold aF V hostOps0; after_results

theorem aB_eq : aB m c = m ((c : Thread nD τ).loc main_arg4) := by
  unfold aB V hostOps0; after_results

theorem aW_apply (t : Fin 31) (n : Fin 1024) :
    aW m c (ValueIdx.ix3 (hd n) t (la n)) = m ((c : Thread nD τ).loc main_arg5) (ValueIdx.ix3 0 t n) := by
  have e : aW m c = transpose S8x31x128 [1, 0, 2] (shapeCast S31x8x128 (shapeCast S31x1024 (m ((c : Thread nD τ).loc main_arg5)) shapeCasts_S1x31x1024_S31x1024)
      shapeCasts_S31x1024_S31x8x128) transposes_S31x8x128_S8x31x128_1_0_2 := by
    unfold aW V hostOps0; after_results; rfl
  have ht := t.isLt; have hn := n.isLt
  rw [e]
  refine (transpose_apply [1, 0, 2] _ transposes_S31x8x128_S8x31x128_1_0_2 (ValueIdx.ix3 (hd n) t (la n)) (ValueIdx.ix3 t (hd n) (la n)) ?_).trans ?_
  · intro a; fin_cases a <;> rfl
  refine (shapeCast_apply _ shapeCasts_S31x1024_S31x8x128 (ValueIdx.ix3 t (hd n) (la n)) (ValueIdx.ix2 t n) ?_).trans
    (shapeCast_apply _ shapeCasts_S1x31x1024_S31x1024 (ValueIdx.ix2 t n) (ValueIdx.ix3 0 t n) ?_)
  · rewrite [Shape.rowMajor_val_two, Shape.rowMajor_val_three]
    show t.val * 1024 + n.val = (t.val * 8 + n.val / 128) * 128 + n.val % 128
    omega
  · rewrite [Shape.rowMajor_val_two, Shape.rowMajor_val_three]
    show (0 * 31 + t.val) * 1024 + n.val = t.val * 1024 + n.val
    omega

/-- A channel's entry of a vector laid out by heads. -/
theorem row_apply (x : FVec Ideal S1x1024 .f32) (n : Fin 1024) :
    transpose S8x1x128 [1, 0, 2] (shapeCast S1x8x128 (shapeCast S1x1024 (shapeCast S1024 x shapeCasts_S1x1024_S1024) shapeCasts_S1024_S1x1024) shapeCasts_S1x1024_S1x8x128)
      transposes_S1x8x128_S8x1x128_1_0_2 (ValueIdx.ix3 (hd n) 0 (la n)) = x (ValueIdx.ix2 0 n) := by
  have hn := n.isLt
  refine (transpose_apply [1, 0, 2] _ transposes_S1x8x128_S8x1x128_1_0_2 (ValueIdx.ix3 (hd n) 0 (la n)) (ValueIdx.ix3 0 (hd n) (la n)) ?_).trans ?_
  · intro a; fin_cases a <;> rfl
  refine (shapeCast_apply _ shapeCasts_S1x1024_S1x8x128 (ValueIdx.ix3 0 (hd n) (la n)) (ValueIdx.ix2 0 n) ?_).trans
    ((shapeCast_apply _ shapeCasts_S1024_S1x1024 (ValueIdx.ix2 0 n) (ValueIdx.ix1 n) ?_).trans
    (shapeCast_apply _ shapeCasts_S1x1024_S1024 (ValueIdx.ix1 n) (ValueIdx.ix2 0 n) ?_))
  · rewrite [Shape.rowMajor_val_two, Shape.rowMajor_val_three]
    show 0 * 1024 + n.val = (0 * 8 + n.val / 128) * 128 + n.val % 128
    omega
  · rewrite [Shape.rowMajor_val_two, Shape.rowMajor_val_one]
    show n.val = 0 * 1024 + n.val
    omega
  · rewrite [Shape.rowMajor_val_two, Shape.rowMajor_val_one]
    show 0 * 1024 + n.val = n.val
    omega

theorem aV_apply (n : Fin 1024) : aV m c (ValueIdx.ix3 (hd n) 0 (la n)) = m ((c : Thread nD τ).loc main_arg6) (ValueIdx.ix2 0 n) := by
  have e : aV m c = transpose S8x1x128 [1, 0, 2] (shapeCast S1x8x128 (shapeCast S1x1024 (shapeCast S1024 (m ((c : Thread nD τ).loc main_arg6)) shapeCasts_S1x1024_S1024)
      shapeCasts_S1024_S1x1024) shapeCasts_S1x1024_S1x8x128) transposes_S1x8x128_S8x1x128_1_0_2 := by
    unfold aV V hostOps0; after_results; rfl
  rw [e]
  exact row_apply _ n

theorem aL_apply (n : Fin 1024) : aL m c (ValueIdx.ix3 (hd n) 0 (la n)) = m ((c : Thread nD τ).loc main_arg7) (ValueIdx.ix2 0 n) := by
  have e : aL m c = transpose S8x1x128 [1, 0, 2] (shapeCast S1x8x128 (shapeCast S1x1024 (shapeCast S1024 (m ((c : Thread nD τ).loc main_arg7)) shapeCasts_S1x1024_S1024)
      shapeCasts_S1024_S1x1024) shapeCasts_S1x1024_S1x8x128) transposes_S1x8x128_S8x1x128_1_0_2 := by
    unfold aL V hostOps0; after_results; rfl
  rw [e]
  exact row_apply _ n

theorem aM_apply (n : Fin 1024) : aM m c (ValueIdx.ix3 (hd n) 0 (la n)) = m ((c : Thread nD τ).loc main_arg8) (ValueIdx.ix2 0 n) := by
  have e : aM m c = transpose S8x1x128 [1, 0, 2] (shapeCast S1x8x128 (shapeCast S1x1024 (shapeCast S1024 (m ((c : Thread nD τ).loc main_arg8)) shapeCasts_S1x1024_S1024)
      shapeCasts_S1024_S1x1024) shapeCasts_S1x1024_S1x8x128) transposes_S1x8x128_S8x1x128_1_0_2 := by
    unfold aM V hostOps0; after_results; rfl
  rw [e]
  exact row_apply _ n

theorem aH_apply (l : Fin 128) : aH m c (ValueIdx.ix2 0 l) = m ((c : Thread nD τ).loc main_arg9) (ValueIdx.ix2 0 l) := by
  have e : aH m c = shapeCast S1x128 (shapeCast S128 (m ((c : Thread nD τ).loc main_arg9)) shapeCasts_S1x128_S128) shapeCasts_S128_S1x128 := by
    unfold aH V hostOps0; after_results; rfl
  rw [e]
  refine (shapeCast_apply _ shapeCasts_S128_S1x128 (ValueIdx.ix2 0 l) (ValueIdx.ix1 l) ?_).trans
    (shapeCast_apply _ shapeCasts_S1x128_S128 (ValueIdx.ix1 l) (ValueIdx.ix2 0 l) ?_)
  · rewrite [Shape.rowMajor_val_two, Shape.rowMajor_val_one]
    show l.val = 0 * 128 + l.val
    omega
  · rewrite [Shape.rowMajor_val_two, Shape.rowMajor_val_one]
    show 0 * 128 + l.val = l.val
    omega

theorem wo_apply (x : FVec Ideal S1x2048x2048 .f32) (k n : Fin 2048) :
    shapeCast S2048x2048 (truncf .bf16 x bitsLt_bf16_f32 : FVec Ideal S1x2048x2048 .bf16) shapeCasts_S1x2048x2048_S2048x2048 (ValueIdx.ix2 k n) = x (ValueIdx.ix3 0 k n) := by
  refine (shapeCast_apply _ shapeCasts_S1x2048x2048_S2048x2048 (ValueIdx.ix2 k n) (ValueIdx.ix3 0 k n) ?_).trans rfl
  rewrite [Shape.rowMajor_val_three, Shape.rowMajor_val_two]
  show (0 * 2048 + k.val) * 2048 + n.val = k.val * 2048 + n.val
  omega

theorem aO_apply (k n : Fin 2048) : aO m c (ValueIdx.ix2 k n) = m ((c : Thread nD τ).loc main_arg10) (ValueIdx.ix3 0 k n) := by
  have e : aO m c = shapeCast S2048x2048 (truncf (F := Ideal) (s := S1x2048x2048) .bf16 (m ((c : Thread nD τ).loc main_arg10)) bitsLt_bf16_f32) shapeCasts_S1x2048x2048_S2048x2048 := by
    unfold aO V hostOps0; after_results; rfl
  rw [e]
  exact wo_apply _ k n

end Kernel

/-- The two programs' results agree. -/
theorem algebraic_mix : Cert.algebraic_MixIdeal_MixRefIdeal := by
  intro m ρ m' ρ' _ hagree
  refine ⟨fun c => G13 m c, ?_, ?_⟩
  · refine (θ_run Cert.MixIdeal.defs _ _).mono (fun _ h c => ⟨(h c).1.trans (final13 m c), (h c).2⟩) (run_blocks m ρ)
  refine (θ_run Cert.MixRefIdeal.defs _ _).mono (fun _ h c => ⟨(h c).1.trans ?_, (h c).2⟩) (Cert.MixRefIdeal.Value.run m' ρ')
  obtain ⟨g0, g1, g2, g3, g4, g5, g6, g7, g8, g9, g10⟩ := hagree c
  refine (Cert.MixRefIdeal.Read.val_main_v281_eq (F := Ideal) _).trans ?_
  show Cert.MixRefIdeal.Read.val_main_v281 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10)) = G13 m c
  rw [g0, g1, g2, g3, g4, g5, g6, g7, g8, g9, g10]
  funext y
  rw [ValueIdx.eq_ix2 y]
  refine (r_res _ _ _ _ _ _ _ _ _ _ _ _ _).trans ?_
  unfold G13
  refine rowV_congr (fun n => ?_) (fun n => (aL_apply m c n).symm) (fun n => (aM_apply m c n).symm) (fun h l => ?_) (fun h l => ?_) (fun l => (aH_apply m c l).symm)
    (aX_apply m c _ _).symm (fun k => (aO_apply m c k _).symm)
  · unfold rY YG
    rw [aC_eq]
    exact congr (congr (congrArg cv rfl) (funext fun t => (aW_apply m c t n).symm)) (aV_apply m c n).symm
  · rw [aF_eq, aB_eq]
  · rw [aG_eq]

end Cert.MixVal

end
-- ==== Proof.lean ====
/-
  The proof of `Cert.Claim`: the feed-forward call with the final norm, the input projection call, the first feed-forward
  call and the call that closes the mixer.
-/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal.Run
public import proofs.«01_k».proof.Proof.FfnVal.Final
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.ProjVal.Final
public import proofs.«01_k».proof.Proof.Gen.Ffn1
public import proofs.«01_k».proof.Proof.Gen.Ffn1.Frame
public import proofs.«01_k».proof.Proof.Gen.Ffn1Ideal
public import proofs.«01_k».proof.Proof.Gen.Ffn1Ideal.Frame
public import proofs.«01_k».proof.Proof.Gen.Ffn1Ideal.Value
public import proofs.«01_k».proof.Proof.Gen.Ffn1RefIdeal.Run
public import proofs.«01_k».proof.Proof.Gen.Ffn1RefIdeal.Read
public import proofs.«01_k».proof.Proof.Ffn1Val.Final
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixRefIdeal
public import proofs.«01_k».proof.Proof.Gen.MixRefIdeal.Run
public import proofs.«01_k».proof.Proof.Gen.MixRefIdeal.Read
public import proofs.«01_k».proof.Proof.MixFrame.Frame
public import proofs.«01_k».proof.Proof.MixVal.Frame
public import proofs.«01_k».proof.Proof.MixVal.Final
public import Idealize.ShloMosaic.Adequacy
public import Idealize.ShloMosaic.Init

@[expose] public section

noncomputable section

namespace Cert.Proof

open Idealize.ShloMosaic Idealize.SL.Sem

theorem frame_ffn_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

theorem frame_proj_ref : Cert.quiescent_ProjRefIdeal := fun m ρ _ =>
  (θ_run Cert.ProjRefIdeal.defs _ _).mono (fun r h => ⟨fun c => (h c).2.2, Idealize.ShloMosaic.sem_eq_zero_of_no_sems (by decide) r.2⟩)
    (Cert.ProjRefIdeal.Value.run (F := Ideal) m ρ)

theorem frame_ffn1_ref : Cert.quiescent_Ffn1RefIdeal := fun m ρ _ =>
  (θ_run Cert.Ffn1RefIdeal.defs _ _).mono (fun r h => ⟨fun c => (h c).2, Idealize.ShloMosaic.sem_eq_zero_of_no_sems (by decide) r.2⟩)
    (Cert.Ffn1RefIdeal.Value.run (F := Ideal) m ρ)

theorem frame_mix_ref : Cert.quiescent_MixRefIdeal := fun m ρ _ =>
  (θ_run Cert.MixRefIdeal.defs _ _).mono (fun r h => ⟨fun c => (h c).2, Idealize.ShloMosaic.sem_eq_zero_of_no_sems (by decide) r.2⟩)
    (Cert.MixRefIdeal.Value.run (F := Ideal) m ρ)

theorem claim : Cert.Claim :=
  ⟨Cert.Ffn.Gen.facts, Cert.FfnIdeal.Gen.facts, Cert.FfnRefIdeal.Gen.facts,
    Cert.Proj.Gen.facts, Cert.ProjIdeal.Gen.facts, Cert.ProjRefIdeal.Gen.facts,
    Cert.Ffn1.Gen.facts, Cert.Ffn1Ideal.Gen.facts, Cert.Ffn1RefIdeal.Gen.facts,
    Cert.Mix.Gen.facts, Cert.MixIdeal.Gen.facts, Cert.MixRefIdeal.Gen.facts,
    fun m ρ _ => Cert.Ffn.Gen.frame m ρ, fun m ρ _ => Cert.FfnIdeal.Gen.frame m ρ, frame_ffn_ref,
    fun m ρ _ => Cert.Proj.Gen.frame m ρ, fun m ρ _ => Cert.ProjIdeal.Gen.frame m ρ, frame_proj_ref,
    fun m ρ _ => Cert.Ffn1.Gen.frame m ρ, fun m ρ _ => Cert.Ffn1Ideal.Gen.frame m ρ, frame_ffn1_ref,
    fun m ρ _ => Cert.MixFrame.frame m ρ, fun m ρ _ => Cert.MixVal.frame m ρ, frame_mix_ref,
    trivial, Cert.FfnVal.algebraic_ffn, trivial, Cert.ProjVal.algebraic_proj, trivial, Cert.Ffn1Val.algebraic_ffn1,
    trivial, Cert.MixVal.algebraic_mix⟩

end Cert.Proof

end
